-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_recurrence [hPre_finite_recurrence : Cert.Pre_finite_recurrence.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_recurrence.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_recurrence [hPre_finite_recurrence : Cert.Pre_finite_recurrence.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_recurrence.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Ffn2Prompt (m : (ℓ : Loc Cert.Ffn2Prompt.nD Cert.Ffn2Prompt.τ Cert.Ffn2Prompt.sig) → Buf (Elt Bits) ℓ) : Prop :=
  True

def Pre_Ffn2PromptIdeal (m : (ℓ : Loc Cert.Ffn2PromptIdeal.nD Cert.Ffn2PromptIdeal.τ Cert.Ffn2PromptIdeal.sig) → Buf (Elt Ideal) ℓ) : Prop :=
  True

def Pre_Ffn2PromptRefIdeal (m : (ℓ : Loc Cert.Ffn2PromptRefIdeal.nD Cert.Ffn2PromptRefIdeal.τ Cert.Ffn2PromptRefIdeal.sig) → Buf (Elt Ideal) ℓ) : Prop :=
  True

def Pre_MergePrompt (m : (ℓ : Loc Cert.MergePrompt.nD Cert.MergePrompt.τ Cert.MergePrompt.sig) → Buf (Elt Bits) ℓ) : Prop :=
  True

def Pre_MergePromptIdeal (m : (ℓ : Loc Cert.MergePromptIdeal.nD Cert.MergePromptIdeal.τ Cert.MergePromptIdeal.sig) → Buf (Elt Ideal) ℓ) : Prop :=
  True

def Pre_MergePromptRefIdeal (m : (ℓ : Loc Cert.MergePromptRefIdeal.nD Cert.MergePromptRefIdeal.τ Cert.MergePromptRefIdeal.sig) → Buf (Elt Ideal) ℓ) : Prop :=
  True

def Pre_InProjPrompt (m : (ℓ : Loc Cert.InProjPrompt.nD Cert.InProjPrompt.τ Cert.InProjPrompt.sig) → Buf (Elt Bits) ℓ) : Prop :=
  True

def Pre_InProjPromptIdeal (m : (ℓ : Loc Cert.InProjPromptIdeal.nD Cert.InProjPromptIdeal.τ Cert.InProjPromptIdeal.sig) → Buf (Elt Ideal) ℓ) : Prop :=
  True

def Pre_InProjPromptRefIdeal (m : (ℓ : Loc Cert.InProjPromptRefIdeal.nD Cert.InProjPromptRefIdeal.τ Cert.InProjPromptRefIdeal.sig) → Buf (Elt Ideal) ℓ) : Prop :=
  True

def Pre_Ffn1Prompt (m : (ℓ : Loc Cert.Ffn1Prompt.nD Cert.Ffn1Prompt.τ Cert.Ffn1Prompt.sig) → Buf (Elt Bits) ℓ) : Prop :=
  True

def Pre_Ffn1PromptIdeal (m : (ℓ : Loc Cert.Ffn1PromptIdeal.nD Cert.Ffn1PromptIdeal.τ Cert.Ffn1PromptIdeal.sig) → Buf (Elt Ideal) ℓ) : Prop :=
  True

def Pre_Ffn1PromptRefIdeal (m : (ℓ : Loc Cert.Ffn1PromptRefIdeal.nD Cert.Ffn1PromptRefIdeal.τ Cert.Ffn1PromptRefIdeal.sig) → Buf (Elt Ideal) ℓ) : Prop :=
  True

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_finite_recurrence [hHgrnIdeal : Cert.HgrnIdeal.Facts] [hPre_finite_recurrence : Cert.Pre_finite_recurrence.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_recurrence m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_finite_recurrence [hHgrnRefIdeal : Cert.HgrnRefIdeal.Facts] [hPre_finite_recurrence : Cert.Pre_finite_recurrence.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_recurrence m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Ffn2Prompt [hFfn2Prompt : Cert.Ffn2Prompt.Facts] : Prop :=
  ∀ (m : (ℓ : Loc Cert.Ffn2Prompt.nD Cert.Ffn2Prompt.τ Cert.Ffn2Prompt.sig) → Buf (Elt Bits) ℓ) (g : Dev Cert.Ffn2Prompt.nD → PrngReg), Pre_Ffn2Prompt m →
    θ_run (Cert.Ffn2Prompt.defs (F := Bits)) (onTc (τ := Cert.Ffn2Prompt.τ) (Cert.Ffn2Prompt.main (F := Bits))) ⟨m, fun _ => 0, g⟩ (fun r => (∀ c : Dev Cert.Ffn2Prompt.nD,
      r.2.mem ((c.tc : Thread Cert.Ffn2Prompt.nD Cert.Ffn2Prompt.τ).loc Cert.Ffn2Prompt.main_arg0) = m ((c.tc : Thread Cert.Ffn2Prompt.nD Cert.Ffn2Prompt.τ).loc Cert.Ffn2Prompt.main_arg0)
      ∧ r.2.mem ((c.tc : Thread Cert.Ffn2Prompt.nD Cert.Ffn2Prompt.τ).loc Cert.Ffn2Prompt.main_arg1) = m ((c.tc : Thread Cert.Ffn2Prompt.nD Cert.Ffn2Prompt.τ).loc Cert.Ffn2Prompt.main_arg1)
      ∧ r.2.mem ((c.tc : Thread Cert.Ffn2Prompt.nD Cert.Ffn2Prompt.τ).loc Cert.Ffn2Prompt.main_arg2) = m ((c.tc : Thread Cert.Ffn2Prompt.nD Cert.Ffn2Prompt.τ).loc Cert.Ffn2Prompt.main_arg2)
      ∧ r.2.mem ((c.tc : Thread Cert.Ffn2Prompt.nD Cert.Ffn2Prompt.τ).loc Cert.Ffn2Prompt.main_arg3) = m ((c.tc : Thread Cert.Ffn2Prompt.nD Cert.Ffn2Prompt.τ).loc Cert.Ffn2Prompt.main_arg3)
      ∧ r.2.mem ((c.tc : Thread Cert.Ffn2Prompt.nD Cert.Ffn2Prompt.τ).loc Cert.Ffn2Prompt.main_arg4) = m ((c.tc : Thread Cert.Ffn2Prompt.nD Cert.Ffn2Prompt.τ).loc Cert.Ffn2Prompt.main_arg4)
      ∧ r.2.mem ((c.tc : Thread Cert.Ffn2Prompt.nD Cert.Ffn2Prompt.τ).loc Cert.Ffn2Prompt.main_arg5) = m ((c.tc : Thread Cert.Ffn2Prompt.nD Cert.Ffn2Prompt.τ).loc Cert.Ffn2Prompt.main_arg5))
      ∧ r.2.sem = fun _ => 0)

def quiescent_Ffn2PromptIdeal [hFfn2PromptIdeal : Cert.Ffn2PromptIdeal.Facts] : Prop :=
  ∀ (m : (ℓ : Loc Cert.Ffn2PromptIdeal.nD Cert.Ffn2PromptIdeal.τ Cert.Ffn2PromptIdeal.sig) → Buf (Elt Ideal) ℓ) (g : Dev Cert.Ffn2PromptIdeal.nD → PrngReg), Pre_Ffn2PromptIdeal m →
    θ_run (Cert.Ffn2PromptIdeal.defs (F := Ideal)) (onTc (τ := Cert.Ffn2PromptIdeal.τ) (Cert.Ffn2PromptIdeal.main (F := Ideal))) ⟨m, fun _ => 0, g⟩ (fun r => (∀ c : Dev Cert.Ffn2PromptIdeal.nD,
      r.2.mem ((c.tc : Thread Cert.Ffn2PromptIdeal.nD Cert.Ffn2PromptIdeal.τ).loc Cert.Ffn2PromptIdeal.main_arg0) = m ((c.tc : Thread Cert.Ffn2PromptIdeal.nD Cert.Ffn2PromptIdeal.τ).loc Cert.Ffn2PromptIdeal.main_arg0)
      ∧ r.2.mem ((c.tc : Thread Cert.Ffn2PromptIdeal.nD Cert.Ffn2PromptIdeal.τ).loc Cert.Ffn2PromptIdeal.main_arg1) = m ((c.tc : Thread Cert.Ffn2PromptIdeal.nD Cert.Ffn2PromptIdeal.τ).loc Cert.Ffn2PromptIdeal.main_arg1)
      ∧ r.2.mem ((c.tc : Thread Cert.Ffn2PromptIdeal.nD Cert.Ffn2PromptIdeal.τ).loc Cert.Ffn2PromptIdeal.main_arg2) = m ((c.tc : Thread Cert.Ffn2PromptIdeal.nD Cert.Ffn2PromptIdeal.τ).loc Cert.Ffn2PromptIdeal.main_arg2)
      ∧ r.2.mem ((c.tc : Thread Cert.Ffn2PromptIdeal.nD Cert.Ffn2PromptIdeal.τ).loc Cert.Ffn2PromptIdeal.main_arg3) = m ((c.tc : Thread Cert.Ffn2PromptIdeal.nD Cert.Ffn2PromptIdeal.τ).loc Cert.Ffn2PromptIdeal.main_arg3)
      ∧ r.2.mem ((c.tc : Thread Cert.Ffn2PromptIdeal.nD Cert.Ffn2PromptIdeal.τ).loc Cert.Ffn2PromptIdeal.main_arg4) = m ((c.tc : Thread Cert.Ffn2PromptIdeal.nD Cert.Ffn2PromptIdeal.τ).loc Cert.Ffn2PromptIdeal.main_arg4)
      ∧ r.2.mem ((c.tc : Thread Cert.Ffn2PromptIdeal.nD Cert.Ffn2PromptIdeal.τ).loc Cert.Ffn2PromptIdeal.main_arg5) = m ((c.tc : Thread Cert.Ffn2PromptIdeal.nD Cert.Ffn2PromptIdeal.τ).loc Cert.Ffn2PromptIdeal.main_arg5))
      ∧ r.2.sem = fun _ => 0)

def quiescent_Ffn2PromptRefIdeal [hFfn2PromptRefIdeal : Cert.Ffn2PromptRefIdeal.Facts] : Prop :=
  ∀ (m : (ℓ : Loc Cert.Ffn2PromptRefIdeal.nD Cert.Ffn2PromptRefIdeal.τ Cert.Ffn2PromptRefIdeal.sig) → Buf (Elt Ideal) ℓ) (g : Dev Cert.Ffn2PromptRefIdeal.nD → PrngReg), Pre_Ffn2PromptRefIdeal m →
    θ_run (Cert.Ffn2PromptRefIdeal.defs (F := Ideal)) (onTc (τ := Cert.Ffn2PromptRefIdeal.τ) (Cert.Ffn2PromptRefIdeal.main (F := Ideal))) ⟨m, fun _ => 0, g⟩ (fun r => (∀ c : Dev Cert.Ffn2PromptRefIdeal.nD,
      r.2.mem ((c.tc : Thread Cert.Ffn2PromptRefIdeal.nD Cert.Ffn2PromptRefIdeal.τ).loc Cert.Ffn2PromptRefIdeal.main_arg0) = m ((c.tc : Thread Cert.Ffn2PromptRefIdeal.nD Cert.Ffn2PromptRefIdeal.τ).loc Cert.Ffn2PromptRefIdeal.main_arg0)
      ∧ r.2.mem ((c.tc : Thread Cert.Ffn2PromptRefIdeal.nD Cert.Ffn2PromptRefIdeal.τ).loc Cert.Ffn2PromptRefIdeal.main_arg1) = m ((c.tc : Thread Cert.Ffn2PromptRefIdeal.nD Cert.Ffn2PromptRefIdeal.τ).loc Cert.Ffn2PromptRefIdeal.main_arg1)
      ∧ r.2.mem ((c.tc : Thread Cert.Ffn2PromptRefIdeal.nD Cert.Ffn2PromptRefIdeal.τ).loc Cert.Ffn2PromptRefIdeal.main_arg2) = m ((c.tc : Thread Cert.Ffn2PromptRefIdeal.nD Cert.Ffn2PromptRefIdeal.τ).loc Cert.Ffn2PromptRefIdeal.main_arg2)
      ∧ r.2.mem ((c.tc : Thread Cert.Ffn2PromptRefIdeal.nD Cert.Ffn2PromptRefIdeal.τ).loc Cert.Ffn2PromptRefIdeal.main_arg3) = m ((c.tc : Thread Cert.Ffn2PromptRefIdeal.nD Cert.Ffn2PromptRefIdeal.τ).loc Cert.Ffn2PromptRefIdeal.main_arg3)
      ∧ r.2.mem ((c.tc : Thread Cert.Ffn2PromptRefIdeal.nD Cert.Ffn2PromptRefIdeal.τ).loc Cert.Ffn2PromptRefIdeal.main_arg4) = m ((c.tc : Thread Cert.Ffn2PromptRefIdeal.nD Cert.Ffn2PromptRefIdeal.τ).loc Cert.Ffn2PromptRefIdeal.main_arg4)
      ∧ r.2.mem ((c.tc : Thread Cert.Ffn2PromptRefIdeal.nD Cert.Ffn2PromptRefIdeal.τ).loc Cert.Ffn2PromptRefIdeal.main_arg5) = m ((c.tc : Thread Cert.Ffn2PromptRefIdeal.nD Cert.Ffn2PromptRefIdeal.τ).loc Cert.Ffn2PromptRefIdeal.main_arg5))
      ∧ r.2.sem = fun _ => 0)

def quiescent_MergePrompt [hMergePrompt : Cert.MergePrompt.Facts] : Prop :=
  ∀ (m : (ℓ : Loc Cert.MergePrompt.nD Cert.MergePrompt.τ Cert.MergePrompt.sig) → Buf (Elt Bits) ℓ) (g : Dev Cert.MergePrompt.nD → PrngReg), Pre_MergePrompt m →
    θ_run (Cert.MergePrompt.defs (F := Bits)) (onTc (τ := Cert.MergePrompt.τ) (Cert.MergePrompt.main (F := Bits))) ⟨m, fun _ => 0, g⟩ (fun r => (∀ c : Dev Cert.MergePrompt.nD,
      r.2.mem ((c.tc : Thread Cert.MergePrompt.nD Cert.MergePrompt.τ).loc Cert.MergePrompt.main_arg0) = m ((c.tc : Thread Cert.MergePrompt.nD Cert.MergePrompt.τ).loc Cert.MergePrompt.main_arg0)
      ∧ r.2.mem ((c.tc : Thread Cert.MergePrompt.nD Cert.MergePrompt.τ).loc Cert.MergePrompt.main_arg1) = m ((c.tc : Thread Cert.MergePrompt.nD Cert.MergePrompt.τ).loc Cert.MergePrompt.main_arg1)
      ∧ r.2.mem ((c.tc : Thread Cert.MergePrompt.nD Cert.MergePrompt.τ).loc Cert.MergePrompt.main_arg2) = m ((c.tc : Thread Cert.MergePrompt.nD Cert.MergePrompt.τ).loc Cert.MergePrompt.main_arg2)
      ∧ r.2.mem ((c.tc : Thread Cert.MergePrompt.nD Cert.MergePrompt.τ).loc Cert.MergePrompt.main_arg3) = m ((c.tc : Thread Cert.MergePrompt.nD Cert.MergePrompt.τ).loc Cert.MergePrompt.main_arg3)
      ∧ r.2.mem ((c.tc : Thread Cert.MergePrompt.nD Cert.MergePrompt.τ).loc Cert.MergePrompt.main_arg4) = m ((c.tc : Thread Cert.MergePrompt.nD Cert.MergePrompt.τ).loc Cert.MergePrompt.main_arg4)
      ∧ r.2.mem ((c.tc : Thread Cert.MergePrompt.nD Cert.MergePrompt.τ).loc Cert.MergePrompt.main_arg5) = m ((c.tc : Thread Cert.MergePrompt.nD Cert.MergePrompt.τ).loc Cert.MergePrompt.main_arg5)
      ∧ r.2.mem ((c.tc : Thread Cert.MergePrompt.nD Cert.MergePrompt.τ).loc Cert.MergePrompt.main_arg6) = m ((c.tc : Thread Cert.MergePrompt.nD Cert.MergePrompt.τ).loc Cert.MergePrompt.main_arg6)
      ∧ r.2.mem ((c.tc : Thread Cert.MergePrompt.nD Cert.MergePrompt.τ).loc Cert.MergePrompt.main_arg7) = m ((c.tc : Thread Cert.MergePrompt.nD Cert.MergePrompt.τ).loc Cert.MergePrompt.main_arg7))
      ∧ r.2.sem = fun _ => 0)

def quiescent_MergePromptIdeal [hMergePromptIdeal : Cert.MergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg), Pre_MergePromptIdeal m →
    θ_run (Cert.MergePromptIdeal.defs (F := Ideal)) (onTc (τ := Cert.MergePromptIdeal.τ) (Cert.MergePromptIdeal.main (F := Ideal))) ⟨m, fun _ => 0, g⟩ (fun r => (∀ c : Dev Cert.MergePromptIdeal.nD,
      r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
      ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
      ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
      ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
      ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
      ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
      ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
      ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7))
      ∧ r.2.sem = fun _ => 0)

def quiescent_MergePromptRefIdeal [hMergePromptRefIdeal : Cert.MergePromptRefIdeal.Facts] : Prop :=
  ∀ (m : (ℓ : Loc Cert.MergePromptRefIdeal.nD Cert.MergePromptRefIdeal.τ Cert.MergePromptRefIdeal.sig) → Buf (Elt Ideal) ℓ) (g : Dev Cert.MergePromptRefIdeal.nD → PrngReg), Pre_MergePromptRefIdeal m →
    θ_run (Cert.MergePromptRefIdeal.defs (F := Ideal)) (onTc (τ := Cert.MergePromptRefIdeal.τ) (Cert.MergePromptRefIdeal.main (F := Ideal))) ⟨m, fun _ => 0, g⟩ (fun r => (∀ c : Dev Cert.MergePromptRefIdeal.nD,
      r.2.mem ((c.tc : Thread Cert.MergePromptRefIdeal.nD Cert.MergePromptRefIdeal.τ).loc Cert.MergePromptRefIdeal.main_arg0) = m ((c.tc : Thread Cert.MergePromptRefIdeal.nD Cert.MergePromptRefIdeal.τ).loc Cert.MergePromptRefIdeal.main_arg0)
      ∧ r.2.mem ((c.tc : Thread Cert.MergePromptRefIdeal.nD Cert.MergePromptRefIdeal.τ).loc Cert.MergePromptRefIdeal.main_arg1) = m ((c.tc : Thread Cert.MergePromptRefIdeal.nD Cert.MergePromptRefIdeal.τ).loc Cert.MergePromptRefIdeal.main_arg1)
      ∧ r.2.mem ((c.tc : Thread Cert.MergePromptRefIdeal.nD Cert.MergePromptRefIdeal.τ).loc Cert.MergePromptRefIdeal.main_arg2) = m ((c.tc : Thread Cert.MergePromptRefIdeal.nD Cert.MergePromptRefIdeal.τ).loc Cert.MergePromptRefIdeal.main_arg2)
      ∧ r.2.mem ((c.tc : Thread Cert.MergePromptRefIdeal.nD Cert.MergePromptRefIdeal.τ).loc Cert.MergePromptRefIdeal.main_arg3) = m ((c.tc : Thread Cert.MergePromptRefIdeal.nD Cert.MergePromptRefIdeal.τ).loc Cert.MergePromptRefIdeal.main_arg3)
      ∧ r.2.mem ((c.tc : Thread Cert.MergePromptRefIdeal.nD Cert.MergePromptRefIdeal.τ).loc Cert.MergePromptRefIdeal.main_arg4) = m ((c.tc : Thread Cert.MergePromptRefIdeal.nD Cert.MergePromptRefIdeal.τ).loc Cert.MergePromptRefIdeal.main_arg4)
      ∧ r.2.mem ((c.tc : Thread Cert.MergePromptRefIdeal.nD Cert.MergePromptRefIdeal.τ).loc Cert.MergePromptRefIdeal.main_arg5) = m ((c.tc : Thread Cert.MergePromptRefIdeal.nD Cert.MergePromptRefIdeal.τ).loc Cert.MergePromptRefIdeal.main_arg5)
      ∧ r.2.mem ((c.tc : Thread Cert.MergePromptRefIdeal.nD Cert.MergePromptRefIdeal.τ).loc Cert.MergePromptRefIdeal.main_arg6) = m ((c.tc : Thread Cert.MergePromptRefIdeal.nD Cert.MergePromptRefIdeal.τ).loc Cert.MergePromptRefIdeal.main_arg6)
      ∧ r.2.mem ((c.tc : Thread Cert.MergePromptRefIdeal.nD Cert.MergePromptRefIdeal.τ).loc Cert.MergePromptRefIdeal.main_arg7) = m ((c.tc : Thread Cert.MergePromptRefIdeal.nD Cert.MergePromptRefIdeal.τ).loc Cert.MergePromptRefIdeal.main_arg7))
      ∧ r.2.sem = fun _ => 0)

def quiescent_InProjPrompt [hInProjPrompt : Cert.InProjPrompt.Facts] : Prop :=
  ∀ (m : (ℓ : Loc Cert.InProjPrompt.nD Cert.InProjPrompt.τ Cert.InProjPrompt.sig) → Buf (Elt Bits) ℓ) (g : Dev Cert.InProjPrompt.nD → PrngReg), Pre_InProjPrompt m →
    θ_run (Cert.InProjPrompt.defs (F := Bits)) (onTc (τ := Cert.InProjPrompt.τ) (Cert.InProjPrompt.main (F := Bits))) ⟨m, fun _ => 0, g⟩ (fun r => (∀ c : Dev Cert.InProjPrompt.nD,
      r.2.mem ((c.tc : Thread Cert.InProjPrompt.nD Cert.InProjPrompt.τ).loc Cert.InProjPrompt.main_arg0) = m ((c.tc : Thread Cert.InProjPrompt.nD Cert.InProjPrompt.τ).loc Cert.InProjPrompt.main_arg0)
      ∧ r.2.mem ((c.tc : Thread Cert.InProjPrompt.nD Cert.InProjPrompt.τ).loc Cert.InProjPrompt.main_arg1) = m ((c.tc : Thread Cert.InProjPrompt.nD Cert.InProjPrompt.τ).loc Cert.InProjPrompt.main_arg1)
      ∧ r.2.mem ((c.tc : Thread Cert.InProjPrompt.nD Cert.InProjPrompt.τ).loc Cert.InProjPrompt.main_arg2) = m ((c.tc : Thread Cert.InProjPrompt.nD Cert.InProjPrompt.τ).loc Cert.InProjPrompt.main_arg2))
      ∧ r.2.sem = fun _ => 0)

def quiescent_InProjPromptIdeal [hInProjPromptIdeal : Cert.InProjPromptIdeal.Facts] : Prop :=
  ∀ (m : (ℓ : Loc Cert.InProjPromptIdeal.nD Cert.InProjPromptIdeal.τ Cert.InProjPromptIdeal.sig) → Buf (Elt Ideal) ℓ) (g : Dev Cert.InProjPromptIdeal.nD → PrngReg), Pre_InProjPromptIdeal m →
    θ_run (Cert.InProjPromptIdeal.defs (F := Ideal)) (onTc (τ := Cert.InProjPromptIdeal.τ) (Cert.InProjPromptIdeal.main (F := Ideal))) ⟨m, fun _ => 0, g⟩ (fun r => (∀ c : Dev Cert.InProjPromptIdeal.nD,
      r.2.mem ((c.tc : Thread Cert.InProjPromptIdeal.nD Cert.InProjPromptIdeal.τ).loc Cert.InProjPromptIdeal.main_arg0) = m ((c.tc : Thread Cert.InProjPromptIdeal.nD Cert.InProjPromptIdeal.τ).loc Cert.InProjPromptIdeal.main_arg0)
      ∧ r.2.mem ((c.tc : Thread Cert.InProjPromptIdeal.nD Cert.InProjPromptIdeal.τ).loc Cert.InProjPromptIdeal.main_arg1) = m ((c.tc : Thread Cert.InProjPromptIdeal.nD Cert.InProjPromptIdeal.τ).loc Cert.InProjPromptIdeal.main_arg1)
      ∧ r.2.mem ((c.tc : Thread Cert.InProjPromptIdeal.nD Cert.InProjPromptIdeal.τ).loc Cert.InProjPromptIdeal.main_arg2) = m ((c.tc : Thread Cert.InProjPromptIdeal.nD Cert.InProjPromptIdeal.τ).loc Cert.InProjPromptIdeal.main_arg2))
      ∧ r.2.sem = fun _ => 0)

def quiescent_InProjPromptRefIdeal [hInProjPromptRefIdeal : Cert.InProjPromptRefIdeal.Facts] : Prop :=
  ∀ (m : (ℓ : Loc Cert.InProjPromptRefIdeal.nD Cert.InProjPromptRefIdeal.τ Cert.InProjPromptRefIdeal.sig) → Buf (Elt Ideal) ℓ) (g : Dev Cert.InProjPromptRefIdeal.nD → PrngReg), Pre_InProjPromptRefIdeal m →
    θ_run (Cert.InProjPromptRefIdeal.defs (F := Ideal)) (onTc (τ := Cert.InProjPromptRefIdeal.τ) (Cert.InProjPromptRefIdeal.main (F := Ideal))) ⟨m, fun _ => 0, g⟩ (fun r => (∀ c : Dev Cert.InProjPromptRefIdeal.nD,
      r.2.mem ((c.tc : Thread Cert.InProjPromptRefIdeal.nD Cert.InProjPromptRefIdeal.τ).loc Cert.InProjPromptRefIdeal.main_arg0) = m ((c.tc : Thread Cert.InProjPromptRefIdeal.nD Cert.InProjPromptRefIdeal.τ).loc Cert.InProjPromptRefIdeal.main_arg0)
      ∧ r.2.mem ((c.tc : Thread Cert.InProjPromptRefIdeal.nD Cert.InProjPromptRefIdeal.τ).loc Cert.InProjPromptRefIdeal.main_arg1) = m ((c.tc : Thread Cert.InProjPromptRefIdeal.nD Cert.InProjPromptRefIdeal.τ).loc Cert.InProjPromptRefIdeal.main_arg1)
      ∧ r.2.mem ((c.tc : Thread Cert.InProjPromptRefIdeal.nD Cert.InProjPromptRefIdeal.τ).loc Cert.InProjPromptRefIdeal.main_arg2) = m ((c.tc : Thread Cert.InProjPromptRefIdeal.nD Cert.InProjPromptRefIdeal.τ).loc Cert.InProjPromptRefIdeal.main_arg2))
      ∧ r.2.sem = fun _ => 0)

def quiescent_Ffn1Prompt [hFfn1Prompt : Cert.Ffn1Prompt.Facts] : Prop :=
  ∀ (m : (ℓ : Loc Cert.Ffn1Prompt.nD Cert.Ffn1Prompt.τ Cert.Ffn1Prompt.sig) → Buf (Elt Bits) ℓ) (g : Dev Cert.Ffn1Prompt.nD → PrngReg), Pre_Ffn1Prompt m →
    θ_run (Cert.Ffn1Prompt.defs (F := Bits)) (onTc (τ := Cert.Ffn1Prompt.τ) (Cert.Ffn1Prompt.main (F := Bits))) ⟨m, fun _ => 0, g⟩ (fun r => (∀ c : Dev Cert.Ffn1Prompt.nD,
      r.2.mem ((c.tc : Thread Cert.Ffn1Prompt.nD Cert.Ffn1Prompt.τ).loc Cert.Ffn1Prompt.main_arg0) = m ((c.tc : Thread Cert.Ffn1Prompt.nD Cert.Ffn1Prompt.τ).loc Cert.Ffn1Prompt.main_arg0)
      ∧ r.2.mem ((c.tc : Thread Cert.Ffn1Prompt.nD Cert.Ffn1Prompt.τ).loc Cert.Ffn1Prompt.main_arg1) = m ((c.tc : Thread Cert.Ffn1Prompt.nD Cert.Ffn1Prompt.τ).loc Cert.Ffn1Prompt.main_arg1)
      ∧ r.2.mem ((c.tc : Thread Cert.Ffn1Prompt.nD Cert.Ffn1Prompt.τ).loc Cert.Ffn1Prompt.main_arg2) = m ((c.tc : Thread Cert.Ffn1Prompt.nD Cert.Ffn1Prompt.τ).loc Cert.Ffn1Prompt.main_arg2)
      ∧ r.2.mem ((c.tc : Thread Cert.Ffn1Prompt.nD Cert.Ffn1Prompt.τ).loc Cert.Ffn1Prompt.main_arg3) = m ((c.tc : Thread Cert.Ffn1Prompt.nD Cert.Ffn1Prompt.τ).loc Cert.Ffn1Prompt.main_arg3)
      ∧ r.2.mem ((c.tc : Thread Cert.Ffn1Prompt.nD Cert.Ffn1Prompt.τ).loc Cert.Ffn1Prompt.main_arg4) = m ((c.tc : Thread Cert.Ffn1Prompt.nD Cert.Ffn1Prompt.τ).loc Cert.Ffn1Prompt.main_arg4)
      ∧ r.2.mem ((c.tc : Thread Cert.Ffn1Prompt.nD Cert.Ffn1Prompt.τ).loc Cert.Ffn1Prompt.main_arg5) = m ((c.tc : Thread Cert.Ffn1Prompt.nD Cert.Ffn1Prompt.τ).loc Cert.Ffn1Prompt.main_arg5)
      ∧ r.2.mem ((c.tc : Thread Cert.Ffn1Prompt.nD Cert.Ffn1Prompt.τ).loc Cert.Ffn1Prompt.main_arg6) = m ((c.tc : Thread Cert.Ffn1Prompt.nD Cert.Ffn1Prompt.τ).loc Cert.Ffn1Prompt.main_arg6))
      ∧ r.2.sem = fun _ => 0)

def quiescent_Ffn1PromptIdeal [hFfn1PromptIdeal : Cert.Ffn1PromptIdeal.Facts] : Prop :=
  ∀ (m : (ℓ : Loc Cert.Ffn1PromptIdeal.nD Cert.Ffn1PromptIdeal.τ Cert.Ffn1PromptIdeal.sig) → Buf (Elt Ideal) ℓ) (g : Dev Cert.Ffn1PromptIdeal.nD → PrngReg), Pre_Ffn1PromptIdeal m →
    θ_run (Cert.Ffn1PromptIdeal.defs (F := Ideal)) (onTc (τ := Cert.Ffn1PromptIdeal.τ) (Cert.Ffn1PromptIdeal.main (F := Ideal))) ⟨m, fun _ => 0, g⟩ (fun r => (∀ c : Dev Cert.Ffn1PromptIdeal.nD,
      r.2.mem ((c.tc : Thread Cert.Ffn1PromptIdeal.nD Cert.Ffn1PromptIdeal.τ).loc Cert.Ffn1PromptIdeal.main_arg0) = m ((c.tc : Thread Cert.Ffn1PromptIdeal.nD Cert.Ffn1PromptIdeal.τ).loc Cert.Ffn1PromptIdeal.main_arg0)
      ∧ r.2.mem ((c.tc : Thread Cert.Ffn1PromptIdeal.nD Cert.Ffn1PromptIdeal.τ).loc Cert.Ffn1PromptIdeal.main_arg1) = m ((c.tc : Thread Cert.Ffn1PromptIdeal.nD Cert.Ffn1PromptIdeal.τ).loc Cert.Ffn1PromptIdeal.main_arg1)
      ∧ r.2.mem ((c.tc : Thread Cert.Ffn1PromptIdeal.nD Cert.Ffn1PromptIdeal.τ).loc Cert.Ffn1PromptIdeal.main_arg2) = m ((c.tc : Thread Cert.Ffn1PromptIdeal.nD Cert.Ffn1PromptIdeal.τ).loc Cert.Ffn1PromptIdeal.main_arg2)
      ∧ r.2.mem ((c.tc : Thread Cert.Ffn1PromptIdeal.nD Cert.Ffn1PromptIdeal.τ).loc Cert.Ffn1PromptIdeal.main_arg3) = m ((c.tc : Thread Cert.Ffn1PromptIdeal.nD Cert.Ffn1PromptIdeal.τ).loc Cert.Ffn1PromptIdeal.main_arg3)
      ∧ r.2.mem ((c.tc : Thread Cert.Ffn1PromptIdeal.nD Cert.Ffn1PromptIdeal.τ).loc Cert.Ffn1PromptIdeal.main_arg4) = m ((c.tc : Thread Cert.Ffn1PromptIdeal.nD Cert.Ffn1PromptIdeal.τ).loc Cert.Ffn1PromptIdeal.main_arg4)
      ∧ r.2.mem ((c.tc : Thread Cert.Ffn1PromptIdeal.nD Cert.Ffn1PromptIdeal.τ).loc Cert.Ffn1PromptIdeal.main_arg5) = m ((c.tc : Thread Cert.Ffn1PromptIdeal.nD Cert.Ffn1PromptIdeal.τ).loc Cert.Ffn1PromptIdeal.main_arg5)
      ∧ r.2.mem ((c.tc : Thread Cert.Ffn1PromptIdeal.nD Cert.Ffn1PromptIdeal.τ).loc Cert.Ffn1PromptIdeal.main_arg6) = m ((c.tc : Thread Cert.Ffn1PromptIdeal.nD Cert.Ffn1PromptIdeal.τ).loc Cert.Ffn1PromptIdeal.main_arg6))
      ∧ r.2.sem = fun _ => 0)

def quiescent_Ffn1PromptRefIdeal [hFfn1PromptRefIdeal : Cert.Ffn1PromptRefIdeal.Facts] : Prop :=
  ∀ (m : (ℓ : Loc Cert.Ffn1PromptRefIdeal.nD Cert.Ffn1PromptRefIdeal.τ Cert.Ffn1PromptRefIdeal.sig) → Buf (Elt Ideal) ℓ) (g : Dev Cert.Ffn1PromptRefIdeal.nD → PrngReg), Pre_Ffn1PromptRefIdeal m →
    θ_run (Cert.Ffn1PromptRefIdeal.defs (F := Ideal)) (onTc (τ := Cert.Ffn1PromptRefIdeal.τ) (Cert.Ffn1PromptRefIdeal.main (F := Ideal))) ⟨m, fun _ => 0, g⟩ (fun r => (∀ c : Dev Cert.Ffn1PromptRefIdeal.nD,
      r.2.mem ((c.tc : Thread Cert.Ffn1PromptRefIdeal.nD Cert.Ffn1PromptRefIdeal.τ).loc Cert.Ffn1PromptRefIdeal.main_arg0) = m ((c.tc : Thread Cert.Ffn1PromptRefIdeal.nD Cert.Ffn1PromptRefIdeal.τ).loc Cert.Ffn1PromptRefIdeal.main_arg0)
      ∧ r.2.mem ((c.tc : Thread Cert.Ffn1PromptRefIdeal.nD Cert.Ffn1PromptRefIdeal.τ).loc Cert.Ffn1PromptRefIdeal.main_arg1) = m ((c.tc : Thread Cert.Ffn1PromptRefIdeal.nD Cert.Ffn1PromptRefIdeal.τ).loc Cert.Ffn1PromptRefIdeal.main_arg1)
      ∧ r.2.mem ((c.tc : Thread Cert.Ffn1PromptRefIdeal.nD Cert.Ffn1PromptRefIdeal.τ).loc Cert.Ffn1PromptRefIdeal.main_arg2) = m ((c.tc : Thread Cert.Ffn1PromptRefIdeal.nD Cert.Ffn1PromptRefIdeal.τ).loc Cert.Ffn1PromptRefIdeal.main_arg2)
      ∧ r.2.mem ((c.tc : Thread Cert.Ffn1PromptRefIdeal.nD Cert.Ffn1PromptRefIdeal.τ).loc Cert.Ffn1PromptRefIdeal.main_arg3) = m ((c.tc : Thread Cert.Ffn1PromptRefIdeal.nD Cert.Ffn1PromptRefIdeal.τ).loc Cert.Ffn1PromptRefIdeal.main_arg3)
      ∧ r.2.mem ((c.tc : Thread Cert.Ffn1PromptRefIdeal.nD Cert.Ffn1PromptRefIdeal.τ).loc Cert.Ffn1PromptRefIdeal.main_arg4) = m ((c.tc : Thread Cert.Ffn1PromptRefIdeal.nD Cert.Ffn1PromptRefIdeal.τ).loc Cert.Ffn1PromptRefIdeal.main_arg4)
      ∧ r.2.mem ((c.tc : Thread Cert.Ffn1PromptRefIdeal.nD Cert.Ffn1PromptRefIdeal.τ).loc Cert.Ffn1PromptRefIdeal.main_arg5) = m ((c.tc : Thread Cert.Ffn1PromptRefIdeal.nD Cert.Ffn1PromptRefIdeal.τ).loc Cert.Ffn1PromptRefIdeal.main_arg5)
      ∧ r.2.mem ((c.tc : Thread Cert.Ffn1PromptRefIdeal.nD Cert.Ffn1PromptRefIdeal.τ).loc Cert.Ffn1PromptRefIdeal.main_arg6) = m ((c.tc : Thread Cert.Ffn1PromptRefIdeal.nD Cert.Ffn1PromptRefIdeal.τ).loc Cert.Ffn1PromptRefIdeal.main_arg6))
      ∧ r.2.sem = fun _ => 0)

def preserves_Hgrn_HgrnIdeal : Prop :=
  IdealRules.named_const.Statement Cert.HgrnIdeal.κ "inv_ln2" .f32 0x3FB8AA3B#32 (((Real.log 2)⁻¹ : ℝ) : EReal)
  ∧ IdealRules.bf16_pack.Statement Cert.HgrnIdeal.S64x256

def algebraic_HgrnIdeal_HgrnRefIdeal_pre_finite_recurrence [hHgrnIdeal : Cert.HgrnIdeal.Facts] [hHgrnRefIdeal : Cert.HgrnRefIdeal.Facts] [hPre_finite_recurrence : Cert.Pre_finite_recurrence.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_recurrence m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v0_0)) (v1 : (c : Dev Cert.HgrnIdeal.nD) → Buf (Elt Ideal) ((c.tc : Thread Cert.HgrnIdeal.nD Cert.HgrnIdeal.τ).loc Cert.HgrnIdeal.main_v0_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v0_0) = v0 c
          ∧ r.2.mem ((c.tc : Thread Cert.HgrnIdeal.nD Cert.HgrnIdeal.τ).loc Cert.HgrnIdeal.main_v0_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v221) = v0 c
          ∧ r.2.mem ((c.tc : Thread Cert.HgrnRefIdeal.nD Cert.HgrnRefIdeal.τ).loc Cert.HgrnRefIdeal.main_v193) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v8)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v8) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v25) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v63) = v0 c
          ∧ r.2.mem ((c.tc : Thread Cert.MergeRefIdeal.nD Cert.MergeRefIdeal.τ).loc Cert.MergeRefIdeal.main_v38) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v1)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v1) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v37) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Ffn2Prompt_Ffn2PromptIdeal : Prop :=
  True

def algebraic_Ffn2PromptIdeal_Ffn2PromptRefIdeal [hFfn2PromptIdeal : Cert.Ffn2PromptIdeal.Facts] [hFfn2PromptRefIdeal : Cert.Ffn2PromptRefIdeal.Facts] : Prop :=
  ∀ (m : (ℓ : Loc Cert.Ffn2PromptIdeal.nD Cert.Ffn2PromptIdeal.τ Cert.Ffn2PromptIdeal.sig) → Buf (Elt Ideal) ℓ) (g : Dev Cert.Ffn2PromptIdeal.nD → PrngReg)
    (m' : (ℓ : Loc Cert.Ffn2PromptRefIdeal.nD Cert.Ffn2PromptRefIdeal.τ Cert.Ffn2PromptRefIdeal.sig) → Buf (Elt Ideal) ℓ) (g' : Dev Cert.Ffn2PromptRefIdeal.nD → PrngReg), Pre_Ffn2PromptIdeal m →
    (∀ c : Dev Cert.Ffn2PromptIdeal.nD,
      m' ((c.tc : Thread Cert.Ffn2PromptRefIdeal.nD Cert.Ffn2PromptRefIdeal.τ).loc Cert.Ffn2PromptRefIdeal.main_arg0) = m ((c.tc : Thread Cert.Ffn2PromptIdeal.nD Cert.Ffn2PromptIdeal.τ).loc Cert.Ffn2PromptIdeal.main_arg0)
      ∧ m' ((c.tc : Thread Cert.Ffn2PromptRefIdeal.nD Cert.Ffn2PromptRefIdeal.τ).loc Cert.Ffn2PromptRefIdeal.main_arg1) = m ((c.tc : Thread Cert.Ffn2PromptIdeal.nD Cert.Ffn2PromptIdeal.τ).loc Cert.Ffn2PromptIdeal.main_arg1)
      ∧ m' ((c.tc : Thread Cert.Ffn2PromptRefIdeal.nD Cert.Ffn2PromptRefIdeal.τ).loc Cert.Ffn2PromptRefIdeal.main_arg2) = m ((c.tc : Thread Cert.Ffn2PromptIdeal.nD Cert.Ffn2PromptIdeal.τ).loc Cert.Ffn2PromptIdeal.main_arg2)
      ∧ m' ((c.tc : Thread Cert.Ffn2PromptRefIdeal.nD Cert.Ffn2PromptRefIdeal.τ).loc Cert.Ffn2PromptRefIdeal.main_arg3) = m ((c.tc : Thread Cert.Ffn2PromptIdeal.nD Cert.Ffn2PromptIdeal.τ).loc Cert.Ffn2PromptIdeal.main_arg3)
      ∧ m' ((c.tc : Thread Cert.Ffn2PromptRefIdeal.nD Cert.Ffn2PromptRefIdeal.τ).loc Cert.Ffn2PromptRefIdeal.main_arg4) = m ((c.tc : Thread Cert.Ffn2PromptIdeal.nD Cert.Ffn2PromptIdeal.τ).loc Cert.Ffn2PromptIdeal.main_arg4)
      ∧ m' ((c.tc : Thread Cert.Ffn2PromptRefIdeal.nD Cert.Ffn2PromptRefIdeal.τ).loc Cert.Ffn2PromptRefIdeal.main_arg5) = m ((c.tc : Thread Cert.Ffn2PromptIdeal.nD Cert.Ffn2PromptIdeal.τ).loc Cert.Ffn2PromptIdeal.main_arg5)) →
    ∃ (v0 : (c : Dev Cert.Ffn2PromptIdeal.nD) → Buf (Elt Ideal) ((c.tc : Thread Cert.Ffn2PromptIdeal.nD Cert.Ffn2PromptIdeal.τ).loc Cert.Ffn2PromptIdeal.main_v1)),
      θ_run (Cert.Ffn2PromptIdeal.defs (F := Ideal)) (onTc (τ := Cert.Ffn2PromptIdeal.τ) (Cert.Ffn2PromptIdeal.main (F := Ideal))) ⟨m, fun _ => 0, g⟩ (fun r => ∀ c : Dev Cert.Ffn2PromptIdeal.nD,
          r.2.mem ((c.tc : Thread Cert.Ffn2PromptIdeal.nD Cert.Ffn2PromptIdeal.τ).loc Cert.Ffn2PromptIdeal.main_v1) = v0 c
          ∧ r.2.mem ((c.tc : Thread Cert.Ffn2PromptIdeal.nD Cert.Ffn2PromptIdeal.τ).loc Cert.Ffn2PromptIdeal.main_arg0) = m ((c.tc : Thread Cert.Ffn2PromptIdeal.nD Cert.Ffn2PromptIdeal.τ).loc Cert.Ffn2PromptIdeal.main_arg0)
          ∧ r.2.mem ((c.tc : Thread Cert.Ffn2PromptIdeal.nD Cert.Ffn2PromptIdeal.τ).loc Cert.Ffn2PromptIdeal.main_arg1) = m ((c.tc : Thread Cert.Ffn2PromptIdeal.nD Cert.Ffn2PromptIdeal.τ).loc Cert.Ffn2PromptIdeal.main_arg1)
          ∧ r.2.mem ((c.tc : Thread Cert.Ffn2PromptIdeal.nD Cert.Ffn2PromptIdeal.τ).loc Cert.Ffn2PromptIdeal.main_arg2) = m ((c.tc : Thread Cert.Ffn2PromptIdeal.nD Cert.Ffn2PromptIdeal.τ).loc Cert.Ffn2PromptIdeal.main_arg2)
          ∧ r.2.mem ((c.tc : Thread Cert.Ffn2PromptIdeal.nD Cert.Ffn2PromptIdeal.τ).loc Cert.Ffn2PromptIdeal.main_arg3) = m ((c.tc : Thread Cert.Ffn2PromptIdeal.nD Cert.Ffn2PromptIdeal.τ).loc Cert.Ffn2PromptIdeal.main_arg3)
          ∧ r.2.mem ((c.tc : Thread Cert.Ffn2PromptIdeal.nD Cert.Ffn2PromptIdeal.τ).loc Cert.Ffn2PromptIdeal.main_arg4) = m ((c.tc : Thread Cert.Ffn2PromptIdeal.nD Cert.Ffn2PromptIdeal.τ).loc Cert.Ffn2PromptIdeal.main_arg4)
          ∧ r.2.mem ((c.tc : Thread Cert.Ffn2PromptIdeal.nD Cert.Ffn2PromptIdeal.τ).loc Cert.Ffn2PromptIdeal.main_arg5) = m ((c.tc : Thread Cert.Ffn2PromptIdeal.nD Cert.Ffn2PromptIdeal.τ).loc Cert.Ffn2PromptIdeal.main_arg5))
      ∧ θ_run (Cert.Ffn2PromptRefIdeal.defs (F := Ideal)) (onTc (τ := Cert.Ffn2PromptRefIdeal.τ) (Cert.Ffn2PromptRefIdeal.main (F := Ideal))) ⟨m', fun _ => 0, g'⟩ (fun r => ∀ c : Dev Cert.Ffn2PromptRefIdeal.nD,
          r.2.mem ((c.tc : Thread Cert.Ffn2PromptRefIdeal.nD Cert.Ffn2PromptRefIdeal.τ).loc Cert.Ffn2PromptRefIdeal.main_v37) = v0 c
          ∧ r.2.mem ((c.tc : Thread Cert.Ffn2PromptRefIdeal.nD Cert.Ffn2PromptRefIdeal.τ).loc Cert.Ffn2PromptRefIdeal.main_arg0) = m' ((c.tc : Thread Cert.Ffn2PromptRefIdeal.nD Cert.Ffn2PromptRefIdeal.τ).loc Cert.Ffn2PromptRefIdeal.main_arg0)
          ∧ r.2.mem ((c.tc : Thread Cert.Ffn2PromptRefIdeal.nD Cert.Ffn2PromptRefIdeal.τ).loc Cert.Ffn2PromptRefIdeal.main_arg1) = m' ((c.tc : Thread Cert.Ffn2PromptRefIdeal.nD Cert.Ffn2PromptRefIdeal.τ).loc Cert.Ffn2PromptRefIdeal.main_arg1)
          ∧ r.2.mem ((c.tc : Thread Cert.Ffn2PromptRefIdeal.nD Cert.Ffn2PromptRefIdeal.τ).loc Cert.Ffn2PromptRefIdeal.main_arg2) = m' ((c.tc : Thread Cert.Ffn2PromptRefIdeal.nD Cert.Ffn2PromptRefIdeal.τ).loc Cert.Ffn2PromptRefIdeal.main_arg2)
          ∧ r.2.mem ((c.tc : Thread Cert.Ffn2PromptRefIdeal.nD Cert.Ffn2PromptRefIdeal.τ).loc Cert.Ffn2PromptRefIdeal.main_arg3) = m' ((c.tc : Thread Cert.Ffn2PromptRefIdeal.nD Cert.Ffn2PromptRefIdeal.τ).loc Cert.Ffn2PromptRefIdeal.main_arg3)
          ∧ r.2.mem ((c.tc : Thread Cert.Ffn2PromptRefIdeal.nD Cert.Ffn2PromptRefIdeal.τ).loc Cert.Ffn2PromptRefIdeal.main_arg4) = m' ((c.tc : Thread Cert.Ffn2PromptRefIdeal.nD Cert.Ffn2PromptRefIdeal.τ).loc Cert.Ffn2PromptRefIdeal.main_arg4)
          ∧ r.2.mem ((c.tc : Thread Cert.Ffn2PromptRefIdeal.nD Cert.Ffn2PromptRefIdeal.τ).loc Cert.Ffn2PromptRefIdeal.main_arg5) = m' ((c.tc : Thread Cert.Ffn2PromptRefIdeal.nD Cert.Ffn2PromptRefIdeal.τ).loc Cert.Ffn2PromptRefIdeal.main_arg5))

def preserves_MergePrompt_MergePromptIdeal : Prop :=
  True

def algebraic_MergePromptIdeal_MergePromptRefIdeal [hMergePromptIdeal : Cert.MergePromptIdeal.Facts] [hMergePromptRefIdeal : Cert.MergePromptRefIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg)
    (m' : (ℓ : Loc Cert.MergePromptRefIdeal.nD Cert.MergePromptRefIdeal.τ Cert.MergePromptRefIdeal.sig) → Buf (Elt Ideal) ℓ) (g' : Dev Cert.MergePromptRefIdeal.nD → PrngReg), Pre_MergePromptIdeal m →
    (∀ c : Dev Cert.MergePromptIdeal.nD,
      m' ((c.tc : Thread Cert.MergePromptRefIdeal.nD Cert.MergePromptRefIdeal.τ).loc Cert.MergePromptRefIdeal.main_arg0) = m ((c.tc : Thread Cert.MergePromptIdeal.nD Cert.MergePromptIdeal.τ).loc Cert.MergePromptIdeal.main_arg0)
      ∧ m' ((c.tc : Thread Cert.MergePromptRefIdeal.nD Cert.MergePromptRefIdeal.τ).loc Cert.MergePromptRefIdeal.main_arg1) = m ((c.tc : Thread Cert.MergePromptIdeal.nD Cert.MergePromptIdeal.τ).loc Cert.MergePromptIdeal.main_arg1)
      ∧ m' ((c.tc : Thread Cert.MergePromptRefIdeal.nD Cert.MergePromptRefIdeal.τ).loc Cert.MergePromptRefIdeal.main_arg2) = m ((c.tc : Thread Cert.MergePromptIdeal.nD Cert.MergePromptIdeal.τ).loc Cert.MergePromptIdeal.main_arg2)
      ∧ m' ((c.tc : Thread Cert.MergePromptRefIdeal.nD Cert.MergePromptRefIdeal.τ).loc Cert.MergePromptRefIdeal.main_arg3) = m ((c.tc : Thread Cert.MergePromptIdeal.nD Cert.MergePromptIdeal.τ).loc Cert.MergePromptIdeal.main_arg3)
      ∧ m' ((c.tc : Thread Cert.MergePromptRefIdeal.nD Cert.MergePromptRefIdeal.τ).loc Cert.MergePromptRefIdeal.main_arg4) = m ((c.tc : Thread Cert.MergePromptIdeal.nD Cert.MergePromptIdeal.τ).loc Cert.MergePromptIdeal.main_arg4)
      ∧ m' ((c.tc : Thread Cert.MergePromptRefIdeal.nD Cert.MergePromptRefIdeal.τ).loc Cert.MergePromptRefIdeal.main_arg5) = m ((c.tc : Thread Cert.MergePromptIdeal.nD Cert.MergePromptIdeal.τ).loc Cert.MergePromptIdeal.main_arg5)
      ∧ m' ((c.tc : Thread Cert.MergePromptRefIdeal.nD Cert.MergePromptRefIdeal.τ).loc Cert.MergePromptRefIdeal.main_arg6) = m ((c.tc : Thread Cert.MergePromptIdeal.nD Cert.MergePromptIdeal.τ).loc Cert.MergePromptIdeal.main_arg6)
      ∧ m' ((c.tc : Thread Cert.MergePromptRefIdeal.nD Cert.MergePromptRefIdeal.τ).loc Cert.MergePromptRefIdeal.main_arg7) = m ((c.tc : Thread Cert.MergePromptIdeal.nD Cert.MergePromptIdeal.τ).loc Cert.MergePromptIdeal.main_arg7)) →
    ∃ (v0 : (c : Dev Cert.MergePromptIdeal.nD) → Buf (Elt Ideal) ((c.tc : Thread Cert.MergePromptIdeal.nD Cert.MergePromptIdeal.τ).loc Cert.MergePromptIdeal.main_v3_0)) (v1 : (c : Dev Cert.MergePromptIdeal.nD) → Buf (Elt Ideal) ((c.tc : Thread Cert.MergePromptIdeal.nD Cert.MergePromptIdeal.τ).loc Cert.MergePromptIdeal.main_v3_1)),
      θ_run (Cert.MergePromptIdeal.defs (F := Ideal)) (onTc (τ := Cert.MergePromptIdeal.τ) (Cert.MergePromptIdeal.main (F := Ideal))) ⟨m, fun _ => 0, g⟩ (fun r => ∀ c : Dev Cert.MergePromptIdeal.nD,
          r.2.mem ((c.tc : Thread Cert.MergePromptIdeal.nD Cert.MergePromptIdeal.τ).loc Cert.MergePromptIdeal.main_v3_0) = v0 c
          ∧ r.2.mem ((c.tc : Thread Cert.MergePromptIdeal.nD Cert.MergePromptIdeal.τ).loc Cert.MergePromptIdeal.main_v3_1) = v1 c
          ∧ r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
          ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
          ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
          ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
          ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
          ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
          ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
          ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7))
      ∧ θ_run (Cert.MergePromptRefIdeal.defs (F := Ideal)) (onTc (τ := Cert.MergePromptRefIdeal.τ) (Cert.MergePromptRefIdeal.main (F := Ideal))) ⟨m', fun _ => 0, g'⟩ (fun r => ∀ c : Dev Cert.MergePromptRefIdeal.nD,
          r.2.mem ((c.tc : Thread Cert.MergePromptRefIdeal.nD Cert.MergePromptRefIdeal.τ).loc Cert.MergePromptRefIdeal.main_v63) = v0 c
          ∧ r.2.mem ((c.tc : Thread Cert.MergePromptRefIdeal.nD Cert.MergePromptRefIdeal.τ).loc Cert.MergePromptRefIdeal.main_v38) = v1 c
          ∧ r.2.mem ((c.tc : Thread Cert.MergePromptRefIdeal.nD Cert.MergePromptRefIdeal.τ).loc Cert.MergePromptRefIdeal.main_arg0) = m' ((c.tc : Thread Cert.MergePromptRefIdeal.nD Cert.MergePromptRefIdeal.τ).loc Cert.MergePromptRefIdeal.main_arg0)
          ∧ r.2.mem ((c.tc : Thread Cert.MergePromptRefIdeal.nD Cert.MergePromptRefIdeal.τ).loc Cert.MergePromptRefIdeal.main_arg1) = m' ((c.tc : Thread Cert.MergePromptRefIdeal.nD Cert.MergePromptRefIdeal.τ).loc Cert.MergePromptRefIdeal.main_arg1)
          ∧ r.2.mem ((c.tc : Thread Cert.MergePromptRefIdeal.nD Cert.MergePromptRefIdeal.τ).loc Cert.MergePromptRefIdeal.main_arg2) = m' ((c.tc : Thread Cert.MergePromptRefIdeal.nD Cert.MergePromptRefIdeal.τ).loc Cert.MergePromptRefIdeal.main_arg2)
          ∧ r.2.mem ((c.tc : Thread Cert.MergePromptRefIdeal.nD Cert.MergePromptRefIdeal.τ).loc Cert.MergePromptRefIdeal.main_arg3) = m' ((c.tc : Thread Cert.MergePromptRefIdeal.nD Cert.MergePromptRefIdeal.τ).loc Cert.MergePromptRefIdeal.main_arg3)
          ∧ r.2.mem ((c.tc : Thread Cert.MergePromptRefIdeal.nD Cert.MergePromptRefIdeal.τ).loc Cert.MergePromptRefIdeal.main_arg4) = m' ((c.tc : Thread Cert.MergePromptRefIdeal.nD Cert.MergePromptRefIdeal.τ).loc Cert.MergePromptRefIdeal.main_arg4)
          ∧ r.2.mem ((c.tc : Thread Cert.MergePromptRefIdeal.nD Cert.MergePromptRefIdeal.τ).loc Cert.MergePromptRefIdeal.main_arg5) = m' ((c.tc : Thread Cert.MergePromptRefIdeal.nD Cert.MergePromptRefIdeal.τ).loc Cert.MergePromptRefIdeal.main_arg5)
          ∧ r.2.mem ((c.tc : Thread Cert.MergePromptRefIdeal.nD Cert.MergePromptRefIdeal.τ).loc Cert.MergePromptRefIdeal.main_arg6) = m' ((c.tc : Thread Cert.MergePromptRefIdeal.nD Cert.MergePromptRefIdeal.τ).loc Cert.MergePromptRefIdeal.main_arg6)
          ∧ r.2.mem ((c.tc : Thread Cert.MergePromptRefIdeal.nD Cert.MergePromptRefIdeal.τ).loc Cert.MergePromptRefIdeal.main_arg7) = m' ((c.tc : Thread Cert.MergePromptRefIdeal.nD Cert.MergePromptRefIdeal.τ).loc Cert.MergePromptRefIdeal.main_arg7))

def preserves_InProjPrompt_InProjPromptIdeal : Prop :=
  True

def algebraic_InProjPromptIdeal_InProjPromptRefIdeal [hInProjPromptIdeal : Cert.InProjPromptIdeal.Facts] [hInProjPromptRefIdeal : Cert.InProjPromptRefIdeal.Facts] : Prop :=
  ∀ (m : (ℓ : Loc Cert.InProjPromptIdeal.nD Cert.InProjPromptIdeal.τ Cert.InProjPromptIdeal.sig) → Buf (Elt Ideal) ℓ) (g : Dev Cert.InProjPromptIdeal.nD → PrngReg)
    (m' : (ℓ : Loc Cert.InProjPromptRefIdeal.nD Cert.InProjPromptRefIdeal.τ Cert.InProjPromptRefIdeal.sig) → Buf (Elt Ideal) ℓ) (g' : Dev Cert.InProjPromptRefIdeal.nD → PrngReg), Pre_InProjPromptIdeal m →
    (∀ c : Dev Cert.InProjPromptIdeal.nD,
      m' ((c.tc : Thread Cert.InProjPromptRefIdeal.nD Cert.InProjPromptRefIdeal.τ).loc Cert.InProjPromptRefIdeal.main_arg0) = m ((c.tc : Thread Cert.InProjPromptIdeal.nD Cert.InProjPromptIdeal.τ).loc Cert.InProjPromptIdeal.main_arg0)
      ∧ m' ((c.tc : Thread Cert.InProjPromptRefIdeal.nD Cert.InProjPromptRefIdeal.τ).loc Cert.InProjPromptRefIdeal.main_arg1) = m ((c.tc : Thread Cert.InProjPromptIdeal.nD Cert.InProjPromptIdeal.τ).loc Cert.InProjPromptIdeal.main_arg1)
      ∧ m' ((c.tc : Thread Cert.InProjPromptRefIdeal.nD Cert.InProjPromptRefIdeal.τ).loc Cert.InProjPromptRefIdeal.main_arg2) = m ((c.tc : Thread Cert.InProjPromptIdeal.nD Cert.InProjPromptIdeal.τ).loc Cert.InProjPromptIdeal.main_arg2)) →
    ∃ (v0 : (c : Dev Cert.InProjPromptIdeal.nD) → Buf (Elt Ideal) ((c.tc : Thread Cert.InProjPromptIdeal.nD Cert.InProjPromptIdeal.τ).loc Cert.InProjPromptIdeal.main_v0)),
      θ_run (Cert.InProjPromptIdeal.defs (F := Ideal)) (onTc (τ := Cert.InProjPromptIdeal.τ) (Cert.InProjPromptIdeal.main (F := Ideal))) ⟨m, fun _ => 0, g⟩ (fun r => ∀ c : Dev Cert.InProjPromptIdeal.nD,
          r.2.mem ((c.tc : Thread Cert.InProjPromptIdeal.nD Cert.InProjPromptIdeal.τ).loc Cert.InProjPromptIdeal.main_v0) = v0 c
          ∧ r.2.mem ((c.tc : Thread Cert.InProjPromptIdeal.nD Cert.InProjPromptIdeal.τ).loc Cert.InProjPromptIdeal.main_arg0) = m ((c.tc : Thread Cert.InProjPromptIdeal.nD Cert.InProjPromptIdeal.τ).loc Cert.InProjPromptIdeal.main_arg0)
          ∧ r.2.mem ((c.tc : Thread Cert.InProjPromptIdeal.nD Cert.InProjPromptIdeal.τ).loc Cert.InProjPromptIdeal.main_arg1) = m ((c.tc : Thread Cert.InProjPromptIdeal.nD Cert.InProjPromptIdeal.τ).loc Cert.InProjPromptIdeal.main_arg1)
          ∧ r.2.mem ((c.tc : Thread Cert.InProjPromptIdeal.nD Cert.InProjPromptIdeal.τ).loc Cert.InProjPromptIdeal.main_arg2) = m ((c.tc : Thread Cert.InProjPromptIdeal.nD Cert.InProjPromptIdeal.τ).loc Cert.InProjPromptIdeal.main_arg2))
      ∧ θ_run (Cert.InProjPromptRefIdeal.defs (F := Ideal)) (onTc (τ := Cert.InProjPromptRefIdeal.τ) (Cert.InProjPromptRefIdeal.main (F := Ideal))) ⟨m', fun _ => 0, g'⟩ (fun r => ∀ c : Dev Cert.InProjPromptRefIdeal.nD,
          r.2.mem ((c.tc : Thread Cert.InProjPromptRefIdeal.nD Cert.InProjPromptRefIdeal.τ).loc Cert.InProjPromptRefIdeal.main_v18) = v0 c
          ∧ r.2.mem ((c.tc : Thread Cert.InProjPromptRefIdeal.nD Cert.InProjPromptRefIdeal.τ).loc Cert.InProjPromptRefIdeal.main_arg0) = m' ((c.tc : Thread Cert.InProjPromptRefIdeal.nD Cert.InProjPromptRefIdeal.τ).loc Cert.InProjPromptRefIdeal.main_arg0)
          ∧ r.2.mem ((c.tc : Thread Cert.InProjPromptRefIdeal.nD Cert.InProjPromptRefIdeal.τ).loc Cert.InProjPromptRefIdeal.main_arg1) = m' ((c.tc : Thread Cert.InProjPromptRefIdeal.nD Cert.InProjPromptRefIdeal.τ).loc Cert.InProjPromptRefIdeal.main_arg1)
          ∧ r.2.mem ((c.tc : Thread Cert.InProjPromptRefIdeal.nD Cert.InProjPromptRefIdeal.τ).loc Cert.InProjPromptRefIdeal.main_arg2) = m' ((c.tc : Thread Cert.InProjPromptRefIdeal.nD Cert.InProjPromptRefIdeal.τ).loc Cert.InProjPromptRefIdeal.main_arg2))

def preserves_Ffn1Prompt_Ffn1PromptIdeal : Prop :=
  True

def algebraic_Ffn1PromptIdeal_Ffn1PromptRefIdeal [hFfn1PromptIdeal : Cert.Ffn1PromptIdeal.Facts] [hFfn1PromptRefIdeal : Cert.Ffn1PromptRefIdeal.Facts] : Prop :=
  ∀ (m : (ℓ : Loc Cert.Ffn1PromptIdeal.nD Cert.Ffn1PromptIdeal.τ Cert.Ffn1PromptIdeal.sig) → Buf (Elt Ideal) ℓ) (g : Dev Cert.Ffn1PromptIdeal.nD → PrngReg)
    (m' : (ℓ : Loc Cert.Ffn1PromptRefIdeal.nD Cert.Ffn1PromptRefIdeal.τ Cert.Ffn1PromptRefIdeal.sig) → Buf (Elt Ideal) ℓ) (g' : Dev Cert.Ffn1PromptRefIdeal.nD → PrngReg), Pre_Ffn1PromptIdeal m →
    (∀ c : Dev Cert.Ffn1PromptIdeal.nD,
      m' ((c.tc : Thread Cert.Ffn1PromptRefIdeal.nD Cert.Ffn1PromptRefIdeal.τ).loc Cert.Ffn1PromptRefIdeal.main_arg0) = m ((c.tc : Thread Cert.Ffn1PromptIdeal.nD Cert.Ffn1PromptIdeal.τ).loc Cert.Ffn1PromptIdeal.main_arg0)
      ∧ m' ((c.tc : Thread Cert.Ffn1PromptRefIdeal.nD Cert.Ffn1PromptRefIdeal.τ).loc Cert.Ffn1PromptRefIdeal.main_arg1) = m ((c.tc : Thread Cert.Ffn1PromptIdeal.nD Cert.Ffn1PromptIdeal.τ).loc Cert.Ffn1PromptIdeal.main_arg1)
      ∧ m' ((c.tc : Thread Cert.Ffn1PromptRefIdeal.nD Cert.Ffn1PromptRefIdeal.τ).loc Cert.Ffn1PromptRefIdeal.main_arg2) = m ((c.tc : Thread Cert.Ffn1PromptIdeal.nD Cert.Ffn1PromptIdeal.τ).loc Cert.Ffn1PromptIdeal.main_arg2)
      ∧ m' ((c.tc : Thread Cert.Ffn1PromptRefIdeal.nD Cert.Ffn1PromptRefIdeal.τ).loc Cert.Ffn1PromptRefIdeal.main_arg3) = m ((c.tc : Thread Cert.Ffn1PromptIdeal.nD Cert.Ffn1PromptIdeal.τ).loc Cert.Ffn1PromptIdeal.main_arg3)
      ∧ m' ((c.tc : Thread Cert.Ffn1PromptRefIdeal.nD Cert.Ffn1PromptRefIdeal.τ).loc Cert.Ffn1PromptRefIdeal.main_arg4) = m ((c.tc : Thread Cert.Ffn1PromptIdeal.nD Cert.Ffn1PromptIdeal.τ).loc Cert.Ffn1PromptIdeal.main_arg4)
      ∧ m' ((c.tc : Thread Cert.Ffn1PromptRefIdeal.nD Cert.Ffn1PromptRefIdeal.τ).loc Cert.Ffn1PromptRefIdeal.main_arg5) = m ((c.tc : Thread Cert.Ffn1PromptIdeal.nD Cert.Ffn1PromptIdeal.τ).loc Cert.Ffn1PromptIdeal.main_arg5)
      ∧ m' ((c.tc : Thread Cert.Ffn1PromptRefIdeal.nD Cert.Ffn1PromptRefIdeal.τ).loc Cert.Ffn1PromptRefIdeal.main_arg6) = m ((c.tc : Thread Cert.Ffn1PromptIdeal.nD Cert.Ffn1PromptIdeal.τ).loc Cert.Ffn1PromptIdeal.main_arg6)) →
    ∃ (v0 : (c : Dev Cert.Ffn1PromptIdeal.nD) → Buf (Elt Ideal) ((c.tc : Thread Cert.Ffn1PromptIdeal.nD Cert.Ffn1PromptIdeal.τ).loc Cert.Ffn1PromptIdeal.main_v8_0)) (v1 : (c : Dev Cert.Ffn1PromptIdeal.nD) → Buf (Elt Ideal) ((c.tc : Thread Cert.Ffn1PromptIdeal.nD Cert.Ffn1PromptIdeal.τ).loc Cert.Ffn1PromptIdeal.main_v8_1)),
      θ_run (Cert.Ffn1PromptIdeal.defs (F := Ideal)) (onTc (τ := Cert.Ffn1PromptIdeal.τ) (Cert.Ffn1PromptIdeal.main (F := Ideal))) ⟨m, fun _ => 0, g⟩ (fun r => ∀ c : Dev Cert.Ffn1PromptIdeal.nD,
          r.2.mem ((c.tc : Thread Cert.Ffn1PromptIdeal.nD Cert.Ffn1PromptIdeal.τ).loc Cert.Ffn1PromptIdeal.main_v8_0) = v0 c
          ∧ r.2.mem ((c.tc : Thread Cert.Ffn1PromptIdeal.nD Cert.Ffn1PromptIdeal.τ).loc Cert.Ffn1PromptIdeal.main_v8_1) = v1 c
          ∧ r.2.mem ((c.tc : Thread Cert.Ffn1PromptIdeal.nD Cert.Ffn1PromptIdeal.τ).loc Cert.Ffn1PromptIdeal.main_arg0) = m ((c.tc : Thread Cert.Ffn1PromptIdeal.nD Cert.Ffn1PromptIdeal.τ).loc Cert.Ffn1PromptIdeal.main_arg0)
          ∧ r.2.mem ((c.tc : Thread Cert.Ffn1PromptIdeal.nD Cert.Ffn1PromptIdeal.τ).loc Cert.Ffn1PromptIdeal.main_arg1) = m ((c.tc : Thread Cert.Ffn1PromptIdeal.nD Cert.Ffn1PromptIdeal.τ).loc Cert.Ffn1PromptIdeal.main_arg1)
          ∧ r.2.mem ((c.tc : Thread Cert.Ffn1PromptIdeal.nD Cert.Ffn1PromptIdeal.τ).loc Cert.Ffn1PromptIdeal.main_arg2) = m ((c.tc : Thread Cert.Ffn1PromptIdeal.nD Cert.Ffn1PromptIdeal.τ).loc Cert.Ffn1PromptIdeal.main_arg2)
          ∧ r.2.mem ((c.tc : Thread Cert.Ffn1PromptIdeal.nD Cert.Ffn1PromptIdeal.τ).loc Cert.Ffn1PromptIdeal.main_arg3) = m ((c.tc : Thread Cert.Ffn1PromptIdeal.nD Cert.Ffn1PromptIdeal.τ).loc Cert.Ffn1PromptIdeal.main_arg3)
          ∧ r.2.mem ((c.tc : Thread Cert.Ffn1PromptIdeal.nD Cert.Ffn1PromptIdeal.τ).loc Cert.Ffn1PromptIdeal.main_arg4) = m ((c.tc : Thread Cert.Ffn1PromptIdeal.nD Cert.Ffn1PromptIdeal.τ).loc Cert.Ffn1PromptIdeal.main_arg4)
          ∧ r.2.mem ((c.tc : Thread Cert.Ffn1PromptIdeal.nD Cert.Ffn1PromptIdeal.τ).loc Cert.Ffn1PromptIdeal.main_arg5) = m ((c.tc : Thread Cert.Ffn1PromptIdeal.nD Cert.Ffn1PromptIdeal.τ).loc Cert.Ffn1PromptIdeal.main_arg5)
          ∧ r.2.mem ((c.tc : Thread Cert.Ffn1PromptIdeal.nD Cert.Ffn1PromptIdeal.τ).loc Cert.Ffn1PromptIdeal.main_arg6) = m ((c.tc : Thread Cert.Ffn1PromptIdeal.nD Cert.Ffn1PromptIdeal.τ).loc Cert.Ffn1PromptIdeal.main_arg6))
      ∧ θ_run (Cert.Ffn1PromptRefIdeal.defs (F := Ideal)) (onTc (τ := Cert.Ffn1PromptRefIdeal.τ) (Cert.Ffn1PromptRefIdeal.main (F := Ideal))) ⟨m', fun _ => 0, g'⟩ (fun r => ∀ c : Dev Cert.Ffn1PromptRefIdeal.nD,
          r.2.mem ((c.tc : Thread Cert.Ffn1PromptRefIdeal.nD Cert.Ffn1PromptRefIdeal.τ).loc Cert.Ffn1PromptRefIdeal.main_v25) = v0 c
          ∧ r.2.mem ((c.tc : Thread Cert.Ffn1PromptRefIdeal.nD Cert.Ffn1PromptRefIdeal.τ).loc Cert.Ffn1PromptRefIdeal.main_v27) = v1 c
          ∧ r.2.mem ((c.tc : Thread Cert.Ffn1PromptRefIdeal.nD Cert.Ffn1PromptRefIdeal.τ).loc Cert.Ffn1PromptRefIdeal.main_arg0) = m' ((c.tc : Thread Cert.Ffn1PromptRefIdeal.nD Cert.Ffn1PromptRefIdeal.τ).loc Cert.Ffn1PromptRefIdeal.main_arg0)
          ∧ r.2.mem ((c.tc : Thread Cert.Ffn1PromptRefIdeal.nD Cert.Ffn1PromptRefIdeal.τ).loc Cert.Ffn1PromptRefIdeal.main_arg1) = m' ((c.tc : Thread Cert.Ffn1PromptRefIdeal.nD Cert.Ffn1PromptRefIdeal.τ).loc Cert.Ffn1PromptRefIdeal.main_arg1)
          ∧ r.2.mem ((c.tc : Thread Cert.Ffn1PromptRefIdeal.nD Cert.Ffn1PromptRefIdeal.τ).loc Cert.Ffn1PromptRefIdeal.main_arg2) = m' ((c.tc : Thread Cert.Ffn1PromptRefIdeal.nD Cert.Ffn1PromptRefIdeal.τ).loc Cert.Ffn1PromptRefIdeal.main_arg2)
          ∧ r.2.mem ((c.tc : Thread Cert.Ffn1PromptRefIdeal.nD Cert.Ffn1PromptRefIdeal.τ).loc Cert.Ffn1PromptRefIdeal.main_arg3) = m' ((c.tc : Thread Cert.Ffn1PromptRefIdeal.nD Cert.Ffn1PromptRefIdeal.τ).loc Cert.Ffn1PromptRefIdeal.main_arg3)
          ∧ r.2.mem ((c.tc : Thread Cert.Ffn1PromptRefIdeal.nD Cert.Ffn1PromptRefIdeal.τ).loc Cert.Ffn1PromptRefIdeal.main_arg4) = m' ((c.tc : Thread Cert.Ffn1PromptRefIdeal.nD Cert.Ffn1PromptRefIdeal.τ).loc Cert.Ffn1PromptRefIdeal.main_arg4)
          ∧ r.2.mem ((c.tc : Thread Cert.Ffn1PromptRefIdeal.nD Cert.Ffn1PromptRefIdeal.τ).loc Cert.Ffn1PromptRefIdeal.main_arg5) = m' ((c.tc : Thread Cert.Ffn1PromptRefIdeal.nD Cert.Ffn1PromptRefIdeal.τ).loc Cert.Ffn1PromptRefIdeal.main_arg5)
          ∧ r.2.mem ((c.tc : Thread Cert.Ffn1PromptRefIdeal.nD Cert.Ffn1PromptRefIdeal.τ).loc Cert.Ffn1PromptRefIdeal.main_arg6) = m' ((c.tc : Thread Cert.Ffn1PromptRefIdeal.nD Cert.Ffn1PromptRefIdeal.τ).loc Cert.Ffn1PromptRefIdeal.main_arg6))

def Claim : Prop :=
  ∃ (hHgrn : Cert.Hgrn.Facts) (hHgrnIdeal : Cert.HgrnIdeal.Facts) (hHgrnRefIdeal : Cert.HgrnRefIdeal.Facts) (hFfn1 : Cert.Ffn1.Facts) (hFfn1Ideal : Cert.Ffn1Ideal.Facts) (hFfn1RefIdeal : Cert.Ffn1RefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hFfn2 : Cert.Ffn2.Facts) (hFfn2Ideal : Cert.Ffn2Ideal.Facts) (hFfn2RefIdeal : Cert.Ffn2RefIdeal.Facts) (hFfn2Prompt : Cert.Ffn2Prompt.Facts) (hFfn2PromptIdeal : Cert.Ffn2PromptIdeal.Facts) (hFfn2PromptRefIdeal : Cert.Ffn2PromptRefIdeal.Facts) (hMergePrompt : Cert.MergePrompt.Facts) (hMergePromptIdeal : Cert.MergePromptIdeal.Facts) (hMergePromptRefIdeal : Cert.MergePromptRefIdeal.Facts) (hInProjPrompt : Cert.InProjPrompt.Facts) (hInProjPromptIdeal : Cert.InProjPromptIdeal.Facts) (hInProjPromptRefIdeal : Cert.InProjPromptRefIdeal.Facts) (hFfn1Prompt : Cert.Ffn1Prompt.Facts) (hFfn1PromptIdeal : Cert.Ffn1PromptIdeal.Facts) (hFfn1PromptRefIdeal : Cert.Ffn1PromptRefIdeal.Facts) (hPre_finite_recurrence : Cert.Pre_finite_recurrence.Facts),
    quiescent_Hgrn (hHgrn := hHgrn)
    ∧ quiescent_HgrnIdeal (hHgrnIdeal := hHgrnIdeal)
    ∧ quiescent_HgrnIdeal_pre_finite_recurrence (hHgrnIdeal := hHgrnIdeal) (hPre_finite_recurrence := hPre_finite_recurrence)
    ∧ quiescent_HgrnRefIdeal (hHgrnRefIdeal := hHgrnRefIdeal)
    ∧ quiescent_HgrnRefIdeal_pre_finite_recurrence (hHgrnRefIdeal := hHgrnRefIdeal) (hPre_finite_recurrence := hPre_finite_recurrence)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Ffn2Prompt (hFfn2Prompt := hFfn2Prompt)
    ∧ quiescent_Ffn2PromptIdeal (hFfn2PromptIdeal := hFfn2PromptIdeal)
    ∧ quiescent_Ffn2PromptRefIdeal (hFfn2PromptRefIdeal := hFfn2PromptRefIdeal)
    ∧ quiescent_MergePrompt (hMergePrompt := hMergePrompt)
    ∧ quiescent_MergePromptIdeal (hMergePromptIdeal := hMergePromptIdeal)
    ∧ quiescent_MergePromptRefIdeal (hMergePromptRefIdeal := hMergePromptRefIdeal)
    ∧ quiescent_InProjPrompt (hInProjPrompt := hInProjPrompt)
    ∧ quiescent_InProjPromptIdeal (hInProjPromptIdeal := hInProjPromptIdeal)
    ∧ quiescent_InProjPromptRefIdeal (hInProjPromptRefIdeal := hInProjPromptRefIdeal)
    ∧ quiescent_Ffn1Prompt (hFfn1Prompt := hFfn1Prompt)
    ∧ quiescent_Ffn1PromptIdeal (hFfn1PromptIdeal := hFfn1PromptIdeal)
    ∧ quiescent_Ffn1PromptRefIdeal (hFfn1PromptRefIdeal := hFfn1PromptRefIdeal)
    ∧ preserves_Hgrn_HgrnIdeal
    ∧ algebraic_HgrnIdeal_HgrnRefIdeal_pre_finite_recurrence (hHgrnIdeal := hHgrnIdeal) (hHgrnRefIdeal := hHgrnRefIdeal) (hPre_finite_recurrence := hPre_finite_recurrence)
    ∧ preserves_Ffn1_Ffn1Ideal
    ∧ algebraic_Ffn1Ideal_Ffn1RefIdeal (hFfn1Ideal := hFfn1Ideal) (hFfn1RefIdeal := hFfn1RefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Ffn2_Ffn2Ideal
    ∧ algebraic_Ffn2Ideal_Ffn2RefIdeal (hFfn2Ideal := hFfn2Ideal) (hFfn2RefIdeal := hFfn2RefIdeal)
    ∧ preserves_Ffn2Prompt_Ffn2PromptIdeal
    ∧ algebraic_Ffn2PromptIdeal_Ffn2PromptRefIdeal (hFfn2PromptIdeal := hFfn2PromptIdeal) (hFfn2PromptRefIdeal := hFfn2PromptRefIdeal)
    ∧ preserves_MergePrompt_MergePromptIdeal
    ∧ algebraic_MergePromptIdeal_MergePromptRefIdeal (hMergePromptIdeal := hMergePromptIdeal) (hMergePromptRefIdeal := hMergePromptRefIdeal)
    ∧ preserves_InProjPrompt_InProjPromptIdeal
    ∧ algebraic_InProjPromptIdeal_InProjPromptRefIdeal (hInProjPromptIdeal := hInProjPromptIdeal) (hInProjPromptRefIdeal := hInProjPromptRefIdeal)
    ∧ preserves_Ffn1Prompt_Ffn1PromptIdeal
    ∧ algebraic_Ffn1PromptIdeal_Ffn1PromptRefIdeal (hFfn1PromptIdeal := hFfn1PromptIdeal) (hFfn1PromptRefIdeal := hFfn1PromptRefIdeal)
-- ==== Pre_finite_recurrence.lean ====
abbrev S60x1024x256 : Shape := ⟨3, ![60, 1024, 256]⟩
abbrev S2x2048 : Shape := ⟨2, ![2, 2048]⟩
abbrev S1x2048 : Shape := ⟨2, ![1, 2048]⟩
abbrev S16x16x128x128 : Shape := ⟨4, ![16, 16, 128, 128]⟩
abbrev S24x1024x256 : Shape := ⟨3, ![24, 1024, 256]⟩
abbrev S_ : Shape := ⟨0, ![]⟩

class Facts : Prop where
  slices_S60x1024x256_S24x1024x256_12_0_0 : S60x1024x256.Slices ![12, 0, 0] S24x1024x256
  bitsLt_bf16_f32 : FTy.bits .bf16 < FTy.bits .f32
  bcast_S_S24x1024x256 : S_.BroadcastsInDim S24x1024x256 (![] : Fin 0 → Fin S24x1024x256.rank)
  reducesTo_S24x1024x256_S_d0_1_2 : S24x1024x256.ReducesTo [0, 1, 2] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S16x16x128x128 : S_.BroadcastsInDim S16x16x128x128 (![] : Fin 0 → Fin S16x16x128x128.rank)
  reducesTo_S16x16x128x128_S_d0_1_2_3 : S16x16x128x128.ReducesTo [0, 1, 2, 3] S_

variable [Facts]

def fn {F : FTy → Type} [FloatOps F] (main_arg0 : FVec F S60x1024x256 .bf16) (main_arg1 : FVec F S2x2048 .f32) (main_arg2 : FVec F S1x2048 .f32) (main_arg3 : FVec F S16x16x128x128 .f32) : IVec S_ 1 :=
  let main_v0 : FVec F S24x1024x256 .bf16 := (extractStridedSlice S24x1024x256 ![12, 0, 0] · slices_S60x1024x256_S24x1024x256_12_0_0) main_arg0
  let main_v1 : FVec F S24x1024x256 .f32 := (extf .f32 · bitsLt_bf16_f32) main_v0
  let main_v2 : FVec F S24x1024x256 .f32 := Host.absf main_v1
  let main_cst : FVec F S_ .f32 := constant S_ .f32 0x7F800000#32
  let main_v3 : FVec F S24x1024x256 .f32 := broadcastInDim S24x1024x256 ![] bcast_S_S24x1024x256 main_cst
  let main_v4 : IVec S24x1024x256 1 := cmpf .olt main_v2 main_v3
  let main_c : IVec S_ 1 := constantI S_ 1 1#1
  let main_v5 : IVec S_ 1 := (fun x v => Host.reduce IntOp.andi x v reducesTo_S24x1024x256_S_d0_1_2 h_S_) main_v4 main_c
  let main_v6 : FVec F S2x2048 .f32 := Host.absf main_arg1
  let main_cst_0 : FVec F S_ .f32 := constant S_ .f32 0x7F800000#32
  let main_v7 : FVec F S2x2048 .f32 := broadcastInDim S2x2048 ![] bcast_S_S2x2048 main_cst_0
  let main_v8 : IVec S2x2048 1 := cmpf .olt main_v6 main_v7
  let main_c_1 : IVec S_ 1 := constantI S_ 1 1#1
  let main_v9 : IVec S_ 1 := (fun x v => Host.reduce IntOp.andi x v reducesTo_S2x2048_S_d0_1 h_S_) main_v8 main_c_1
  let main_v10 : IVec S_ 1 := andi main_v5 main_v9
  let main_v11 : FVec F S16x16x128x128 .f32 := Host.absf main_arg3
  let main_cst_2 : FVec F S_ .f32 := constant S_ .f32 0x7F800000#32
  let main_v12 : FVec F S16x16x128x128 .f32 := broadcastInDim S16x16x128x128 ![] bcast_S_S16x16x128x128 main_cst_2
  let main_v13 : IVec S16x16x128x128 1 := cmpf .olt main_v11 main_v12
  let main_c_3 : IVec S_ 1 := constantI S_ 1 1#1
  let main_v14 : IVec S_ 1 := (fun x v => Host.reduce IntOp.andi x v reducesTo_S16x16x128x128_S_d0_1_2_3 h_S_) main_v13 main_c_3
  let main_v15 : IVec S_ 1 := andi main_v10 main_v14
  main_v15
-- ==== Hgrn.lean ====
abbrev S60x1024x256 : Shape := ⟨3, ![60, 1024, 256]⟩
abbrev S2x2048 : Shape := ⟨2, ![2, 2048]⟩
abbrev S1x2048 : Shape := ⟨2, ![1, 2048]⟩
abbrev S16x16x128x128 : Shape := ⟨4, ![16, 16, 128, 128]⟩
abbrev S96x128 : Shape := ⟨2, ![96, 128]⟩
abbrev S32x256 : Shape := ⟨2, ![32, 256]⟩
abbrev S64x64 : Shape := ⟨2, ![64, 64]⟩
abbrev S8x1024x256 : Shape := ⟨3, ![8, 1024, 256]⟩
abbrev S1x1024x256 : Shape := ⟨3, ![1, 1024, 256]⟩
abbrev S2x256 : Shape := ⟨2, ![2, 256]⟩
abbrev S1x256 : Shape := ⟨2, ![1, 256]⟩
abbrev S16x2x128x128 : Shape := ⟨4, ![16, 2, 128, 128]⟩
abbrev S16x32x256 : Shape := ⟨3, ![16, 32, 256]⟩
abbrev S1x1x128x128 : Shape := ⟨4, ![1, 1, 128, 128]⟩
abbrev S128x128 : Shape := ⟨2, ![128, 128]⟩
abbrev S256 : Shape := ⟨1, ![256]⟩
abbrev S1x64x256 : Shape := ⟨3, ![1, 64, 256]⟩
abbrev S64x256 : Shape := ⟨2, ![64, 256]⟩
abbrev S128x256 : Shape := ⟨2, ![128, 256]⟩
abbrev S96x256 : Shape := ⟨2, ![96, 256]⟩
abbrev S1x32x256 : Shape := ⟨3, ![1, 32, 256]⟩
abbrev S1x1x256 : Shape := ⟨3, ![1, 1, 256]⟩
abbrev S8x256 : Shape := ⟨2, ![8, 256]⟩
abbrev S16x256 : Shape := ⟨2, ![16, 256]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 9
  | .vmem => 23
  | .smem => 0
  | _ => 0

abbrev bufTy : (tb : Table) → Fin (tcTables nBuf tb) → BufTy
  | .hbm, ⟨0, _⟩ => ⟨S60x1024x256, .bf16⟩
  | .hbm, ⟨1, _⟩ => ⟨S2x2048, .f32⟩
  | .hbm, ⟨2, _⟩ => ⟨S1x2048, .f32⟩
  | .hbm, ⟨3, _⟩ => ⟨S16x16x128x128, .f32⟩
  | .hbm, ⟨4, _⟩ => ⟨S96x128, .bf16⟩
  | .hbm, ⟨5, _⟩ => ⟨S32x256, .f32⟩
  | .hbm, ⟨6, _⟩ => ⟨S64x64, .i32⟩
  | .hbm, ⟨7, _⟩ => ⟨S8x1024x256, .bf16⟩
  | .hbm, ⟨8, _⟩ => ⟨S16x16x128x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S2x256, .f32⟩
  | .local _ .vmem, ⟨9, _⟩ => ⟨S2x256, .f32⟩
  | .local _ .vmem, ⟨10, _⟩ => ⟨S1x256, .f32⟩
  | .local _ .vmem, ⟨11, _⟩ => ⟨S1x256, .f32⟩
  | .local _ .vmem, ⟨12, _⟩ => ⟨S16x2x128x128, .f32⟩
  | .local _ .vmem, ⟨13, _⟩ => ⟨S16x2x128x128, .f32⟩
  | .local _ .vmem, ⟨14, _⟩ => ⟨S96x128, .bf16⟩
  | .local _ .vmem, ⟨15, _⟩ => ⟨S32x256, .f32⟩
  | .local _ .vmem, ⟨16, _⟩ => ⟨S64x64, .i32⟩
  | .local _ .vmem, ⟨17, _⟩ => ⟨S1x1024x256, .bf16⟩
  | .local _ .vmem, ⟨18, _⟩ => ⟨S1x1024x256, .bf16⟩
  | .local _ .vmem, ⟨19, _⟩ => ⟨S16x2x128x128, .f32⟩
  | .local _ .vmem, ⟨20, _⟩ => ⟨S16x2x128x128, .f32⟩
  | .local _ .vmem, ⟨21, _⟩ => ⟨S16x2x128x128, .f32⟩
  | .local _ .vmem, ⟨22, _⟩ => ⟨S16x32x256, .f32⟩
  | _, _ => ⟨S60x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [BitOps F]

abbrev grid0 : Pipeline.Grid := ⟨3, ![1, 8, 1], ![false, false, false]⟩

def k0_cond2 (i : grid0.Coords) : BitVec 1 :=
  let arg2 : BitVec 32 := BitVec.ofNat 32 (i 2).val
  let c0_i32_1898 : BitVec 32 := 0#32
  let v4329 : BitVec 1 := Scalar.cmpi .eq arg2 c0_i32_1898
  let v4330 : BitVec 32 := Scalar.extui v4329
  let c0_i32_1899 : BitVec 32 := 0#32
  let v4331 : BitVec 1 := Scalar.cmpi .ne v4330 c0_i32_1899
  v4331

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![arg1.toNat, v1.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S16x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S96x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S64x64 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x2x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== HgrnIdeal.lean ====
variable {F : FTy → Type} [FloatOps F] [Named F]
def κ : String → Option EReal := fun
  | "inv_ln2" => some (((Real.log 2)⁻¹ : ℝ) : EReal)
  | _ => none
-- ==== HgrnRefIdeal.lean ====
abbrev S60x1024x256 : Shape := ⟨3, ![60, 1024, 256]⟩
abbrev S2x2048 : Shape := ⟨2, ![2, 2048]⟩
abbrev S1x2048 : Shape := ⟨2, ![1, 2048]⟩
abbrev S16x16x128x128 : Shape := ⟨4, ![16, 16, 128, 128]⟩
abbrev S1024x60x256 : Shape := ⟨3, ![1024, 60, 256]⟩
abbrev S16x64x15360 : Shape := ⟨3, ![16, 64, 15360]⟩
abbrev S16x64x1024 : Shape := ⟨3, ![16, 64, 1024]⟩
abbrev S16x64x2048 : Shape := ⟨3, ![16, 64, 2048]⟩
abbrev S_ : Shape := ⟨0, ![]⟩
abbrev S2048 : Shape := ⟨1, ![2048]⟩
abbrev S1x1x2048 : Shape := ⟨3, ![1, 1, 2048]⟩
abbrev S16x64x16x128 : Shape := ⟨4, ![16, 64, 16, 128]⟩
abbrev S16x16 : Shape := ⟨2, ![16, 16]⟩
abbrev S16x4x16x16x128 : Shape := ⟨5, ![16, 4, 16, 16, 128]⟩
abbrev S4x16x16x16x128 : Shape := ⟨5, ![4, 16, 16, 16, 128]⟩
abbrev S1x16x16x16x128 : Shape := ⟨5, ![1, 16, 16, 16, 128]⟩
abbrev S16x16x16x128 : Shape := ⟨4, ![16, 16, 16, 128]⟩
abbrev S16x1x16x128 : Shape := ⟨4, ![16, 1, 16, 128]⟩
abbrev S16x16x128 : Shape := ⟨3, ![16, 16, 128]⟩
abbrev S16x16x16x16 : Shape := ⟨4, ![16, 16, 16, 16]⟩
abbrev S16x16x128x16 : Shape := ⟨4, ![16, 16, 128, 16]⟩
abbrev S16x16x128x1 : Shape := ⟨4, ![16, 16, 128, 1]⟩
abbrev S16x64x16 : Shape := ⟨3, ![16, 64, 16]⟩
abbrev S16x64x16x1 : Shape := ⟨4, ![16, 64, 16, 1]⟩
abbrev S16x128 : Shape := ⟨2, ![16, 128]⟩
abbrev S1x1x16x128 : Shape := ⟨4, ![1, 1, 16, 128]⟩
abbrev S1024x8x256 : Shape := ⟨3, ![1024, 8, 256]⟩
abbrev S8x1024x256 : Shape := ⟨3, ![8, 1024, 256]⟩

abbrev nBuf : Space → Nat
  | .hbm => 287
  | .vmem => 0
  | .smem => 0
  | _ => 0

abbrev hbmTy0_0 (i : Nat) : BufTy := match i % 128 with
  | 0 => ⟨S60x1024x256, .bf16⟩
  | 1 => ⟨S2x2048, .f32⟩
  | 2 => ⟨S1x2048, .f32⟩
  | 3 => ⟨S16x16x128x128, .f32⟩
  | 4 => ⟨S60x1024x256, .f32⟩
  | 5 => ⟨S1024x60x256, .f32⟩
  | 6 => ⟨S16x64x15360, .f32⟩
  | 7 => ⟨S16x64x1024, .f32⟩
  | 8 => ⟨S16x64x1024, .f32⟩
  | 9 => ⟨S16x64x1024, .f32⟩
  | 10 => ⟨S16x64x2048, .f32⟩
  | 11 => ⟨S16x64x2048, .f32⟩
  | 12 => ⟨S16x64x2048, .f32⟩
  | 13 => ⟨S16x64x2048, .f32⟩
  | 14 => ⟨S16x64x2048, .f32⟩
  | 15 => ⟨S16x64x2048, .f32⟩
  | 16 => ⟨S_, .f32⟩
  | 17 => ⟨S2048, .f32⟩
  | 18 => ⟨S_, .f32⟩
  | 19 => ⟨S2048, .f32⟩
  | 20 => ⟨S2048, .f32⟩
  | 21 => ⟨S1x2048, .f32⟩
  | 22 => ⟨S2x2048, .f32⟩
  | 23 => ⟨S2x2048, .f32⟩
  | 24 => ⟨S2x2048, .f32⟩
  | 25 => ⟨S_, .f32⟩
  | 26 => ⟨S2048, .f32⟩
  | 27 => ⟨S1x2048, .f32⟩
  | 28 => ⟨S2x2048, .f32⟩
  | 29 => ⟨S2x2048, .f32⟩
  | 30 => ⟨S_, .f32⟩
  | 31 => ⟨S_, .f32⟩
  | 32 => ⟨S2x2048, .f32⟩
  | 33 => ⟨S1x2048, .f32⟩
  | 34 => ⟨S2048, .f32⟩
  | 35 => ⟨S_, .f32⟩
  | 36 => ⟨S2048, .f32⟩
  | 37 => ⟨S2048, .f32⟩
  | 38 => ⟨S16x64x2048, .f32⟩
  | 39 => ⟨S16x64x2048, .f32⟩
  | 40 => ⟨S_, .f32⟩
  | 41 => ⟨S16x64x2048, .f32⟩
  | 42 => ⟨S16x64x2048, .f32⟩
  | 43 => ⟨S_, .f32⟩
  | 44 => ⟨S16x64x2048, .f32⟩
  | 45 => ⟨S16x64x2048, .f32⟩
  | 46 => ⟨S1x1x2048, .f32⟩
  | 47 => ⟨S16x64x2048, .f32⟩
  | 48 => ⟨S16x64x2048, .f32⟩
  | 49 => ⟨S1x1x2048, .f32⟩
  | 50 => ⟨S16x64x2048, .f32⟩
  | 51 => ⟨S16x64x2048, .f32⟩
  | 52 => ⟨S16x64x2048, .f32⟩
  | 53 => ⟨S_, .f32⟩
  | 54 => ⟨S16x64x2048, .f32⟩
  | 55 => ⟨S16x64x2048, .f32⟩
  | 56 => ⟨S16x64x2048, .f32⟩
  | 57 => ⟨S16x64x2048, .f32⟩
  | 58 => ⟨S_, .f32⟩
  | 59 => ⟨S16x64x2048, .f32⟩
  | 60 => ⟨S16x64x2048, .f32⟩
  | 61 => ⟨S_, .f32⟩
  | 62 => ⟨S16x64x2048, .f32⟩
  | 63 => ⟨S16x64x2048, .f32⟩
  | 64 => ⟨S16x64x2048, .f32⟩
  | 65 => ⟨S16x64x16x128, .f32⟩
  | 66 => ⟨S16x64x16x128, .f32⟩
  | 67 => ⟨S16x64x16x128, .f32⟩
  | 68 => ⟨S16x64x16x128, .f32⟩
  | 69 => ⟨S_, .i1⟩
  | 70 => ⟨S16x16, .i1⟩
  | 71 => ⟨S16x16, .i32⟩
  | 72 => ⟨S_, .i32⟩
  | 73 => ⟨S16x16, .i32⟩
  | 74 => ⟨S16x16, .i32⟩
  | 75 => ⟨S16x16, .i32⟩
  | 76 => ⟨S16x16, .i1⟩
  | 77 => ⟨S_, .i1⟩
  | 78 => ⟨S16x16, .i1⟩
  | 79 => ⟨S16x16, .i1⟩
  | 80 => ⟨S16x4x16x16x128, .f32⟩
  | 81 => ⟨S4x16x16x16x128, .f32⟩
  | 82 => ⟨S16x4x16x16x128, .f32⟩
  | 83 => ⟨S4x16x16x16x128, .f32⟩
  | 84 => ⟨S16x4x16x16x128, .f32⟩
  | 85 => ⟨S4x16x16x16x128, .f32⟩
  | 86 => ⟨S16x4x16x16x128, .f32⟩
  | 87 => ⟨S4x16x16x16x128, .f32⟩
  | 88 => ⟨S1x16x16x16x128, .f32⟩
  | 89 => ⟨S16x16x16x128, .f32⟩
  | 90 => ⟨S1x16x16x16x128, .f32⟩
  | 91 => ⟨S16x16x16x128, .f32⟩
  | 92 => ⟨S1x16x16x16x128, .f32⟩
  | 93 => ⟨S16x16x16x128, .f32⟩
  | 94 => ⟨S1x16x16x16x128, .f32⟩
  | 95 => ⟨S16x16x16x128, .f32⟩
  | 96 => ⟨S_, .f32⟩
  | 97 => ⟨S_, .f32⟩
  | 98 => ⟨S16x16x16x128, .f32⟩
  | 99 => ⟨S16x1x16x128, .f32⟩
  | 100 => ⟨S16x16x128, .f32⟩
  | 101 => ⟨S16x16x16x128, .f32⟩
  | 102 => ⟨S16x16x16x128, .f32⟩
  | 103 => ⟨S16x16x16x128, .f32⟩
  | 104 => ⟨S16x16x16x128, .f32⟩
  | 105 => ⟨S16x16x16x128, .f32⟩
  | 106 => ⟨S16x1x16x128, .f32⟩
  | 107 => ⟨S16x16x16x128, .f32⟩
  | 108 => ⟨S16x16x16x128, .f32⟩
  | 109 => ⟨S16x16x16x128, .f32⟩
  | 110 => ⟨S16x16x16x128, .f32⟩
  | 111 => ⟨S16x16x16x16, .f32⟩
  | 112 => ⟨S_, .f32⟩
  | 113 => ⟨S_, .f32⟩
  | 114 => ⟨S16x16x16x16, .i1⟩
  | 115 => ⟨S16x16x16x16, .f32⟩
  | 116 => ⟨S16x16x16x16, .f32⟩
  | 117 => ⟨S16x16x128x16, .f32⟩
  | 118 => ⟨S16x16x16x128, .f32⟩
  | 119 => ⟨S16x16x128x16, .f32⟩
  | 120 => ⟨S16x16x16x128, .f32⟩
  | 121 => ⟨S16x16x16x128, .f32⟩
  | 122 => ⟨S16x16x128, .f32⟩
  | 123 => ⟨S16x16x128x1, .f32⟩
  | 124 => ⟨S16x16x128x128, .f32⟩
  | 125 => ⟨S16x16x128x128, .f32⟩
  | 126 => ⟨S16x16x128x128, .f32⟩
  | 127 => ⟨S16x16x128x128, .f32⟩
  | _ => ⟨S60x1024x256, .bf16⟩

abbrev hbmTy0_1 (i : Nat) : BufTy := match i % 128 with
  | 0 => ⟨S1x16x16x16x128, .f32⟩
  | 1 => ⟨S16x16x16x128, .f32⟩
  | 2 => ⟨S1x16x16x16x128, .f32⟩
  | 3 => ⟨S16x16x16x128, .f32⟩
  | 4 => ⟨S1x16x16x16x128, .f32⟩
  | 5 => ⟨S16x16x16x128, .f32⟩
  | 6 => ⟨S1x16x16x16x128, .f32⟩
  | 7 => ⟨S16x16x16x128, .f32⟩
  | 8 => ⟨S_, .f32⟩
  | 9 => ⟨S_, .f32⟩
  | 10 => ⟨S16x16x16x128, .f32⟩
  | 11 => ⟨S16x1x16x128, .f32⟩
  | 12 => ⟨S16x16x128, .f32⟩
  | 13 => ⟨S16x16x16x128, .f32⟩
  | 14 => ⟨S16x16x16x128, .f32⟩
  | 15 => ⟨S16x16x16x128, .f32⟩
  | 16 => ⟨S16x16x16x128, .f32⟩
  | 17 => ⟨S16x16x16x128, .f32⟩
  | 18 => ⟨S16x1x16x128, .f32⟩
  | 19 => ⟨S16x16x16x128, .f32⟩
  | 20 => ⟨S16x16x16x128, .f32⟩
  | 21 => ⟨S16x16x16x128, .f32⟩
  | 22 => ⟨S16x16x16x128, .f32⟩
  | 23 => ⟨S16x16x16x16, .f32⟩
  | 24 => ⟨S_, .f32⟩
  | 25 => ⟨S_, .f32⟩
  | 26 => ⟨S16x16x16x16, .i1⟩
  | 27 => ⟨S16x16x16x16, .f32⟩
  | 28 => ⟨S16x16x16x16, .f32⟩
  | 29 => ⟨S16x16x128x16, .f32⟩
  | 30 => ⟨S16x16x16x128, .f32⟩
  | 31 => ⟨S16x16x128x16, .f32⟩
  | 32 => ⟨S16x16x16x128, .f32⟩
  | 33 => ⟨S16x16x16x128, .f32⟩
  | 34 => ⟨S16x16x128, .f32⟩
  | 35 => ⟨S16x16x128x1, .f32⟩
  | 36 => ⟨S16x16x128x128, .f32⟩
  | 37 => ⟨S16x16x128x128, .f32⟩
  | 38 => ⟨S16x16x128x128, .f32⟩
  | 39 => ⟨S16x16x128x128, .f32⟩
  | 40 => ⟨S1x16x16x16x128, .f32⟩
  | 41 => ⟨S16x16x16x128, .f32⟩
  | 42 => ⟨S1x16x16x16x128, .f32⟩
  | 43 => ⟨S16x16x16x128, .f32⟩
  | 44 => ⟨S1x16x16x16x128, .f32⟩
  | 45 => ⟨S16x16x16x128, .f32⟩
  | 46 => ⟨S1x16x16x16x128, .f32⟩
  | 47 => ⟨S16x16x16x128, .f32⟩
  | 48 => ⟨S_, .f32⟩
  | 49 => ⟨S_, .f32⟩
  | 50 => ⟨S16x16x16x128, .f32⟩
  | 51 => ⟨S16x1x16x128, .f32⟩
  | 52 => ⟨S16x16x128, .f32⟩
  | 53 => ⟨S16x16x16x128, .f32⟩
  | 54 => ⟨S16x16x16x128, .f32⟩
  | 55 => ⟨S16x16x16x128, .f32⟩
  | 56 => ⟨S16x16x16x128, .f32⟩
  | 57 => ⟨S16x16x16x128, .f32⟩
  | 58 => ⟨S16x1x16x128, .f32⟩
  | 59 => ⟨S16x16x16x128, .f32⟩
  | 60 => ⟨S16x16x16x128, .f32⟩
  | 61 => ⟨S16x16x16x128, .f32⟩
  | 62 => ⟨S16x16x16x128, .f32⟩
  | 63 => ⟨S16x16x16x16, .f32⟩
  | 64 => ⟨S_, .f32⟩
  | 65 => ⟨S_, .f32⟩
  | 66 => ⟨S16x16x16x16, .i1⟩
  | 67 => ⟨S16x16x16x16, .f32⟩
  | 68 => ⟨S16x16x16x16, .f32⟩
  | 69 => ⟨S16x16x128x16, .f32⟩
  | 70 => ⟨S16x16x16x128, .f32⟩
  | 71 => ⟨S16x16x128x16, .f32⟩
  | 72 => ⟨S16x16x16x128, .f32⟩
  | 73 => ⟨S16x16x16x128, .f32⟩
  | 74 => ⟨S16x16x128, .f32⟩
  | 75 => ⟨S16x16x128x1, .f32⟩
  | 76 => ⟨S16x16x128x128, .f32⟩
  | 77 => ⟨S16x16x128x128, .f32⟩
  | 78 => ⟨S16x16x128x128, .f32⟩
  | 79 => ⟨S16x16x128x128, .f32⟩
  | 80 => ⟨S1x16x16x16x128, .f32⟩
  | 81 => ⟨S16x16x16x128, .f32⟩
  | 82 => ⟨S1x16x16x16x128, .f32⟩
  | 83 => ⟨S16x16x16x128, .f32⟩
  | 84 => ⟨S1x16x16x16x128, .f32⟩
  | 85 => ⟨S16x16x16x128, .f32⟩
  | 86 => ⟨S1x16x16x16x128, .f32⟩
  | 87 => ⟨S16x16x16x128, .f32⟩
  | 88 => ⟨S_, .f32⟩
  | 89 => ⟨S_, .f32⟩
  | 90 => ⟨S16x16x16x128, .f32⟩
  | 91 => ⟨S16x1x16x128, .f32⟩
  | 92 => ⟨S16x16x128, .f32⟩
  | 93 => ⟨S16x16x16x128, .f32⟩
  | 94 => ⟨S16x16x16x128, .f32⟩
  | 95 => ⟨S16x16x16x128, .f32⟩
  | 96 => ⟨S16x16x16x128, .f32⟩
  | 97 => ⟨S16x16x16x128, .f32⟩
  | 98 => ⟨S16x1x16x128, .f32⟩
  | 99 => ⟨S16x16x16x128, .f32⟩
  | 100 => ⟨S16x16x16x128, .f32⟩
  | 101 => ⟨S16x16x16x128, .f32⟩
  | 102 => ⟨S16x16x16x128, .f32⟩
  | 103 => ⟨S16x16x16x16, .f32⟩
  | 104 => ⟨S_, .f32⟩
  | 105 => ⟨S_, .f32⟩
  | 106 => ⟨S16x16x16x16, .i1⟩
  | 107 => ⟨S16x16x16x16, .f32⟩
  | 108 => ⟨S16x16x16x16, .f32⟩
  | 109 => ⟨S16x16x128x16, .f32⟩
  | 110 => ⟨S16x16x16x128, .f32⟩
  | 111 => ⟨S16x16x128x16, .f32⟩
  | 112 => ⟨S16x16x16x128, .f32⟩
  | 113 => ⟨S16x16x16x128, .f32⟩
  | 114 => ⟨S16x16x128, .f32⟩
  | 115 => ⟨S16x16x128x1, .f32⟩
  | 116 => ⟨S16x16x128x128, .f32⟩
  | 117 => ⟨S16x16x128x128, .f32⟩
  | 118 => ⟨S16x16x128x128, .f32⟩
  | 119 => ⟨S16x16x128x128, .f32⟩
  | 120 => ⟨S1x16x16x16x128, .f32⟩
  | 121 => ⟨S1x16x16x16x128, .f32⟩
  | 122 => ⟨S1x16x16x16x128, .f32⟩
  | 123 => ⟨S1x16x16x16x128, .f32⟩
  | 124 => ⟨S4x16x16x16x128, .f32⟩
  | 125 => ⟨S16x4x16x16x128, .f32⟩
  | 126 => ⟨S16x64x16x128, .f32⟩
  | 127 => ⟨S16x64x16x128, .f32⟩
  | _ => ⟨S60x1024x256, .bf16⟩

abbrev hbmTy0_2 (i : Nat) : BufTy := match i % 128 with
  | 0 => ⟨S_, .f32⟩
  | 1 => ⟨S16x64x16, .f32⟩
  | 2 => ⟨S16x64x16x1, .f32⟩
  | 3 => ⟨S_, .f32⟩
  | 4 => ⟨S16x64x16x1, .f32⟩
  | 5 => ⟨S16x64x16x1, .f32⟩
  | 6 => ⟨S_, .f32⟩
  | 7 => ⟨S16x64x16x1, .f32⟩
  | 8 => ⟨S16x64x16x1, .f32⟩
  | 9 => ⟨S16x64x16x1, .f32⟩
  | 10 => ⟨S16x64x16x128, .f32⟩
  | 11 => ⟨S16x64x16x128, .f32⟩
  | 12 => ⟨S2048, .f32⟩
  | 13 => ⟨S16x128, .f32⟩
  | 14 => ⟨S1x1x16x128, .f32⟩
  | 15 => ⟨S16x64x16x128, .f32⟩
  | 16 => ⟨S16x64x16x128, .f32⟩
  | 17 => ⟨S16x64x2048, .f32⟩
  | 18 => ⟨S16x64x2048, .f32⟩
  | 19 => ⟨S16x64x2048, .f32⟩
  | 20 => ⟨S_, .f32⟩
  | 21 => ⟨S16x64x2048, .f32⟩
  | 22 => ⟨S16x64x2048, .f32⟩
  | 23 => ⟨S_, .f32⟩
  | 24 => ⟨S16x64x2048, .f32⟩
  | 25 => ⟨S16x64x2048, .f32⟩
  | 26 => ⟨S16x64x2048, .f32⟩
  | 27 => ⟨S16x64x2048, .f32⟩
  | 28 => ⟨S1024x8x256, .f32⟩
  | 29 => ⟨S8x1024x256, .f32⟩
  | 30 => ⟨S8x1024x256, .bf16⟩
  | _ => ⟨S60x1024x256, .bf16⟩

abbrev hbmTy (i : Nat) : BufTy := match i / 128 with
  | 0 => hbmTy0_0 i
  | 1 => hbmTy0_1 i
  | 2 => hbmTy0_2 i
  | _ => ⟨S60x1024x256, .bf16⟩

abbrev bufTy : (tb : Table) → Fin (tcTables nBuf tb) → BufTy
  | .hbm, ⟨i, _⟩ => hbmTy i
  | _, _ => ⟨S60x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_call0_cst : Ref sig .tc := ⟨.hbm, 30, rfl⟩
abbrev main_call0_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c : Ref sig .tc := ⟨.hbm, 69, rfl⟩
abbrev main_v48 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_0 : Ref sig .tc := ⟨.hbm, 77, rfl⟩
abbrev main_call2_v5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call3_call0_cst : Ref sig .tc := ⟨.hbm, 96, rfl⟩
abbrev main_call3_call0_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_6 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call5_call0_cst : Ref sig .tc := ⟨.hbm, 136, rfl⟩
abbrev main_call5_call0_v0 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_7 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_call7_call0_cst : Ref sig .tc := ⟨.hbm, 176, rfl⟩
abbrev main_call7_call0_v0 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_8 : Ref sig .tc := ⟨.hbm, 192, rfl⟩
abbrev main_call8_v0 : Ref sig .tc := ⟨.hbm, 193, rfl⟩
abbrev main_call8_v1 : Ref sig .tc := ⟨.hbm, 194, rfl⟩
abbrev main_call8_v2 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_call9_call0_cst : Ref sig .tc := ⟨.hbm, 216, rfl⟩
abbrev main_call9_call0_v0 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_9 : Ref sig .tc := ⟨.hbm, 232, rfl⟩
abbrev main_call10_v0 : Ref sig .tc := ⟨.hbm, 233, rfl⟩
abbrev main_call10_v1 : Ref sig .tc := ⟨.hbm, 234, rfl⟩
abbrev main_call10_v2 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_10 : Ref sig .tc := ⟨.hbm, 256, rfl⟩
abbrev main_v202 : Ref sig .tc := ⟨.hbm, 257, rfl⟩
abbrev main_v203 : Ref sig .tc := ⟨.hbm, 258, rfl⟩
abbrev main_cst_11 : Ref sig .tc := ⟨.hbm, 259, rfl⟩
abbrev main_v204 : Ref sig .tc := ⟨.hbm, 260, rfl⟩
abbrev main_v205 : Ref sig .tc := ⟨.hbm, 261, rfl⟩
abbrev main_cst_12 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_call11_v0 : Ref sig .tc := ⟨.hbm, 274, rfl⟩
abbrev main_call11_v1 : Ref sig .tc := ⟨.hbm, 275, rfl⟩
abbrev main_call11_cst : Ref sig .tc := ⟨.hbm, 276, rfl⟩
abbrev main_call11_v2 : Ref sig .tc := ⟨.hbm, 277, rfl⟩
abbrev main_call11_v3 : Ref sig .tc := ⟨.hbm, 278, rfl⟩
abbrev main_call11_cst_0 : Ref sig .tc := ⟨.hbm, 279, rfl⟩
abbrev main_call11_v4 : Ref sig .tc := ⟨.hbm, 280, rfl⟩
abbrev main_call11_v5 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩

abbrev nD : Nat := 1
abbrev τ : Topo := Topo.v7x

variable {F : FTy → Type} [FloatOps F]
-- ==== Ffn1.lean ====
abbrev S16x64x2048 : Shape := ⟨3, ![16, 64, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S1024x2048 : Shape := ⟨2, ![1024, 2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 15
  | .vmem => 11
  | .smem => 0
  | _ => 0

abbrev bufTy : (tb : Table) → Fin (tcTables nBuf tb) → BufTy
  | .hbm, ⟨0, _⟩ => ⟨S16x64x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1024x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .bf16⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Ffn1RefIdeal.lean ====
abbrev S16x64x2048 : Shape := ⟨3, ![16, 64, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16x64 : Shape := ⟨2, ![16, 64]⟩
abbrev S16x64x1 : Shape := ⟨3, ![16, 64, 1]⟩
abbrev S1x1x2048 : Shape := ⟨3, ![1, 1, 2048]⟩
abbrev S2048x5632 : Shape := ⟨2, ![2048, 5632]⟩
abbrev S5632x2048 : Shape := ⟨2, ![5632, 2048]⟩
abbrev S16x64x5632 : Shape := ⟨3, ![16, 64, 5632]⟩
abbrev S1024x2048 : Shape := ⟨2, ![1024, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16x64x2048, .f32⟩
  | .hbm, ⟨8, _⟩ => ⟨S_, .f32⟩
  | .hbm, ⟨9, _⟩ => ⟨S16x64, .f32⟩
  | .hbm, ⟨10, _⟩ => ⟨S16x64x1, .f32⟩
  | .hbm, ⟨11, _⟩ => ⟨S_, .f32⟩
  | .hbm, ⟨12, _⟩ => ⟨S16x64x1, .f32⟩
  | .hbm, ⟨13, _⟩ => ⟨S16x64x1, .f32⟩
  | .hbm, ⟨14, _⟩ => ⟨S_, .f32⟩
  | .hbm, ⟨15, _⟩ => ⟨S16x64x1, .f32⟩
  | .hbm, ⟨16, _⟩ => ⟨S16x64x1, .f32⟩
  | .hbm, ⟨17, _⟩ => ⟨S16x64x1, .f32⟩
  | .hbm, ⟨18, _⟩ => ⟨S16x64x2048, .f32⟩
  | .hbm, ⟨19, _⟩ => ⟨S16x64x2048, .f32⟩
  | .hbm, ⟨20, _⟩ => ⟨S1x1x2048, .f32⟩
  | .hbm, ⟨21, _⟩ => ⟨S16x64x2048, .f32⟩
  | .hbm, ⟨22, _⟩ => ⟨S16x64x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S16x64x5632, .f32⟩
  | .hbm, ⟨27, _⟩ => ⟨S16x64x5632, .f32⟩
  | .hbm, ⟨28, _⟩ => ⟨S16x64x5632, .f32⟩
  | .hbm, ⟨29, _⟩ => ⟨S_, .f32⟩
  | .hbm, ⟨30, _⟩ => ⟨S16x64x5632, .f32⟩
  | .hbm, ⟨31, _⟩ => ⟨S16x64x5632, .f32⟩
  | .hbm, ⟨32, _⟩ => ⟨S_, .f32⟩
  | .hbm, ⟨33, _⟩ => ⟨S16x64x5632, .f32⟩
  | .hbm, ⟨34, _⟩ => ⟨S16x64x5632, .f32⟩
  | .hbm, ⟨35, _⟩ => ⟨S16x64x5632, .f32⟩
  | .hbm, ⟨36, _⟩ => ⟨S16x64x5632, .f32⟩
  | .hbm, ⟨37, _⟩ => ⟨S16x64x5632, .f32⟩
  | .hbm, ⟨38, _⟩ => ⟨S16x64x2048, .f32⟩
  | .hbm, ⟨39, _⟩ => ⟨S_, .f32⟩
  | .hbm, ⟨40, _⟩ => ⟨S16x64x2048, .f32⟩
  | .hbm, ⟨41, _⟩ => ⟨S16x64x2048, .f32⟩
  | .hbm, ⟨42, _⟩ => ⟨S16x64x2048, .f32⟩
  | .hbm, ⟨43, _⟩ => ⟨S1024x2048, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== InProj.lean ====
abbrev S1024x2048 : Shape := ⟨2, ![1024, 2048]⟩
abbrev S1x2048 : Shape := ⟨2, ![1, 2048]⟩
abbrev S2048x15360 : Shape := ⟨2, ![2048, 15360]⟩
abbrev S60x1024x256 : Shape := ⟨3, ![60, 1024, 256]⟩
abbrev S2048x2560 : Shape := ⟨2, ![2048, 2560]⟩
abbrev S10x1024x256 : Shape := ⟨3, ![10, 1024, 256]⟩
abbrev S1024 : Shape := ⟨1, ![1024]⟩
abbrev S1024x1 : Shape := ⟨2, ![1024, 1]⟩
abbrev S1024x2560 : Shape := ⟨2, ![1024, 2560]⟩
abbrev S1024x256 : Shape := ⟨2, ![1024, 256]⟩
abbrev S1x1024x256 : Shape := ⟨3, ![1, 1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x15360, .bf16⟩
  | .hbm, ⟨3, _⟩ => ⟨S60x1024x256, .bf16⟩
  | .local _ .vmem, ⟨0, _⟩ => ⟨S1024x2048, .f32⟩
  | .local _ .vmem, ⟨1, _⟩ => ⟨S1x2048, .f32⟩
  | .local _ .vmem, ⟨2, _⟩ => ⟨S2048x2560, .bf16⟩
  | .local _ .vmem, ⟨3, _⟩ => ⟨S2048x2560, .bf16⟩
  | .local _ .vmem, ⟨4, _⟩ => ⟨S10x1024x256, .bf16⟩
  | .local _ .vmem, ⟨5, _⟩ => ⟨S10x1024x256, .bf16⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S10x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S1024x2048 : Shape := ⟨2, ![1024, 2048]⟩
abbrev S1x2048 : Shape := ⟨2, ![1, 2048]⟩
abbrev S2048x15360 : Shape := ⟨2, ![2048, 15360]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1024x15360 : Shape := ⟨2, ![1024, 15360]⟩
abbrev S1024x60x256 : Shape := ⟨3, ![1024, 60, 256]⟩
abbrev S60x1024x256 : Shape := ⟨3, ![60, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x15360, .bf16⟩
  | .hbm, ⟨3, _⟩ => ⟨S2048, .f32⟩
  | .hbm, ⟨4, _⟩ => ⟨S1024x2048, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x2048, .f32⟩
  | .hbm, ⟨16, _⟩ => ⟨S1024x2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S2048x15360, .f32⟩
  | .hbm, ⟨21, _⟩ => ⟨S1024x15360, .f32⟩
  | .hbm, ⟨22, _⟩ => ⟨S1024x60x256, .f32⟩
  | .hbm, ⟨23, _⟩ => ⟨S60x1024x256, .f32⟩
  | .hbm, ⟨24, _⟩ => ⟨S60x1024x256, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Merge.lean ====
abbrev S60x1024x256 : Shape := ⟨3, ![60, 1024, 256]⟩
abbrev S8x1024x256 : Shape := ⟨3, ![8, 1024, 256]⟩
abbrev S1024x2048 : Shape := ⟨2, ![1024, 2048]⟩
abbrev S16x2x1024 : Shape := ⟨3, ![16, 2, 1024]⟩
abbrev S1x3x1024 : Shape := ⟨3, ![1, 3, 1024]⟩
abbrev S2048x2048 : Shape := ⟨2, ![2048, 2048]⟩
abbrev S3x1024 : Shape := ⟨2, ![3, 1024]⟩
abbrev S4x256x2048 : Shape := ⟨3, ![4, 256, 2048]⟩
abbrev S8x256x2048 : Shape := ⟨3, ![8, 256, 2048]⟩
abbrev S12x256x256 : Shape := ⟨3, ![12, 256, 256]⟩
abbrev S4x2x1024 : Shape := ⟨3, ![4, 2, 1024]⟩
abbrev S8x256x256 : Shape := ⟨3, ![8, 256, 256]⟩
abbrev S1x256x256 : Shape := ⟨3, ![1, 256, 256]⟩
abbrev S15x256x256 : Shape := ⟨3, ![15, 256, 256]⟩
abbrev S256x2048 : Shape := ⟨2, ![256, 2048]⟩
abbrev S72x1024 : Shape := ⟨2, ![72, 1024]⟩
abbrev S256x256 : Shape := ⟨2, ![256, 256]⟩
abbrev S1x256x2048 : Shape := ⟨3, ![1, 256, 2048]⟩
abbrev S1x64x256 : Shape := ⟨3, ![1, 64, 256]⟩
abbrev S64x256 : Shape := ⟨2, ![64, 256]⟩
abbrev S64x1024 : Shape := ⟨2, ![64, 1024]⟩
abbrev S1x2x1024 : Shape := ⟨3, ![1, 2, 1024]⟩
abbrev S2x1024 : Shape := ⟨2, ![2, 1024]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 13
  | .vmem => 21
  | .smem => 0
  | _ => 0

abbrev bufTy : (tb : Table) → Fin (tcTables nBuf tb) → BufTy
  | .hbm, ⟨0, _⟩ => ⟨S60x1024x256, .bf16⟩
  | .hbm, ⟨1, _⟩ => ⟨S8x1024x256, .bf16⟩
  | .hbm, ⟨2, _⟩ => ⟨S1024x2048, .f32⟩
  | .hbm, ⟨3, _⟩ => ⟨S16x2x1024, .f32⟩
  | .hbm, ⟨4, _⟩ => ⟨S1x3x1024, .f32⟩
  | .hbm, ⟨5, _⟩ => ⟨S1024x2048, .bf16⟩
  | .hbm, ⟨6, _⟩ => ⟨S2048x2048, .bf16⟩
  | .hbm, ⟨7, _⟩ => ⟨S2048x2048, .bf16⟩
  | .hbm, ⟨8, _⟩ => ⟨S3x1024, .f32⟩
  | .hbm, ⟨9, _⟩ => ⟨S4x256x2048, .bf16⟩
  | .hbm, ⟨10, _⟩ => ⟨S8x256x2048, .bf16⟩
  | .hbm, ⟨11, _⟩ => ⟨S1024x2048, .f32⟩
  | .hbm, ⟨12, _⟩ => ⟨S16x2x1024, .f32⟩
  | .local _ .vmem, ⟨0, _⟩ => ⟨S12x256x256, .bf16⟩
  | .local _ .vmem, ⟨1, _⟩ => ⟨S12x256x256, .bf16⟩
  | .local _ .vmem, ⟨2, _⟩ => ⟨S4x2x1024, .f32⟩
  | .local _ .vmem, ⟨3, _⟩ => ⟨S4x2x1024, .f32⟩
  | .local _ .vmem, ⟨4, _⟩ => ⟨S3x1024, .f32⟩
  | .local _ .vmem, ⟨5, _⟩ => ⟨S8x256x256, .bf16⟩
  | .local _ .vmem, ⟨6, _⟩ => ⟨S8x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S15x256x256, .bf16⟩
  | .local _ .vmem, ⟨10, _⟩ => ⟨S15x256x256, .bf16⟩
  | .local _ .vmem, ⟨11, _⟩ => ⟨S256x2048, .f32⟩
  | .local _ .vmem, ⟨12, _⟩ => ⟨S256x2048, .f32⟩
  | .local _ .vmem, ⟨13, _⟩ => ⟨S4x256x2048, .bf16⟩
  | .local _ .vmem, ⟨14, _⟩ => ⟨S8x256x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S4x2x1024, .f32⟩
  | .local _ .vmem, ⟨19, _⟩ => ⟨S4x2x1024, .f32⟩
  | .local _ .vmem, ⟨20, _⟩ => ⟨S72x1024, .f32⟩
  | _, _ => ⟨S60x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c44_i32 : BitVec 32 := 44#32
  let c0_i32 : BitVec 32 := 0#32
  let c0_i32_0 : BitVec 32 := 0#32
  ![c44_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 2 → Memref sig .tc .vmem S12x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S15x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S60x1024x256 : Shape := ⟨3, ![60, 1024, 256]⟩
abbrev S8x1024x256 : Shape := ⟨3, ![8, 1024, 256]⟩
abbrev S1024x2048 : Shape := ⟨2, ![1024, 2048]⟩
abbrev S16x2x1024 : Shape := ⟨3, ![16, 2, 1024]⟩
abbrev S1x3x1024 : Shape := ⟨3, ![1, 3, 1024]⟩
abbrev S2048x2048 : Shape := ⟨2, ![2048, 2048]⟩
abbrev S1024x60x256 : Shape := ⟨3, ![1024, 60, 256]⟩
abbrev S16x64x15360 : Shape := ⟨3, ![16, 64, 15360]⟩
abbrev S16x64x1024 : Shape := ⟨3, ![16, 64, 1024]⟩
abbrev S16x64x2048 : Shape := ⟨3, ![16, 64, 2048]⟩
abbrev S1024x8x256 : Shape := ⟨3, ![1024, 8, 256]⟩
abbrev S3x1024 : Shape := ⟨2, ![3, 1024]⟩
abbrev S16x66x1024 : Shape := ⟨3, ![16, 66, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S60x1024x256, .bf16⟩
  | .hbm, ⟨1, _⟩ => ⟨S8x1024x256, .bf16⟩
  | .hbm, ⟨2, _⟩ => ⟨S1024x2048, .f32⟩
  | .hbm, ⟨3, _⟩ => ⟨S16x2x1024, .f32⟩
  | .hbm, ⟨4, _⟩ => ⟨S1x3x1024, .f32⟩
  | .hbm, ⟨5, _⟩ => ⟨S1024x2048, .bf16⟩
  | .hbm, ⟨6, _⟩ => ⟨S2048x2048, .bf16⟩
  | .hbm, ⟨7, _⟩ => ⟨S2048x2048, .bf16⟩
  | .hbm, ⟨8, _⟩ => ⟨S60x1024x256, .f32⟩
  | .hbm, ⟨9, _⟩ => ⟨S1024x60x256, .f32⟩
  | .hbm, ⟨10, _⟩ => ⟨S16x64x15360, .f32⟩
  | .hbm, ⟨11, _⟩ => ⟨S16x64x1024, .f32⟩
  | .hbm, ⟨12, _⟩ => ⟨S16x64x1024, .f32⟩
  | .hbm, ⟨13, _⟩ => ⟨S16x64x1024, .f32⟩
  | .hbm, ⟨14, _⟩ => ⟨S16x64x2048, .f32⟩
  | .hbm, ⟨15, _⟩ => ⟨S16x64x2048, .f32⟩
  | .hbm, ⟨16, _⟩ => ⟨S16x64x2048, .f32⟩
  | .hbm, ⟨17, _⟩ => ⟨S16x64x2048, .f32⟩
  | .hbm, ⟨18, _⟩ => ⟨S16x64x2048, .f32⟩
  | .hbm, ⟨19, _⟩ => ⟨S16x64x2048, .f32⟩
  | .hbm, ⟨20, _⟩ => ⟨S8x1024x256, .f32⟩
  | .hbm, ⟨21, _⟩ => ⟨S1024x8x256, .f32⟩
  | .hbm, ⟨22, _⟩ => ⟨S16x64x2048, .f32⟩
  | .hbm, ⟨23, _⟩ => ⟨S16x64x1024, .f32⟩
  | .hbm, ⟨24, _⟩ => ⟨S3x1024, .f32⟩
  | .hbm, ⟨25, _⟩ => ⟨S16x66x1024, .f32⟩
  | .hbm, ⟨26, _⟩ => ⟨S1x1024, .f32⟩
  | .hbm, ⟨27, _⟩ => ⟨S1024, .f32⟩
  | .hbm, ⟨28, _⟩ => ⟨S16x64x1024, .f32⟩
  | .hbm, ⟨29, _⟩ => ⟨S1x1x1024, .f32⟩
  | .hbm, ⟨30, _⟩ => ⟨S16x64x1024, .f32⟩
  | .hbm, ⟨31, _⟩ => ⟨S16x64x1024, .f32⟩
  | .hbm, ⟨32, _⟩ => ⟨S1x1024, .f32⟩
  | .hbm, ⟨33, _⟩ => ⟨S1024, .f32⟩
  | .hbm, ⟨34, _⟩ => ⟨S16x64x1024, .f32⟩
  | .hbm, ⟨35, _⟩ => ⟨S1x1x1024, .f32⟩
  | .hbm, ⟨36, _⟩ => ⟨S16x64x1024, .f32⟩
  | .hbm, ⟨37, _⟩ => ⟨S16x64x1024, .f32⟩
  | .hbm, ⟨38, _⟩ => ⟨S16x64x1024, .f32⟩
  | .hbm, ⟨39, _⟩ => ⟨S1x1024, .f32⟩
  | .hbm, ⟨40, _⟩ => ⟨S1024, .f32⟩
  | .hbm, ⟨41, _⟩ => ⟨S16x64x1024, .f32⟩
  | .hbm, ⟨42, _⟩ => ⟨S1x1x1024, .f32⟩
  | .hbm, ⟨43, _⟩ => ⟨S16x64x1024, .f32⟩
  | .hbm, ⟨44, _⟩ => ⟨S16x64x1024, .f32⟩
  | .hbm, ⟨45, _⟩ => ⟨S16x64x1024, .f32⟩
  | .hbm, ⟨46, _⟩ => ⟨S16x2x1024, .f32⟩
  | .hbm, ⟨47, _⟩ => ⟨S16x64x1024, .f32⟩
  | .hbm, ⟨48, _⟩ => ⟨S16x64x2048, .f32⟩
  | .hbm, ⟨49, _⟩ => ⟨S16x64x2048, .f32⟩
  | .hbm, ⟨50, _⟩ => ⟨S_, .f32⟩
  | .hbm, ⟨51, _⟩ => ⟨S16x64x2048, .f32⟩
  | .hbm, ⟨52, _⟩ => ⟨S16x64x2048, .f32⟩
  | .hbm, ⟨53, _⟩ => ⟨S_, .f32⟩
  | .hbm, ⟨54, _⟩ => ⟨S16x64x2048, .f32⟩
  | .hbm, ⟨55, _⟩ => ⟨S16x64x2048, .f32⟩
  | .hbm, ⟨56, _⟩ => ⟨S1024x2048, .f32⟩
  | .hbm, ⟨57, _⟩ => ⟨S16x64x2048, .f32⟩
  | .hbm, ⟨58, _⟩ => ⟨S16x64x2048, .f32⟩
  | .hbm, ⟨59, _⟩ => ⟨S16x64x2048, .f32⟩
  | .hbm, ⟨60, _⟩ => ⟨S16x64x2048, .f32⟩
  | .hbm, ⟨61, _⟩ => ⟨S_, .f32⟩
  | .hbm, ⟨62, _⟩ => ⟨S16x64x2048, .f32⟩
  | .hbm, ⟨63, _⟩ => ⟨S16x64x2048, .f32⟩
  | .hbm, ⟨64, _⟩ => ⟨S_, .f32⟩
  | .hbm, ⟨65, _⟩ => ⟨S16x64x2048, .f32⟩
  | .hbm, ⟨66, _⟩ => ⟨S16x64x2048, .f32⟩
  | .hbm, ⟨67, _⟩ => ⟨S2048x2048, .f32⟩
  | .hbm, ⟨68, _⟩ => ⟨S16x64x2048, .f32⟩
  | .hbm, ⟨69, _⟩ => ⟨S16x64x2048, .f32⟩
  | .hbm, ⟨70, _⟩ => ⟨S16x64x2048, .f32⟩
  | .hbm, ⟨71, _⟩ => ⟨S16x64x2048, .f32⟩
  | .hbm, ⟨72, _⟩ => ⟨S2048x2048, .f32⟩
  | .hbm, ⟨73, _⟩ => ⟨S16x64x2048, .f32⟩
  | .hbm, ⟨74, _⟩ => ⟨S16x64x2048, .f32⟩
  | .hbm, ⟨75, _⟩ => ⟨S1024x2048, .f32⟩
  | _, _ => ⟨S60x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_v42 : Ref sig .tc := ⟨.hbm, 51, rfl⟩
abbrev main_v43 : Ref sig .tc := ⟨.hbm, 52, rfl⟩
abbrev main_cst_0 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_1 : Ref sig .tc := ⟨.hbm, 61, rfl⟩
abbrev main_v51 : Ref sig .tc := ⟨.hbm, 62, rfl⟩
abbrev main_v52 : Ref sig .tc := ⟨.hbm, 63, rfl⟩
abbrev main_cst_2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Ffn2.lean ====
abbrev S1024x2048 : Shape := ⟨2, ![1024, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 8
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Ffn2RefIdeal.lean ====
abbrev S1024x2048 : Shape := ⟨2, ![1024, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1024x5632 : Shape := ⟨2, ![1024, 5632]⟩

abbrev nBuf : Space → Nat
  | .hbm => 59
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048, .f32⟩
  | .hbm, ⟨7, _⟩ => ⟨S1024x2048, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x2048, .f32⟩
  | .hbm, ⟨19, _⟩ => ⟨S1024x2048, .f32⟩
  | .hbm, ⟨20, _⟩ => ⟨S1x2048, .f32⟩
  | .hbm, ⟨21, _⟩ => ⟨S1024x2048, .f32⟩
  | .hbm, ⟨22, _⟩ => ⟨S1024x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S1024x5632, .f32⟩
  | .hbm, ⟨27, _⟩ => ⟨S1024x5632, .f32⟩
  | .hbm, ⟨28, _⟩ => ⟨S1024x5632, .f32⟩
  | .hbm, ⟨29, _⟩ => ⟨S_, .f32⟩
  | .hbm, ⟨30, _⟩ => ⟨S1024x5632, .f32⟩
  | .hbm, ⟨31, _⟩ => ⟨S1024x5632, .f32⟩
  | .hbm, ⟨32, _⟩ => ⟨S_, .f32⟩
  | .hbm, ⟨33, _⟩ => ⟨S1024x5632, .f32⟩
  | .hbm, ⟨34, _⟩ => ⟨S1024x5632, .f32⟩
  | .hbm, ⟨35, _⟩ => ⟨S1024x5632, .f32⟩
  | .hbm, ⟨36, _⟩ => ⟨S1024x5632, .f32⟩
  | .hbm, ⟨37, _⟩ => ⟨S1024x5632, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S_, .f32⟩
  | .hbm, ⟨51, _⟩ => ⟨S1024x1, .f32⟩
  | .hbm, ⟨52, _⟩ => ⟨S1024x1, .f32⟩
  | .hbm, ⟨53, _⟩ => ⟨S1024x1, .f32⟩
  | .hbm, ⟨54, _⟩ => ⟨S1024x2048, .f32⟩
  | .hbm, ⟨55, _⟩ => ⟨S1024x2048, .f32⟩
  | .hbm, ⟨56, _⟩ => ⟨S1x2048, .f32⟩
  | .hbm, ⟨57, _⟩ => ⟨S1024x2048, .f32⟩
  | .hbm, ⟨58, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Ffn2Prompt.lean ====
abbrev S32768x2048 : Shape := ⟨2, ![32768, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 8
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn2PromptRefIdeal.lean ====
abbrev S32768x2048 : Shape := ⟨2, ![32768, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩

abbrev nBuf : Space → Nat
  | .hbm => 59
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S32768x5632, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S32768x5632, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x2048, .f32⟩
  | .hbm, ⟨55, _⟩ => ⟨S32768x2048, .f32⟩
  | .hbm, ⟨56, _⟩ => ⟨S1x2048, .f32⟩
  | .hbm, ⟨57, _⟩ => ⟨S32768x2048, .f32⟩
  | .hbm, ⟨58, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== MergePrompt.lean ====
abbrev S60x32768x256 : Shape := ⟨3, ![60, 32768, 256]⟩
abbrev S8x32768x256 : Shape := ⟨3, ![8, 32768, 256]⟩
abbrev S32768x2048 : Shape := ⟨2, ![32768, 2048]⟩
abbrev S2x2x1024 : Shape := ⟨3, ![2, 2, 1024]⟩
abbrev S1x3x1024 : Shape := ⟨3, ![1, 3, 1024]⟩
abbrev S1024x2048 : Shape := ⟨2, ![1024, 2048]⟩
abbrev S2048x2048 : Shape := ⟨2, ![2048, 2048]⟩
abbrev S3x1024 : Shape := ⟨2, ![3, 1024]⟩
abbrev S4x256x2048 : Shape := ⟨3, ![4, 256, 2048]⟩
abbrev S8x256x2048 : Shape := ⟨3, ![8, 256, 2048]⟩
abbrev S12x256x256 : Shape := ⟨3, ![12, 256, 256]⟩
abbrev S1x2x1024 : Shape := ⟨3, ![1, 2, 1024]⟩
abbrev S8x256x256 : Shape := ⟨3, ![8, 256, 256]⟩
abbrev S1x256x256 : Shape := ⟨3, ![1, 256, 256]⟩
abbrev S15x256x256 : Shape := ⟨3, ![15, 256, 256]⟩
abbrev S256x2048 : Shape := ⟨2, ![256, 2048]⟩
abbrev S264x1024 : Shape := ⟨2, ![264, 1024]⟩
abbrev S256x256 : Shape := ⟨2, ![256, 256]⟩
abbrev S1x256x2048 : Shape := ⟨3, ![1, 256, 2048]⟩
abbrev S256x1024 : Shape := ⟨2, ![256, 1024]⟩
abbrev S2x1024 : Shape := ⟨2, ![2, 1024]⟩
abbrev S1x1024 : Shape := ⟨2, ![1, 1024]⟩
abbrev S256x4096 : Shape := ⟨2, ![256, 4096]⟩

abbrev nBuf : Space → Nat
  | .hbm => 13
  | .vmem => 21
  | .smem => 0
  | _ => 0

abbrev bufTy : (tb : Table) → Fin (tcTables nBuf tb) → BufTy
  | .hbm, ⟨0, _⟩ => ⟨S60x32768x256, .bf16⟩
  | .hbm, ⟨1, _⟩ => ⟨S8x32768x256, .bf16⟩
  | .hbm, ⟨2, _⟩ => ⟨S32768x2048, .f32⟩
  | .hbm, ⟨3, _⟩ => ⟨S2x2x1024, .f32⟩
  | .hbm, ⟨4, _⟩ => ⟨S1x3x1024, .f32⟩
  | .hbm, ⟨5, _⟩ => ⟨S1024x2048, .bf16⟩
  | .hbm, ⟨6, _⟩ => ⟨S2048x2048, .bf16⟩
  | .hbm, ⟨7, _⟩ => ⟨S2048x2048, .bf16⟩
  | .hbm, ⟨8, _⟩ => ⟨S3x1024, .f32⟩
  | .hbm, ⟨9, _⟩ => ⟨S4x256x2048, .bf16⟩
  | .hbm, ⟨10, _⟩ => ⟨S8x256x2048, .bf16⟩
  | .hbm, ⟨11, _⟩ => ⟨S32768x2048, .f32⟩
  | .hbm, ⟨12, _⟩ => ⟨S2x2x1024, .f32⟩
  | .local _ .vmem, ⟨0, _⟩ => ⟨S12x256x256, .bf16⟩
  | .local _ .vmem, ⟨1, _⟩ => ⟨S12x256x256, .bf16⟩
  | .local _ .vmem, ⟨2, _⟩ => ⟨S1x2x1024, .f32⟩
  | .local _ .vmem, ⟨3, _⟩ => ⟨S1x2x1024, .f32⟩
  | .local _ .vmem, ⟨4, _⟩ => ⟨S3x1024, .f32⟩
  | .local _ .vmem, ⟨5, _⟩ => ⟨S8x256x256, .bf16⟩
  | .local _ .vmem, ⟨6, _⟩ => ⟨S8x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S15x256x256, .bf16⟩
  | .local _ .vmem, ⟨10, _⟩ => ⟨S15x256x256, .bf16⟩
  | .local _ .vmem, ⟨11, _⟩ => ⟨S256x2048, .f32⟩
  | .local _ .vmem, ⟨12, _⟩ => ⟨S256x2048, .f32⟩
  | .local _ .vmem, ⟨13, _⟩ => ⟨S4x256x2048, .bf16⟩
  | .local _ .vmem, ⟨14, _⟩ => ⟨S8x256x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S1x2x1024, .f32⟩
  | .local _ .vmem, ⟨19, _⟩ => ⟨S1x2x1024, .f32⟩
  | .local _ .vmem, ⟨20, _⟩ => ⟨S264x1024, .f32⟩
  | _, _ => ⟨S60x32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c44_i32 : BitVec 32 := 44#32
  let c0_i32 : BitVec 32 := 0#32
  let c0_i32_0 : BitVec 32 := 0#32
  ![c44_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S12x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S15x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergePromptRefIdeal.lean ====
abbrev S60x32768x256 : Shape := ⟨3, ![60, 32768, 256]⟩
abbrev S8x32768x256 : Shape := ⟨3, ![8, 32768, 256]⟩
abbrev S32768x2048 : Shape := ⟨2, ![32768, 2048]⟩
abbrev S2x2x1024 : Shape := ⟨3, ![2, 2, 1024]⟩
abbrev S1x3x1024 : Shape := ⟨3, ![1, 3, 1024]⟩
abbrev S1024x2048 : Shape := ⟨2, ![1024, 2048]⟩
abbrev S2048x2048 : Shape := ⟨2, ![2048, 2048]⟩
abbrev S32768x60x256 : Shape := ⟨3, ![32768, 60, 256]⟩
abbrev S2x16384x15360 : Shape := ⟨3, ![2, 16384, 15360]⟩
abbrev S2x16384x1024 : Shape := ⟨3, ![2, 16384, 1024]⟩
abbrev S2x16384x2048 : Shape := ⟨3, ![2, 16384, 2048]⟩
abbrev S32768x8x256 : Shape := ⟨3, ![32768, 8, 256]⟩
abbrev S3x1024 : Shape := ⟨2, ![3, 1024]⟩
abbrev S2x16386x1024 : Shape := ⟨3, ![2, 16386, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S60x32768x256, .bf16⟩
  | .hbm, ⟨1, _⟩ => ⟨S8x32768x256, .bf16⟩
  | .hbm, ⟨2, _⟩ => ⟨S32768x2048, .f32⟩
  | .hbm, ⟨3, _⟩ => ⟨S2x2x1024, .f32⟩
  | .hbm, ⟨4, _⟩ => ⟨S1x3x1024, .f32⟩
  | .hbm, ⟨5, _⟩ => ⟨S1024x2048, .bf16⟩
  | .hbm, ⟨6, _⟩ => ⟨S2048x2048, .bf16⟩
  | .hbm, ⟨7, _⟩ => ⟨S2048x2048, .bf16⟩
  | .hbm, ⟨8, _⟩ => ⟨S60x32768x256, .f32⟩
  | .hbm, ⟨9, _⟩ => ⟨S32768x60x256, .f32⟩
  | .hbm, ⟨10, _⟩ => ⟨S2x16384x15360, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x2048, .f32⟩
  | .hbm, ⟨15, _⟩ => ⟨S2x16384x2048, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S2x16384x2048, .f32⟩
  | .hbm, ⟨20, _⟩ => ⟨S8x32768x256, .f32⟩
  | .hbm, ⟨21, _⟩ => ⟨S32768x8x256, .f32⟩
  | .hbm, ⟨22, _⟩ => ⟨S2x16384x2048, .f32⟩
  | .hbm, ⟨23, _⟩ => ⟨S2x16384x1024, .f32⟩
  | .hbm, ⟨24, _⟩ => ⟨S3x1024, .f32⟩
  | .hbm, ⟨25, _⟩ => ⟨S2x16386x1024, .f32⟩
  | .hbm, ⟨26, _⟩ => ⟨S1x1024, .f32⟩
  | .hbm, ⟨27, _⟩ => ⟨S1024, .f32⟩
  | .hbm, ⟨28, _⟩ => ⟨S2x16384x1024, .f32⟩
  | .hbm, ⟨29, _⟩ => ⟨S1x1x1024, .f32⟩
  | .hbm, ⟨30, _⟩ => ⟨S2x16384x1024, .f32⟩
  | .hbm, ⟨31, _⟩ => ⟨S2x16384x1024, .f32⟩
  | .hbm, ⟨32, _⟩ => ⟨S1x1024, .f32⟩
  | .hbm, ⟨33, _⟩ => ⟨S1024, .f32⟩
  | .hbm, ⟨34, _⟩ => ⟨S2x16384x1024, .f32⟩
  | .hbm, ⟨35, _⟩ => ⟨S1x1x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S1x1024, .f32⟩
  | .hbm, ⟨40, _⟩ => ⟨S1024, .f32⟩
  | .hbm, ⟨41, _⟩ => ⟨S2x16384x1024, .f32⟩
  | .hbm, ⟨42, _⟩ => ⟨S1x1x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x2x1024, .f32⟩
  | .hbm, ⟨47, _⟩ => ⟨S2x16384x1024, .f32⟩
  | .hbm, ⟨48, _⟩ => ⟨S2x16384x2048, .f32⟩
  | .hbm, ⟨49, _⟩ => ⟨S2x16384x2048, .f32⟩
  | .hbm, ⟨50, _⟩ => ⟨S_, .f32⟩
  | .hbm, ⟨51, _⟩ => ⟨S2x16384x2048, .f32⟩
  | .hbm, ⟨52, _⟩ => ⟨S2x16384x2048, .f32⟩
  | .hbm, ⟨53, _⟩ => ⟨S_, .f32⟩
  | .hbm, ⟨54, _⟩ => ⟨S2x16384x2048, .f32⟩
  | .hbm, ⟨55, _⟩ => ⟨S2x16384x2048, .f32⟩
  | .hbm, ⟨56, _⟩ => ⟨S1024x2048, .f32⟩
  | .hbm, ⟨57, _⟩ => ⟨S2x16384x2048, .f32⟩
  | .hbm, ⟨58, _⟩ => ⟨S2x16384x2048, .f32⟩
  | .hbm, ⟨59, _⟩ => ⟨S2x16384x2048, .f32⟩
  | .hbm, ⟨60, _⟩ => ⟨S2x16384x2048, .f32⟩
  | .hbm, ⟨61, _⟩ => ⟨S_, .f32⟩
  | .hbm, ⟨62, _⟩ => ⟨S2x16384x2048, .f32⟩
  | .hbm, ⟨63, _⟩ => ⟨S2x16384x2048, .f32⟩
  | .hbm, ⟨64, _⟩ => ⟨S_, .f32⟩
  | .hbm, ⟨65, _⟩ => ⟨S2x16384x2048, .f32⟩
  | .hbm, ⟨66, _⟩ => ⟨S2x16384x2048, .f32⟩
  | .hbm, ⟨67, _⟩ => ⟨S2048x2048, .f32⟩
  | .hbm, ⟨68, _⟩ => ⟨S2x16384x2048, .f32⟩
  | .hbm, ⟨69, _⟩ => ⟨S2x16384x2048, .f32⟩
  | .hbm, ⟨70, _⟩ => ⟨S2x16384x2048, .f32⟩
  | .hbm, ⟨71, _⟩ => ⟨S2x16384x2048, .f32⟩
  | .hbm, ⟨72, _⟩ => ⟨S2048x2048, .f32⟩
  | .hbm, ⟨73, _⟩ => ⟨S2x16384x2048, .f32⟩
  | .hbm, ⟨74, _⟩ => ⟨S2x16384x2048, .f32⟩
  | .hbm, ⟨75, _⟩ => ⟨S32768x2048, .f32⟩
  | _, _ => ⟨S60x32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_v42 : Ref sig .tc := ⟨.hbm, 51, rfl⟩
abbrev main_v43 : Ref sig .tc := ⟨.hbm, 52, rfl⟩
abbrev main_cst_0 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_1 : Ref sig .tc := ⟨.hbm, 61, rfl⟩
abbrev main_v51 : Ref sig .tc := ⟨.hbm, 62, rfl⟩
abbrev main_v52 : Ref sig .tc := ⟨.hbm, 63, rfl⟩
abbrev main_cst_2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== InProjPrompt.lean ====
abbrev S32768x2048 : Shape := ⟨2, ![32768, 2048]⟩
abbrev S1x2048 : Shape := ⟨2, ![1, 2048]⟩
abbrev S2048x15360 : Shape := ⟨2, ![2048, 15360]⟩
abbrev S60x32768x256 : Shape := ⟨3, ![60, 32768, 256]⟩
abbrev S1024x2048 : Shape := ⟨2, ![1024, 2048]⟩
abbrev S2048x2560 : Shape := ⟨2, ![2048, 2560]⟩
abbrev S10x1024x256 : Shape := ⟨3, ![10, 1024, 256]⟩
abbrev S1024 : Shape := ⟨1, ![1024]⟩
abbrev S1024x1 : Shape := ⟨2, ![1024, 1]⟩
abbrev S1024x2560 : Shape := ⟨2, ![1024, 2560]⟩
abbrev S1024x256 : Shape := ⟨2, ![1024, 256]⟩
abbrev S1x1024x256 : Shape := ⟨3, ![1, 1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x15360, .bf16⟩
  | .hbm, ⟨3, _⟩ => ⟨S60x32768x256, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2560, .bf16⟩
  | .local _ .vmem, ⟨4, _⟩ => ⟨S2048x2560, .bf16⟩
  | .local _ .vmem, ⟨5, _⟩ => ⟨S10x1024x256, .bf16⟩
  | .local _ .vmem, ⟨6, _⟩ => ⟨S10x1024x256, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S10x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjPromptRefIdeal.lean ====
abbrev S32768x2048 : Shape := ⟨2, ![32768, 2048]⟩
abbrev S1x2048 : Shape := ⟨2, ![1, 2048]⟩
abbrev S2048x15360 : Shape := ⟨2, ![2048, 15360]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x15360 : Shape := ⟨2, ![32768, 15360]⟩
abbrev S32768x60x256 : Shape := ⟨3, ![32768, 60, 256]⟩
abbrev S60x32768x256 : Shape := ⟨3, ![60, 32768, 256]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x15360, .bf16⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x15360, .f32⟩
  | .hbm, ⟨21, _⟩ => ⟨S32768x15360, .f32⟩
  | .hbm, ⟨22, _⟩ => ⟨S32768x60x256, .f32⟩
  | .hbm, ⟨23, _⟩ => ⟨S60x32768x256, .f32⟩
  | .hbm, ⟨24, _⟩ => ⟨S60x32768x256, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Ffn1Prompt.lean ====
abbrev S2x16384x2048 : Shape := ⟨3, ![2, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S1x2048x15360 : Shape := ⟨3, ![1, 2048, 15360]⟩
abbrev S32768x2048 : Shape := ⟨2, ![32768, 2048]⟩
abbrev S2048x5632 : Shape := ⟨2, ![2048, 5632]⟩
abbrev S5632x2048 : Shape := ⟨2, ![5632, 2048]⟩
abbrev S2048x15360 : Shape := ⟨2, ![2048, 15360]⟩
abbrev S1024x2048 : Shape := ⟨2, ![1024, 2048]⟩
abbrev S2048x512 : Shape := ⟨2, ![2048, 512]⟩
abbrev S512x2048 : Shape := ⟨2, ![512, 2048]⟩
abbrev S1x32x3072 : Shape := ⟨3, ![1, 32, 3072]⟩
abbrev S32x3072 : Shape := ⟨2, ![32, 3072]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 17
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048x15360, .f32⟩
  | .hbm, ⟨7, _⟩ => ⟨S32768x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S32768x2048, .f32⟩
  | .hbm, ⟨16, _⟩ => ⟨S2048x15360, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x32x3072, .f32⟩
  | .local _ .vmem, ⟨11, _⟩ => ⟨S1x32x3072, .f32⟩
  | .local _ .vmem, ⟨12, _⟩ => ⟨S1024x2048, .f32⟩
  | .local _ .vmem, ⟨13, _⟩ => ⟨S1024x2048, .f32⟩
  | .local _ .vmem, ⟨14, _⟩ => ⟨S32x3072, .bf16⟩
  | .local _ .vmem, ⟨15, _⟩ => ⟨S32x3072, .bf16⟩
  | .local _ .vmem, ⟨16, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c319_i32 : BitVec 32 := 319#32
  let v2 : BitVec 32 := Scalar.minsi v1 c319_i32
  let c5_i32 : BitVec 32 := 5#32
  let v3 : BitVec 32 := Scalar.divsi v2 c5_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c5_i32 c0_i32_1
  let v10 : BitVec 32 := Scalar.extui v9
  let c0_i32_2 : BitVec 32 := 0#32
  let v11 : BitVec 1 := Scalar.cmpi .slt c5_i32 c0_i32_2
  let v12 : BitVec 32 := Scalar.extui v11
  let v13 : BitVec 32 := Scalar.subi v10 v12
  let v14 : BitVec 1 := Scalar.cmpi .ne v8 v13
  let v15 : BitVec 32 := Scalar.remsi v2 c5_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c5_i32_4 : BitVec 32 := 5#32
  let c0_i32_5 : BitVec 32 := 0#32
  let v20 : BitVec 1 := Scalar.cmpi .eq c5_i32_4 c0_i32_5
  let c1_i32_6 : BitVec 32 := 1#32
  let v21 : BitVec 32 := Scalar.select v20 c1_i32_6 c5_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![c0_i32_10.toNat, v19.toNat, v29.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c319_i32 : BitVec 32 := 319#32
  let v2 : BitVec 32 := Scalar.minsi v1 c319_i32
  let c5_i32 : BitVec 32 := 5#32
  let v3 : BitVec 32 := Scalar.divsi v2 c5_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c5_i32 c0_i32_1
  let v10 : BitVec 32 := Scalar.extui v9
  let c0_i32_2 : BitVec 32 := 0#32
  let v11 : BitVec 1 := Scalar.cmpi .slt c5_i32 c0_i32_2
  let v12 : BitVec 32 := Scalar.extui v11
  let v13 : BitVec 32 := Scalar.subi v10 v12
  let v14 : BitVec 1 := Scalar.cmpi .ne v8 v13
  let v15 : BitVec 32 := Scalar.remsi v2 c5_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c5_i32_4 : BitVec 32 := 5#32
  let c0_i32_5 : BitVec 32 := 0#32
  let v20 : BitVec 1 := Scalar.cmpi .eq c5_i32_4 c0_i32_5
  let c1_i32_6 : BitVec 32 := 1#32
  let v21 : BitVec 32 := Scalar.select v20 c1_i32_6 c5_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  ![v19.toNat, v29.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Ffn1PromptRefIdeal.lean ====
abbrev S2x16384x2048 : Shape := ⟨3, ![2, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S1x2048x15360 : Shape := ⟨3, ![1, 2048, 15360]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x5632 : Shape := ⟨2, ![2048, 5632]⟩
abbrev S5632x2048 : Shape := ⟨2, ![5632, 2048]⟩
abbrev S2x16384x5632 : Shape := ⟨3, ![2, 16384, 5632]⟩
abbrev S32768x2048 : Shape := ⟨2, ![32768, 2048]⟩
abbrev S2048x15360 : Shape := ⟨2, ![2048, 15360]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048x15360, .f32⟩
  | .hbm, ⟨7, _⟩ => ⟨S2048, .f32⟩
  | .hbm, ⟨8, _⟩ => ⟨S2x16384x2048, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x2048, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S2x16384x5632, .f32⟩
  | .hbm, ⟨28, _⟩ => ⟨S2x16384x5632, .f32⟩
  | .hbm, ⟨29, _⟩ => ⟨S2x16384x5632, .f32⟩
  | .hbm, ⟨30, _⟩ => ⟨S_, .f32⟩
  | .hbm, ⟨31, _⟩ => ⟨S2x16384x5632, .f32⟩
  | .hbm, ⟨32, _⟩ => ⟨S2x16384x5632, .f32⟩
  | .hbm, ⟨33, _⟩ => ⟨S_, .f32⟩
  | .hbm, ⟨34, _⟩ => ⟨S2x16384x5632, .f32⟩
  | .hbm, ⟨35, _⟩ => ⟨S2x16384x5632, .f32⟩
  | .hbm, ⟨36, _⟩ => ⟨S2x16384x5632, .f32⟩
  | .hbm, ⟨37, _⟩ => ⟨S2x16384x5632, .f32⟩
  | .hbm, ⟨38, _⟩ => ⟨S2x16384x5632, .f32⟩
  | .hbm, ⟨39, _⟩ => ⟨S2x16384x2048, .f32⟩
  | .hbm, ⟨40, _⟩ => ⟨S_, .f32⟩
  | .hbm, ⟨41, _⟩ => ⟨S2x16384x2048, .f32⟩
  | .hbm, ⟨42, _⟩ => ⟨S2x16384x2048, .f32⟩
  | .hbm, ⟨43, _⟩ => ⟨S2x16384x2048, .f32⟩
  | .hbm, ⟨44, _⟩ => ⟨S32768x2048, .f32⟩
  | .hbm, ⟨45, _⟩ => ⟨S2048x15360, .f32⟩
  | .hbm, ⟨46, _⟩ => ⟨S2048x15360, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Proof.HgrnItem.lean ====
module

public import proofs.«01_k».proof.Proof.Gen.HgrnIdeal.Value
public import Idealize.ShloMosaic.Lib.Pointwise

/-! The recurrence kernel's one grid point, said once for a sequence instead of sixteen times. The kernel's text
    writes the same computation out for each of the sixteen sequences of a batch group, the stages of neighbouring
    sequences interleaved. Here one sequence's stages are functions of its number, and `pieces_y` and `pieces_s` say
    that the stores of the kernel's text are these functions' values. -/

@[expose] public section

set_option maxRecDepth 16384

open Idealize.ShloMosaic Idealize.ShloMosaic.TcCoe Idealize.SL.Sem
open Idealize.ShloMosaic.Pipeline (Dat)

noncomputable section

namespace Cert.HgrnProof
open Cert.HgrnIdeal Cert.HgrnIdeal.Gen Cert.HgrnIdeal.Value

/-- What one grid point reads: the slabs of query, forget gate, value and output gate of each sequence, the gate
    logits, the gain, the three tables, and the initial state of each head of each sequence (number `2 b + h`). -/
structure In where
  q : ℕ → Vec Ideal S1x64x256 .bf16
  f : ℕ → Vec Ideal S1x64x256 .bf16
  v : ℕ → Vec Ideal S1x64x256 .bf16
  og : ℕ → Vec Ideal S1x64x256 .bf16
  lo : Vec Ideal S2x256 .f32
  g : Vec Ideal S1x256 .f32
  tl : Vec Ideal S96x128 .bf16
  tv : Vec Ideal S32x256 .f32
  tc : Vec Ideal S64x64 .i32
  s : ℕ → Vec Ideal S1x1x128x128 .f32

theorem inb_slab (b : ℕ) : ∀ a, (![0, 64 * (b % 16), 0] : Fin 3 → ℕ) a + S1x64x256.size a ≤ S1x1024x256.size a := fun a => by
  have := Nat.mod_lt b (show 16 > 0 by decide)
  match a with
  | ⟨0, _⟩ => show 0 + 1 ≤ 1; omega
  | ⟨1, _⟩ => show 64 * (b % 16) + 64 ≤ 1024; omega
  | ⟨2, _⟩ => show 0 + 256 ≤ 256; omega

theorem inb_fc (b : ℕ) : ∀ a, (![b % 16, 0, 0] : Fin 3 → ℕ) a + S1x32x256.size a ≤ S16x32x256.size a := fun a => by
  have := Nat.mod_lt b (show 16 > 0 by decide)
  match a with
  | ⟨0, _⟩ => show b % 16 + 1 ≤ 16; omega
  | ⟨1, _⟩ => show 0 + 32 ≤ 32; omega
  | ⟨2, _⟩ => show 0 + 256 ≤ 256; omega

theorem inb_row (b r : ℕ) : ∀ a, (![b % 16, r % 32, 0] : Fin 3 → ℕ) a + S1x1x256.size a ≤ S16x32x256.size a := fun a => by
  have := Nat.mod_lt b (show 16 > 0 by decide)
  have := Nat.mod_lt r (show 32 > 0 by decide)
  match a with
  | ⟨0, _⟩ => show b % 16 + 1 ≤ 16; omega
  | ⟨1, _⟩ => show r % 32 + 1 ≤ 32; omega
  | ⟨2, _⟩ => show 0 + 256 ≤ 256; omega

theorem inb_st (k : ℕ) : ∀ a, (![k / 2 % 16, k % 2, 0, 0] : Fin 4 → ℕ) a + S1x1x128x128.size a ≤ S16x2x128x128.size a := fun a => by
  have := Nat.mod_lt (k / 2) (show 16 > 0 by decide)
  have := Nat.mod_lt k (show 2 > 0 by decide)
  match a with
  | ⟨0, _⟩ => show k / 2 % 16 + 1 ≤ 16; omega
  | ⟨1, _⟩ => show k % 2 + 1 ≤ 2; omega
  | ⟨2, _⟩ => show 0 + 128 ≤ 128; omega
  | ⟨3, _⟩ => show 0 + 128 ≤ 128; omega

/-- The rows of sequence `b` in a block of sixteen. -/
abbrev slabR (b : ℕ) : Rect S1x1024x256 := Rect.unit ![0, 64 * (b % 16), 0] S1x64x256.size (inb_slab b)
/-- The factor rows of sequence `b`. -/
abbrev fcR (b : ℕ) : Rect S16x32x256 := Rect.unit ![b % 16, 0, 0] S1x32x256.size (inb_fc b)
/-- Factor row `r` of sequence `b`. -/
abbrev rowR (b r : ℕ) : Rect S16x32x256 := Rect.unit ![b % 16, r % 32, 0] S1x1x256.size (inb_row b r)
/-- The state of head `k % 2` of sequence `k / 2`. -/
abbrev stR (k : ℕ) : Rect S16x2x128x128 := Rect.unit ![k / 2 % 16, k % 2, 0, 0] S1x1x128x128.size (inb_st k)

namespace In
variable (X : In) (V15 : View sig .tc .vmem S16x2x128x128 .f32) (V16 : View sig .tc .vmem S16x32x256 .f32)

/-- The factor rows a sequence stores. -/
def fc (b : ℕ) : Vec Ideal S1x32x256 .f32 :=
  k0_pay77 (k0_pay66 X.lo) (k0_pay67 X.lo) X.tl X.tv (k0_pay71 (X.f b))

/-- The stores of the factor rows of the first `n` sequences, last first. -/
def fcL : ℕ → List (View.Piece (Elt Ideal) S16x32x256 .f32)
  | 0 => []
  | n + 1 => ⟨fcR n, X.fc n⟩ :: fcL n

/-- Factor row `r` of sequence `b` as read back once `n` sequences have stored theirs. -/
def row (n b r : ℕ) : Vec Ideal S1x1x256 .f32 := V16.readCov (X.fcL n) (rowR b r).toLoadRect

/-- The queries, gated and decayed from the start of their sub-block. -/
def qd (b : ℕ) : FVec Ideal S64x256 .bf16 := k0_pay78 (k0_pay66 X.lo) (k0_pay67 X.lo) X.tl (k0_pay70 (X.q b)) (k0_pay71 (X.f b))
/-- The keys, with the decay from the start of their sub-block divided out. -/
def kd (b : ℕ) : FVec Ideal S64x256 .bf16 := k0_pay79 (k0_pay66 X.lo) (k0_pay67 X.lo) X.tl (k0_pay71 (X.f b))

def ql32 (b : ℕ) : FVec Ideal S64x256 .bf16 :=
  k0_pay81 (X.qd b) (k0_pay80 (X.row V16 (b + 1) b 8)) (X.row V16 (b + 1) b 9) (X.row V16 (b + 1) b 10) (X.row V16 (b + 1) b 11)
def kl16 (b : ℕ) : FVec Ideal S64x256 .bf16 :=
  k0_pay85 (X.kd b) (k0_pay82 (X.row V16 (b + 1) b 0)) (k0_pay83 (X.row V16 (b + 1) b 1)) (k0_pay84 (X.row V16 (b + 1) b 2)) (X.row V16 (b + 1) b 3)
def kl32 (b : ℕ) : FVec Ideal S64x256 .bf16 :=
  k0_pay86 (X.kd b) (X.row V16 (b + 1) b 4) (X.row V16 (b + 1) b 5) (X.row V16 (b + 1) b 6) (X.row V16 (b + 1) b 7)
def qin (b : ℕ) : FVec Ideal S64x256 .bf16 :=
  k0_pay88 (X.qd b) (k0_pay87 (X.row V16 (b + 1) b 12)) (X.row V16 (b + 1) b 13) (X.row V16 (b + 1) b 14) (X.row V16 (b + 1) b 15)
def kout (b : ℕ) : FVec Ideal S64x256 .bf16 :=
  k0_pay93 (X.kd b) (k0_pay89 (X.row V16 (b + 1) b 16)) (k0_pay90 (X.row V16 (b + 1) b 17)) (k0_pay91 (X.row V16 (b + 1) b 18)) (k0_pay92 (X.row V16 (b + 1) b 19))

/-- The gated output gate times the gain. -/
def sog (b : ℕ) : FVec Ideal S64x256 .f32 := k0_pay94 X.g (k0_pay73 (X.og b))
/-- The attention matrix of the first head. -/
def at0 (b : ℕ) : FVec Ideal S64x64 .bf16 :=
  k0_pay141 (k0_pay68 X.tc) (k0_pay69 X.tc) (X.qd b) (X.kd b) (X.ql32 V16 b) (X.kl16 V16 b) (X.kl32 V16 b)
/-- The attention matrix of the second head. -/
def at1 (b : ℕ) : FVec Ideal S64x64 .bf16 :=
  k0_pay142 (k0_pay68 X.tc) (k0_pay69 X.tc) (X.qd b) (X.kd b) (X.ql32 V16 b) (X.kl16 V16 b) (X.kl32 V16 b)

/-- The whole sequence's decay row, read when the sequence's state is updated. -/
def dec (b : ℕ) : FVec Ideal S1x256 .f32 := k0_pay143 (X.row V16 (min (b + 3) 16) b 20)

/-- The new state of head `k % 2` of sequence `k / 2` from the old one. -/
def stNew (k : ℕ) (st : Vec Ideal S1x1x128x128 .f32) : Vec Ideal S1x1x128x128 .f32 :=
  bif k % 2 == 0 then k0_pay146 (k0_pay72 (X.v (k / 2))) (X.kout V16 (k / 2)) (X.dec V16 (k / 2)) (k0_pay144 st)
  else k0_pay151 (k0_pay150 (k0_pay72 (X.v (k / 2))) (X.kout V16 (k / 2)) (X.dec V16 (k / 2)) st)

/-- The initial states stored transposed, the first `n` heads, last first. -/
def initL : ℕ → List (View.Piece (Elt Ideal) S16x2x128x128 .f32)
  | 0 => []
  | n + 1 => ⟨stR n, k0_pay2 (X.s n)⟩ :: initL n

/-- The initial states' stores followed by the new states' stores of the first `n` heads, last first. -/
def stL : ℕ → List (View.Piece (Elt Ideal) S16x2x128x128 .f32)
  | 0 => X.initL 32
  | n + 1 => ⟨stR n, X.stNew V16 n (V15.readCov (stL n) (stR n).toLoadRect)⟩ :: stL n

/-- The state of head `k % 2` of sequence `k / 2` as read back once `n` heads have been updated. -/
def st (n k : ℕ) : Vec Ideal S1x1x128x128 .f32 := V15.readCov (X.stL V15 V16 n) (stR k).toLoadRect

/-- The sequence's rows of the first result. -/
def y (b : ℕ) : Vec Ideal S1x64x256 .bf16 :=
  k0_pay152 (X.sog b)
    (k0_pay147 (X.qin V16 b) (X.at0 V16 b) (k0_pay144 (X.st V15 V16 (2 * b) (2 * b))) (k0_pay145 (k0_pay72 (X.v b)))
      (constant S64x128 .f32 0x00000000#32))
    (k0_pay149 (k0_pay72 (X.v b)) (X.qin V16 b) (X.at1 V16 b) (X.st V15 V16 (2 * b + 1) (2 * b + 1)))

/-- The stores of the first result, last first. -/
def yL : ℕ → List (View.Piece (Elt Ideal) S1x1024x256 .bf16)
  | 0 => []
  | n + 1 => ⟨slabR n, X.y V15 V16 n⟩ :: yL n

/-- The stores of the second result, last first. -/
def sL : ℕ → List (View.Piece (Elt Ideal) S16x2x128x128 .f32)
  | 0 => []
  | n + 1 => ⟨stR n, k0_pay2 (X.st V15 V16 32 n)⟩ :: sL n

end In

section
variable (c : Dev nD) (i : grid0.Coords)
    (arg3 : Memref sig .tc .vmem S1x1024x256 .bf16) (harg3 : arg3.IsWhole) (arg4 : Memref sig .tc .vmem S1x1024x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S2x256 .f32) (harg7 : arg7.IsWhole) (arg8 : Memref sig .tc .vmem S1x256 .f32) (harg8 : arg8.IsWhole)
    (arg9 : Memref sig .tc .vmem S16x2x128x128 .f32) (harg9 : arg9.IsWhole) (arg10 : Memref sig .tc .vmem S96x128 .bf16) (harg10 : arg10.IsWhole)
    (arg11 : Memref sig .tc .vmem S32x256 .f32) (harg11 : arg11.IsWhole) (arg12 : Memref sig .tc .vmem S64x64 .i32) (harg12 : arg12.IsWhole)
    (arg13 : Memref sig .tc .vmem S1x1024x256 .bf16) (harg13 : arg13.IsWhole) (arg14 : Memref sig .tc .vmem S16x2x128x128 .f32) (harg14 : arg14.IsWhole)
    (arg15 : Memref sig .tc .vmem S16x2x128x128 .f32) (harg15 : arg15.IsWhole) (arg16 : Memref sig .tc .vmem S16x32x256 .f32) (harg16 : arg16.IsWhole)
    (hc0 : cond0_0 i) (hc1 : cond0_1 i)
    (x0 x1 x2 x3 : Vec Ideal S1x1024x256 .bf16) (x4 : Vec Ideal S2x256 .f32) (x5 : Vec Ideal S1x256 .f32) (x6 : Vec Ideal S16x2x128x128 .f32)
    (x7 : Vec Ideal S96x128 .bf16) (x8 : Vec Ideal S32x256 .f32) (x9 : Vec Ideal S64x64 .i32)

/-- What the grid point reads from its blocks. -/
def inp : In where
  q b := View.readAt (Elt Ideal) arg3.view (slabR b).toLoadRect (harg3.unread x0)
  f b := View.readAt (Elt Ideal) arg4.view (slabR b).toLoadRect (harg4.unread x1)
  v b := View.readAt (Elt Ideal) arg5.view (slabR b).toLoadRect (harg5.unread x2)
  og b := View.readAt (Elt Ideal) arg6.view (slabR b).toLoadRect (harg6.unread x3)
  lo := View.readAt (Elt Ideal) arg7.view (Rect.unit ![0, 0] S2x256.size inb_S2x256_S2x256_0_0).toLoadRect (harg7.unread x4)
  g := View.readAt (Elt Ideal) arg8.view (Rect.unit ![0, 0] S1x256.size inb_S1x256_S1x256_0_0).toLoadRect (harg8.unread x5)
  tl := View.readAt (Elt Ideal) arg10.view (Rect.unit ![0, 0] S96x128.size inb_S96x128_S96x128_0_0).toLoadRect (harg10.unread x7)
  tv := View.readAt (Elt Ideal) arg11.view (Rect.unit ![0, 0] S32x256.size inb_S32x256_S32x256_0_0).toLoadRect (harg11.unread x8)
  tc := View.readAt (Elt Ideal) arg12.view (Rect.unit ![0, 0] S64x64.size inb_S64x64_S64x64_0_0).toLoadRect (harg12.unread x9)
  s k := View.readAt (Elt Ideal) arg9.view (stR k).toLoadRect (harg9.unread x6)

/-- The factor rows' stores of the kernel's text. -/
theorem pieces_fc : kernelRun0_A.sl.HS1_16 (F := Ideal) c arg4 harg4 arg7 harg7 arg10 harg10 arg11 harg11 x1 x4 x7 x8 =
    (inp arg3 harg3 arg4 harg4 arg5 harg5 arg6 harg6 arg7 harg7 arg8 harg8 arg9 harg9 arg10 harg10 arg11 harg11 arg12 harg12 x0 x1 x2 x3 x4 x5 x6 x7 x8 x9).fcL 16 := by
  sl_kernel_rfl

/-- The stores of the first result. -/
theorem pieces_y : (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).1 =
    (inp arg3 harg3 arg4 harg4 arg5 harg5 arg6 harg6 arg7 harg7 arg8 harg8 arg9 harg9 arg10 harg10 arg11 harg11 arg12 harg12 x0 x1 x2 x3 x4 x5 x6 x7 x8 x9).yL arg15.view arg16.view 16 := by
  sl_kernel_rfl

/-- The stores of the second result. -/
theorem pieces_s : (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.1 =
    (inp arg3 harg3 arg4 harg4 arg5 harg5 arg6 harg6 arg7 harg7 arg8 harg8 arg9 harg9 arg10 harg10 arg11 harg11 arg12 harg12 x0 x1 x2 x3 x4 x5 x6 x7 x8 x9).sL arg15.view arg16.view 32 := by
  sl_kernel_rfl
end
end Cert.HgrnProof
-- ==== Proof.HgrnReal.lean ====
module

public import Mathlib.Analysis.SpecialFunctions.Exp
public import Mathlib.Algebra.BigOperators.Fin
public import Mathlib.Tactic.Ring
public import Mathlib.Tactic.FinCases
public import Mathlib.Tactic.NormNum

/-! The gated linear recurrence over the real numbers. A sequence is four blocks of sixteen steps; one head has 128 key
    columns; one value column is kept fixed. `refO` and `refS` are the recurrence block by block, the state carried from
    one block to the next. `kerO` and `kerS` are the same results taken in one go from the initial state: every pair of
    steps gets the product of a decayed query and a key whose decay is divided out, times a factor row that stands for
    the blocks between the two. `kerO_eq` and `kerS_eq` say that the two agree. -/

@[expose] public section

noncomputable section

namespace Cert.HgrnProof
open scoped BigOperators

variable (Q K L : ℕ → Fin 16 → Fin 128 → ℝ) (V : ℕ → Fin 16 → ℝ) (S : Fin 128 → ℝ)

/-- The logarithm of the decay from the start of block `i` up to its step `l`. -/
def cum (i : ℕ) (l : Fin 16) (k : Fin 128) : ℝ := ∑ m : Fin 16, if m ≤ l then L i m k else 0

/-- The logarithm of the decay over the whole block `i`. -/
def tot (i : ℕ) (k : Fin 128) : ℝ := ∑ m : Fin 16, L i m k

/-- The state after `n` blocks. -/
def refS : ℕ → Fin 128 → ℝ
  | 0 => S
  | n + 1 => fun k => Real.exp (tot L n k) * refS n k
      + ∑ m : Fin 16, K n m k * Real.exp (tot L n k - cum L n m k) * V n m

/-- The recurrence's output at step `l` of block `i`. -/
def refO (i : ℕ) (l : Fin 16) : ℝ :=
  (∑ m : Fin 16, (if m ≤ l then ∑ k : Fin 128, Q i l k * Real.exp (cum L i l k) * (K i m k * Real.exp (-cum L i m k)) else 0) * V i m)
    + ∑ k : Fin 128, Q i l k * Real.exp (cum L i l k) * refS K L V S i k

/-- The first block of the span a factor row sums over. -/
def lo : ℕ → ℕ := fun r => [0, 0, 2, 0, 0, 1, 0, 0, 0, 0, 2, 2, 0, 0, 0, 0, 0, 1, 2, 3, 0].getD r 0
/-- One past the last block of the span a factor row sums over. -/
def hi : ℕ → ℕ := fun r => [1, 0, 3, 0, 2, 2, 0, 0, 0, 0, 2, 3, 0, 1, 2, 3, 4, 4, 4, 4, 4].getD r 0
/-- Whether a factor row is used; a row that is not is zero. -/
def on : ℕ → Bool := fun r => [true, false, true, false, true, true, false, false, false, false, true, true,
  true, true, true, true, true, true, true, true, true].getD r false

/-- Factor row `r`: the decay over its span of blocks, or zero. -/
def fac (r : ℕ) (k : Fin 128) : ℝ :=
  Real.exp (∑ i : Fin 4, if lo r ≤ i.val ∧ i.val < hi r then tot L i k else 0) * (if on r then 1 else 0)

/-- The weight of step `m` of block `i'` in step `l` of block `i`. -/
def kerA (i : ℕ) (l : Fin 16) (i' : ℕ) (m : Fin 16) : ℝ :=
  if i = i' ∧ m ≤ l then ∑ k : Fin 128, Q i l k * Real.exp (cum L i l k) * (K i' m k * Real.exp (-cum L i' m k))
  else if i / 2 = i' / 2 ∧ i % 2 = 1 ∧ i' % 2 = 0 then
    ∑ k : Fin 128, Q i l k * Real.exp (cum L i l k) * (K i' m k * Real.exp (-cum L i' m k) * fac L i' k)
  else ∑ k : Fin 128, Q i l k * Real.exp (cum L i l k) * fac L (8 + i) k * (K i' m k * Real.exp (-cum L i' m k) * fac L (4 + i') k)

/-- The output from all weights at once. -/
def kerO (i : ℕ) (l : Fin 16) : ℝ :=
  (∑ i' : Fin 4, ∑ m : Fin 16, kerA Q K L i l i' m * V i' m)
    + ∑ k : Fin 128, Q i l k * Real.exp (cum L i l k) * fac L (12 + i) k * S k

/-- The last state from the initial state at once. -/
def kerS (k : Fin 128) : ℝ :=
  S k * fac L 20 k + ∑ i' : Fin 4, ∑ m : Fin 16, V i' m * (K i' m k * Real.exp (-cum L i' m k) * fac L (16 + i') k)

/-- Two sums taken in the other order, the value's factor moved inside. -/
theorem swap (a : Fin 128 → ℝ) (b : Fin 16 → Fin 128 → ℝ) (v : Fin 16 → ℝ) :
    ∑ m, (∑ k, a k * b m k) * v m = ∑ k, a k * ∑ m, b m k * v m := by
  simp only [Finset.sum_mul, Finset.mul_sum]
  rw [Finset.sum_comm]
  exact Finset.sum_congr rfl fun k _ => Finset.sum_congr rfl fun m _ => by ring

/-- A column's factor moved out of the sum over a block. -/
theorem pull (a : Fin 16 → ℝ) (c : ℝ) (v : Fin 16 → ℝ) : ∑ m, a m * c * v m = c * ∑ m, a m * v m := by
  rw [Finset.mul_sum]; exact Finset.sum_congr rfl fun m _ => by ring

theorem pull' (a : Fin 16 → ℝ) (c : ℝ) (v : Fin 16 → ℝ) : ∑ m, v m * (a m * c) = c * ∑ m, a m * v m := by
  rw [Finset.mul_sum]; exact Finset.sum_congr rfl fun m _ => by ring

/-- The keys of block `i` with their decay divided out, summed against the values. -/
def kv (i : ℕ) (k : Fin 128) : ℝ := ∑ m : Fin 16, K i m k * Real.exp (-cum L i m k) * V i m

theorem refS_succ (n : ℕ) (k : Fin 128) :
    refS K L V S (n + 1) k = Real.exp (tot L n k) * (refS K L V S n k + kv K L V n k) := by
  show _ + _ = _
  rw [mul_add, kv, Finset.mul_sum]
  congr 1
  exact Finset.sum_congr rfl fun m _ => by rw [sub_eq_add_neg, Real.exp_add]; ring

theorem refS1 (k : Fin 128) : refS K L V S 1 k = Real.exp (tot L 0 k) * (S k + kv K L V 0 k) := refS_succ K L V S 0 k
theorem refS2 (k : Fin 128) : refS K L V S 2 k = Real.exp (tot L 1 k) * (refS K L V S 1 k + kv K L V 1 k) := refS_succ K L V S 1 k
theorem refS3 (k : Fin 128) : refS K L V S 3 k = Real.exp (tot L 2 k) * (refS K L V S 2 k + kv K L V 2 k) := refS_succ K L V S 2 k
theorem refS4 (k : Fin 128) : refS K L V S 4 k = Real.exp (tot L 3 k) * (refS K L V S 3 k + kv K L V 3 k) := refS_succ K L V S 3 k

/-- The weights of a block's own steps, summed against the values: the steps after `l` weigh nothing in either form. -/
theorem own (i : ℕ) (l : Fin 16) (h : fac L (8 + i) = 0 ∨ fac L (4 + i) = 0) :
    ∑ m : Fin 16, kerA Q K L i l i m * V i m =
      ∑ m : Fin 16, (if m ≤ l then ∑ k : Fin 128, Q i l k * Real.exp (cum L i l k) * (K i m k * Real.exp (-cum L i m k)) else 0) * V i m := by
  refine Finset.sum_congr rfl fun m _ => ?_
  congr 1
  unfold kerA
  by_cases hm : m ≤ l
  · simp [hm]
  · rw [if_neg (by tauto), if_neg (by omega), if_neg hm]
    refine Finset.sum_eq_zero fun k _ => ?_
    rcases h with h | h <;> simp [h]

theorem fac_off (r : ℕ) (h : on r = false) : fac L r = 0 := by
  funext k; simp [fac, h]

/-- A block paired with its neighbour. -/
theorem pair1 (i i' : ℕ) (l : Fin 16) (h : i / 2 = i' / 2 ∧ i % 2 = 1 ∧ i' % 2 = 0) :
    ∑ m : Fin 16, kerA Q K L i l i' m * V i' m =
      ∑ k : Fin 128, Q i l k * Real.exp (cum L i l k) * (fac L i' k * kv K L V i' k) := by
  have hne : ¬ (i = i') := by omega
  simp only [kerA, if_pos h, hne, false_and, if_false]
  rw [swap]
  exact Finset.sum_congr rfl fun k _ => by rw [pull, kv]

/-- A block of the later half paired with one of the earlier half, or a pair whose weight is zero. -/
theorem pair2 (i i' : ℕ) (l : Fin 16) (hne : ¬ i = i') (h : ¬ (i / 2 = i' / 2 ∧ i % 2 = 1 ∧ i' % 2 = 0)) :
    ∑ m : Fin 16, kerA Q K L i l i' m * V i' m =
      ∑ k : Fin 128, Q i l k * Real.exp (cum L i l k) * (fac L (8 + i) k * fac L (4 + i') k * kv K L V i' k) := by
  simp only [kerA, if_neg h, hne, false_and, if_false]
  rw [swap]
  exact Finset.sum_congr rfl fun k _ => by rw [pull, kv]; ring

theorem fac_val (r : ℕ) (k : Fin 128) : fac L r k =
    Real.exp ((if lo r ≤ 0 ∧ 0 < hi r then tot L 0 k else 0) + (if lo r ≤ 1 ∧ 1 < hi r then tot L 1 k else 0)
      + (if lo r ≤ 2 ∧ 2 < hi r then tot L 2 k else 0) + (if lo r ≤ 3 ∧ 3 < hi r then tot L 3 k else 0)) * (if on r then 1 else 0) := by
  unfold fac; rw [Fin.sum_univ_four]; rfl

/-- The output in one go is the recurrence's. -/
theorem kerO_eq (i : ℕ) (hi4 : i < 4) (l : Fin 16) : kerO Q K L V S i l = refO Q K L V S i l := by
  unfold kerO refO
  rw [Fin.sum_univ_four]
  show (∑ m, kerA Q K L i l 0 m * V 0 m) + (∑ m, kerA Q K L i l 1 m * V 1 m) + (∑ m, kerA Q K L i l 2 m * V 2 m)
    + (∑ m, kerA Q K L i l 3 m * V 3 m) + _ = _
  match i, hi4 with
  | 0, _ =>
    rw [own Q K L V 0 l (.inl (fac_off L 8 rfl)), pair2 _ _ _ _ 0 1 l (by decide) (by decide), pair2 _ _ _ _ 0 2 l (by decide) (by decide),
      pair2 _ _ _ _ 0 3 l (by decide) (by decide)]
    simp only [add_assoc, ← Finset.sum_add_distrib]
    congr 1
    refine Finset.sum_congr rfl fun k _ => ?_
    simp only [fac_val, refS]
    simp [lo, hi, on]
  | 1, _ =>
    rw [own Q K L V 1 l (.inl (fac_off L 9 rfl)), pair1 _ _ _ _ 1 0 l (by decide), pair2 _ _ _ _ 1 2 l (by decide) (by decide),
      pair2 _ _ _ _ 1 3 l (by decide) (by decide), add_comm (∑ k : Fin 128, _) (∑ m : Fin 16, _)]
    simp only [add_assoc, ← Finset.sum_add_distrib]
    congr 1
    refine Finset.sum_congr rfl fun k _ => ?_
    simp only [fac_val, refS1]
    simp [lo, hi, on]
    ring
  | 2, _ =>
    rw [own Q K L V 2 l (.inr (fac_off L 6 rfl)), pair2 _ _ _ _ 2 0 l (by decide) (by decide), pair2 _ _ _ _ 2 1 l (by decide) (by decide),
      pair2 _ _ _ _ 2 3 l (by decide) (by decide), add_comm (_ + _) (∑ m : Fin 16, _)]
    simp only [add_assoc, ← Finset.sum_add_distrib]
    congr 1
    refine Finset.sum_congr rfl fun k _ => ?_
    simp only [fac_val, refS2, refS1]
    simp [lo, hi, on, Real.exp_add]
    ring
  | 3, _ =>
    rw [own Q K L V 3 l (.inr (fac_off L 7 rfl)), pair2 _ _ _ _ 3 0 l (by decide) (by decide), pair2 _ _ _ _ 3 1 l (by decide) (by decide),
      pair1 _ _ _ _ 3 2 l (by decide), add_comm (_ + _ + _) (∑ m : Fin 16, _)]
    simp only [add_assoc, ← Finset.sum_add_distrib]
    congr 1
    refine Finset.sum_congr rfl fun k _ => ?_
    simp only [fac_val, refS3, refS2, refS1]
    simp [lo, hi, on, Real.exp_add]
    ring

/-- The last state in one go is the recurrence's. -/
theorem kerS_eq (k : Fin 128) : kerS K L V S k = refS K L V S 4 k := by
  unfold kerS
  rw [Fin.sum_univ_four]
  simp only [pull']
  show _ + (_ * kv K L V 0 k + _ * kv K L V 1 k + _ * kv K L V 2 k + _ * kv K L V 3 k) = _
  simp only [refS4, refS3, refS2, refS1, fac_val]
  simp [lo, hi, on, Real.exp_add]
  ring

end Cert.HgrnProof
-- ==== Proof.HgrnKernel.lean ====
module

public import proofs.«01_k».proof.Proof.HgrnItem
public import proofs.«01_k».proof.Proof.HgrnReal
public import Mathlib.Analysis.SpecialFunctions.Pow.Real

/-! The stages of one sequence as real numbers, when what they read is finite. -/

@[expose] public section

set_option maxRecDepth 16384

open Idealize.ShloMosaic Idealize.ShloMosaic.TcCoe Idealize.SL.Sem

noncomputable section

namespace Cert.HgrnProof
open Cert.HgrnIdeal Cert.HgrnIdeal.Gen Cert.HgrnIdeal.Value
open scoped BigOperators

/-! ## Extended reals that are real numbers -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl
theorem exp2_coe (x : ℝ) : Ideal.exp2 (x : EReal) = (((2 : ℝ) ^ x : ℝ) : EReal) := rfl
theorem log_coe (x : ℝ) (h : 0 < x) : Ideal.log (x : EReal) = ((Real.log x : ℝ) : EReal) := by
  show (if x ≤ 0 then ⊥ else ((Real.log x : ℝ) : EReal)) = _
  rw [if_neg (not_le.mpr h)]
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]
theorem logistic_coe (x : ℝ) : Ideal.logistic (x : EReal) = ((1 / (1 + Real.exp (-x)) : ℝ) : EReal) := by
  unfold Ideal.logistic
  rw [← EReal.coe_neg, exp_coe, ← EReal.coe_one, ← EReal.coe_add, div_coe _ _ (by positivity)]

/-! ## Reading back the buffers -/

theorem mem_fcR (n : ℕ) (y : S16x32x256.Idx) (h : y ∈ (fcR n).set) :
    n % 16 ≤ (y (0 : Fin 3)).val ∧ (y (0 : Fin 3)).val < n % 16 + 1 := by
  have h' : y ∈ (Rect.unit (s := S16x32x256) ![n % 16, 0, 0] S1x32x256.size (inb_fc n)).set := h
  exact Rect.mem_set_unit.mp h' (0 : Fin 3)

theorem mem_stR (n : ℕ) (y : S16x2x128x128.Idx) (h : y ∈ (stR n).set) :
    (n / 2 % 16 ≤ (y (0 : Fin 4)).val ∧ (y (0 : Fin 4)).val < n / 2 % 16 + 1) ∧
      n % 2 ≤ (y (1 : Fin 4)).val ∧ (y (1 : Fin 4)).val < n % 2 + 1 := by
  have h' : y ∈ (Rect.unit (s := S16x2x128x128) ![n / 2 % 16, n % 2, 0, 0] S1x1x128x128.size (inb_st n)).set := h
  exact ⟨Rect.mem_set_unit.mp h' (0 : Fin 4), Rect.mem_set_unit.mp h' (1 : Fin 4)⟩

namespace In
variable (X : In) (V15 : View sig .tc .vmem S16x2x128x128 .f32) (V16 : View sig .tc .vmem S16x32x256 .f32)

theorem canon_fcL : ∀ (n : ℕ), n ≤ 16 → ∀ (b : Fin 16) (r : Fin 32) (j : Fin 256), b.val < n →
    View.canon (X.fcL n) (ix3 b r j) = X.fc b (ix3 0 r j)
  | 0, _, _, _, _, h => absurd h (by omega)
  | n + 1, hn, b, r, j, h => by
    show View.canon (⟨fcR n, X.fc n⟩ :: X.fcL n) _ = _
    by_cases hb : b.val = n
    · have : (ix3 b r j : S16x32x256.Idx) = (fcR n).emb (ix3 0 r j) := by
        funext a; apply Fin.ext
        match a with
        | ⟨0, _⟩ => show b.val = n % 16 + 1 * 0; omega
        | ⟨1, _⟩ => show r.val = 0 + 1 * r.val; omega
        | ⟨2, _⟩ => show j.val = 0 + 1 * j.val; omega
      rw [this, View.canon_cons_emb, hb]
    · rw [View.canon_cons_of_not_mem]
      · exact canon_fcL n (by omega) b r j (by omega)
      · intro hm
        have h1 := mem_fcR n _ hm
        change n % 16 ≤ b.val ∧ b.val < n % 16 + 1 at h1
        omega

/-- Factor row `r` of sequence `b`, read back at any time after the sequence's store, is what the sequence stored. -/
theorem row_eq (n b r : ℕ) (hn : n ≤ 16) (hb : b < n) (hr : r < 32) (j : Fin 256) :
    X.row V16 n b r (ix3 0 0 j) = X.fc b (ix3 0 ⟨r, hr⟩ j) := by
  unfold row
  rw [View.readCov_eq_canon']
  have : (rowR b r).toLoadRect.idx (ix3 0 0 j) = (ix3 ⟨b, by omega⟩ ⟨r, hr⟩ j : S16x32x256.Idx) := by
    funext a; apply Fin.ext
    match a with
    | ⟨0, _⟩ => show b % 16 + 1 * 0 = b; omega
    | ⟨1, _⟩ => show r % 32 + 1 * 0 = r; omega
    | ⟨2, _⟩ => show 0 + 1 * j.val = j.val; omega
  show View.canon _ ((rowR b r).toLoadRect.idx (ix3 0 0 j)) = _
  rw [this]
  exact X.canon_fcL n hn _ _ _ hb

theorem canon_initL : ∀ (n : ℕ), n ≤ 32 → ∀ (k : ℕ) (hk : k < n) (h0 : k / 2 < 16) (h1 : k % 2 < 2) (d e : Fin 128),
    View.canon (X.initL n) (ix4 ⟨k / 2, h0⟩ ⟨k % 2, h1⟩ d e) = k0_pay2 (X.s k) (ix4 0 0 d e)
  | 0, _, _, h, _, _, _, _ => absurd h (by omega)
  | n + 1, hn, k, h, h0, h1, d, e => by
    show View.canon (⟨stR n, k0_pay2 (X.s n)⟩ :: X.initL n) _ = _
    by_cases hb : k = n
    · subst hb
      have : (ix4 ⟨k / 2, h0⟩ ⟨k % 2, h1⟩ d e : S16x2x128x128.Idx) = (stR k).emb (ix4 0 0 d e) := by
        funext a; apply Fin.ext
        match a with
        | ⟨0, _⟩ => show k / 2 = k / 2 % 16 + 1 * 0; omega
        | ⟨1, _⟩ => show k % 2 = k % 2 + 1 * 0; omega
        | ⟨2, _⟩ => show d.val = 0 + 1 * d.val; omega
        | ⟨3, _⟩ => show e.val = 0 + 1 * e.val; omega
      rw [this, View.canon_cons_emb]
    · rw [View.canon_cons_of_not_mem]
      · exact canon_initL n (by omega) k (by omega) h0 h1 d e
      · intro hm
        have a0 := mem_stR n _ hm
        change (n / 2 % 16 ≤ k / 2 ∧ k / 2 < n / 2 % 16 + 1) ∧ n % 2 ≤ k % 2 ∧ k % 2 < n % 2 + 1 at a0
        omega

/-- The state of head `k` before its update: the initial state, transposed. -/
theorem canon_stL_old : ∀ (n : ℕ), n ≤ 32 → ∀ (k : ℕ) (_ : k < 32) (_ : n ≤ k) (h0 : k / 2 < 16) (h1 : k % 2 < 2) (d e : Fin 128),
    View.canon (X.stL V15 V16 n) (ix4 ⟨k / 2, h0⟩ ⟨k % 2, h1⟩ d e) = k0_pay2 (X.s k) (ix4 0 0 d e)
  | 0, _, k, hk, _, h0, h1, d, e => X.canon_initL 32 (by omega) k hk h0 h1 d e
  | n + 1, hn, k, hk, h, h0, h1, d, e => by
    show View.canon (⟨stR n, X.stNew V16 n (V15.readCov (X.stL V15 V16 n) (stR n).toLoadRect)⟩ :: X.stL V15 V16 n) _ = _
    rw [View.canon_cons_of_not_mem]
    · exact canon_stL_old n (by omega) k hk (by omega) h0 h1 d e
    · intro hm
      have a0 := mem_stR n _ hm
      change (n / 2 % 16 ≤ k / 2 ∧ k / 2 < n / 2 % 16 + 1) ∧ n % 2 ≤ k % 2 ∧ k % 2 < n % 2 + 1 at a0
      omega

/-- The state of head `k` after its update. -/
theorem canon_stL_new : ∀ (n : ℕ), n ≤ 32 → ∀ (k : ℕ) (_ : k < n) (h0 : k / 2 < 16) (h1 : k % 2 < 2) (d e : Fin 128),
    View.canon (X.stL V15 V16 n) (ix4 ⟨k / 2, h0⟩ ⟨k % 2, h1⟩ d e) = X.stNew V16 k (X.st V15 V16 k k) (ix4 0 0 d e)
  | 0, _, _, h, _, _, _, _ => absurd h (by omega)
  | n + 1, hn, k, h, h0, h1, d, e => by
    show View.canon (⟨stR n, X.stNew V16 n (V15.readCov (X.stL V15 V16 n) (stR n).toLoadRect)⟩ :: X.stL V15 V16 n) _ = _
    by_cases hb : k = n
    · subst hb
      have : (ix4 ⟨k / 2, h0⟩ ⟨k % 2, h1⟩ d e : S16x2x128x128.Idx) = (stR k).emb (ix4 0 0 d e) := by
        funext a; apply Fin.ext
        match a with
        | ⟨0, _⟩ => show k / 2 = k / 2 % 16 + 1 * 0; omega
        | ⟨1, _⟩ => show k % 2 = k % 2 + 1 * 0; omega
        | ⟨2, _⟩ => show d.val = 0 + 1 * d.val; omega
        | ⟨3, _⟩ => show e.val = 0 + 1 * e.val; omega
      rw [this, View.canon_cons_emb]; rfl
    · rw [View.canon_cons_of_not_mem]
      · exact canon_stL_new n (by omega) k (by omega) h0 h1 d e
      · intro hm
        have a0 := mem_stR n _ hm
        change (n / 2 % 16 ≤ k / 2 ∧ k / 2 < n / 2 % 16 + 1) ∧ n % 2 ≤ k % 2 ∧ k % 2 < n % 2 + 1 at a0
        omega

theorem st_idx (n k : ℕ) (hk : k < 32) (d e : Fin 128) :
    X.st V15 V16 n k (ix4 0 0 d e) = View.canon (X.stL V15 V16 n) (ix4 ⟨k / 2, by omega⟩ ⟨k % 2, by omega⟩ d e) := by
  unfold st
  rw [View.readCov_eq_canon']
  have : (stR k).toLoadRect.idx (ix4 0 0 d e) = (ix4 ⟨k / 2, by omega⟩ ⟨k % 2, by omega⟩ d e : S16x2x128x128.Idx) := by
    funext a; apply Fin.ext
    match a with
    | ⟨0, _⟩ => show k / 2 % 16 + 1 * 0 = k / 2; omega
    | ⟨1, _⟩ => show k % 2 + 1 * 0 = k % 2; omega
    | ⟨2, _⟩ => show 0 + 1 * d.val = d.val; omega
    | ⟨3, _⟩ => show 0 + 1 * e.val = e.val; omega
  show View.canon _ ((stR k).toLoadRect.idx (ix4 0 0 d e)) = _
  rw [this]

theorem st_old (k : ℕ) (hk : k < 32) (d e : Fin 128) : X.st V15 V16 k k (ix4 0 0 d e) = X.s k (ix4 0 0 e d) := by
  rw [st_idx X V15 V16 k k hk, canon_stL_old X V15 V16 k (by omega) k hk le_rfl]
  pointwise [k0_pay2]

theorem st_new (k : ℕ) (hk : k < 32) (d e : Fin 128) :
    X.st V15 V16 32 k (ix4 0 0 d e) = X.stNew V16 k (X.st V15 V16 k k) (ix4 0 0 d e) := by
  rw [st_idx X V15 V16 32 k hk, canon_stL_new X V15 V16 32 (by omega) k hk]

end In
end Cert.HgrnProof
-- ==== Proof.HgrnLift.lean ====
module

public import proofs.«01_k».proof.Proof.HgrnKernel

/-! The values of the kernel's intermediate arrays for one sequence, as real numbers. -/

@[expose] public section

set_option maxRecDepth 16384

open Idealize.ShloMosaic Idealize.ShloMosaic.TcCoe Idealize.SL.Sem

noncomputable section

namespace Cert.HgrnProof
open Cert.HgrnIdeal Cert.HgrnIdeal.Gen Cert.HgrnIdeal.Value
open scoped BigOperators

/-- Step `m` of block `i` as a step of the sequence. -/
def tk (i : ℕ) (m : Fin 16) : Fin 64 := ⟨(16 * i + m.val) % 64, by omega⟩
/-- Column `k` of head `h % 2` as a column of the pair of heads. -/
def col (h : ℕ) (k : Fin 128) : Fin 256 := ⟨128 * (h % 2) + k.val, by omega⟩

theorem sum64 {M : Type} [AddCommMonoid M] (f : Fin 64 → M) : ∑ x, f x = ∑ i : Fin 4, ∑ m : Fin 16, f (tk i m) := by
  rw [← Finset.sum_product', ← (finProdFinEquiv (m := 4) (n := 16)).sum_comp]
  refine Finset.sum_congr rfl fun p _ => ?_
  congr 1
  apply Fin.ext
  show p.2.val + 16 * p.1.val = (16 * p.1.val + p.2.val) % 64
  omega

/-- The table of ones: row `r < 64` marks the steps of the row's block up to the row, row `64 + r` the blocks that factor
    row `r` spans. -/
def Tb (r x : ℕ) : Bool :=
  if r < 64 then decide (r / 16 = x / 16) && decide (x ≤ r) else decide (lo (r - 64) ≤ x / 16) && decide (x / 16 < hi (r - 64))

/-- The table of classes: 0 within a block and not ahead, 1 from an even block to the odd block after it, 2 otherwise. -/
def cls (t s : ℕ) : ℕ :=
  if t / 16 = s / 16 ∧ s ≤ t then 0 else if t / 16 / 2 = s / 16 / 2 ∧ t / 16 % 2 = 1 ∧ s / 16 % 2 = 0 then 1 else 2

/-- Real numbers that the arrays of a grid point stand for. -/
structure Dat where
  F : ℕ → Fin 64 → Fin 256 → ℝ
  Q : ℕ → Fin 64 → Fin 256 → ℝ
  V : ℕ → Fin 64 → Fin 256 → ℝ
  S : ℕ → Fin 128 → Fin 128 → ℝ

structure In.Is (X : In) (D : Dat) : Prop where
  f : ∀ b < 16, ∀ t j, k0_pay74 (k0_pay66 X.lo) (k0_pay67 X.lo) (k0_pay71 (X.f b)) (ix2 t j) = ((D.F b t j : ℝ) : EReal)
  pos : ∀ b t j, 0 < D.F b t j
  q : ∀ b < 16, ∀ (t : Fin 64) (j : Fin 256), X.q b (ix3 0 t j) = ((D.Q b t j : ℝ) : EReal)
  v : ∀ b < 16, ∀ (t : Fin 64) (j : Fin 256), X.v b (ix3 0 t j) = ((D.V b t j : ℝ) : EReal)
  s : ∀ k < 32, ∀ (e d : Fin 128), X.s k (ix4 0 0 e d) = ((D.S k e d : ℝ) : EReal)
  tl : ∀ (r : Fin 96) (x : Fin 128), X.tl (ix2 r x) = if Tb r.val (x.val % 64) then ((1 : ℝ) : EReal) else ((0 : ℝ) : EReal)
  tv : ∀ (r : Fin 32) (j : Fin 256), X.tv (ix2 r j) = if on r.val then ((1 : ℝ) : EReal) else ((0 : ℝ) : EReal)
  tc : ∀ t s : Fin 64, X.tc (ix2 t s) = BitVec.ofNat 32 (cls t.val s.val)

namespace Dat
variable (D : Dat)
/-- The logarithms of the decays of head `h` of sequence `b`. -/
def L (b h : ℕ) : ℕ → Fin 16 → Fin 128 → ℝ := fun i m k => Real.log (D.F b (tk i m) (col h k))
def K (b h : ℕ) : ℕ → Fin 16 → Fin 128 → ℝ := fun i m k => 1 - D.F b (tk i m) (col h k)
def Qh (b h : ℕ) : ℕ → Fin 16 → Fin 128 → ℝ := fun i m k =>
  D.Q b (tk i m) (col h k) * (1 / (1 + Real.exp (-D.Q b (tk i m) (col h k))))
def Vh (b h : ℕ) (d : Fin 128) : ℕ → Fin 16 → ℝ := fun i m => D.V b (tk i m) (col h d)
def Sh (b h : ℕ) (d : Fin 128) : Fin 128 → ℝ := fun k => D.S (2 * b + h) k d
/-- The logarithms a row of the table of ones sums. -/
def span (b : ℕ) (r : ℕ) (j : Fin 256) : ℝ := ∑ x : Fin 64, if Tb r x.val then Real.log (D.F b x j) else 0

theorem span_lo (b h i : ℕ) (hi4 : i < 4) (l : Fin 16) (k : Fin 128) : D.span b (16 * i + l.val) (col h k) = cum (D.L b h) i l k := by
  unfold span cum L
  rw [sum64, Finset.sum_eq_single (⟨i, hi4⟩ : Fin 4)]
  · refine Finset.sum_congr rfl fun m _ => ?_
    have : Tb (16 * i + l.val) (tk i m).val = decide (m ≤ l) := by
      unfold Tb tk
      have h1 : (16 * i + l.val) < 64 := by omega
      rw [if_pos h1]
      have h2 : (16 * i + l.val) / 16 = (16 * i + m.val) % 64 / 16 := by omega
      rw [decide_eq_true h2, Bool.true_and]
      apply decide_eq_decide.mpr
      rw [Fin.le_def]; show (16 * i + m.val) % 64 ≤ _ ↔ _; omega
    show (if Tb (16 * i + l.val) (tk i m).val = true then _ else _) = _
    rw [this]; simp
  · intro i' _ hne
    refine Finset.sum_eq_zero fun m _ => if_neg ?_
    unfold Tb tk
    have h1 : (16 * i + l.val) < 64 := by omega
    rw [if_pos h1]
    have h2 : ¬ (16 * i + l.val) / 16 = (16 * i'.val + m.val) % 64 / 16 := by
      intro h; apply hne; apply Fin.ext; show i'.val = i; omega
    simp [h2]
  · intro h; exact absurd (Finset.mem_univ _) h

theorem span_hi (b h r : ℕ) (k : Fin 128) :
    D.span b (64 + r) (col h k) = ∑ i : Fin 4, if lo r ≤ i.val ∧ i.val < hi r then tot (D.L b h) i k else 0 := by
  unfold span tot L
  rw [sum64]
  refine Finset.sum_congr rfl fun i _ => ?_
  have : ∀ m : Fin 16, Tb (64 + r) (tk i m).val = decide (lo r ≤ i.val ∧ i.val < hi r) := by
    intro m
    unfold Tb tk
    rw [if_neg (by omega)]
    have h2 : (16 * i.val + m.val) % 64 / 16 = i.val := by omega
    simp only [h2, Nat.add_sub_cancel_left, Bool.decide_and]
  simp only [this]
  by_cases hh : lo r ≤ i.val ∧ i.val < hi r
  · simp [hh]
  · simp only [if_neg hh, decide_eq_false hh]; simp
end Dat

theorem inv_ln2 : Named.named (F := Ideal) Cert.HgrnIdeal.κ "inv_ln2" (φ := .f32) 0x3FB8AA3B#32 = (((Real.log 2)⁻¹ : ℝ) : EReal) :=
  IdealRules.named_const.ideal_named_scalar _ _ _ _ rfl

theorem two_pow (a : ℝ) : (2 : ℝ) ^ (a * (Real.log 2)⁻¹) = Real.exp a := by
  rw [Real.rpow_def_of_pos (by norm_num)]
  congr 1
  have : Real.log 2 ≠ 0 := (Real.log_pos (by norm_num)).ne'
  field_simp

namespace In
variable (X : In) (D : Dat) (H : X.Is D) (V15 : View sig .tc .vmem S16x2x128x128 .f32) (V16 : View sig .tc .vmem S16x32x256 .f32)
include H

/-- A row of the summed logarithms to base two. -/
theorem sums (b : ℕ) (hb : b < 16) (r : Fin 96) (j : Fin 256) :
    k0_pay75 (k0_pay66 X.lo) (k0_pay67 X.lo) X.tl (k0_pay71 (X.f b)) (ix2 r j) =
      ((D.span b r.val j * (Real.log 2)⁻¹ : ℝ) : EReal) := by
  have hl := log_coe
  pointwise [k0_pay75]
  simp only [H.tl, H.f b hb, log_coe _ (H.pos b _ _), inv_ln2]
  have e1 : ∀ x : Fin 64, (if Tb r.val (x.val % 64) = true then ((1 : ℝ) : EReal) else ((0 : ℝ) : EReal)) *
      (((Real.log (D.F b x j) : ℝ) : EReal) * (((Real.log 2)⁻¹ : ℝ) : EReal)) =
      (((if Tb r.val x.val then Real.log (D.F b x j) else 0) * (Real.log 2)⁻¹ : ℝ) : EReal) := by
    intro x
    rw [Nat.mod_eq_of_lt x.isLt]
    by_cases ht : Tb r.val x.val = true <;> simp [ht]
  have e2 : ∀ x : Fin 64, (if Tb r.val ((64 + x.val) % 64) = true then ((1 : ℝ) : EReal) else ((0 : ℝ) : EReal)) *
      (((Real.log (D.F b x j) : ℝ) : EReal) * (((Real.log 2)⁻¹ : ℝ) : EReal) -
        ((Real.log (D.F b x j) : ℝ) : EReal) * (((Real.log 2)⁻¹ : ℝ) : EReal)) = ((0 : ℝ) : EReal) := by
    intro x
    rw [← EReal.coe_mul, ← EReal.coe_sub, sub_self]
    simp
  simp only [e1, e2]
  rw [coe_sum, coe_sum, ← EReal.coe_add, ← Finset.sum_mul]
  simp [Dat.span]

theorem exp2_sums (b : ℕ) (hb : b < 16) (r : Fin 96) (j : Fin 256) :
    (FloatOps.exp2 (k0_pay75 (k0_pay66 X.lo) (k0_pay67 X.lo) X.tl (k0_pay71 (X.f b)) (ix2 r j) : Ideal .f32) : EReal) =
      ((Real.exp (D.span b r.val j) : ℝ) : EReal) := by
  rw [X.sums D H b hb]
  show Ideal.exp2 _ = _
  rw [exp2_coe, two_pow]

theorem exp2_neg_sums (b : ℕ) (hb : b < 16) (r : Fin 96) (j : Fin 256) :
    (FloatOps.exp2 (F := Ideal) (φ := .f32) ((0 : EReal) - k0_pay75 (k0_pay66 X.lo) (k0_pay67 X.lo) X.tl (k0_pay71 (X.f b)) (ix2 r j)) : EReal) =
      ((Real.exp (-D.span b r.val j) : ℝ) : EReal) := by
  rw [X.sums D H b hb]
  show Ideal.exp2 ((0 : EReal) - _) = _
  rw [← EReal.coe_zero, ← EReal.coe_sub, exp2_coe, zero_sub, ← neg_mul, two_pow]

/-- A factor row. -/
theorem fc_eq (b : ℕ) (hb : b < 16) (r : ℕ) (hr : r < 32) (h : ℕ) (k : Fin 128) :
    X.fc b (ix3 0 ⟨r, hr⟩ (col h k)) = ((fac (D.L b h) r k : ℝ) : EReal) := by
  unfold fc
  pointwise [k0_pay77]
  refine (congrArg₂ (fun a b : EReal => a * b) (X.exp2_sums D H b hb ⟨64 + r, by omega⟩ (col h k)) (H.tv ⟨r, hr⟩ (col h k))).trans ?_
  show ((Real.exp (D.span b (64 + r) (col h k)) : ℝ) : EReal) * _ = _
  rw [D.span_hi b h r k]
  unfold fac
  cases on r <;> simp

/-- A factor row as read back. -/
theorem row_fac (n b : ℕ) (hn : n ≤ 16) (hb : b < n) (r : ℕ) (hr : r < 32) (h : ℕ) (k : Fin 128) :
    X.row V16 n b r (ix3 0 0 (col h k)) = ((fac (D.L b h) r k : ℝ) : EReal) := by
  rw [X.row_eq V16 n b r hn hb hr, X.fc_eq D H b (by omega) r hr h k]

/-- The gated decayed queries. -/
theorem qd_eq (b : ℕ) (hb : b < 16) (i : ℕ) (hi : i < 4) (m : Fin 16) (h : ℕ) (k : Fin 128) :
    X.qd b (ix2 (tk i m) (col h k)) = ((D.Qh b h i m k * Real.exp (cum (D.L b h) i m k) : ℝ) : EReal) := by
  unfold qd
  pointwise [k0_pay78, k0_pay76, k0_pay70]
  refine (congrArg₂ (fun a b : EReal => a * b) (?_ : _ = ((D.Qh b h i m k : ℝ) : EReal)) (X.exp2_sums D H b hb ⟨(tk i m).val, by omega⟩ (col h k))).trans ?_
  · rw [H.q b hb, logistic_coe, ← EReal.coe_mul]; rfl
  · show _ * ((Real.exp (D.span b ((16 * i + m.val) % 64) (col h k)) : ℝ) : EReal) = _
    rw [Nat.mod_eq_of_lt (by omega), D.span_lo b h i hi m k, EReal.coe_mul]

/-- The keys with the decay divided out. -/
theorem kd_eq (b : ℕ) (hb : b < 16) (i : ℕ) (hi : i < 4) (m : Fin 16) (h : ℕ) (k : Fin 128) :
    X.kd b (ix2 (tk i m) (col h k)) = ((D.K b h i m k * Real.exp (-cum (D.L b h) i m k) : ℝ) : EReal) := by
  unfold kd
  pointwise [k0_pay79, k0_pay76]
  refine (congrArg₂ (fun a b : EReal => a * b) (?_ : _ = ((D.K b h i m k : ℝ) : EReal)) (X.exp2_neg_sums D H b hb ⟨(tk i m).val, by omega⟩ (col h k))).trans ?_
  · rw [H.f b hb, ← EReal.coe_one, ← EReal.coe_sub]; rfl
  · show _ * ((Real.exp (-D.span b ((16 * i + m.val) % 64) (col h k)) : ℝ) : EReal) = _
    rw [Nat.mod_eq_of_lt (by omega), D.span_lo b h i hi m k, EReal.coe_mul]

omit H in
theorem tk_val (i : ℕ) (hi : i < 4) (m : Fin 16) : (tk i m).val = 16 * i + m.val := by
  show (16 * i + m.val) % 64 = _; omega

omit H in
/-- A choice among four rows by the step's block. -/
theorem four (g : ℕ → EReal) (i : ℕ) (hi : i < 4) (m : Fin 16) :
    (if _ : (tk i m).val < 16 then if _ : (tk i m).val < 8 then g 0 else g 0
      else if _ : (tk i m).val - 16 < 16 then if _ : (tk i m).val - 16 < 8 then g 1 else g 1
        else if _ : (tk i m).val - 16 - 16 < 16 then if _ : (tk i m).val - 16 - 16 < 8 then g 2 else g 2
          else if _ : (tk i m).val - 16 - 16 - 16 < 8 then g 3 else g 3) = g i := by
  rw [tk_val i hi m]
  have : i = 0 ∨ i = 1 ∨ i = 2 ∨ i = 3 := by omega
  split_ifs <;> rcases this with rfl | rfl | rfl | rfl <;> first | rfl | omega

/-- The keys of an even block, decayed to the end of their block; zero in an odd block. -/
theorem kl16_eq (b : ℕ) (hb : b < 16) (i : ℕ) (hi : i < 4) (m : Fin 16) (h : ℕ) (k : Fin 128) :
    X.kl16 V16 b (ix2 (tk i m) (col h k)) = ((D.K b h i m k * Real.exp (-cum (D.L b h) i m k) * fac (D.L b h) i k : ℝ) : EReal) := by
  have hr := fun r hr => X.row_fac D H V16 (b + 1) b (by omega) (by omega) r hr h k
  unfold kl16
  pointwise [k0_pay85, k0_pay82, k0_pay83, k0_pay84]
  rw [X.kd_eq D H b hb i hi m h k, EReal.coe_mul _ (fac (D.L b h) i k)]
  rw [hr 0 (by norm_num), hr 1 (by norm_num), hr 2 (by norm_num), hr 3 (by norm_num)]
  exact congrArg (fun y : EReal => _ * y) (four (fun j => ((fac (D.L b h) j k : ℝ) : EReal)) i hi m)
/-- The keys of the first half, decayed to the end of the half; zero in the second half. -/
theorem kl32_eq (b : ℕ) (hb : b < 16) (i : ℕ) (hi : i < 4) (m : Fin 16) (h : ℕ) (k : Fin 128) :
    X.kl32 V16 b (ix2 (tk i m) (col h k)) = ((D.K b h i m k * Real.exp (-cum (D.L b h) i m k) * fac (D.L b h) (4 + i) k : ℝ) : EReal) := by
  have hr := fun r hr => X.row_fac D H V16 (b + 1) b (by omega) (by omega) r hr h k
  unfold kl32
  pointwise [k0_pay86]
  rw [X.kd_eq D H b hb i hi m h k, EReal.coe_mul _ (fac (D.L b h) (4 + i) k)]
  rw [hr 4 (by norm_num), hr 5 (by norm_num), hr 6 (by norm_num), hr 7 (by norm_num)]
  exact congrArg (fun y : EReal => _ * y) (four (fun j => ((fac (D.L b h) (4 + j) k : ℝ) : EReal)) i hi m)
/-- The queries of the second half, decayed from its start; zero in the first half. -/
theorem ql32_eq (b : ℕ) (hb : b < 16) (i : ℕ) (hi : i < 4) (m : Fin 16) (h : ℕ) (k : Fin 128) :
    X.ql32 V16 b (ix2 (tk i m) (col h k)) = ((D.Qh b h i m k * Real.exp (cum (D.L b h) i m k) * fac (D.L b h) (8 + i) k : ℝ) : EReal) := by
  have hr := fun r hr => X.row_fac D H V16 (b + 1) b (by omega) (by omega) r hr h k
  unfold ql32
  pointwise [k0_pay81, k0_pay80]
  rw [X.qd_eq D H b hb i hi m h k, EReal.coe_mul _ (fac (D.L b h) (8 + i) k)]
  rw [hr 8 (by norm_num), hr 9 (by norm_num), hr 10 (by norm_num), hr 11 (by norm_num)]
  exact congrArg (fun y : EReal => _ * y) (four (fun j => ((fac (D.L b h) (8 + j) k : ℝ) : EReal)) i hi m)
/-- The queries decayed from the start of the sequence. -/
theorem qin_eq (b : ℕ) (hb : b < 16) (i : ℕ) (hi : i < 4) (m : Fin 16) (h : ℕ) (k : Fin 128) :
    X.qin V16 b (ix2 (tk i m) (col h k)) = ((D.Qh b h i m k * Real.exp (cum (D.L b h) i m k) * fac (D.L b h) (12 + i) k : ℝ) : EReal) := by
  have hr := fun r hr => X.row_fac D H V16 (b + 1) b (by omega) (by omega) r hr h k
  unfold qin
  pointwise [k0_pay88, k0_pay87]
  rw [X.qd_eq D H b hb i hi m h k, EReal.coe_mul _ (fac (D.L b h) (12 + i) k)]
  rw [hr 12 (by norm_num), hr 13 (by norm_num), hr 14 (by norm_num), hr 15 (by norm_num)]
  exact congrArg (fun y : EReal => _ * y) (four (fun j => ((fac (D.L b h) (12 + j) k : ℝ) : EReal)) i hi m)
/-- The keys decayed to the end of the sequence. -/
theorem kout_eq (b : ℕ) (hb : b < 16) (i : ℕ) (hi : i < 4) (m : Fin 16) (h : ℕ) (k : Fin 128) :
    X.kout V16 b (ix2 (tk i m) (col h k)) = ((D.K b h i m k * Real.exp (-cum (D.L b h) i m k) * fac (D.L b h) (16 + i) k : ℝ) : EReal) := by
  have hr := fun r hr => X.row_fac D H V16 (b + 1) b (by omega) (by omega) r hr h k
  unfold kout
  pointwise [k0_pay93, k0_pay89, k0_pay90, k0_pay91, k0_pay92]
  rw [X.kd_eq D H b hb i hi m h k, EReal.coe_mul _ (fac (D.L b h) (16 + i) k)]
  rw [hr 16 (by norm_num), hr 17 (by norm_num), hr 18 (by norm_num), hr 19 (by norm_num)]
  exact congrArg (fun y : EReal => _ * y) (four (fun j => ((fac (D.L b h) (16 + j) k : ℝ) : EReal)) i hi m)
omit H in
theorem col0 (x : Fin 128) (h : x.val < 256) : (⟨x.val, h⟩ : Fin 256) = col 0 x := Fin.ext (by show x.val = 0 + x.val; omega)
omit H in
theorem col1 (x : Fin 128) (h : 128 + x.val < 256) : (⟨128 + x.val, h⟩ : Fin 256) = col 1 x := rfl

omit H in
theorem cls_tk (i i' : ℕ) (hi : i < 4) (hi' : i' < 4) (l m : Fin 16) : cls (tk i l).val (tk i' m).val =
    if i = i' ∧ m ≤ l then 0 else if i / 2 = i' / 2 ∧ i % 2 = 1 ∧ i' % 2 = 0 then 1 else 2 := by
  unfold cls
  rw [tk_val i hi l, tk_val i' hi' m]
  have h1 : (16 * i + l.val) / 16 = i := by omega
  have h2 : (16 * i' + m.val) / 16 = i' := by omega
  rw [h1, h2]
  have h3 : (i = i' ∧ 16 * i' + m.val ≤ 16 * i + l.val) ↔ (i = i' ∧ m ≤ l) := by rw [Fin.le_def]; omega
  simp only [h3]

omit H in
/-- A choice by class. -/
theorem pick (A B C : EReal) (c : ℕ) (hc : c = 0 ∨ c = 1 ∨ c = 2) :
    Scalar.select (IntOp.cmpi CmpIPredicate.eq (BitVec.ofNat 32 c) 0#32) A
      (Scalar.select (IntOp.cmpi CmpIPredicate.eq (BitVec.ofNat 32 c) 1#32) B C) = if c = 0 then A else if c = 1 then B else C := by
  rcases hc with rfl | rfl | rfl <;> rfl

/-- The weights, from the three products of queries and keys. -/
theorem at_eq (b : ℕ) (hb : b < 16) (h i i' : ℕ) (hi : i < 4) (hi' : i' < 4) (l m : Fin 16) :
    Scalar.select (IntOp.cmpi CmpIPredicate.eq (X.tc (ix2 (tk i l) (tk i' m))) 0#32)
      (∑ x : Fin 128, X.qd b (ix2 (tk i l) (col h x)) * X.kd b (ix2 (tk i' m) (col h x)))
      (Scalar.select (IntOp.cmpi CmpIPredicate.eq (X.tc (ix2 (tk i l) (tk i' m))) 1#32)
        (∑ x : Fin 128, X.qd b (ix2 (tk i l) (col h x)) * X.kl16 V16 b (ix2 (tk i' m) (col h x)))
        (∑ x : Fin 128, X.ql32 V16 b (ix2 (tk i l) (col h x)) * X.kl32 V16 b (ix2 (tk i' m) (col h x)))) =
      ((kerA (D.Qh b h) (D.K b h) (D.L b h) i l i' m : ℝ) : EReal) := by
  simp only [X.qd_eq D H b hb i hi, X.kd_eq D H b hb i' hi', X.kl16_eq D H V16 b hb i' hi', X.kl32_eq D H V16 b hb i' hi',
    X.ql32_eq D H V16 b hb i hi, ← EReal.coe_mul, coe_sum, H.tc]
  rw [pick _ _ _ _ (by rw [cls_tk i i' hi hi']; split_ifs <;> simp), cls_tk i i' hi hi']
  unfold kerA
  by_cases h1 : i = i' ∧ m ≤ l
  · simp only [if_pos h1, if_true]
  · simp only [if_neg h1]
    by_cases h2 : i / 2 = i' / 2 ∧ i % 2 = 1 ∧ i' % 2 = 0
    · simp [if_pos h2]
    · simp [if_neg h2]

theorem at0_eq (b : ℕ) (hb : b < 16) (i i' : ℕ) (hi : i < 4) (hi' : i' < 4) (l m : Fin 16) :
    X.at0 V16 b (ix2 (tk i l) (tk i' m)) = ((kerA (D.Qh b 0) (D.K b 0) (D.L b 0) i l i' m : ℝ) : EReal) := by
  unfold at0
  pointwise [k0_pay141, k0_pay68, k0_pay69]
  simp only [col0]
  exact X.at_eq D H V16 b hb 0 i i' hi hi' l m

theorem at1_eq (b : ℕ) (hb : b < 16) (i i' : ℕ) (hi : i < 4) (hi' : i' < 4) (l m : Fin 16) :
    X.at1 V16 b (ix2 (tk i l) (tk i' m)) = ((kerA (D.Qh b 1) (D.K b 1) (D.L b 1) i l i' m : ℝ) : EReal) := by
  unfold at1
  pointwise [k0_pay142, k0_pay68, k0_pay69]
  simp only [col1]
  exact X.at_eq D H V16 b hb 1 i i' hi hi' l m

/-- A new state column, from the old state, the decay and the keys. -/
theorem stn_eq (n b h : ℕ) (hb : b < 16) (hh : h < 2) (hn : n ≤ 16) (hbn : b < n) (d k : Fin 128) :
    ((D.S (2 * b + h) k d : ℝ) : EReal) * X.row V16 n b 20 (ix3 0 0 (col h k)) +
      ∑ x : Fin 64, X.v b (ix3 0 x (col h d)) * X.kout V16 b (ix2 x (col h k)) =
      ((kerS (D.K b h) (D.L b h) (D.Vh b h d) (D.Sh b h d) k : ℝ) : EReal) := by
  rw [X.row_fac D H V16 n b hn hbn 20 (by norm_num), sum64]
  have e : ∀ (i : Fin 4) (m : Fin 16), X.v b (ix3 0 (tk i m) (col h d)) * X.kout V16 b (ix2 (tk i m) (col h k)) =
      ((D.Vh b h d i m * (D.K b h i m k * Real.exp (-cum (D.L b h) i m k) * fac (D.L b h) (16 + i) k) : ℝ) : EReal) := by
    intro i m
    rw [H.v b hb, X.kout_eq D H V16 b hb i i.isLt, ← EReal.coe_mul]; rfl
  simp only [e, coe_sum, ← EReal.coe_mul, ← EReal.coe_add]
  rfl

/-- The new state of a head after its four blocks. -/
theorem stNew_eq (b h : ℕ) (hb : b < 16) (hh : h < 2) (d k : Fin 128) :
    X.stNew V16 (2 * b + h) (X.st V15 V16 (2 * b + h) (2 * b + h)) (ix4 0 0 d k) =
      ((refS (D.K b h) (D.L b h) (D.Vh b h d) (D.Sh b h d) 4 k : ℝ) : EReal) := by
  rw [← kerS_eq]
  have hst : ∀ h < 2, X.st V15 V16 (2 * b + h) (2 * b + h) (ix4 0 0 d k) = ((D.S (2 * b + h) k d : ℝ) : EReal) := fun h hh => by
    rw [X.st_old V15 V16 (2 * b + h) (by omega), H.s _ (by omega)]
  have e0 : 2 * b / 2 = b := by omega
  have e1 : (2 * b + 1) / 2 = b := by omega
  unfold stNew
  have : h = 0 ∨ h = 1 := by omega
  rcases this with rfl | rfl
  · have e : ((2 * b + 0) % 2 == 0) = true := by simp
    rw [e, cond_true]
    unfold dec
    pointwise [k0_pay146, k0_pay144, k0_pay72, k0_pay143]
    simp only [col0, e0]
    refine Eq.trans ?_ (X.stn_eq D H V16 (min (b + 3) 16) b 0 hb (by omega) (by omega) (by omega) d k)
    exact congrArg (fun y : EReal => y * _ + _) (hst 0 (by omega))
  · have e : ((2 * b + 1) % 2 == 0) = false := by simp
    rw [e, cond_false]
    unfold dec
    pointwise [k0_pay151, k0_pay150, k0_pay148, k0_pay72, k0_pay143]
    simp only [col1, e1]
    refine Eq.trans ?_ (X.stn_eq D H V16 (min (b + 3) 16) b 1 hb (by omega) (by omega) (by omega) d k)
    exact congrArg (fun y : EReal => y * _ + _) (hst 1 (by omega))

/-- A head's output before its norm. -/
theorem lin_eq (A : ℕ → FVec Ideal S64x64 .bf16) (b h : ℕ) (hb : b < 16) (hh : h < 2)
    (hA : ∀ i i', i < 4 → i' < 4 → ∀ l m, A h (ix2 (tk i l) (tk i' m)) = ((kerA (D.Qh b h) (D.K b h) (D.L b h) i l i' m : ℝ) : EReal))
    (i : ℕ) (hi : i < 4) (l : Fin 16) (d : Fin 128) :
    ∑ x : Fin 64, A h (ix2 (tk i l) x) * X.v b (ix3 0 x (col h d)) +
      ∑ x : Fin 128, X.qin V16 b (ix2 (tk i l) (col h x)) * X.st V15 V16 (2 * b + h) (2 * b + h) (ix4 0 0 d x) =
      ((refO (D.Qh b h) (D.K b h) (D.L b h) (D.Vh b h d) (D.Sh b h d) i l : ℝ) : EReal) := by
  rw [← kerO_eq _ _ _ _ _ i hi l, sum64]
  have e : ∀ (i' : Fin 4) (m : Fin 16), A h (ix2 (tk i l) (tk i' m)) * X.v b (ix3 0 (tk i' m) (col h d)) =
      ((kerA (D.Qh b h) (D.K b h) (D.L b h) i l i' m * D.Vh b h d i' m : ℝ) : EReal) := by
    intro i' m
    rw [H.v b hb, hA i i' hi i'.isLt, ← EReal.coe_mul]; rfl
  have e' : ∀ x : Fin 128, X.qin V16 b (ix2 (tk i l) (col h x)) * X.st V15 V16 (2 * b + h) (2 * b + h) (ix4 0 0 d x) =
      ((D.Qh b h i l x * Real.exp (cum (D.L b h) i l x) * fac (D.L b h) (12 + i) x * D.Sh b h d x : ℝ) : EReal) := by
    intro x
    rw [X.qin_eq D H V16 b hb i hi, X.st_old V15 V16 (2 * b + h) (by omega), H.s _ (by omega), ← EReal.coe_mul]; rfl
  simp only [e, e', coe_sum, ← EReal.coe_add]
  rfl

/-- A head's output. -/
def oh (b h : ℕ) (i : ℕ) (l : Fin 16) (d : Fin 128) : ℝ := refO (D.Qh b h) (D.K b h) (D.L b h) (D.Vh b h d) (D.Sh b h d) i l

/-- The first result's rows: the head's output under its norm, times the gated gate and the gain. -/
theorem y_eq (b : ℕ) (hb : b < 16) (i : ℕ) (hi : i < 4) (l : Fin 16) (h : ℕ) (hh : h < 2) (d : Fin 128) :
    X.y V15 V16 b (ix3 0 (tk i l) (col h d)) =
      ((oh D b h i l d : ℝ) : EReal) * Ideal.rsqrt (Ideal.div (∑ x : Fin 128, ((oh D b h i l x * oh D b h i l x : ℝ) : EReal))
        (Ideal.ofBits FTy.f32 1124073472#32) + Ideal.ofBits FTy.f32 897988541#32) *
      (X.og b (ix3 0 (tk i l) (col h d)) * Ideal.logistic (X.og b (ix3 0 (tk i l) (col h d))) * X.g (ix2 0 (col h d))) := by
  have l0 := X.lin_eq D H V15 V16 (fun _ => X.at0 V16 b) b 0 hb (by omega) (fun i i' hi hi' l m => X.at0_eq D H V16 b hb i i' hi hi' l m) i hi l
  have l1 := X.lin_eq D H V15 V16 (fun _ => X.at1 V16 b) b 1 hb (by omega) (fun i i' hi hi' l m => X.at1_eq D H V16 b hb i i' hi hi' l m) i hi l
  unfold y
  pointwise [k0_pay152, k0_pay147, k0_pay149, k0_pay148, k0_pay144, k0_pay145, k0_pay72, sog, k0_pay94, k0_pay73]
  have : h = 0 ∨ h = 1 := by omega
  rcases this with rfl | rfl
  · have hc : (col 0 d).val < 128 := by show 0 + d.val < 128; omega
    have hd : (⟨(col 0 d).val, hc⟩ : Fin 128) = d := Fin.ext (by show 0 + d.val = _; omega)
    rw [dif_pos hc, hd]
    simp only [col0, Nat.add_zero] at l0 ⊢
    simp only [l0, ← EReal.coe_mul]
    rfl
  · have hc : ¬ (col 1 d).val < 128 := by show ¬ 128 + d.val < 128; omega
    have hd : ∀ h, (⟨(col 1 d).val - 128, h⟩ : Fin 128) = d := fun h => Fin.ext (by show 128 + d.val - 128 = _; omega)
    have hd' : ∀ h, (⟨128 + ((col 1 d).val - 128), h⟩ : Fin 256) = col 1 d := fun h => Fin.ext (by show 128 + (128 + d.val - 128) = 128 + d.val; omega)
    rw [dif_neg hc]
    simp only [hd, hd', col1]
    simp only [l1, ← EReal.coe_mul]
    rfl

end In
end Cert.HgrnProof
-- ==== Proof.HgrnBlocks.lean ====
module

public import proofs.«01_k».proof.Proof.HgrnLift

/-! The kernel's two result arrays, entry by entry, from what the grid points read. -/

@[expose] public section

set_option maxRecDepth 16384

open Idealize.ShloMosaic Idealize.ShloMosaic.TcCoe Idealize.SL.Sem
open Idealize.ShloMosaic.Pipeline (Dat)

noncomputable section

namespace Cert.HgrnProof
open Cert.HgrnIdeal Cert.HgrnIdeal.Gen Cert.HgrnIdeal.Value

namespace In
variable (X : In) (V15 : View sig .tc .vmem S16x2x128x128 .f32) (V16 : View sig .tc .vmem S16x32x256 .f32)

theorem mem_slabR (n : ℕ) (y : S1x1024x256.Idx) (h : y ∈ (slabR n).set) :
    64 * (n % 16) ≤ (y (1 : Fin 3)).val ∧ (y (1 : Fin 3)).val < 64 * (n % 16) + 64 := by
  have h' : y ∈ (Rect.unit (s := S1x1024x256) ![0, 64 * (n % 16), 0] S1x64x256.size (inb_slab n)).set := h
  exact Rect.mem_set_unit.mp h' (1 : Fin 3)

/-- The first result's stores, read on the rows of sequence `b`. -/
theorem canon_yL : ∀ (n : ℕ), n ≤ 16 → ∀ (b : ℕ) (t : Fin 64) (r : Fin 1024) (j : Fin 256), b < n → r.val = 64 * b + t.val →
    View.canon (X.yL V15 V16 n) (ix3 0 r j) = X.y V15 V16 b (ix3 0 t j)
  | 0, _, _, _, _, _, h, _ => absurd h (by omega)
  | n + 1, hn, b, t, r, j, h, hr => by
    show View.canon (⟨slabR n, X.y V15 V16 n⟩ :: X.yL V15 V16 n) _ = _
    by_cases hb : b = n
    · subst hb
      have : (ix3 0 r j : S1x1024x256.Idx) = (slabR b).emb (ix3 0 t j) := by
        funext a; apply Fin.ext
        match a with
        | ⟨0, _⟩ => rfl
        | ⟨1, _⟩ => show r.val = 64 * (b % 16) + 1 * t.val; omega
        | ⟨2, _⟩ => show j.val = 0 + 1 * j.val; omega
      rw [this, View.canon_cons_emb]
    · rw [View.canon_cons_of_not_mem]
      · exact canon_yL n (by omega) b t r j (by omega) hr
      · intro hm
        have h1 := mem_slabR n _ hm
        change 64 * (n % 16) ≤ r.val ∧ r.val < 64 * (n % 16) + 64 at h1
        omega

/-- The second result's stores, read on a head: its updated state. -/
theorem canon_sL : ∀ (n : ℕ), n ≤ 32 → ∀ (k : ℕ) (_ : k < n) (h0 : k / 2 < 16) (h1 : k % 2 < 2) (d e : Fin 128),
    View.canon (X.sL V15 V16 n) (ix4 ⟨k / 2, h0⟩ ⟨k % 2, h1⟩ d e) = k0_pay2 (X.st V15 V16 32 k) (ix4 0 0 d e)
  | 0, _, _, h, _, _, _, _ => absurd h (by omega)
  | n + 1, hn, k, h, h0, h1, d, e => by
    show View.canon (⟨stR n, k0_pay2 (X.st V15 V16 32 n)⟩ :: X.sL V15 V16 n) _ = _
    by_cases hb : k = n
    · subst hb
      have : (ix4 ⟨k / 2, h0⟩ ⟨k % 2, h1⟩ d e : S16x2x128x128.Idx) = (stR k).emb (ix4 0 0 d e) := by
        funext a; apply Fin.ext
        match a with
        | ⟨0, _⟩ => show k / 2 = k / 2 % 16 + 1 * 0; omega
        | ⟨1, _⟩ => show k % 2 = k % 2 + 1 * 0; omega
        | ⟨2, _⟩ => show d.val = 0 + 1 * d.val; omega
        | ⟨3, _⟩ => show e.val = 0 + 1 * e.val; omega
      rw [this, View.canon_cons_emb]
    · rw [View.canon_cons_of_not_mem]
      · exact canon_sL n (by omega) k (by omega) h0 h1 d e
      · intro hm
        have a0 := mem_stR n _ hm
        change (n / 2 % 16 ≤ k / 2 ∧ k / 2 < n / 2 % 16 + 1) ∧ n % 2 ≤ k % 2 ∧ k % 2 < n % 2 + 1 at a0
        omega
end In

section
variable (c : Dev nD) (i : grid0.Coords)
    (arg3 : Memref sig .tc .vmem S1x1024x256 .bf16) (harg3 : arg3.IsWhole) (arg4 : Memref sig .tc .vmem S1x1024x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S2x256 .f32) (harg7 : arg7.IsWhole) (arg8 : Memref sig .tc .vmem S1x256 .f32) (harg8 : arg8.IsWhole)
    (arg9 : Memref sig .tc .vmem S16x2x128x128 .f32) (harg9 : arg9.IsWhole) (arg10 : Memref sig .tc .vmem S96x128 .bf16) (harg10 : arg10.IsWhole)
    (arg11 : Memref sig .tc .vmem S32x256 .f32) (harg11 : arg11.IsWhole) (arg12 : Memref sig .tc .vmem S64x64 .i32) (harg12 : arg12.IsWhole)
    (arg13 : Memref sig .tc .vmem S1x1024x256 .bf16) (harg13 : arg13.IsWhole) (arg14 : Memref sig .tc .vmem S16x2x128x128 .f32) (harg14 : arg14.IsWhole)
    (arg15 : Memref sig .tc .vmem S16x2x128x128 .f32) (harg15 : arg15.IsWhole) (arg16 : Memref sig .tc .vmem S16x32x256 .f32) (harg16 : arg16.IsWhole)
    (hc0 : cond0_0 i) (hc1 : cond0_1 i)
    (x0 x1 x2 x3 : Vec Ideal S1x1024x256 .bf16) (x4 : Vec Ideal S2x256 .f32) (x5 : Vec Ideal S1x256 .f32) (x6 : Vec Ideal S16x2x128x128 .f32)
    (x7 : Vec Ideal S96x128 .bf16) (x8 : Vec Ideal S32x256 .f32) (x9 : Vec Ideal S64x64 .i32)

/-- The first result's block after a grid point. -/
theorem out_y : out0_A_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 =
    View.canon ((inp arg3 harg3 arg4 harg4 arg5 harg5 arg6 harg6 arg7 harg7 arg8 harg8 arg9 harg9 arg10 harg10 arg11 harg11 arg12 harg12 x0 x1 x2 x3 x4 x5 x6 x7 x8 x9).yL arg15.view arg16.view 16) := by
  unfold out0_A_10
  rw [View.read_writes_eq_canon _ _ _ (cover0_A_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  rw [pieces_y]

/-- The second result's block after a grid point. -/
theorem out_s : out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 =
    View.canon ((inp arg3 harg3 arg4 harg4 arg5 harg5 arg6 harg6 arg7 harg7 arg8 harg8 arg9 harg9 arg10 harg10 arg11 harg11 arg12 harg12 x0 x1 x2 x3 x4 x5 x6 x7 x8 x9).sL arg15.view arg16.view 32) := by
  unfold out0_A_11
  rw [View.read_writes_eq_canon _ _ _ (cover0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  rw [pieces_s]

/-- A sequence's rows of a block, read. -/
theorem readAt_slab (arg : Memref sig .tc .vmem S1x1024x256 .bf16) (harg : arg.IsWhole) (x : Vec Ideal S1x1024x256 .bf16) (b : ℕ) (hb : b < 16)
    (t : Fin 64) (j : Fin 256) :
    View.readAt (Elt Ideal) arg.view (slabR b).toLoadRect (harg.unread x) (ix3 0 t j) = x (ix3 0 ⟨64 * b + t.val, by omega⟩ j) := by
  rw [View.readAt_eq_ld, harg.read_unread]
  show x _ = x _
  congr 1
  funext a; apply Fin.ext
  match a with
  | ⟨0, _⟩ => rfl
  | ⟨1, _⟩ => show 64 * (b % 16) + 1 * t.val = 64 * b + t.val; omega
  | ⟨2, _⟩ => show 0 + 1 * j.val = j.val; omega
end

variable (m : (ℓ : Loc nD τ sig) → Buf (Elt Ideal) ℓ)

/-- What grid point `t` reads. -/
def pt (c : Dev nD) (t : Fin cfg0.N) : In := inp (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) (iblk m c 9 t)

theorem outs_y (c : Dev nD) (t : Fin cfg0.N) : (outsAt0 m c t).1 = View.canon ((pt m c t).yL scM0_0.view scM0_1.view 16) := by
  unfold outsAt0 pt
  dsimp only
  rw [out_y]

theorem outs_s (c : Dev nD) (t : Fin cfg0.N) : (outsAt0 m c t).2 = View.canon ((pt m c t).sL scM0_0.view scM0_1.view 32) := by
  unfold outsAt0 pt
  dsimp only
  rw [out_s]

theorem N8 : cfg0.N = 8 := N_0

theorem idx0 : ∀ t : Fin cfg0.N, win0_0.index t (0 : Fin 3) = 12 + t.val ∧ win0_0.index t (1 : Fin 3) = 0 ∧ win0_0.index t (2 : Fin 3) = 0 := by
  decide +kernel

theorem pt_q (c : Dev nD) (t : Fin cfg0.N) (b : ℕ) (hb : b < 16) (r : Fin 64) (j : Fin 256) :
    (pt m c t).q b (ix3 0 r j) =
      m ((c : Thread nD τ).loc main_arg0) (ix3 ⟨12 + t.val, by have := N8; omega⟩ ⟨64 * b + r.val, by omega⟩ j) := by
  refine (readAt_slab _ _ _ b hb r j).trans ?_
  unfold iblk
  rw [View.read_apply]
  show V m c main_arg0 _ = _
  rw [V_main_arg0]
  congr 1
  funext a; apply Fin.ext
  obtain ⟨e0, e1, e2⟩ := idx0 t
  match a with
  | ⟨0, _⟩ => show win0_0.index t 0 * 1 + 1 * 0 = 12 + t.val; omega
  | ⟨1, _⟩ => show win0_0.index t 1 * 1024 + 1 * (64 * b + r.val) = 64 * b + r.val; omega
  | ⟨2, _⟩ => show win0_0.index t 2 * 256 + 1 * j.val = j.val; omega

theorem idx1 : ∀ t : Fin cfg0.N, win0_1.index t (0 : Fin 3) = 20 + t.val ∧ win0_1.index t (1 : Fin 3) = 0 ∧ win0_1.index t (2 : Fin 3) = 0 := by
  decide +kernel

theorem pt_f (c : Dev nD) (t : Fin cfg0.N) (b : ℕ) (hb : b < 16) (r : Fin 64) (j : Fin 256) :
    (pt m c t).f b (ix3 0 r j) =
      m ((c : Thread nD τ).loc main_arg0) (ix3 ⟨20 + t.val, by have := N8; omega⟩ ⟨64 * b + r.val, by omega⟩ j) := by
  refine (readAt_slab _ _ _ b hb r j).trans ?_
  unfold iblk
  rw [View.read_apply]
  show V m c main_arg0 _ = _
  rw [V_main_arg0]
  congr 1
  funext a; apply Fin.ext
  obtain ⟨e0, e1, e2⟩ := idx1 t
  match a with
  | ⟨0, _⟩ => show win0_1.index t 0 * 1 + 1 * 0 = 20 + t.val; omega
  | ⟨1, _⟩ => show win0_1.index t 1 * 1024 + 1 * (64 * b + r.val) = 64 * b + r.val; omega
  | ⟨2, _⟩ => show win0_1.index t 2 * 256 + 1 * j.val = j.val; omega

theorem idx2 : ∀ t : Fin cfg0.N, win0_2.index t (0 : Fin 3) = 28 + t.val ∧ win0_2.index t (1 : Fin 3) = 0 ∧ win0_2.index t (2 : Fin 3) = 0 := by
  decide +kernel

theorem pt_v (c : Dev nD) (t : Fin cfg0.N) (b : ℕ) (hb : b < 16) (r : Fin 64) (j : Fin 256) :
    (pt m c t).v b (ix3 0 r j) =
      m ((c : Thread nD τ).loc main_arg0) (ix3 ⟨28 + t.val, by have := N8; omega⟩ ⟨64 * b + r.val, by omega⟩ j) := by
  refine (readAt_slab _ _ _ b hb r j).trans ?_
  unfold iblk
  rw [View.read_apply]
  show V m c main_arg0 _ = _
  rw [V_main_arg0]
  congr 1
  funext a; apply Fin.ext
  obtain ⟨e0, e1, e2⟩ := idx2 t
  match a with
  | ⟨0, _⟩ => show win0_2.index t 0 * 1 + 1 * 0 = 28 + t.val; omega
  | ⟨1, _⟩ => show win0_2.index t 1 * 1024 + 1 * (64 * b + r.val) = 64 * b + r.val; omega
  | ⟨2, _⟩ => show win0_2.index t 2 * 256 + 1 * j.val = j.val; omega

theorem idx3 : ∀ t : Fin cfg0.N, win0_3.index t (0 : Fin 3) = 36 + t.val ∧ win0_3.index t (1 : Fin 3) = 0 ∧ win0_3.index t (2 : Fin 3) = 0 := by
  decide +kernel

theorem pt_og (c : Dev nD) (t : Fin cfg0.N) (b : ℕ) (hb : b < 16) (r : Fin 64) (j : Fin 256) :
    (pt m c t).og b (ix3 0 r j) =
      m ((c : Thread nD τ).loc main_arg0) (ix3 ⟨36 + t.val, by have := N8; omega⟩ ⟨64 * b + r.val, by omega⟩ j) := by
  refine (readAt_slab _ _ _ b hb r j).trans ?_
  unfold iblk
  rw [View.read_apply]
  show V m c main_arg0 _ = _
  rw [V_main_arg0]
  congr 1
  funext a; apply Fin.ext
  obtain ⟨e0, e1, e2⟩ := idx3 t
  match a with
  | ⟨0, _⟩ => show win0_3.index t 0 * 1 + 1 * 0 = 36 + t.val; omega
  | ⟨1, _⟩ => show win0_3.index t 1 * 1024 + 1 * (64 * b + r.val) = 64 * b + r.val; omega
  | ⟨2, _⟩ => show win0_3.index t 2 * 256 + 1 * j.val = j.val; omega

theorem idx4 : ∀ t : Fin cfg0.N, win0_4.index t (0 : Fin 2) = 0 ∧ win0_4.index t (1 : Fin 2) = t.val := by
  decide +kernel

theorem pt_lo (c : Dev nD) (t : Fin cfg0.N) (r : Fin 2) (j : Fin 256) :
    (pt m c t).lo (ix2 r j) = m ((c : Thread nD τ).loc main_arg1) (ix2 r ⟨256 * t.val + j.val, by have := N8; omega⟩) := by
  show View.readAt (Elt Ideal) (ms0_4 t).view (Rect.unit ![0, 0] S2x256.size inb_S2x256_S2x256_0_0).toLoadRect ((hs0_4 t).unread (iblk m c 4 t)) (ix2 r j) = _
  rw [View.readAt_eq_ld, (hs0_4 t).read_unread]
  show iblk m c 4 t _ = _
  unfold iblk
  rw [View.read_apply]
  show V m c main_arg1 _ = _
  rw [V_main_arg1]
  congr 1
  funext a; apply Fin.ext
  obtain ⟨e0, e1⟩ := idx4 t
  match a with
  | ⟨0, _⟩ => show win0_4.index t 0 * 2 + 1 * (0 + 1 * r.val) = r.val; omega
  | ⟨1, _⟩ => show win0_4.index t 1 * 256 + 1 * (0 + 1 * j.val) = 256 * t.val + j.val; omega

theorem idx5 : ∀ t : Fin cfg0.N, win0_5.index t (0 : Fin 2) = 0 ∧ win0_5.index t (1 : Fin 2) = t.val := by
  decide +kernel

theorem pt_g (c : Dev nD) (t : Fin cfg0.N) (r : Fin 1) (j : Fin 256) :
    (pt m c t).g (ix2 r j) = m ((c : Thread nD τ).loc main_arg2) (ix2 r ⟨256 * t.val + j.val, by have := N8; omega⟩) := by
  show View.readAt (Elt Ideal) (ms0_5 t).view (Rect.unit ![0, 0] S1x256.size inb_S1x256_S1x256_0_0).toLoadRect ((hs0_5 t).unread (iblk m c 5 t)) (ix2 r j) = _
  rw [View.readAt_eq_ld, (hs0_5 t).read_unread]
  show iblk m c 5 t _ = _
  unfold iblk
  rw [View.read_apply]
  show V m c main_arg2 _ = _
  rw [V_main_arg2]
  congr 1
  funext a; apply Fin.ext
  obtain ⟨e0, e1⟩ := idx5 t
  match a with
  | ⟨0, _⟩ => show win0_5.index t 0 * 1 + 1 * (0 + 1 * r.val) = r.val; omega
  | ⟨1, _⟩ => show win0_5.index t 1 * 256 + 1 * (0 + 1 * j.val) = 256 * t.val + j.val; omega

theorem idx6 : ∀ t : Fin cfg0.N, win0_6.index t (0 : Fin 4) = 0 ∧ win0_6.index t (1 : Fin 4) = t.val ∧ win0_6.index t (2 : Fin 4) = 0 ∧ win0_6.index t (3 : Fin 4) = 0 := by
  decide +kernel

theorem pt_s (c : Dev nD) (t : Fin cfg0.N) (k : ℕ) (hk : k < 32) (e d : Fin 128) :
    (pt m c t).s k (ix4 0 0 e d) =
      m ((c : Thread nD τ).loc main_arg3) (ix4 ⟨k / 2, by omega⟩ ⟨2 * t.val + k % 2, by have := N8; omega⟩ e d) := by
  show View.readAt (Elt Ideal) (ms0_6 t).view (stR k).toLoadRect ((hs0_6 t).unread (iblk m c 6 t)) (ix4 0 0 e d) = _
  rw [View.readAt_eq_ld, (hs0_6 t).read_unread]
  show iblk m c 6 t _ = _
  unfold iblk
  rw [View.read_apply]
  show V m c main_arg3 _ = _
  rw [V_main_arg3]
  congr 1
  funext a; apply Fin.ext
  obtain ⟨e0, e1, e2, e3⟩ := idx6 t
  match a with
  | ⟨0, _⟩ => show win0_6.index t 0 * 16 + 1 * (k / 2 % 16 + 1 * 0) = k / 2; omega
  | ⟨1, _⟩ => show win0_6.index t 1 * 2 + 1 * (k % 2 + 1 * 0) = 2 * t.val + k % 2; omega
  | ⟨2, _⟩ => show win0_6.index t 2 * 128 + 1 * (0 + 1 * e.val) = e.val; omega
  | ⟨3, _⟩ => show win0_6.index t 3 * 128 + 1 * (0 + 1 * d.val) = d.val; omega

/-! ## The tables -/

theorem lit0_eq : ∀ i : S96x128.Idx, lit0 (S96x128.rowMajor i) = if Tb (i 0).val ((i 1).val % 64) then 0x3F80#16 else 0#16 := by
  decide +kernel
theorem lit1_eq : ∀ i : S32x256.Idx, lit1 (S32x256.rowMajor i) = if on (i 0).val then 0x3F800000#32 else 0#32 := by
  decide +kernel
theorem lit2_eq : ∀ i : S64x64.Idx, lit2 (S64x64.rowMajor i) = BitVec.ofNat 32 (cls (i 0).val (i 1).val) := by
  decide +kernel

theorem idx7 : ∀ t : Fin cfg0.N, win0_7.index t (0 : Fin 2) = 0 ∧ win0_7.index t (1 : Fin 2) = 0 := by
  decide +kernel

theorem V_tl (c : Dev nD) : V m c main_cst = fun i => (FloatOps.ofBits (F := Ideal) .bf16 (lit0 (S96x128.rowMajor i))) := by
  unfold V
  rfl

theorem pt_tl_read (c : Dev nD) (t : Fin cfg0.N) (r : Fin 96) (j : Fin 128) :
    (pt m c t).tl (ix2 r j) = (fun i : S96x128.Idx => (FloatOps.ofBits (F := Ideal) .bf16 (lit0 (S96x128.rowMajor i)))) (ix2 r j) := by
  show View.readAt (Elt Ideal) (ms0_7 t).view (Rect.unit ![0, 0] S96x128.size inb_S96x128_S96x128_0_0).toLoadRect ((hs0_7 t).unread (iblk m c 7 t)) (ix2 r j) = _
  rw [View.readAt_eq_ld, (hs0_7 t).read_unread]
  show iblk m c 7 t _ = _
  unfold iblk
  rw [View.read_apply]
  show V m c main_cst _ = _
  rw [V_tl]
  congr 1
  funext a; apply Fin.ext
  obtain ⟨e0, e1⟩ := idx7 t
  match a with
  | ⟨0, _⟩ => show win0_7.index t 0 * 96 + 1 * (0 + 1 * r.val) = r.val; omega
  | ⟨1, _⟩ => show win0_7.index t 1 * 128 + 1 * (0 + 1 * j.val) = j.val; omega

theorem idx8 : ∀ t : Fin cfg0.N, win0_8.index t (0 : Fin 2) = 0 ∧ win0_8.index t (1 : Fin 2) = 0 := by
  decide +kernel

theorem V_tv (c : Dev nD) : V m c main_cst_0 = fun i => (FloatOps.ofBits (F := Ideal) .f32 (lit1 (S32x256.rowMajor i))) := by
  unfold V
  rfl

theorem pt_tv_read (c : Dev nD) (t : Fin cfg0.N) (r : Fin 32) (j : Fin 256) :
    (pt m c t).tv (ix2 r j) = (fun i : S32x256.Idx => (FloatOps.ofBits (F := Ideal) .f32 (lit1 (S32x256.rowMajor i)))) (ix2 r j) := by
  show View.readAt (Elt Ideal) (ms0_8 t).view (Rect.unit ![0, 0] S32x256.size inb_S32x256_S32x256_0_0).toLoadRect ((hs0_8 t).unread (iblk m c 8 t)) (ix2 r j) = _
  rw [View.readAt_eq_ld, (hs0_8 t).read_unread]
  show iblk m c 8 t _ = _
  unfold iblk
  rw [View.read_apply]
  show V m c main_cst_0 _ = _
  rw [V_tv]
  congr 1
  funext a; apply Fin.ext
  obtain ⟨e0, e1⟩ := idx8 t
  match a with
  | ⟨0, _⟩ => show win0_8.index t 0 * 32 + 1 * (0 + 1 * r.val) = r.val; omega
  | ⟨1, _⟩ => show win0_8.index t 1 * 256 + 1 * (0 + 1 * j.val) = j.val; omega

theorem idx9 : ∀ t : Fin cfg0.N, win0_9.index t (0 : Fin 2) = 0 ∧ win0_9.index t (1 : Fin 2) = 0 := by
  decide +kernel

theorem V_tc (c : Dev nD) : V m c main_c = fun i => (lit2 (S64x64.rowMajor i)) := by
  unfold V
  rfl

theorem pt_tc_read (c : Dev nD) (t : Fin cfg0.N) (r : Fin 64) (j : Fin 64) :
    (pt m c t).tc (ix2 r j) = (fun i : S64x64.Idx => (lit2 (S64x64.rowMajor i))) (ix2 r j) := by
  show View.readAt (Elt Ideal) (ms0_9 t).view (Rect.unit ![0, 0] S64x64.size inb_S64x64_S64x64_0_0).toLoadRect ((hs0_9 t).unread (iblk m c 9 t)) (ix2 r j) = _
  rw [View.readAt_eq_ld, (hs0_9 t).read_unread]
  show iblk m c 9 t _ = _
  unfold iblk
  rw [View.read_apply]
  show V m c main_c _ = _
  rw [V_tc]
  congr 1
  funext a; apply Fin.ext
  obtain ⟨e0, e1⟩ := idx9 t
  match a with
  | ⟨0, _⟩ => show win0_9.index t 0 * 64 + 1 * (0 + 1 * r.val) = r.val; omega
  | ⟨1, _⟩ => show win0_9.index t 1 * 64 + 1 * (0 + 1 * j.val) = j.val; omega

theorem pt_tl (c : Dev nD) (t : Fin cfg0.N) (r : Fin 96) (x : Fin 128) :
    (pt m c t).tl (ix2 r x) = if Tb r.val (x.val % 64) then ((1 : ℝ) : EReal) else ((0 : ℝ) : EReal) := by
  rw [pt_tl_read]
  show Ideal.ofBits .bf16 (lit0 (S96x128.rowMajor (ix2 r x))) = _
  rw [lit0_eq]
  show Ideal.ofBits .bf16 (if Tb r.val (x.val % 64) then _ else _) = _
  split_ifs
  · simp
  · simp

theorem pt_tv (c : Dev nD) (t : Fin cfg0.N) (r : Fin 32) (j : Fin 256) :
    (pt m c t).tv (ix2 r j) = if on r.val then ((1 : ℝ) : EReal) else ((0 : ℝ) : EReal) := by
  rw [pt_tv_read]
  show Ideal.ofBits .f32 (lit1 (S32x256.rowMajor (ix2 r j))) = _
  rw [lit1_eq]
  show Ideal.ofBits .f32 (if on r.val then _ else _) = _
  split_ifs
  · simp
  · simp

theorem pt_tc (c : Dev nD) (t : Fin cfg0.N) (r s : Fin 64) : (pt m c t).tc (ix2 r s) = BitVec.ofNat 32 (cls r.val s.val) := by
  rw [pt_tc_read]
  exact lit2_eq (ix2 r s)

/-! ## The result arrays -/

theorem idx10 : ∀ t : Fin cfg0.N, win0_10.index t (0 : Fin 3) = t.val ∧ win0_10.index t (1 : Fin 3) = 0 ∧ win0_10.index t (2 : Fin 3) = 0 ∧
    (cfg0.win 10).flush t = true := by
  decide +kernel
theorem idx11 : ∀ t : Fin cfg0.N, (win0_11.index t (0 : Fin 4) = 0 ∧ win0_11.index t (1 : Fin 4) = t.val ∧ win0_11.index t (2 : Fin 4) = 0 ∧ win0_11.index t (3 : Fin 4) = 0) ∧
    (cfg0.win 11).flush t = true := by
  decide +kernel

/-- An entry of the first result: row `r` of sequence `b`, of column group `t`. -/
theorem arr_y (c : Dev nD) (t : Fin cfg0.N) (b : ℕ) (hb : b < 16) (r : Fin 64) (j : Fin 256) :
    (dats m 0 c).arrAt 10 cfg0.N (ix3 ⟨t.val, by have := N8; omega⟩ ⟨64 * b + r.val, by omega⟩ j : S8x1024x256.Idx) =
      (pt m c t).y scM0_0.view scM0_1.view b (ix3 0 r j) := by
  obtain ⟨e0, e1, e2, hf⟩ := idx10 t
  have h := congrFun (blocks10 m c t hf) (ix3 0 ⟨64 * b + r.val, by omega⟩ j : S1x1024x256.Idx)
  rw [View.read_apply, flushed10, outs_y] at h
  refine Eq.trans ?_ (h.trans ((pt m c t).canon_yL scM0_0.view scM0_1.view 16 le_rfl b r _ j hb rfl))
  congr 1
  funext a; apply Fin.ext
  match a with
  | ⟨0, _⟩ => show t.val = win0_10.index t 0 * 1 + 1 * 0; omega
  | ⟨1, _⟩ => show 64 * b + r.val = win0_10.index t 1 * 1024 + 1 * (64 * b + r.val); omega
  | ⟨2, _⟩ => show j.val = win0_10.index t 2 * 256 + 1 * j.val; omega

/-- An entry of the second result: head `k % 2` of pair `t`, of sequence `k / 2`. -/
theorem arr_s (c : Dev nD) (t : Fin cfg0.N) (k : ℕ) (hk : k < 32) (e d : Fin 128) :
    (dats m 0 c).arrAt 11 cfg0.N (ix4 ⟨k / 2, by omega⟩ ⟨2 * t.val + k % 2, by have := N8; omega⟩ e d : S16x16x128x128.Idx) =
      (pt m c t).stNew scM0_1.view k ((pt m c t).st scM0_0.view scM0_1.view k k) (ix4 0 0 d e) := by
  obtain ⟨⟨e0, e1, e2, e3⟩, hf⟩ := idx11 t
  have h := congrFun (blocks11 m c t hf) (ix4 ⟨k / 2, by omega⟩ ⟨k % 2, by omega⟩ e d : S16x2x128x128.Idx)
  rw [View.read_apply, flushed11, outs_s] at h
  have h2 : k0_pay2 ((pt m c t).st scM0_0.view scM0_1.view 32 k) (ix4 0 0 e d) = (pt m c t).st scM0_0.view scM0_1.view 32 k (ix4 0 0 d e) := by
    pointwise [k0_pay2]
  refine Eq.trans ?_ (h.trans (((pt m c t).canon_sL scM0_0.view scM0_1.view 32 le_rfl k hk _ _ e d).trans
    (h2.trans ((pt m c t).st_new scM0_0.view scM0_1.view k hk d e))))
  congr 1
  funext a; apply Fin.ext
  match a with
  | ⟨0, _⟩ => show k / 2 = win0_11.index t 0 * 16 + 1 * (k / 2); omega
  | ⟨1, _⟩ => show 2 * t.val + k % 2 = win0_11.index t 1 * 2 + 1 * (k % 2); omega
  | ⟨2, _⟩ => show e.val = win0_11.index t 2 * 128 + 1 * e.val; omega
  | ⟨3, _⟩ => show d.val = win0_11.index t 3 * 128 + 1 * d.val; omega

end Cert.HgrnProof
-- ==== Proof.HgrnGate.lean ====
module

public import proofs.«01_k».proof.Proof.HgrnBlocks

/-! The gate of the recurrence as a real number, and the real numbers of one pair of heads. -/

@[expose] public section

set_option maxRecDepth 16384

open Idealize.ShloMosaic Idealize.ShloMosaic.TcCoe Idealize.SL.Sem

noncomputable section

namespace Cert.HgrnProof
open Cert.HgrnIdeal Cert.HgrnIdeal.Gen Cert.HgrnIdeal.Value
open scoped BigOperators

/-- The larger of two lower-bound logits, taken from minus infinity on. -/
def topE (a : Fin 2 → EReal) : EReal := Finset.fold max (Ideal.ofBits FTy.f32 4286578688#32) a Finset.univ
/-- The first of the two soft-max weights of a column of lower-bound logits. -/
def lbE (a : Fin 2 → EReal) : EReal :=
  Ideal.div (∑ _x : Fin 1, Ideal.exp (a 0 - topE a)) (∑ x : Fin 2, Ideal.exp (a x - topE a))
/-- The decay: the lower bound, and above it the logistic of the projection. -/
def gateE (a : Fin 2 → EReal) (f : EReal) : EReal := lbE a + (1 - lbE a) * Ideal.logistic f

theorem ofBits_bot : Ideal.ofBits FTy.f32 4286578688#32 = ⊥ := by
  simp [Ideal.ofBits, Ideal.ieee]

theorem topE_real (α : Fin 2 → ℝ) : ∃ μ : ℝ, topE (fun x => ((α x : ℝ) : EReal)) = (μ : EReal) := by
  refine ⟨max (α 0) (α 1), ?_⟩
  unfold topE
  rw [ofBits_bot, show (Finset.univ : Finset (Fin 2)) = {0, 1} from by decide, Finset.fold_insert (by decide), Finset.fold_singleton, max_bot_right]
  exact (EReal.coe_strictMono.monotone.map_max).symm

/-- For finite logits the lower bound lies strictly between nought and one. -/
theorem lbE_real (α : Fin 2 → ℝ) : ∃ r : ℝ, 0 < r ∧ r < 1 ∧ lbE (fun x => ((α x : ℝ) : EReal)) = (r : EReal) := by
  obtain ⟨μ, hμ⟩ := topE_real α
  have h0 := Real.exp_pos (α 0 - μ)
  have h1 := Real.exp_pos (α 1 - μ)
  refine ⟨Real.exp (α 0 - μ) / (Real.exp (α 0 - μ) + Real.exp (α 1 - μ)), by positivity, (div_lt_one (by positivity)).mpr (by linarith), ?_⟩
  unfold lbE
  rw [hμ]
  simp only [← EReal.coe_sub, exp_coe, coe_sum]
  rw [div_coe _ _ (by rw [Fin.sum_univ_two]; positivity), Fin.sum_univ_two, Fin.sum_univ_one]

/-- For finite operands the decay is a positive real number. -/
theorem gateE_real (α : Fin 2 → ℝ) (f : ℝ) : ∃ y : ℝ, 0 < y ∧ gateE (fun x => ((α x : ℝ) : EReal)) (f : EReal) = (y : EReal) := by
  obtain ⟨r, h0, h1, hr⟩ := lbE_real α
  have he := Real.exp_pos (-f)
  refine ⟨r + (1 - r) * (1 / (1 + Real.exp (-f))), ?_, ?_⟩
  · have : 0 < 1 - r := by linarith
    positivity
  · unfold gateE
    rw [hr, logistic_coe, ← EReal.coe_one, ← EReal.coe_sub, ← EReal.coe_mul, ← EReal.coe_add]

/-- An entry of the projections: block `n` of columns, step `t` of sequence `b`. -/
def px (n b : ℕ) (t : Fin 64) (j : Fin 256) : S60x1024x256.Idx :=
  ix3 ⟨n % 60, Nat.mod_lt _ (by norm_num)⟩ ⟨(64 * b + t.val) % 1024, Nat.mod_lt _ (by norm_num)⟩ j
/-- Column `j` of pair `g` of heads among all columns. -/
def cx (g : ℕ) (j : Fin 256) : Fin 2048 := ⟨(256 * g + j.val) % 2048, Nat.mod_lt _ (by norm_num)⟩
/-- An entry of the state: head `k % 2` of pair `g` of sequence `k / 2`. -/
def sx (g k : ℕ) (e d : Fin 128) : S16x16x128x128.Idx :=
  ix4 ⟨(k / 2) % 16, Nat.mod_lt _ (by norm_num)⟩ ⟨(2 * g + k % 2) % 16, Nat.mod_lt _ (by norm_num)⟩ e d

variable (x0 : FVec Ideal S60x1024x256 .bf16) (x1 : FVec Ideal S2x2048 .f32) (x3 : FVec Ideal S16x16x128x128 .f32)

/-- The decay at step `t` of sequence `b`, column `j` of pair `g` of heads. -/
def gate (g b : ℕ) (t : Fin 64) (j : Fin 256) : EReal := gateE (fun x => x1 (ix2 x (cx g j))) (x0 (px (20 + g) b t j))
/-- The real numbers pair `g` of heads computes on. -/
def dat (g : ℕ) : Dat where
  F b t j := (gate x0 x1 g b t j).toReal
  Q b t j := (x0 (px (12 + g) b t j)).toReal
  V b t j := (x0 (px (28 + g) b t j)).toReal
  S k e d := (x3 (sx g k e d)).toReal

/-- The operands of the recurrence are finite. -/
structure Fin3 : Prop where
  p : ∀ n, 12 ≤ n → n < 36 → ∀ b t j, ∃ y : ℝ, x0 (px n b t j) = (y : EReal)
  l : ∀ i, ∃ y : ℝ, x1 i = (y : EReal)
  s : ∀ i, ∃ y : ℝ, x3 i = (y : EReal)

variable (hF : Fin3 x0 x1 x3)
include hF

theorem gate_dat (g b : ℕ) (hg : g < 8) (t : Fin 64) (j : Fin 256) :
    0 < (dat x0 x1 x3 g).F b t j ∧ gate x0 x1 g b t j = (((dat x0 x1 x3 g).F b t j : ℝ) : EReal) := by
  choose α hα using fun x : Fin 2 => hF.l (ix2 x (cx g j))
  obtain ⟨f, hf⟩ := hF.p (20 + g) (by omega) (by omega) b t j
  obtain ⟨y, hy, e⟩ := gateE_real α f
  have e' : gate x0 x1 g b t j = (y : EReal) := by
    unfold gate
    rw [hf, funext hα, e]
  show 0 < (gate x0 x1 g b t j).toReal ∧ _ = (((gate x0 x1 g b t j).toReal : ℝ) : EReal)
  rw [e', EReal.toReal_coe]
  exact ⟨hy, rfl⟩

theorem q_dat (g b : ℕ) (hg : g < 8) (t : Fin 64) (j : Fin 256) : x0 (px (12 + g) b t j) = (((dat x0 x1 x3 g).Q b t j : ℝ) : EReal) := by
  obtain ⟨y, e⟩ := hF.p (12 + g) (by omega) (by omega) b t j
  show _ = (((x0 (px (12 + g) b t j)).toReal : ℝ) : EReal)
  rw [e, EReal.toReal_coe]

theorem v_dat (g b : ℕ) (hg : g < 8) (t : Fin 64) (j : Fin 256) : x0 (px (28 + g) b t j) = (((dat x0 x1 x3 g).V b t j : ℝ) : EReal) := by
  obtain ⟨y, e⟩ := hF.p (28 + g) (by omega) (by omega) b t j
  show _ = (((x0 (px (28 + g) b t j)).toReal : ℝ) : EReal)
  rw [e, EReal.toReal_coe]

theorem s_dat (g k : ℕ) (e d : Fin 128) : x3 (sx g k e d) = (((dat x0 x1 x3 g).S k e d : ℝ) : EReal) := by
  obtain ⟨y, h⟩ := hF.s (sx g k e d)
  show _ = (((x3 (sx g k e d)).toReal : ℝ) : EReal)
  rw [h, EReal.toReal_coe]

omit hF in
/-- The decay the kernel computes, as the real gate. -/
theorem gate_kernel (lo : FVec Ideal S2x256 .f32) (f : FVec Ideal S1x64x256 .bf16) (t : Fin 64) (j : Fin 256) :
    (k0_pay74 (F := Ideal) (k0_pay66 lo) (k0_pay67 lo) (k0_pay71 f) (ix2 t j) : EReal) = gateE (fun x => lo (ix2 x j)) (f (ix3 0 t j)) := by
  pointwise [k0_pay74, k0_pay66, k0_pay67, k0_pay71]
  rfl

omit hF in
/-- What grid point `t` reads are the real numbers of pair `t` of heads. -/
theorem pt_is (m : (ℓ : Loc nD τ sig) → Buf (Elt Ideal) ℓ) (c : Dev nD) (t : Fin cfg0.N)
    (hF : Fin3 (m ((c : Thread nD τ).loc main_arg0)) (m ((c : Thread nD τ).loc main_arg1)) (m ((c : Thread nD τ).loc main_arg3))) :
    (pt m c t).Is (dat (m ((c : Thread nD τ).loc main_arg0)) (m ((c : Thread nD τ).loc main_arg1)) (m ((c : Thread nD τ).loc main_arg3)) t.val) := by
  have hN := N8
  have ht : t.val < 8 := by omega
  have hpx : ∀ (n b : ℕ) (hn : n < 60) (hb : b < 16) (r : Fin 64) (j : Fin 256),
      (ix3 ⟨n, hn⟩ ⟨64 * b + r.val, by omega⟩ j : S60x1024x256.Idx) = px n b r j := fun n b hn hb r j => by
    unfold px
    congr 1 <;> apply Fin.ext
    · exact (Nat.mod_eq_of_lt hn).symm
    · exact (Nat.mod_eq_of_lt (by omega)).symm
  refine ⟨fun b hb r j => ?_, fun b r j => (gate_dat _ _ _ hF t.val b ht r j).1, fun b hb r j => ?_, fun b hb r j => ?_, fun k hk e d => ?_,
    fun r x => pt_tl m c t r x, fun r j => pt_tv m c t r j, fun r s => pt_tc m c t r s⟩
  · refine (gate_kernel _ _ r j).trans (Eq.trans ?_ (gate_dat _ _ _ hF t.val b ht r j).2)
    unfold gate
    rw [pt_f m c t b hb r j, hpx (20 + t.val) b (by omega) hb r j]
    congr 1
    funext x
    rw [pt_lo m c t x j]
    congr 2
    exact Fin.ext (Nat.mod_eq_of_lt (by omega)).symm
  · rw [pt_q m c t b hb r j, hpx (12 + t.val) b (by omega) hb r j]
    exact q_dat _ _ _ hF t.val b ht r j
  · rw [pt_v m c t b hb r j, hpx (28 + t.val) b (by omega) hb r j]
    exact v_dat _ _ _ hF t.val b ht r j
  · rw [pt_s m c t k hk e d]
    refine Eq.trans (congrArg _ ?_) (s_dat _ _ _ hF t.val k e d)
    unfold sx
    congr 1 <;> apply Fin.ext
    · exact (Nat.mod_eq_of_lt (by omega)).symm
    · exact (Nat.mod_eq_of_lt (by omega)).symm

end Cert.HgrnProof
-- ==== Proof.HgrnRef.lean ====
module

public import proofs.«01_k».proof.Proof.HgrnKernel
public import proofs.«01_k».proof.Proof.Gen.HgrnRefIdeal.Read
public import proofs.«01_k».proof.Proof.Gen.HgrnRefIdeal.Run

/-! The recurrence the reference computes block by block, as real numbers. -/

@[expose] public section

set_option maxRecDepth 16384

open Idealize.ShloMosaic Idealize.ShloMosaic.TcCoe Idealize.SL.Sem

noncomputable section

namespace Cert.HgrnProof.Ref
open Cert.HgrnRefIdeal Cert.HgrnRefIdeal.Gen Cert.HgrnRefIdeal.Read
open scoped BigOperators

/-- A left fold of additions is the initial value plus the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window sum from nought on is a sum over the indices of the window. -/
theorem window_sum {s t u : Shape} (window strides lo hi : Fin s.rank → Nat) (x : FVec Ideal s .f32) (init : FVec Ideal u .f32)
    (h : s.ReduceWindows window strides lo hi t) (hu : 0 < u.numel) (h0 : ∀ i, init i = (0 : EReal)) (j : t.Idx) :
    (Host.reduceWindowAdd window strides lo hi x init h hu j : EReal) =
      ∑ w : (⟨s.rank, window⟩ : Shape).Idx,
        if hin : ∀ a, lo a ≤ (j (a.cast h.1.symm)).val * strides a + (w a).val ∧
            (j (a.cast h.1.symm)).val * strides a + (w a).val - lo a < s.size a
        then (x (fun a => ⟨(j (a.cast h.1.symm)).val * strides a + (w a).val - lo a, (hin a).2⟩) : EReal) else 0 := by
  show Ideal.hostReduceWindowAdd window strides lo hi h x (init (Shape.Idx.first hu)) j = _
  rw [h0]
  unfold Ideal.hostReduceWindowAdd Host.reduceWindow
  refine (foldl_add _ _ _).trans ?_
  rw [zero_add, ← (Shape.rowMajor ⟨s.rank, window⟩).symm.sum_comp, Fin.sum_univ_def]
  refine congrArg List.sum (List.map_congr_left fun n _ => ?_)
  dsimp only
  split <;> rfl

/-- The indices of a window of sixteen steps. -/
def steps : Fin 16 ≃ (⟨4, ![1, 16, 1, 1]⟩ : Shape).Idx where
  toFun m := ix4 0 m 0 0
  invFun w := w 1
  left_inv _ := rfl
  right_inv w := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The running sums of a block over its sixteen steps. -/
def cumW (x : FVec Ideal S16x16x16x128 .f32) : FVec Ideal S16x16x16x128 .f32 :=
  Host.reduceWindowAdd ![1, 16, 1, 1] ![1, 1, 1, 1] ![0, 15, 0, 0] ![0, 0, 0, 0] x (val_main_call3_call0_v0 (F := Ideal))
    reduceWindows_S16x16x16x128_S16x16x16x128_w1s1p0_0_w16s1p15_0_w1s1p0_0_w1s1p0_0 h_S_

/-- A running sum is the sum of the steps up to and including its own. -/
theorem cumW_eq (x : FVec Ideal S16x16x16x128 .f32) (b l h : Fin 16) (k : Fin 128) :
    (cumW x (ix4 b l h k) : EReal) = ∑ m : Fin 16, if m ≤ l then (x (ix4 b m h k) : EReal) else 0 := by
  unfold cumW
  rw [window_sum _ _ _ _ _ _ _ _ (fun i => by pointwise [val_main_call3_call0_v0, val_main_call3_call0_cst]), ← steps.sum_comp,
    ← Equiv.sum_comp (Equiv.addRight (l + 1)) (fun m : Fin 16 => if m ≤ l then (x (ix4 b m h k) : EReal) else 0)]
  refine Finset.sum_congr rfl fun m _ => ?_
  have hv : (Equiv.addRight (l + 1) m).val = (m.val + (l.val + 1)) % 16 := by
    show (m.val + (l.val + 1) % 16) % 16 = _
    omega
  by_cases hle : 15 ≤ l.val + m.val
  · rw [if_pos (Fin.le_def.mpr (by rw [hv]; omega)), dif_pos]
    · refine congrArg x (funext fun a => Fin.ext ?_)
      match a with
      | ⟨0, _⟩ => show b.val * 1 + 0 - 0 = b.val; omega
      | ⟨1, _⟩ => show l.val * 1 + m.val - 15 = _; refine Eq.trans ?_ hv.symm; omega
      | ⟨2, _⟩ => show h.val * 1 + 0 - 0 = h.val; omega
      | ⟨3, _⟩ => show k.val * 1 + 0 - 0 = k.val; omega
    · intro a
      match a with
      | ⟨0, _⟩ => show 0 ≤ b.val * 1 + 0 ∧ b.val * 1 + 0 - 0 < 16; omega
      | ⟨1, _⟩ => show 15 ≤ l.val * 1 + m.val ∧ l.val * 1 + m.val - 15 < 16; omega
      | ⟨2, _⟩ => show 0 ≤ h.val * 1 + 0 ∧ h.val * 1 + 0 - 0 < 16; omega
      | ⟨3, _⟩ => show 0 ≤ k.val * 1 + 0 ∧ k.val * 1 + 0 - 0 < 128; omega
  · rw [if_neg (fun hh => by have := Fin.le_def.mp hh; rw [hv] at this; omega), dif_neg]
    intro hh
    have h1 : 15 ≤ l.val * 1 + m.val := (hh (1 : Fin 4)).1
    omega

/-- The outputs of a block: from its queries, running sums, keys, values and the state before it. -/
def blkO (q g k v : FVec Ideal S16x16x16x128 .f32) (s : FVec Ideal S16x16x128x128 .f32) : FVec Ideal S16x16x16x128 .f32 :=
  addf (transpose S16x16x16x128 [0, 3, 1, 2] (Host.dotGeneral dot_S16x16x16x128_S16x16x16x16_S16x16x128x16_1_3_3_2_02_01 none v
      (select (val_main_call4_v1 (F := Ideal)) (Host.dotGeneral dot_S16x16x16x128_S16x16x16x128_S16x16x16x16_3_3_1_1_02_02 none (mulf q (Host.exp g)) (mulf k (Host.exp (Host.negf g))))
        (val_main_call4_v2 (F := Ideal)))) transposes_S16x16x128x16_S16x16x16x128_0_3_1_2)
    (transpose S16x16x16x128 [0, 3, 1, 2] (Host.dotGeneral dot_S16x16x128x128_S16x16x16x128_S16x16x128x16_2_3_3_1_01_02 none s (mulf q (Host.exp g)))
      transposes_S16x16x128x16_S16x16x16x128_0_3_1_2)

/-- The state after a block: from its running sums, keys, values and the state before it. -/
def blkS (g k v : FVec Ideal S16x16x16x128 .f32) (s : FVec Ideal S16x16x128x128 .f32) : FVec Ideal S16x16x128x128 .f32 :=
  let e : FVec Ideal S16x16x128 .f32 := shapeCast _ (extractStridedSlice S16x1x16x128 ![0, 15, 0, 0] g slices_S16x16x16x128_S16x1x16x128_0_15_0_0) shapeCasts_S16x1x16x128_S16x16x128
  addf (mulf (broadcastInDim S16x16x128x128 ![0, 1, 2, 3] bcast_S16x16x128x1_S16x16x128x128_0_1_2_3
      (broadcastInDim S16x16x128x1 ![0, 1, 2] bcast_S16x16x128_S16x16x128x1_0_1_2 (Host.exp e))) s)
    (Host.dotGeneral dot_S16x16x16x128_S16x16x16x128_S16x16x128x128_1_1_3_3_02_02 none
      (mulf k (Host.exp (subf (broadcastInDim S16x16x16x128 ![0, 1, 2, 3] bcast_S16x1x16x128_S16x16x16x128_0_1_2_3
        (broadcastInDim S16x1x16x128 ![0, 2, 3] bcast_S16x16x128_S16x1x16x128_0_2_3 e)) g))) v)

/-- An entry of the mask is one where the step does not come later. -/
theorem mask_eq (l x : Fin 16) :
    Scalar.select (IntOp.cmpi .sge (IntOp.addi (BitVec.ofNat 32 l.val) 0#32) (BitVec.ofNat 32 x.val)) 1#1 0#1 = if x ≤ l then 1#1 else 0#1 := by
  revert l x
  decide +kernel

section
variable (q g k v : FVec Ideal S16x16x16x128 .f32) (s : FVec Ideal S16x16x128x128 .f32)
variable (Q K L : ℕ → Fin 16 → Fin 128 → ℝ) (V : ℕ → Fin 16 → ℝ) (S0 : Fin 128 → ℝ) (i : ℕ) (b h : Fin 16) (d : Fin 128)

/-- The outputs of a block whose operands are real numbers. -/
theorem blkO_eq (hq : ∀ l x, (q (ix4 b l h x) : EReal) = ((Q i l x : ℝ) : EReal)) (hg : ∀ l x, (g (ix4 b l h x) : EReal) = ((cum L i l x : ℝ) : EReal))
    (hk : ∀ l x, (k (ix4 b l h x) : EReal) = ((K i l x : ℝ) : EReal)) (hv : ∀ l, (v (ix4 b l h d) : EReal) = ((V i l : ℝ) : EReal))
    (hs : ∀ x, (s (ix4 b h x d) : EReal) = ((refS K L V S0 i x : ℝ) : EReal)) (l : Fin 16) :
    (blkO q g k v s (ix4 b l h d) : EReal) = ((refO Q K L V S0 i l : ℝ) : EReal) := by
  unfold blkO
  pointwise [val_main_call4_v2, val_main_call4_v1, val_main_call4_v0, val_main_cst_6, val_main_v49, val_main_v48, val_main_c, val_main_call2_v5, val_main_call2_v4, val_main_call2_v3, val_main_call2_v2, val_main_call2_v1, val_main_call2_v0, val_main_call2_c, val_main_call2_c_0]
  simp only [hq, hg, hk, hv, hs, mask_eq, exp_coe, ← EReal.coe_neg, ← EReal.coe_mul, coe_sum]
  have e : ∀ x : Fin 16, ((V i x : ℝ) : EReal) * Scalar.select (if x ≤ l then 1#1 else 0#1)
        ((∑ y, Q i l y * Real.exp (cum L i l y) * (K i x y * Real.exp (-cum L i x y)) : ℝ) : EReal) (id (constant (F := Ideal) S_ FTy.f32 0#32) ix0 : EReal) =
      (((if x ≤ l then ∑ y, Q i l y * Real.exp (cum L i l y) * (K i x y * Real.exp (-cum L i x y)) else 0) * V i x : ℝ) : EReal) := by
    intro x
    by_cases hx : x ≤ l
    · rw [if_pos hx, if_pos hx, mul_comm, EReal.coe_mul]; rfl
    · rw [if_neg hx, if_neg hx, zero_mul]
      have z : (id (constant (F := Ideal) S_ FTy.f32 0#32) ix0 : EReal) = 0 := by
        show Ideal.ofBits .f32 0#32 = 0
        simp [Ideal.ofBits, Ideal.ieee]
      show _ * (id (constant (F := Ideal) S_ FTy.f32 0#32) ix0 : EReal) = _
      rw [z, mul_zero]; rfl
  refine (congrArg₂ (· + ·) (Finset.sum_congr rfl fun x _ => e x) rfl).trans ?_
  rw [coe_sum, ← EReal.coe_add]
  refine congrArg _ (congrArg₂ (· + ·) rfl (Finset.sum_congr rfl fun x _ => mul_comm _ _))

/-- The state after a block whose operands are real numbers. -/
theorem blkS_eq (hg : ∀ l x, (g (ix4 b l h x) : EReal) = ((cum L i l x : ℝ) : EReal))
    (hk : ∀ l x, (k (ix4 b l h x) : EReal) = ((K i l x : ℝ) : EReal)) (hv : ∀ l, (v (ix4 b l h d) : EReal) = ((V i l : ℝ) : EReal))
    (hs : ∀ x, (s (ix4 b h x d) : EReal) = ((refS K L V S0 i x : ℝ) : EReal)) (x : Fin 128) :
    (blkS g k v s (ix4 b h x d) : EReal) = ((refS K L V S0 (i + 1) x : ℝ) : EReal) := by
  unfold blkS
  pointwise []
  have ht : cum L i 15 x = tot L i x := Finset.sum_congr rfl fun m _ => if_pos (Fin.le_def.mpr (by have := m.isLt; show m.val ≤ 15; omega))
  simp only [hg, hk, hv, hs, ht, ← EReal.coe_sub, exp_coe, ← EReal.coe_mul]
  rw [coe_sum, ← EReal.coe_add]
  rfl
end

end Cert.HgrnProof.Ref
-- ==== Proof.HgrnFlow.lean ====
module

public import proofs.«01_k».proof.Proof.HgrnGate
public import proofs.«01_k».proof.Proof.HgrnRef

/-! The reference's arrays as the real numbers of the pairs of heads. -/

@[expose] public section

set_option maxRecDepth 16384

open Idealize.ShloMosaic Idealize.ShloMosaic.TcCoe Idealize.SL.Sem

noncomputable section

namespace Cert.HgrnProof.Ref
open Cert.HgrnRefIdeal Cert.HgrnRefIdeal.Gen Cert.HgrnRefIdeal.Read
open scoped BigOperators

variable (x0 : FVec Ideal S60x1024x256 .bf16) (x1 : FVec Ideal S2x2048 .f32) (x3 : FVec Ideal S16x16x128x128 .f32)

/-- The indices of a window of two rows. -/
def rows2 : Fin 2 ≃ (⟨2, ![2, 1]⟩ : Shape).Idx where
  toFun m := ix2 m 0
  invFun w := w 0
  left_inv _ := rfl
  right_inv w := by
    funext a
    match a with
    | ⟨0, _⟩ => rfl
    | ⟨1, _⟩ => exact Subsingleton.elim (α := Fin 1) _ _

/-- The first running sum of the soft-max weights is the first weight. -/
theorem first_weight (c : Fin 2048) : (val_main_v23 (F := Ideal) x1 (ix2 0 c) : EReal) = val_main_v22 (F := Ideal) x1 (ix2 0 c) := by
  unfold val_main_v23
  rw [window_sum _ _ _ _ _ _ _ _ (fun i => by pointwise [val_main_call0_call0_v0, val_main_call0_call0_cst]), ← rows2.sum_comp, Fin.sum_univ_two,
    dif_neg, dif_pos, zero_add]
  · refine congrArg _ (funext fun a => Fin.ext ?_)
    match a with
    | ⟨0, _⟩ => rfl
    | ⟨1, _⟩ => show c.val * 1 + 0 - 0 = c.val; omega
  · intro a
    match a with
    | ⟨0, _⟩ => show 1 ≤ 0 * 1 + 1 ∧ 0 * 1 + 1 - 1 < 2; omega
    | ⟨1, _⟩ => show 0 ≤ c.val * 1 + 0 ∧ c.val * 1 + 0 - 0 < 2048; omega
  · intro hh
    have h1 : 1 ≤ 0 * 1 + 0 := (hh (0 : Fin 2)).1
    omega

/-- The first soft-max weight is the lower bound. -/
theorem weight_eq (c : Fin 2048) : (val_main_v23 (F := Ideal) x1 (ix2 0 c) : EReal) = lbE (fun x => x1 (ix2 x c)) := by
  rw [first_weight]
  pointwise [val_main_v22, val_main_v21, val_main_v20, val_main_v19, val_main_cst_1, val_main_v18, val_main_v17, val_main_v16, val_main_v15, val_main_v14, val_main_v13, val_main_cst_0, val_main_v12, val_main_cst]
  unfold lbE topE
  rw [max_eq_right (by rw [ofBits_bot]; exact bot_le), Fin.sum_univ_one]

/-- Block `n` of an operand. -/
def opd (n : ℕ) (hs : S4x16x16x16x128.Slices ![n, 0, 0, 0, 0] S1x16x16x16x128) (x : FVec Ideal S4x16x16x16x128 .f32) : FVec Ideal S16x16x16x128 .f32 :=
  shapeCast _ (extractStridedSlice S1x16x16x16x128 ![n, 0, 0, 0, 0] x hs) shapeCasts_S1x16x16x16x128_S16x16x16x128

theorem opd_eq (n : ℕ) (hn : n < 4) (hs : S4x16x16x16x128.Slices ![n, 0, 0, 0, 0] S1x16x16x16x128) (x : FVec Ideal S4x16x16x16x128 .f32) (b l h : Fin 16) (k : Fin 128) :
    (opd n hs x (ix4 b l h k) : EReal) = x (ix5 ⟨n, hn⟩ b l h k) := by
  unfold opd
  pointwise []

/-- Column `128 * h + k` from `12 + 8 * a` blocks on, at step `l` of block `n`. -/
theorem px_eq (a : ℕ) (n : Fin 4) (b l h : Fin 16) (k : Fin 128) (ha : a < 4) (p0 p1 p2) :
    (ix3 ⟨((3072 + 2048 * a) + (h.val * 128 + k.val)) / 256, p0⟩ ⟨b.val * 64 + (n.val * 16 + l.val), p1⟩ ⟨((3072 + 2048 * a) + (h.val * 128 + k.val)) % 256, p2⟩ : S60x1024x256.Idx) =
      px (12 + 8 * a + h.val / 2) b.val (tk n l) (col (h.val % 2) k) := by
  unfold px tk col
  congr 1 <;> apply Fin.ext <;> dsimp only <;> omega

theorem q_eq (hF : Fin3 x0 x1 x3) (n : Fin 4) (b l h : Fin 16) (k : Fin 128) :
    (val_main_v51 (F := Ideal) x0 (ix5 n b l h k) : EReal) = (((dat x0 x1 x3 (h.val / 2)).Qh b.val (h.val % 2) n l k : ℝ) : EReal) := by
  pointwise [val_main_v51, val_main_v50, val_main_v44, val_main_v43, val_main_call1_v5, val_main_call1_v4, val_main_call1_v3, val_main_call1_v2, val_main_call1_v1, val_main_call1_v0, val_main_call1_cst, val_main_call1_cst_0, val_main_v6, val_main_v2, val_main_v1, val_main_v0]
  rw [px_eq 0 n b l h k (by omega), q_dat x0 x1 x3 hF (h.val / 2) b.val (by omega)]
  refine (congrArg _ (logistic_coe _)).trans ?_
  rw [← EReal.coe_mul]
  rfl

theorem v_eq (hF : Fin3 x0 x1 x3) (n : Fin 4) (b l h : Fin 16) (k : Fin 128) :
    (val_main_v57 (F := Ideal) x0 (ix5 n b l h k) : EReal) = (((dat x0 x1 x3 (h.val / 2)).Vh b.val (h.val % 2) k n l : ℝ) : EReal) := by
  pointwise [val_main_v57, val_main_v56, val_main_v47, val_main_v8, val_main_v2, val_main_v1, val_main_v0]
  rw [px_eq 2 n b l h k (by omega), v_dat x0 x1 x3 hF (h.val / 2) b.val (by omega)]
  rfl

/-- The decay at step `l` of block `n`. -/
theorem f_eq (hF : Fin3 x0 x1 x3) (n : Fin 4) (b l h : Fin 16) (k : Fin 128) (p0 p1) :
    (val_main_v39 (F := Ideal) x0 x1 (ix3 b ⟨n.val * 16 + l.val, p0⟩ ⟨h.val * 128 + k.val, p1⟩) : EReal) = (((dat x0 x1 x3 (h.val / 2)).F b.val (tk n l) (col (h.val % 2) k) : ℝ) : EReal) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_cst_2, val_main_cst_3, val_main_cst_4, val_main_v7, val_main_v2, val_main_v1, val_main_v0]
  rw [px_eq 1 n b l h k (by omega), weight_eq]
  refine Eq.trans ?_ (gate_dat x0 x1 x3 hF (h.val / 2) b.val (by omega) (tk n l) (col (h.val % 2) k)).2
  have hc : (⟨h.val * 128 + k.val, p1⟩ : Fin 2048) = cx (h.val / 2) (col (h.val % 2) k) := by
    unfold cx col
    apply Fin.ext
    dsimp only
    omega
  rw [hc]
  rfl

theorem l_eq (hF : Fin3 x0 x1 x3) (n : Fin 4) (b l h : Fin 16) (k : Fin 128) :
    (val_main_v53 (F := Ideal) x0 x1 (ix5 n b l h k) : EReal) = (((dat x0 x1 x3 (h.val / 2)).L b.val (h.val % 2) n l k : ℝ) : EReal) := by
  pointwise [val_main_v53, val_main_v52, val_main_v45, val_main_v40]
  rw [f_eq x0 x1 x3 hF]
  exact log_coe _ (gate_dat x0 x1 x3 hF (h.val / 2) b.val (by omega) _ _).1

theorem k_eq (hF : Fin3 x0 x1 x3) (n : Fin 4) (b l h : Fin 16) (k : Fin 128) :
    (val_main_v55 (F := Ideal) x0 x1 (ix5 n b l h k) : EReal) = (((dat x0 x1 x3 (h.val / 2)).K b.val (h.val % 2) n l k : ℝ) : EReal) := by
  pointwise [val_main_v55, val_main_v54, val_main_v46, val_main_v42, val_main_v41, val_main_cst_5]
  rw [f_eq x0 x1 x3 hF, ← EReal.coe_one, ← EReal.coe_sub]
  rfl

/-- The outputs of block `n` from the state before it. -/
def outN (n : ℕ) (hs : S4x16x16x16x128.Slices ![n, 0, 0, 0, 0] S1x16x16x16x128) (s : FVec Ideal S16x16x128x128 .f32) : FVec Ideal S16x16x16x128 .f32 :=
  blkO (opd n hs (val_main_v51 (F := Ideal) x0)) (cumW (opd n hs (val_main_v53 (F := Ideal) x0 x1))) (opd n hs (val_main_v55 (F := Ideal) x0 x1))
    (opd n hs (val_main_v57 (F := Ideal) x0)) s
/-- The state after block `n` from the state before it. -/
def stN (n : ℕ) (hs : S4x16x16x16x128.Slices ![n, 0, 0, 0, 0] S1x16x16x16x128) (s : FVec Ideal S16x16x128x128 .f32) : FVec Ideal S16x16x128x128 .f32 :=
  blkS (cumW (opd n hs (val_main_v53 (F := Ideal) x0 x1))) (opd n hs (val_main_v55 (F := Ideal) x0 x1)) (opd n hs (val_main_v57 (F := Ideal) x0)) s

/-- The state before block `n`, entry `(k, d)` of head `h` of sequence `b`, as a real number. -/
def stR (n : ℕ) (b h : Fin 16) (d k : Fin 128) : ℝ :=
  let D := dat x0 x1 x3 (h.val / 2)
  refS (D.K b.val (h.val % 2)) (D.L b.val (h.val % 2)) (D.Vh b.val (h.val % 2) d) (D.Sh b.val (h.val % 2) d) n k
/-- The output of step `l` of block `n`, column `d` of head `h` of sequence `b`, as a real number. -/
def outR (n : ℕ) (b h : Fin 16) (d : Fin 128) (l : Fin 16) : ℝ :=
  let D := dat x0 x1 x3 (h.val / 2)
  refO (D.Qh b.val (h.val % 2)) (D.K b.val (h.val % 2)) (D.L b.val (h.val % 2)) (D.Vh b.val (h.val % 2) d) (D.Sh b.val (h.val % 2) d) n l

section
variable (hF : Fin3 x0 x1 x3) (n : ℕ) (hn : n < 4) (hs : S4x16x16x16x128.Slices ![n, 0, 0, 0, 0] S1x16x16x16x128)
include hF hn

theorem cumN (b l h : Fin 16) (k : Fin 128) :
    (cumW (opd n hs (val_main_v53 (F := Ideal) x0 x1)) (ix4 b l h k) : EReal) = ((cum ((dat x0 x1 x3 (h.val / 2)).L b.val (h.val % 2)) n l k : ℝ) : EReal) := by
  rw [cumW_eq]
  unfold cum
  rw [← coe_sum]
  refine Finset.sum_congr rfl fun m _ => ?_
  rw [opd_eq n hn, l_eq x0 x1 x3 hF]
  by_cases hm : m ≤ l
  · rw [if_pos hm, if_pos hm]
  · rw [if_neg hm, if_neg hm]; rfl

variable (s : FVec Ideal S16x16x128x128 .f32) (h1 : ∀ b h k d, (s (ix4 b h k d) : EReal) = ((stR x0 x1 x3 n b h d k : ℝ) : EReal))
include h1

theorem stN_eq (b h : Fin 16) (k d : Fin 128) : (stN x0 x1 n hs s (ix4 b h k d) : EReal) = ((stR x0 x1 x3 (n + 1) b h d k : ℝ) : EReal) := by
  unfold stN stR
  exact blkS_eq _ _ _ _ _ _ _ _ n b h d (fun l x => cumN x0 x1 x3 hF n hn hs b l h x)
    (fun l x => (opd_eq n hn hs _ b l h x).trans (k_eq x0 x1 x3 hF ⟨n, hn⟩ b l h x))
    (fun l => (opd_eq n hn hs _ b l h d).trans (v_eq x0 x1 x3 hF ⟨n, hn⟩ b l h d)) (fun x => h1 b h x d) k

theorem outN_eq (b l h : Fin 16) (d : Fin 128) : (outN x0 x1 n hs s (ix4 b l h d) : EReal) = ((outR x0 x1 x3 n b h d l : ℝ) : EReal) := by
  unfold outN outR
  exact blkO_eq _ _ _ _ _ _ _ _ _ _ n b h d (fun l x => (opd_eq n hn hs _ b l h x).trans (q_eq x0 x1 x3 hF ⟨n, hn⟩ b l h x))
    (fun l x => cumN x0 x1 x3 hF n hn hs b l h x)
    (fun l x => (opd_eq n hn hs _ b l h x).trans (k_eq x0 x1 x3 hF ⟨n, hn⟩ b l h x))
    (fun l => (opd_eq n hn hs _ b l h d).trans (v_eq x0 x1 x3 hF ⟨n, hn⟩ b l h d)) (fun x => h1 b h x d) l
end

section
variable (hF : Fin3 x0 x1 x3)
include hF

/-- The state the recurrence starts from. -/
theorem state0 (b h : Fin 16) (k d : Fin 128) : (x3 (ix4 b h k d) : EReal) = ((stR x0 x1 x3 0 b h d k : ℝ) : EReal) := by
  refine Eq.trans (congrArg x3 ?_) (s_dat x0 x1 x3 hF (h.val / 2) (2 * b.val + h.val % 2) k d)
  unfold sx
  congr 1 <;> apply Fin.ext <;> dsimp only <;> omega
theorem state1 (b h : Fin 16) (k d : Fin 128) : (val_main_v91 (F := Ideal) x0 x1 x3 (ix4 b h k d) : EReal) = ((stR x0 x1 x3 1 b h d k : ℝ) : EReal) :=
  stN_eq x0 x1 x3 hF 0 (by omega) slices_S4x16x16x16x128_S1x16x16x16x128_0_0_0_0_0 _ (state0 x0 x1 x3 hF) b h k d
theorem state2 (b h : Fin 16) (k d : Fin 128) : (val_main_v125 (F := Ideal) x0 x1 x3 (ix4 b h k d) : EReal) = ((stR x0 x1 x3 2 b h d k : ℝ) : EReal) :=
  stN_eq x0 x1 x3 hF 1 (by omega) slices_S4x16x16x16x128_S1x16x16x16x128_1_0_0_0_0 _ (state1 x0 x1 x3 hF) b h k d
theorem state3 (b h : Fin 16) (k d : Fin 128) : (val_main_v159 (F := Ideal) x0 x1 x3 (ix4 b h k d) : EReal) = ((stR x0 x1 x3 3 b h d k : ℝ) : EReal) :=
  stN_eq x0 x1 x3 hF 2 (by omega) slices_S4x16x16x16x128_S1x16x16x16x128_2_0_0_0_0 _ (state2 x0 x1 x3 hF) b h k d
/-- The state after the last block. -/
theorem state4 (b h : Fin 16) (k d : Fin 128) : (val_main_v193 (F := Ideal) x0 x1 x3 (ix4 b h k d) : EReal) = ((stR x0 x1 x3 4 b h d k : ℝ) : EReal) :=
  stN_eq x0 x1 x3 hF 3 (by omega) slices_S4x16x16x16x128_S1x16x16x16x128_3_0_0_0_0 _ (state3 x0 x1 x3 hF) b h k d

/-- The outputs of all four blocks, put together. -/
theorem out_eq (n : Fin 4) (b l h : Fin 16) (d : Fin 128) (p) :
    (val_main_v200 (F := Ideal) x0 x1 x3 (ix4 b ⟨16 * n.val + l.val, p⟩ h d) : EReal) = ((outR x0 x1 x3 n b h d l : ℝ) : EReal) := by
  have e0 : (val_main_v85 (F := Ideal) x0 x1 x3 (ix4 b l h d) : EReal) = _ :=
    outN_eq x0 x1 x3 hF 0 (by omega) slices_S4x16x16x16x128_S1x16x16x16x128_0_0_0_0_0 _ (state0 x0 x1 x3 hF) b l h d
  have e1 : (val_main_v119 (F := Ideal) x0 x1 x3 (ix4 b l h d) : EReal) = _ :=
    outN_eq x0 x1 x3 hF 1 (by omega) slices_S4x16x16x16x128_S1x16x16x16x128_1_0_0_0_0 _ (state1 x0 x1 x3 hF) b l h d
  have e2 : (val_main_v153 (F := Ideal) x0 x1 x3 (ix4 b l h d) : EReal) = _ :=
    outN_eq x0 x1 x3 hF 2 (by omega) slices_S4x16x16x16x128_S1x16x16x16x128_2_0_0_0_0 _ (state2 x0 x1 x3 hF) b l h d
  have e3 : (val_main_v187 (F := Ideal) x0 x1 x3 (ix4 b l h d) : EReal) = _ :=
    outN_eq x0 x1 x3 hF 3 (by omega) slices_S4x16x16x16x128_S1x16x16x16x128_3_0_0_0_0 _ (state3 x0 x1 x3 hF) b l h d
  pointwise [val_main_v200, val_main_v199, val_main_v198, val_main_v197, val_main_v196, val_main_v195, val_main_v194]
  rw [e0, e1, e2, e3]
  match n with
  | 0 => rfl
  | 1 => rfl
  | 2 => rfl
  | 3 => rfl
end

end Cert.HgrnProof.Ref
-- ==== Proof.Hgrn.lean ====
module

public import proofs.«01_k».proof.Defs
public import proofs.«01_k».proof.Proof.HgrnFlow
public import Idealize.ShloMosaic.Lib.ReduceAll

/-! The recurrence's kernel and its reference compute the same results. -/

@[expose] public section

set_option maxRecDepth 16384

open Idealize.ShloMosaic Idealize.ShloMosaic.TcCoe Idealize.SL.Sem

noncomputable section

namespace Cert.HgrnProof.Ref
open Cert.HgrnRefIdeal Cert.HgrnRefIdeal.Gen Cert.HgrnRefIdeal.Read
open scoped BigOperators

variable (x0 : FVec Ideal S60x1024x256 .bf16) (x1 : FVec Ideal S2x2048 .f32) (x2 : FVec Ideal S1x2048 .f32) (x3 : FVec Ideal S16x16x128x128 .f32)

/-- The output of a step of a head `2 * g + e`, as the real number the kernel's is. -/
theorem outR_head (g : Fin 8) (n e b : ℕ) (he : e < 2) (hb : b < 16) (l : Fin 16) (d : Fin 128) (p) :
    outR x0 x1 x3 n ⟨b, hb⟩ ⟨2 * g.val + e, p⟩ d l = In.oh (dat x0 x1 x3 g.val) b e n l d := by
  unfold outR In.oh
  have h1 : (2 * g.val + e) / 2 = g.val := by omega
  have h2 : (2 * g.val + e) % 2 = e := by omega
  simp only [h1, h2]

/-- The reference's result at column `128 * e + d` of group `g`, step `16 * n + l` of sequence `b`. -/
theorem y_eq (hF : Fin3 x0 x1 x3) (g : Fin 8) (n : Fin 4) (e : Fin 2) (b l : Fin 16) (d : Fin 128) (p0 p1) :
    (val_main_v221 (F := Ideal) x0 x1 x2 x3 (ix3 g ⟨64 * b.val + (16 * n.val + l.val), p0⟩ ⟨128 * e.val + d.val, p1⟩) : EReal) =
      ((In.oh (dat x0 x1 x3 g.val) b.val e.val n.val l d : ℝ) : EReal) * Ideal.rsqrt (Ideal.div (∑ x : Fin 128, ((In.oh (dat x0 x1 x3 g.val) b.val e.val n.val l x * In.oh (dat x0 x1 x3 g.val) b.val e.val n.val l x : ℝ) : EReal))
        (Ideal.ofBits FTy.f32 1124073472#32) + Ideal.ofBits FTy.f32 897988541#32) *
      (x0 (px (36 + g.val) b.val (tk n l) (col e d)) * Ideal.logistic (x0 (px (36 + g.val) b.val (tk n l) (col e d))) * x2 (ix2 0 (cx g.val (col e d)))) := by
  pointwise [val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_call11_v5, val_main_call11_v4, val_main_call11_v3, val_main_call11_v2, val_main_call11_v1, val_main_call11_v0, val_main_call11_cst, val_main_call11_cst_0, val_main_cst_10, val_main_cst_11, val_main_cst_12, val_main_v9, val_main_v2, val_main_v1, val_main_v0]
  have i0 : ∀ p, (⟨(64 * b.val + (16 * n.val + l.val)) % 64, p⟩ : Fin 64) = ⟨16 * n.val + l.val, by omega⟩ := fun p => Fin.ext (by dsimp only; omega)
  have i1 : ∀ p, (⟨(g.val * 256 + (128 * e.val + d.val)) / 128, p⟩ : Fin 16) = ⟨2 * g.val + e.val, by omega⟩ := fun p => Fin.ext (by dsimp only; omega)
  have i2 : ∀ p, (⟨(g.val * 256 + (128 * e.val + d.val)) / 128 * 128 + d.val, p⟩ : Fin 2048) = cx g.val (col e d) := fun p => by
    unfold cx col; apply Fin.ext; dsimp only; omega
  have i3 : ∀ p q r, (ix3 ⟨(9216 + (g.val * 256 + (128 * e.val + d.val))) / 256, p⟩ ⟨b.val * 64 + (64 * b.val + (16 * n.val + l.val)) % 64, q⟩
      ⟨(9216 + (g.val * 256 + (128 * e.val + d.val))) % 256, r⟩ : S60x1024x256.Idx) = px (36 + g.val) b.val (tk n l) (col e d) := fun p q r => by
    unfold px tk col
    congr 1 <;> apply Fin.ext <;> dsimp only <;> omega
  simp only [i0, i1, i2, i3, out_eq x0 x1 x3 hF]
  have o : ∀ x, outR x0 x1 x3 n.val b ⟨2 * g.val + e.val, by omega⟩ x l = In.oh (dat x0 x1 x3 g.val) b.val e.val n.val l x := fun x =>
    outR_head x0 x1 x3 g n.val e.val b.val e.isLt b.isLt l x _
  simp only [o, ← EReal.coe_mul]
  rw [mul_assoc _ (x2 _), mul_comm (x2 _)]
  rfl

/-- The reference's last state. -/
theorem s_eq (hF : Fin3 x0 x1 x3) (g : Fin 8) (e : Fin 2) (b : Fin 16) (k d : Fin 128) (p) :
    (val_main_v193 (F := Ideal) x0 x1 x3 (ix4 b ⟨2 * g.val + e.val, p⟩ k d) : EReal) =
      ((refS ((dat x0 x1 x3 g.val).K b.val e.val) ((dat x0 x1 x3 g.val).L b.val e.val) ((dat x0 x1 x3 g.val).Vh b.val e.val d) ((dat x0 x1 x3 g.val).Sh b.val e.val d) 4 k : ℝ) : EReal) := by
  rw [state4 x0 x1 x3 hF]
  unfold stR
  have h1 : (2 * g.val + e.val) / 2 = g.val := by omega
  have h2 : (2 * g.val + e.val) % 2 = e.val := by omega
  simp only [h1, h2]

end Cert.HgrnProof.Ref

namespace Cert.HgrnProof
open Cert.HgrnIdeal Cert.HgrnIdeal.Gen Cert.HgrnIdeal.Value
open scoped BigOperators

/-- An extended real number whose absolute value lies below infinity is a real number. -/
theorem real_of_lt (x : EReal) (h : Ideal.cmp .olt (max x (-x)) (Ideal.ofBits .f32 0x7F800000#32) = 1#1) : ∃ y : ℝ, x = (y : EReal) := by
  have ht : Ideal.ofBits .f32 0x7F800000#32 = ⊤ := by simp [Ideal.ofBits, Ideal.ieee]
  rw [ht] at h
  have hlt : max x (-x) < ⊤ := by
    unfold Ideal.cmp at h
    by_contra hn
    simp [hn] at h
  induction x with
  | bot => simp at hlt
  | top => simp at hlt
  | coe y => exact ⟨y, rfl⟩

instance : Subsingleton (Cert.Pre_finite_recurrence.S_).Idx := ⟨fun a b => funext fun i => i.elim0⟩

/-- What the precondition says of the argument arrays. -/
theorem fin_of_pre [Cert.Pre_finite_recurrence.Facts] (m : (ℓ : Loc nD τ sig) → Buf (Elt Ideal) ℓ) (h : Cert.Pre_HgrnIdeal_finite_recurrence m) (c : Dev nD) :
    Fin3 (m ((c : Thread nD τ).loc main_arg0)) (m ((c : Thread nD τ).loc main_arg1)) (m ((c : Thread nD τ).loc main_arg3)) := by
  have e := congrFun (h c) ix0
  unfold Cert.Pre_finite_recurrence.fn at e
  dsimp only at e
  obtain ⟨e01, e2⟩ := IntOp.andi_eq_one.1 e
  obtain ⟨e0, e1⟩ := IntOp.andi_eq_one.1 e01
  refine ⟨fun n hn hn' b t j => ?_, fun i => real_of_lt _ (Host.reduce_andi_all _ _ _ _ _ e1 i), fun i => real_of_lt _ (Host.reduce_andi_all _ _ _ _ _ e2 i)⟩
  have h0 := Host.reduce_andi_all _ _ _ _ _ e0 (ix3 ⟨n - 12, by omega⟩ ⟨(64 * b + t.val) % 1024, Nat.mod_lt _ (by norm_num)⟩ j)
  obtain ⟨y, hy⟩ := real_of_lt _ h0
  refine ⟨y, Eq.trans (congrArg _ (funext fun a => Fin.ext ?_)) hy⟩
  match a with
  | ⟨0, _⟩ => show n % 60 = 12 + (n - 12); omega
  | ⟨1, _⟩ => show (64 * b + t.val) % 1024 = 0 + (64 * b + t.val) % 1024; omega
  | ⟨2, _⟩ => show j.val = 0 + j.val; omega

variable (m : (ℓ : Loc nD τ sig) → Buf (Elt Ideal) ℓ) (c : Dev nD)

/-- An entry of the kernel's first result is the reference's. -/
theorem y_same (hF : Fin3 (m ((c : Thread nD τ).loc main_arg0)) (m ((c : Thread nD τ).loc main_arg1)) (m ((c : Thread nD τ).loc main_arg3)))
    (g : Fin 8) (n : Fin 4) (e : Fin 2) (b l : Fin 16) (d : Fin 128) (p0 p1) :
    (dats m 0 c).arrAt 10 cfg0.N (ix3 g ⟨64 * b.val + (16 * n.val + l.val), p0⟩ ⟨128 * e.val + d.val, p1⟩) =
      Cert.HgrnRefIdeal.Read.val_main_v221 (F := Ideal) (m ((c : Thread nD τ).loc main_arg0)) (m ((c : Thread nD τ).loc main_arg1))
        (m ((c : Thread nD τ).loc main_arg2)) (m ((c : Thread nD τ).loc main_arg3)) (ix3 g ⟨64 * b.val + (16 * n.val + l.val), p0⟩ ⟨128 * e.val + d.val, p1⟩) := by
  have hN := N8
  refine Eq.trans ?_ (Ref.y_eq _ _ _ _ hF g n e b l d p0 p1).symm
  have ht : g.val < cfg0.N := by omega
  have hr : (tk n l).val = 16 * n.val + l.val := by show (16 * n.val + l.val) % 64 = _; omega
  have hj : (col e d).val = 128 * e.val + d.val := by show 128 * (e.val % 2) + d.val = _; omega
  have hi : (ix3 g ⟨64 * b.val + (16 * n.val + l.val), p0⟩ ⟨128 * e.val + d.val, p1⟩ : S8x1024x256.Idx) =
      ix3 ⟨g.val, by omega⟩ ⟨64 * b.val + (tk n l).val, by omega⟩ (col e d) := by
    congr 1 <;> apply Fin.ext
    · show _ = 64 * b.val + (tk n l).val; rw [hr]
    · exact hj.symm
  rw [hi, arr_y m c ⟨g.val, ht⟩ b.val b.isLt (tk n l) (col e d),
    In.y_eq _ _ (pt_is m c ⟨g.val, ht⟩ hF) _ _ b.val b.isLt n.val n.isLt l e.val e.isLt d, pt_og m c ⟨g.val, ht⟩ b.val b.isLt, pt_g m c ⟨g.val, ht⟩]
  have i1 : ∀ p q, (ix3 ⟨36 + g.val, p⟩ ⟨64 * b.val + (tk n l).val, q⟩ (col e d) : S60x1024x256.Idx) = px (36 + g.val) b.val (tk n l) (col e d) := fun p q => by
    unfold px
    congr 1 <;> apply Fin.ext <;> dsimp only <;> omega
  have i2 : ∀ p, (⟨256 * g.val + (col e d).val, p⟩ : Fin 2048) = cx g.val (col e d) := fun p => by
    unfold cx; apply Fin.ext; dsimp only; omega
  simp only [i1, i2]

/-- An entry of the kernel's last state is the reference's. -/
theorem s_same (hF : Fin3 (m ((c : Thread nD τ).loc main_arg0)) (m ((c : Thread nD τ).loc main_arg1)) (m ((c : Thread nD τ).loc main_arg3)))
    (g : Fin 8) (e : Fin 2) (b : Fin 16) (k d : Fin 128) (p) :
    (dats m 0 c).arrAt 11 cfg0.N (ix4 b ⟨2 * g.val + e.val, p⟩ k d) =
      Cert.HgrnRefIdeal.Read.val_main_v193 (F := Ideal) (m ((c : Thread nD τ).loc main_arg0)) (m ((c : Thread nD τ).loc main_arg1))
        (m ((c : Thread nD τ).loc main_arg3)) (ix4 b ⟨2 * g.val + e.val, p⟩ k d) := by
  have hN := N8
  refine Eq.trans ?_ (Ref.s_eq _ _ _ hF g e b k d p).symm
  have ht : g.val < cfg0.N := by omega
  have hi : (ix4 b ⟨2 * g.val + e.val, p⟩ k d : S16x16x128x128.Idx) =
      ix4 ⟨(2 * b.val + e.val) / 2, by omega⟩ ⟨2 * g.val + (2 * b.val + e.val) % 2, by omega⟩ k d := by
    congr 1 <;> apply Fin.ext <;> dsimp only <;> omega
  rw [hi, arr_s m c ⟨g.val, ht⟩ (2 * b.val + e.val) (by omega) k d]
  exact In.stNew_eq _ _ (pt_is m c ⟨g.val, ht⟩ hF) _ _ b.val e.val b.isLt e.isLt d k

/-- The kernel's first result is the reference's. -/
theorem y_all (hF : Fin3 (m ((c : Thread nD τ).loc main_arg0)) (m ((c : Thread nD τ).loc main_arg1)) (m ((c : Thread nD τ).loc main_arg3))) :
    Cert.HgrnRefIdeal.Read.val_main_v221 (F := Ideal) (m ((c : Thread nD τ).loc main_arg0)) (m ((c : Thread nD τ).loc main_arg1))
        (m ((c : Thread nD τ).loc main_arg2)) (m ((c : Thread nD τ).loc main_arg3)) = (dats m 0 c).arrAt 10 cfg0.N := by
  funext i
  obtain ⟨g, r, j, rfl⟩ : ∃ (g : Fin 8) (r : Fin 1024) (j : Fin 256), i = ix3 g r j := ⟨i 0, i 1, i 2, eq_ix3 i⟩
  have h := y_same m c hF g ⟨r.val % 64 / 16, by omega⟩ ⟨j.val / 128, by omega⟩ ⟨r.val / 64, by omega⟩ ⟨r.val % 16, by omega⟩ ⟨j.val % 128, by omega⟩
    (by dsimp only; omega) (by dsimp only; omega)
  have hr : ∀ p, (⟨64 * (r.val / 64) + (16 * (r.val % 64 / 16) + r.val % 16), p⟩ : Fin 1024) = r := fun p => Fin.ext (by dsimp only; omega)
  have hj : ∀ p, (⟨128 * (j.val / 128) + j.val % 128, p⟩ : Fin 256) = j := fun p => Fin.ext (by dsimp only; omega)
  dsimp only at h
  rw [hr, hj] at h
  exact h.symm

/-- The kernel's second result is the reference's. -/
theorem s_all (hF : Fin3 (m ((c : Thread nD τ).loc main_arg0)) (m ((c : Thread nD τ).loc main_arg1)) (m ((c : Thread nD τ).loc main_arg3))) :
    Cert.HgrnRefIdeal.Read.val_main_v193 (F := Ideal) (m ((c : Thread nD τ).loc main_arg0)) (m ((c : Thread nD τ).loc main_arg1))
        (m ((c : Thread nD τ).loc main_arg3)) = (dats m 0 c).arrAt 11 cfg0.N := by
  funext i
  obtain ⟨b, h, k, d, rfl⟩ : ∃ (b h : Fin 16) (k d : Fin 128), i = ix4 b h k d := ⟨i 0, i 1, i 2, i 3, eq_ix4 i⟩
  have e := s_same m c hF ⟨h.val / 2, by omega⟩ ⟨h.val % 2, by omega⟩ b k d (by dsimp only; omega)
  have hh : ∀ p, (⟨2 * (h.val / 2) + h.val % 2, p⟩ : Fin 16) = h := fun p => Fin.ext (by dsimp only; omega)
  dsimp only at e
  rw [hh] at e
  exact e.symm

/-- The recurrence: for finite operands the kernel and the reference end with the same outputs and the same state. -/
theorem algebraic [Cert.HgrnIdeal.Facts] [Cert.HgrnRefIdeal.Facts] [Cert.Pre_finite_recurrence.Facts] :
    Cert.algebraic_HgrnIdeal_HgrnRefIdeal_pre_finite_recurrence := by
  intro m g m' g' hpre hargs
  refine ⟨fun c => (dats m 0 c).arrAt 10 cfg0.N, fun c => (dats m 0 c).arrAt 11 cfg0.N, Value.run_blocks m g, ?_⟩
  refine (θ_run _ _ _).mono (fun r h c => ?_) (Cert.HgrnRefIdeal.Value.run m' g')
  obtain ⟨e0, e1, e2, e3⟩ := hargs c
  have q0 : StableHlo.launchContents m' c (Proc.tc.devRef Cert.HgrnRefIdeal.main_arg0) = m ((c : Thread nD τ).loc main_arg0) := e0
  have q1 : StableHlo.launchContents m' c (Proc.tc.devRef Cert.HgrnRefIdeal.main_arg1) = m ((c : Thread nD τ).loc main_arg1) := e1
  have q2 : StableHlo.launchContents m' c (Proc.tc.devRef Cert.HgrnRefIdeal.main_arg2) = m ((c : Thread nD τ).loc main_arg2) := e2
  have q3 : StableHlo.launchContents m' c (Proc.tc.devRef Cert.HgrnRefIdeal.main_arg3) = m ((c : Thread nD τ).loc main_arg3) := e3
  refine ⟨?_, ?_, (h c).2.2⟩
  · rw [(h c).1, Cert.HgrnRefIdeal.Read.val_main_v221_eq, q0, q1, q2, q3]
    exact y_all m c (fin_of_pre m hpre c)
  · rw [(h c).2.1, Cert.HgrnRefIdeal.Read.val_main_v193_eq, q0, q1, q3]
    exact s_all m c (fin_of_pre m hpre c)

/-- The named constant is the reciprocal of the logarithm of two, and packing two halves into a word loses nothing. -/
theorem preserves : Cert.preserves_Hgrn_HgrnIdeal :=
  ⟨IdealRules.named_const.statement _ _ _ _ _ rfl, IdealRules.bf16_pack.statement _⟩

end Cert.HgrnProof
-- ==== Proof.FfnSum.lean ====
module

public import proofs.«01_k».proof.Defs
public import Idealize.ShloMosaic.Lib.Pointwise

@[expose] public section

open Idealize.ShloMosaic

noncomputable section

namespace Cert.FfnSum

/-- The word of one half is the real number one half. -/
theorem half_eq : Ideal.ofBits .f32 0x3F000000#32 = (((1 : ℝ) / 2 : ℝ) : EReal) := by
  simp [Ideal.ofBits, Ideal.ieee]
  rw [← EReal.coe_mul]
  norm_num

/-- One half times a sum is the sum of the halves, whatever the summands are (infinities included). -/
theorem half_mul_sum {ι : Type} (s : Finset ι) (f : ι → EReal) :
    Ideal.ofBits .f32 0x3F000000#32 * ∑ i ∈ s, f i = ∑ i ∈ s, Ideal.ofBits .f32 0x3F000000#32 * f i := by
  classical
  rw [half_eq]
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- One hidden unit: the gate's sigmoid-weighted value times the other factor, halved. -/
def glu (a b : EReal) : EReal := a * Ideal.logistic a * b * Ideal.ofBits .f32 0x3F000000#32

/-- The hidden unit as the reference writes it, the half taken out in front. -/
theorem glu_eq (a b w : EReal) :
    Ideal.ofBits .f32 0x3F000000#32 * (a * Ideal.div 1 (1 + Ideal.exp (-a)) * b * w) = glu a b * w := by
  show _ * (a * Ideal.logistic a * b * w) = _
  unfold glu
  rw [mul_comm (a * Ideal.logistic a * b) (Ideal.ofBits .f32 0x3F000000#32), mul_assoc (Ideal.ofBits .f32 0x3F000000#32)]

/-- The sum over the first `n + 512` units, the last 512 in two halves. -/
theorem range_step (f : ℕ → EReal) (n : ℕ) :
    ∑ k ∈ Finset.range (n + 512), f k
      = ∑ k ∈ Finset.range n, f k + (∑ e : Fin 256, f (n + (0 + e.val)) + ∑ e : Fin 256, f (n + (256 + e.val))) := by
  rw [Fin.sum_univ_eq_sum_range (fun e => f (n + (0 + e))) 256, Fin.sum_univ_eq_sum_range (fun e => f (n + (256 + e))) 256,
    Finset.sum_range_add f n 512, show 512 = 256 + 256 from rfl, Finset.sum_range_add (fun k => f (n + k)) 256 256]
  simp only [Nat.zero_add]

end Cert.FfnSum
-- ==== Proof.Ffn1.lean ====
module

public import proofs.«01_k».proof.Defs
public import proofs.«01_k».proof.Proof.FfnSum
public import proofs.«01_k».proof.Proof.Gen.Ffn1Ideal.Value
public import proofs.«01_k».proof.Proof.Gen.Ffn1RefIdeal.Run
public import proofs.«01_k».proof.Proof.Gen.Ffn1RefIdeal.Read
public import Idealize.ShloMosaic.Lib.Pointwise

@[expose] public section
set_option maxRecDepth 16384
open Idealize.ShloMosaic Idealize.ShloMosaic.TcCoe Idealize.SL.Sem
open Idealize.ShloMosaic.Pipeline (Dat)
noncomputable section
namespace Cert.Ffn1Proof
open Cert.Ffn1Ideal Cert.Ffn1Ideal.Gen Cert.Ffn1Ideal.Value Cert.FfnSum
variable (m : (ℓ : Loc nD τ sig) → Buf (Elt Ideal) ℓ)

theorem hz : (![0, 0] : Fin 2 → Nat) = fun _ => 0 := funext fun a => by fin_cases a <;> rfl

/-- What 256 hidden units, those from unit `o` of a block of 512, contribute to entry `j` of the result. -/
def part (h : Vec Ideal S1024x2048 .bf16) (wg wu : Vec Ideal S2048x512 .bf16) (wd : Vec Ideal S512x2048 .bf16)
    (o : ℕ) (ho : o + 256 ≤ 512) (j : S1024x2048.Idx) : EReal :=
  ∑ e : Fin 256, glu (∑ d : Fin 2048, h (ix2 (j 0) d) * wg (ix2 d ⟨o + e.val, by omega⟩))
    (∑ d : Fin 2048, h (ix2 (j 0) d) * wu (ix2 d ⟨o + e.val, by omega⟩)) * wd (ix2 ⟨o + e.val, by omega⟩ (j 1))

/-- One grid point adds the contribution of its 512 hidden units to the running result. -/
def step (h : Vec Ideal S1024x2048 .bf16) (wg wu : Vec Ideal S2048x512 .bf16) (wd : Vec Ideal S512x2048 .bf16)
    (o : Vec Ideal S1024x2048 .f32) : Vec Ideal S1024x2048 .f32 := fun j =>
  o j + (part h wg wu wd 0 (by omega) j + part h wg wu wd 256 (by omega) j)

theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : ¬cond0_0 i) (x : Vec Ideal S1024x2048 .f32) (g : Vec Ideal S1x2048 .f32) (wg wu : Vec Ideal S2048x512 .bf16)
    (wd : Vec Ideal S512x2048 .bf16) (g' : Vec Ideal S1x2048 .f32) (o : Vec Ideal S1024x2048 .f32) (h : Vec Ideal S1024x2048 .bf16) :
    out0_B_6 c i a2 h2 a3 h3 a4 h4 a5 h5 a6 h6 a7 h7 a8 h8 a9 h9 hc x g wg wu wd g' o h = step h wg wu wd o := by
  funext j
  unfold out0_B_6
  rw [View.read_writes_eq_canon _ _ _ (cover0_B_6 c i a2 h2 a3 h3 a4 h4 a5 h5 a6 h6 a7 h7 a8 h8 a9 h9 hc x g wg wu wd g' o h)]
  unfold kernelRun0_B
  dsimp only
  sl_unfold_words
  rw [View.canon_unit_zero hz]
  simp only [View.readAt_eq_ld, h4.read_unread, h5.read_unread, h6.read_unread, h8.read_unread, h9.read_unread, View.ld_unit_zero (S := S1024x2048) hz]
  unfold step part glu
  pointwise [k0_pay1, k0_pay4, k0_pay5, k0_pay6]

theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : cond0_0 i) (x : Vec Ideal S1024x2048 .f32) (g : Vec Ideal S1x2048 .f32) (wg wu : Vec Ideal S2048x512 .bf16)
    (wd : Vec Ideal S512x2048 .bf16) (g' : Vec Ideal S1x2048 .f32) :
    out0_A_6 c i a2 h2 a3 h3 a4 h4 a5 h5 a6 h6 a7 h7 a8 h8 a9 h9 hc x g wg wu wd g' = step (k0_pay3 x g) wg wu wd x := by
  funext j
  unfold out0_A_6
  rw [View.read_writes_eq_canon _ _ _ (cover0_A_6 c i a2 h2 a3 h3 a4 h4 a5 h5 a6 h6 a7 h7 a8 h8 a9 h9 hc x g wg wu wd g')]
  unfold kernelRun0_A
  dsimp only
  sl_unfold_words
  rw [View.canon_cons_unit_zero hz]
  simp only [View.readCov_unit_zero (S := S1024x2048) _ hz, View.readAt_eq_ld, h2.read_unread, h3.read_unread, h4.read_unread, h5.read_unread, h6.read_unread, View.ld_unit_zero (S := S1024x2048) hz, View.ld_unit_zero (S := S1x2048) hz]
  generalize k0_pay3 x g = h
  unfold step part glu
  pointwise [k0_pay1, k0_pay2, k0_pay4, k0_pay5, k0_pay6]

theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : cond0_0 i) (x : Vec Ideal S1024x2048 .f32) (g : Vec Ideal S1x2048 .f32) (wg wu : Vec Ideal S2048x512 .bf16)
    (wd : Vec Ideal S512x2048 .bf16) (g' : Vec Ideal S1x2048 .f32) :
    sout0_A_0 c i a2 h2 a3 h3 a4 h4 a5 h5 a6 h6 a7 h7 a8 h8 a9 h9 hc x g wg wu wd g' = k0_pay3 x g := by
  unfold sout0_A_0
  rw [View.read_writes_eq_canon _ _ _ (scover0_A_0 c i a2 h2 a3 h3 a4 h4 a5 h5 a6 h6 a7 h7 a8 h8 a9 h9 hc x g wg wu wd g')]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The rows, the two first factors' weights and the last factor's, as the host hands them to the kernel. -/
abbrev rows (c : Dev nD) : Vec Ideal S1024x2048 .f32 := shapeCast S1024x2048 (m ((c : Thread nD τ).loc main_arg0)) shapeCasts_S16x64x2048_S1024x2048
abbrev wgate (c : Dev nD) : FVec Ideal S2048x5632 .bf16 := truncf .bf16 (shapeCast S2048x5632 (m ((c : Thread nD τ).loc main_arg2)) shapeCasts_S1x2048x5632_S2048x5632 : FVec Ideal S2048x5632 .f32) bitsLt_bf16_f32
abbrev wup (c : Dev nD) : FVec Ideal S2048x5632 .bf16 := truncf .bf16 (shapeCast S2048x5632 (m ((c : Thread nD τ).loc main_arg3)) shapeCasts_S1x2048x5632_S2048x5632 : FVec Ideal S2048x5632 .f32) bitsLt_bf16_f32
abbrev wdown (c : Dev nD) : FVec Ideal S5632x2048 .bf16 := truncf .bf16 (shapeCast S5632x2048 (m ((c : Thread nD τ).loc main_arg4)) shapeCasts_S1x5632x2048_S5632x2048 : FVec Ideal S5632x2048 .f32) bitsLt_bf16_f32

theorem V_rows (c : Dev nD) : V m c main_v0 = rows m c := rfl
theorem V_wgate (c : Dev nD) : V m c main_v2 = wgate m c := rfl
theorem V_wup (c : Dev nD) : V m c main_v4 = wup m c := rfl
theorem V_wdown (c : Dev nD) : V m c main_v6 = wdown m c := rfl

theorem iblk_x (c : Dev nD) (t : Fin cfg0.N) : iblk m c 0 t = rows m c := by
  funext j
  have e : ∀ t : Fin cfg0.N, win0_0.index t (0 : Fin 2) = 0 ∧ win0_0.index t (1 : Fin 2) = 0 := by decide +kernel
  unfold iblk
  rw [View.read_apply]
  show V m c main_v0 _ = _
  rw [V_rows]
  congr 1
  funext a
  apply Fin.ext
  obtain ⟨e0, e1⟩ := e t
  match a with
  | ⟨0, _⟩ => show win0_0.index t 0 * 1024 + 1 * (j 0).val = (j 0).val; omega
  | ⟨1, _⟩ => show win0_0.index t 1 * 2048 + 1 * (j 1).val = (j 1).val; omega

theorem iblk_g (c : Dev nD) (t : Fin cfg0.N) : iblk m c 1 t = m ((c : Thread nD τ).loc main_arg1) := by
  funext j
  have e : ∀ t : Fin cfg0.N, win0_1.index t (0 : Fin 2) = 0 ∧ win0_1.index t (1 : Fin 2) = 0 := by decide +kernel
  unfold iblk
  rw [View.read_apply]
  show V m c main_arg1 _ = _
  rw [V_main_arg1]
  congr 1
  funext a
  apply Fin.ext
  obtain ⟨e0, e1⟩ := e t
  match a with
  | ⟨0, _⟩ => show win0_1.index t 0 * 1 + 1 * (j 0).val = (j 0).val; omega
  | ⟨1, _⟩ => show win0_1.index t 1 * 2048 + 1 * (j 1).val = (j 1).val; omega

/-- Point `t` sees columns `512 t` to `512 t + 511` of the gate's weights. -/
theorem iblk_wgate (c : Dev nD) (t : Fin cfg0.N) (d : Fin 2048) (k : Fin 512) (hk : 512 * t.val + k.val < 5632) :
    iblk m c 2 t (ix2 d k) = wgate m c (ix2 d ⟨512 * t.val + k.val, hk⟩) := by
  have e : ∀ t : Fin cfg0.N, win0_2.index t (0 : Fin 2) = 0 ∧ win0_2.index t (1 : Fin 2) = t.val := by decide +kernel
  unfold iblk
  rw [View.read_apply]
  show V m c main_v2 _ = _
  rw [V_wgate]
  congr 1
  funext a
  apply Fin.ext
  obtain ⟨e0, e1⟩ := e t
  match a with
  | ⟨0, _⟩ => show win0_2.index t 0 * 2048 + 1 * d.val = d.val; omega
  | ⟨1, _⟩ => show win0_2.index t 1 * 512 + 1 * k.val = 512 * t.val + k.val; omega

theorem iblk_wup (c : Dev nD) (t : Fin cfg0.N) (d : Fin 2048) (k : Fin 512) (hk : 512 * t.val + k.val < 5632) :
    iblk m c 3 t (ix2 d k) = wup m c (ix2 d ⟨512 * t.val + k.val, hk⟩) := by
  have e : ∀ t : Fin cfg0.N, win0_3.index t (0 : Fin 2) = 0 ∧ win0_3.index t (1 : Fin 2) = t.val := by decide +kernel
  unfold iblk
  rw [View.read_apply]
  show V m c main_v4 _ = _
  rw [V_wup]
  congr 1
  funext a
  apply Fin.ext
  obtain ⟨e0, e1⟩ := e t
  match a with
  | ⟨0, _⟩ => show win0_3.index t 0 * 2048 + 1 * d.val = d.val; omega
  | ⟨1, _⟩ => show win0_3.index t 1 * 512 + 1 * k.val = 512 * t.val + k.val; omega

/-- Point `t` sees rows `512 t` to `512 t + 511` of the last factor's weights. -/
theorem iblk_wdown (c : Dev nD) (t : Fin cfg0.N) (k : Fin 512) (d : Fin 2048) (hk : 512 * t.val + k.val < 5632) :
    iblk m c 4 t (ix2 k d) = wdown m c (ix2 ⟨512 * t.val + k.val, hk⟩ d) := by
  have e : ∀ t : Fin cfg0.N, win0_4.index t (0 : Fin 2) = t.val ∧ win0_4.index t (1 : Fin 2) = 0 := by decide +kernel
  unfold iblk
  rw [View.read_apply]
  show V m c main_v6 _ = _
  rw [V_wdown]
  congr 1
  funext a
  apply Fin.ext
  obtain ⟨e0, e1⟩ := e t
  match a with
  | ⟨0, _⟩ => show win0_4.index t 0 * 512 + 1 * k.val = 512 * t.val + k.val; omega
  | ⟨1, _⟩ => show win0_4.index t 1 * 2048 + 1 * d.val = d.val; omega

/-- What hidden unit `k` contributes to entry `j` of the result. -/
def unit (h : Vec Ideal S1024x2048 .bf16) (wg wu : Vec Ideal S2048x5632 .bf16) (wd : Vec Ideal S5632x2048 .bf16)
    (j : S1024x2048.Idx) (k : ℕ) : EReal :=
  if hk : k < 5632 then
    glu (∑ d : Fin 2048, h (ix2 (j 0) d) * wg (ix2 d ⟨k, hk⟩)) (∑ d : Fin 2048, h (ix2 (j 0) d) * wu (ix2 d ⟨k, hk⟩)) * wd (ix2 ⟨k, hk⟩ (j 1))
  else 0

/-- Half a block of weights that holds the units from `512 n` on contributes those 256 hidden units. -/
theorem part_eq (h : Vec Ideal S1024x2048 .bf16) (wg wu : Vec Ideal S2048x5632 .bf16) (wd : Vec Ideal S5632x2048 .bf16)
    (bg bu : Vec Ideal S2048x512 .bf16) (bd : Vec Ideal S512x2048 .bf16) (n : ℕ) (hn : n < 11)
    (eg : ∀ (d : Fin 2048) (k : Fin 512) (hk : 512 * n + k.val < 5632), bg (ix2 d k) = wg (ix2 d ⟨512 * n + k.val, hk⟩))
    (eu : ∀ (d : Fin 2048) (k : Fin 512) (hk : 512 * n + k.val < 5632), bu (ix2 d k) = wu (ix2 d ⟨512 * n + k.val, hk⟩))
    (ed : ∀ (k : Fin 512) (d : Fin 2048) (hk : 512 * n + k.val < 5632), bd (ix2 k d) = wd (ix2 ⟨512 * n + k.val, hk⟩ d))
    (o : ℕ) (ho : o + 256 ≤ 512) (j : S1024x2048.Idx) :
    part h bg bu bd o ho j = ∑ e : Fin 256, unit h wg wu wd j (512 * n + (o + e.val)) := by
  unfold part
  refine Finset.sum_congr rfl fun e _ => ?_
  have he := e.isLt
  have hk : 512 * n + (o + e.val) < 5632 := by omega
  unfold unit
  rw [dif_pos hk, ed ⟨o + e.val, by omega⟩ (j 1) hk]
  simp only [eg _ ⟨o + e.val, by omega⟩ hk, eu _ ⟨o + e.val, by omega⟩ hk]

/-- A point whose weights are the units from `512 n` on extends the sum of contributions by its 512 units. -/
theorem step_eq (h : Vec Ideal S1024x2048 .bf16) (wg wu : Vec Ideal S2048x5632 .bf16) (wd : Vec Ideal S5632x2048 .bf16)
    (bg bu : Vec Ideal S2048x512 .bf16) (bd : Vec Ideal S512x2048 .bf16) (n : ℕ) (hn : n < 11)
    (eg : ∀ (d : Fin 2048) (k : Fin 512) (hk : 512 * n + k.val < 5632), bg (ix2 d k) = wg (ix2 d ⟨512 * n + k.val, hk⟩))
    (eu : ∀ (d : Fin 2048) (k : Fin 512) (hk : 512 * n + k.val < 5632), bu (ix2 d k) = wu (ix2 d ⟨512 * n + k.val, hk⟩))
    (ed : ∀ (k : Fin 512) (d : Fin 2048) (hk : 512 * n + k.val < 5632), bd (ix2 k d) = wd (ix2 ⟨512 * n + k.val, hk⟩ d))
    (x : Vec Ideal S1024x2048 .f32) :
    step h bg bu bd (fun j => x j + ∑ k ∈ Finset.range (512 * n), unit h wg wu wd j k)
      = fun j => x j + ∑ k ∈ Finset.range (512 * n + 512), unit h wg wu wd j k := by
  funext j
  unfold step
  rw [part_eq h wg wu wd bg bu bd n hn eg eu ed, part_eq h wg wu wd bg bu bd n hn eg eu ed, range_step, add_assoc (x j)]

/-- The normalised rows that the first point leaves for the later ones. -/
abbrev hn (c : Dev nD) : Vec Ideal S1024x2048 .bf16 :=
  k0_pay3 (F := Ideal) (rows m c) (m ((c : Thread nD τ).loc main_arg1))

/-- Point `n` of the grid extends the running sum by its hidden units. -/
theorem step_pt (c : Dev nD) (t : Fin cfg0.N) (h : Vec Ideal S1024x2048 .bf16) (x : Vec Ideal S1024x2048 .f32) :
    step h (iblk m c 2 t) (iblk m c 3 t) (iblk m c 4 t) (fun j => x j + ∑ k ∈ Finset.range (512 * t.val), unit h (wgate m c) (wup m c) (wdown m c) j k)
      = fun j => x j + ∑ k ∈ Finset.range (512 * t.val + 512), unit h (wgate m c) (wup m c) (wdown m c) j k :=
  step_eq h _ _ _ _ _ _ t.val (by have hN : cfg0.N = 11 := N_0; omega) (iblk_wgate m c t) (iblk_wup m c t) (iblk_wdown m c t) x

/-- After point `n` the output holds the rows plus the first `512 (n + 1)` hidden units' contributions. -/
theorem outs (c : Dev nD) : ∀ (n : ℕ) (h : n < cfg0.N), outsAt0 m c n h =
    ((fun j => rows m c j + ∑ k ∈ Finset.range (512 * n + 512), unit (hn m c) (wgate m c) (wup m c) (wdown m c) j k), hn m c)
  | 0, h => by
    rw [outsAt0_A m c ⟨0, h⟩ rfl, out_A, sout_A, iblk_x, iblk_g]
    refine Prod.ext ?_ rfl
    have e := step_pt m c ⟨0, h⟩ (hn m c) (rows m c)
    simp only [Nat.mul_zero, Finset.range_zero, Finset.sum_empty, add_zero] at e
    exact e
  | n + 1, h => by
    have hN : cfg0.N = 11 := N_0
    have hB : ¬(⟨n + 1, h⟩ : Fin cfg0.N).val % 11 = 0 := by dsimp only; omega
    rw [outsAt0_B m c ⟨n + 1, h⟩ hB, out_B]
    simp only [sout0_B_0]
    have e := outs c n (Nat.lt_of_succ_lt h)
    show (step (outsAt0 m c n _).2 _ _ _ (outsAt0 m c n _).1, (outsAt0 m c n _).2) = _
    rw [e]
    exact Prod.ext (step_pt m c ⟨n + 1, h⟩ (hn m c) (rows m c)) rfl

/-- The whole network: each row plus the contributions of all hidden units at its normalised row. -/
def ffn (x : Vec Ideal S1024x2048 .f32) (g : Vec Ideal S1x2048 .f32) (wg wu : Vec Ideal S2048x5632 .bf16)
    (wd : Vec Ideal S5632x2048 .bf16) : Vec Ideal S1024x2048 .f32 := fun j =>
  x j + ∑ k ∈ Finset.range 5632, unit (k0_pay3 (F := Ideal) x g) wg wu wd j k

abbrev result (c : Dev nD) : Buf (Elt Ideal) ((c : Thread nD τ).loc main_v8) :=
  ffn (rows m c) (m ((c : Thread nD τ).loc main_arg1)) (wgate m c) (wup m c) (wdown m c)

/-- The kernel leaves the whole network's result. -/
theorem G_eq (c : Dev nD) : G6 m c = result m c := by
  funext i
  have hN : cfg0.N = 11 := N_0
  have h0 : (i 0 : Nat) < 1024 := (i 0).isLt
  have h1 : (i 1 : Nat) < 2048 := (i 1).isLt
  have hp : pt6Of i = 10 := by unfold pt6Of run6Of; omega
  have hT : pt6Of i < cfg0.N := by omega
  have hl : loc6Of i = i := by
    funext a; apply Fin.ext
    match a with
    | ⟨0, _⟩ => show (i 0).val % 1024 = (i 0).val; omega
    | ⟨1, _⟩ => show (i 1).val % 2048 = (i 1).val; omega
  unfold G6
  rw [dif_pos hT, ← outsAt0_sweep m c (pt6Of i) hT, outs, hl]
  simp only [hp]
  rfl

/-- The reference's result is the whole network. -/
theorem ref_eq (x : FVec Ideal S16x64x2048 .f32) (g : FVec Ideal S1x2048 .f32) (a b : FVec Ideal S1x2048x5632 .f32) (d : FVec Ideal S1x5632x2048 .f32) :
    Ffn1RefIdeal.Read.val_main_v25 (F := Ideal) x g a b d
      = ffn (shapeCast S1024x2048 x shapeCasts_S16x64x2048_S1024x2048) g
          (truncf .bf16 (shapeCast S2048x5632 a shapeCasts_S1x2048x5632_S2048x5632 : FVec Ideal S2048x5632 .f32) bitsLt_bf16_f32)
          (truncf .bf16 (shapeCast S2048x5632 b shapeCasts_S1x2048x5632_S2048x5632 : FVec Ideal S2048x5632 .f32) bitsLt_bf16_f32)
          (truncf .bf16 (shapeCast S5632x2048 d shapeCasts_S1x5632x2048_S5632x2048 : FVec Ideal S5632x2048 .f32) bitsLt_bf16_f32) := by
  funext j
  unfold ffn
  rw [← Fin.sum_univ_eq_sum_range]
  have hu : ∀ (h : Vec Ideal S1024x2048 .bf16) (wg wu : Vec Ideal S2048x5632 .bf16) (wd : Vec Ideal S5632x2048 .bf16) (k : Fin 5632),
      unit h wg wu wd j k.val = glu (∑ d : Fin 2048, h (ix2 (j 0) d) * wg (ix2 d k)) (∑ d : Fin 2048, h (ix2 (j 0) d) * wu (ix2 d k)) * wd (ix2 k (j 1)) :=
    fun h wg wu wd k => dif_pos k.isLt
  simp only [hu]
  pointwise [k0_pay3, k0_pay2, Ffn1RefIdeal.Read.val_main_v25, Ffn1RefIdeal.Read.val_main_v24, Ffn1RefIdeal.Read.val_main_v23, Ffn1RefIdeal.Read.val_main_v22, Ffn1RefIdeal.Read.val_main_cst_2, Ffn1RefIdeal.Read.val_main_v21, Ffn1RefIdeal.Read.val_main_v20, Ffn1RefIdeal.Read.val_main_v19, Ffn1RefIdeal.Read.val_main_v18, Ffn1RefIdeal.Read.val_main_call0_v5, Ffn1RefIdeal.Read.val_main_call0_v4, Ffn1RefIdeal.Read.val_main_call0_cst_0, Ffn1RefIdeal.Read.val_main_call0_v3, Ffn1RefIdeal.Read.val_main_call0_v2, Ffn1RefIdeal.Read.val_main_call0_cst, Ffn1RefIdeal.Read.val_main_call0_v1, Ffn1RefIdeal.Read.val_main_call0_v0, Ffn1RefIdeal.Read.val_main_v17, Ffn1RefIdeal.Read.val_main_v16, Ffn1RefIdeal.Read.val_main_v15, Ffn1RefIdeal.Read.val_main_v14, Ffn1RefIdeal.Read.val_main_v13, Ffn1RefIdeal.Read.val_main_v12, Ffn1RefIdeal.Read.val_main_v11, Ffn1RefIdeal.Read.val_main_v10, Ffn1RefIdeal.Read.val_main_v9, Ffn1RefIdeal.Read.val_main_v8, Ffn1RefIdeal.Read.val_main_v7, Ffn1RefIdeal.Read.val_main_v6, Ffn1RefIdeal.Read.val_main_cst_1, Ffn1RefIdeal.Read.val_main_v5, Ffn1RefIdeal.Read.val_main_v4, Ffn1RefIdeal.Read.val_main_cst_0, Ffn1RefIdeal.Read.val_main_v3, Ffn1RefIdeal.Read.val_main_v2, Ffn1RefIdeal.Read.val_main_cst, Ffn1RefIdeal.Read.val_main_v1, Ffn1RefIdeal.Read.val_main_v0]
  refine congrArg _ ?_
  rw [half_mul_sum]
  exact Finset.sum_congr rfl fun k _ => glu_eq _ _ _

/-- Kernel and reference leave the same array. -/
theorem algebraic [Cert.Ffn1Ideal.Facts] [Cert.Ffn1RefIdeal.Facts] : algebraic_Ffn1Ideal_Ffn1RefIdeal := by
  intro m g m' g' _ hargs
  refine ⟨fun c => result m c, (θ_run _ _ _).mono (fun r h c => ⟨(h c).1.trans (G_eq m c), (h c).2⟩) (Value.run m g), ?_⟩
  refine (θ_run _ _ _).mono (fun r h c => ⟨?_, (h c).2⟩) (Ffn1RefIdeal.Value.run m' g')
  obtain ⟨e0, e1, e2, e3, e4, e5⟩ := hargs c
  rw [(h c).1, Ffn1RefIdeal.Read.val_main_v25_eq, ref_eq, e0, e1, e2, e3, e4]

end Cert.Ffn1Proof
-- ==== Proof.InProj.lean ====
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pointwise

@[expose] public section

set_option maxRecDepth 16384

open Idealize.ShloMosaic Idealize.ShloMosaic.TcCoe Idealize.SL.Sem
open Idealize.ShloMosaic.Pipeline (Dat)

noncomputable section

namespace Cert.InProjProof
open Cert.InProjIdeal Cert.InProjIdeal.Gen Cert.InProjIdeal.Value

variable (m : (ℓ : Loc nD τ sig) → Buf (Elt Ideal) ℓ) (ρ : Dev nD → PrngReg)

theorem hz : (![0, 0] : Fin 2 → Nat) = fun _ => 0 := funext fun a => by fin_cases a <;> rfl

/-- The block of ten columns groups that one grid point writes: entry `(k, r, c)` is the product of the
    normalised row `r` with column `256 k + c` of the point's weights. -/
def tile (h : Vec Ideal S1024x2048 .bf16) (w : Vec Ideal S2048x2560 .bf16) : Vec Ideal S10x1024x256 .bf16 := fun j =>
  ∑ d : Fin 2048, h (ix2 (j 1) d) * w (ix2 d ⟨256 * (j 0).val + (j 2).val, by
    have h0 : (j 0).val < 10 := (j 0).isLt
    have h2 : (j 2).val < 256 := (j 2).isLt
    omega⟩)

theorem group_inb {k : ℕ} (hk : k < 10) :
    ∀ a, (![k, 0, 0] : Fin 3 → ℕ) a + (![1, 1024, 256] : Fin 3 → ℕ) a ≤ S10x1024x256.size a := fun a => by
  match a with
  | ⟨0, _⟩ => show k + 1 ≤ 10; omega
  | ⟨1, _⟩ => show 0 + 1024 ≤ 1024; omega
  | ⟨2, _⟩ => show 0 + 256 ≤ 256; omega

/-- The tile read on its `k`-th group of columns. -/
theorem tile_piece (h : Vec Ideal S1024x2048 .bf16) (w : Vec Ideal S2048x2560 .bf16) (k : ℕ) (hk : k < 10)
    (inb : ∀ a, (![k, 0, 0] : Fin 3 → ℕ) a + (![1, 1024, 256] : Fin 3 → ℕ) a ≤ S10x1024x256.size a) (z : S1x1024x256.Idx) :
    tile h w ((Rect.unit (s := S10x1024x256) ![k, 0, 0] ![1, 1024, 256] inb).emb z)
      = ∑ d : Fin 2048, h (ix2 (z 1) d) * w (ix2 d ⟨256 * k + (z 2).val, by
          have h2 : (z 2).val < 256 := (z 2).isLt
          omega⟩) := by
  have h0 : (z 0).val < 1 := (z 0).isLt
  unfold tile
  refine Finset.sum_congr rfl fun d _ => ?_
  congr 2
  · funext a
    apply Fin.ext
    match a with
    | ⟨0, _⟩ => show 0 + 1 * (z 1).val = (z 1).val; omega
    | ⟨1, _⟩ => rfl
  · funext a
    apply Fin.ext
    match a with
    | ⟨0, _⟩ => rfl
    | ⟨1, _⟩ => show 256 * (k + 1 * (z 0).val) + (0 + 1 * (z 2).val) = 256 * k + (z 2).val; omega

theorem out_A (c : Dev nD) (i : grid0.Coords) (a1 : Memref sig .tc .vmem S1024x2048 .f32) (h1 : a1.IsWhole)
    (a2 : Memref sig .tc .vmem S1x2048 .f32) (h2 : a2.IsWhole) (a3 : Memref sig .tc .vmem S2048x2560 .bf16) (h3 : a3.IsWhole)
    (a4 : Memref sig .tc .vmem S10x1024x256 .bf16) (h4 : a4.IsWhole) (a5 : Memref sig .tc .vmem S1024x2048 .bf16) (h5 : a5.IsWhole)
    (hc : cond0_0 i) (x : Vec Ideal S1024x2048 .f32) (g : Vec Ideal S1x2048 .f32) (w : Vec Ideal S2048x2560 .bf16) :
    out0_A_3 c i a1 h1 a2 h2 a3 h3 a4 h4 a5 h5 hc x g w = tile (k0_pay6 x g) w := by
  funext y
  unfold out0_A_3
  rw [View.read_writes_eq_canon _ _ _ (cover0_A_3 c i a1 h1 a2 h2 a3 h3 a4 h4 a5 h5 hc x g w)]
  refine View.canon_apply_of_pieces (tile (k0_pay6 x g) w) _ ?_ y (cover0_A_3 c i a1 h1 a2 h2 a3 h3 a4 h4 a5 h5 hc x g w y)
  unfold kernelRun0_A
  dsimp only
  sl_unfold_words
  simp only [View.readCov_unit_zero (S := S1024x2048) _ hz, View.readAt_eq_ld, h1.read_unread, h2.read_unread, h3.read_unread, View.ld_unit_zero (S := S1024x2048) hz, View.ld_unit_zero (S := S1x2048) hz, View.ld_unit_zero (S := S2048x2560) hz]
  generalize k0_pay6 x g = h
  simp only [List.mem_cons, List.not_mem_nil, or_false]
  rintro p (rfl | rfl | rfl | rfl | rfl | rfl | rfl | rfl | rfl | rfl) z
  all_goals
    refine Eq.trans ?_ (tile_piece h w _ (by decide) (group_inb (by decide)) z).symm
    pointwise [k0_pay1, k0_pay2, k0_pay3, k0_pay4, k0_pay5, k0_pay8, k0_pay9, k0_pay10, k0_pay11, k0_pay12, k0_pay13, k0_pay7]

theorem out_B (c : Dev nD) (i : grid0.Coords) (a1 : Memref sig .tc .vmem S1024x2048 .f32) (h1 : a1.IsWhole)
    (a2 : Memref sig .tc .vmem S1x2048 .f32) (h2 : a2.IsWhole) (a3 : Memref sig .tc .vmem S2048x2560 .bf16) (h3 : a3.IsWhole)
    (a4 : Memref sig .tc .vmem S10x1024x256 .bf16) (h4 : a4.IsWhole) (a5 : Memref sig .tc .vmem S1024x2048 .bf16) (h5 : a5.IsWhole)
    (hc : ¬cond0_0 i) (x : Vec Ideal S1024x2048 .f32) (g : Vec Ideal S1x2048 .f32) (w : Vec Ideal S2048x2560 .bf16)
    (h : Vec Ideal S1024x2048 .bf16) :
    out0_B_3 c i a1 h1 a2 h2 a3 h3 a4 h4 a5 h5 hc x g w h = tile h w := by
  funext y
  unfold out0_B_3
  rw [View.read_writes_eq_canon _ _ _ (cover0_B_3 c i a1 h1 a2 h2 a3 h3 a4 h4 a5 h5 hc x g w h)]
  refine View.canon_apply_of_pieces (tile h w) _ ?_ y (cover0_B_3 c i a1 h1 a2 h2 a3 h3 a4 h4 a5 h5 hc x g w h y)
  unfold kernelRun0_B
  dsimp only
  sl_unfold_words
  simp only [View.readAt_eq_ld, h3.read_unread, h5.read_unread, View.ld_unit_zero (S := S1024x2048) hz, View.ld_unit_zero (S := S2048x2560) hz]
  simp only [List.mem_cons, List.not_mem_nil, or_false]
  rintro p (rfl | rfl | rfl | rfl | rfl | rfl | rfl | rfl | rfl | rfl) z
  all_goals
    refine Eq.trans ?_ (tile_piece h w _ (by decide) (group_inb (by decide)) z).symm
    pointwise [k0_pay1, k0_pay2, k0_pay3, k0_pay4, k0_pay5, k0_pay8, k0_pay9, k0_pay10, k0_pay11, k0_pay12, k0_pay13, k0_pay7]

theorem sout_A (c : Dev nD) (i : grid0.Coords) (a1 : Memref sig .tc .vmem S1024x2048 .f32) (h1 : a1.IsWhole)
    (a2 : Memref sig .tc .vmem S1x2048 .f32) (h2 : a2.IsWhole) (a3 : Memref sig .tc .vmem S2048x2560 .bf16) (h3 : a3.IsWhole)
    (a4 : Memref sig .tc .vmem S10x1024x256 .bf16) (h4 : a4.IsWhole) (a5 : Memref sig .tc .vmem S1024x2048 .bf16) (h5 : a5.IsWhole)
    (hc : cond0_0 i) (x : Vec Ideal S1024x2048 .f32) (g : Vec Ideal S1x2048 .f32) (w : Vec Ideal S2048x2560 .bf16) :
    sout0_A_0 c i a1 h1 a2 h2 a3 h3 a4 h4 a5 h5 hc x g w = k0_pay6 x g := by
  unfold sout0_A_0
  rw [View.read_writes_eq_canon _ _ _ (scover0_A_0 c i a1 h1 a2 h2 a3 h3 a4 h4 a5 h5 hc x g w)]
  unfold kernelRun0_A
  dsimp only
  sl_unfold_words
  rw [View.canon_unit_zero hz]
  simp only [View.readAt_eq_ld, h1.read_unread, h2.read_unread, View.ld_unit_zero (S := S1024x2048) hz, View.ld_unit_zero (S := S1x2048) hz]

/-- Point `t` writes rows `10 t` to `10 t + 9` of the result. -/
theorem idx_out : ∀ t : Fin cfg0.N, win0_3.index t (0 : Fin 3) = t.val ∧ win0_3.index t (1 : Fin 3) = 0 ∧ win0_3.index t (2 : Fin 3) = 0 := by
  decide +kernel

theorem idx_w : ∀ t : Fin cfg0.N, win0_2.index t (0 : Fin 2) = 0 ∧ win0_2.index t (1 : Fin 2) = t.val := by
  decide +kernel

theorem iblk_w (c : Dev nD) (t : Fin cfg0.N) (d : Fin 2048) (k : Fin 2560) (hk : 2560 * t.val + k.val < 15360) :
    iblk m c 2 t (ix2 d k) = m ((c : Thread nD τ).loc main_arg2) (ix2 d ⟨2560 * t.val + k.val, hk⟩) := by
  unfold iblk
  rw [View.read_apply]
  show V m c main_arg2 _ = _
  unfold V
  show m _ _ = m _ _
  congr 1
  funext a
  apply Fin.ext
  obtain ⟨e0, e1⟩ := idx_w t
  match a with
  | ⟨0, _⟩ => show win0_2.index t 0 * 2048 + 1 * d.val = d.val; omega
  | ⟨1, _⟩ => show win0_2.index t 1 * 2560 + 1 * k.val = 2560 * t.val + k.val; omega

theorem iblk_x (c : Dev nD) (t : Fin cfg0.N) :
    iblk m c 0 t = m ((c : Thread nD τ).loc main_arg0) := by
  funext j
  have e : ∀ t : Fin cfg0.N, win0_0.index t (0 : Fin 2) = 0 ∧ win0_0.index t (1 : Fin 2) = 0 := by decide +kernel
  unfold iblk
  rw [View.read_apply]
  show V m c main_arg0 _ = _
  unfold V
  show m _ _ = m _ _
  congr 1
  funext a
  apply Fin.ext
  obtain ⟨e0, e1⟩ := e t
  match a with
  | ⟨0, _⟩ => show win0_0.index t 0 * 1024 + 1 * (j 0).val = (j 0).val; omega
  | ⟨1, _⟩ => show win0_0.index t 1 * 2048 + 1 * (j 1).val = (j 1).val; omega

theorem iblk_g (c : Dev nD) (t : Fin cfg0.N) :
    iblk m c 1 t = m ((c : Thread nD τ).loc main_arg1) := by
  funext j
  have e : ∀ t : Fin cfg0.N, win0_1.index t (0 : Fin 2) = 0 ∧ win0_1.index t (1 : Fin 2) = 0 := by decide +kernel
  unfold iblk
  rw [View.read_apply]
  show V m c main_arg1 _ = _
  unfold V
  show m _ _ = m _ _
  congr 1
  funext a
  apply Fin.ext
  obtain ⟨e0, e1⟩ := e t
  match a with
  | ⟨0, _⟩ => show win0_1.index t 0 * 1 + 1 * (j 0).val = (j 0).val; omega
  | ⟨1, _⟩ => show win0_1.index t 1 * 2048 + 1 * (j 1).val = (j 1).val; omega

/-- The rows of `x`, normalised and scaled by the gain, as the first point leaves them for the later ones. -/
abbrev hn (c : Dev nD) : Vec Ideal S1024x2048 .bf16 :=
  k0_pay6 (F := Ideal) (m ((c : Thread nD τ).loc main_arg0)) (m ((c : Thread nD τ).loc main_arg1))

/-- After point `n` the output block is that point's tile and the carried rows are the normalised ones. -/
theorem outs (c : Dev nD) : ∀ (n : ℕ) (h : n < cfg0.N),
    outsAt0 m c n h = (tile (hn m c) (iblk m c 2 ⟨n, h⟩), hn m c)
  | 0, h => by
    rw [outsAt0_A m c ⟨0, h⟩ rfl, out_A, sout_A, iblk_x, iblk_g]
  | n + 1, h => by
    have hN : cfg0.N = 6 := N_0
    have hB : ¬(⟨n + 1, h⟩ : Fin cfg0.N).val % 6 = 0 := by dsimp only; omega
    rw [outsAt0_B m c ⟨n + 1, h⟩ hB, out_B]
    simp only [sout0_B_0]
    have e := outs c n (Nat.lt_of_succ_lt h)
    show (tile (outsAt0 m c n _).2 _, (outsAt0 m c n _).2) = _
    rw [e]

/-- The whole projection: entry `(k, r, c)` is the product of the normalised row `r` with column `256 k + c`. -/
def proj (x : Vec Ideal S1024x2048 .f32) (g : Vec Ideal S1x2048 .f32) (w : Vec Ideal S2048x15360 .bf16) : Vec Ideal S60x1024x256 .bf16 := fun j =>
  ∑ d : Fin 2048, k0_pay6 (F := Ideal) x g (ix2 (j 1) d) * w (ix2 d ⟨256 * (j 0).val + (j 2).val, by
    have h0 : (j 0).val < 60 := (j 0).isLt
    have h2 : (j 2).val < 256 := (j 2).isLt
    omega⟩)

abbrev result (c : Dev nD) : Buf (Elt Ideal) ((c : Thread nD τ).loc main_v0) :=
  proj (m ((c : Thread nD τ).loc main_arg0)) (m ((c : Thread nD τ).loc main_arg1)) (m ((c : Thread nD τ).loc main_arg2))

/-- The kernel leaves the whole projection. -/
theorem G_eq (c : Dev nD) : G3 m c = result m c := by
  funext i
  have hN : cfg0.N = 6 := N_0
  have h0 : (i 0 : Nat) < 60 := (i 0).isLt
  have h1 : (i 1 : Nat) < 1024 := (i 1).isLt
  have h2 : (i 2 : Nat) < 256 := (i 2).isLt
  have hp : pt3Of i = (i 0).val / 10 := by unfold pt3Of run3Of; omega
  have hT : pt3Of i < cfg0.N := by omega
  unfold G3
  rw [dif_pos hT, ← outsAt0_sweep m c (pt3Of i) hT, outs]
  show @Eq EReal (tile _ _ _) (proj _ _ _ i)
  unfold tile proj
  refine Finset.sum_congr rfl fun d _ => ?_
  rw [iblk_w m c ⟨pt3Of i, hT⟩ d _ (by show 2560 * pt3Of i + (256 * ((i 0).val % 10) + (i 2).val % 256) < 15360; omega)]
  congr 2
  · funext a
    apply Fin.ext
    match a with
    | ⟨0, _⟩ => show (i 1).val % 1024 = (i 1).val; omega
    | ⟨1, _⟩ => rfl
  · funext a
    apply Fin.ext
    match a with
    | ⟨0, _⟩ => rfl
    | ⟨1, _⟩ =>
      show 2560 * pt3Of i + (256 * ((i 0).val % 10) + (i 2).val % 256) = 256 * (i 0).val + (i 2).val
      omega

/-- The reference's result is the whole projection. -/
theorem ref_eq (x : Vec Ideal S1024x2048 .f32) (g : Vec Ideal S1x2048 .f32) (w : Vec Ideal S2048x15360 .bf16) :
    InProjRefIdeal.Read.val_main_v18 (F := Ideal) x g w = proj x g w := by
  funext j
  unfold proj
  pointwise [k0_pay6, InProjRefIdeal.Read.val_main_v18, InProjRefIdeal.Read.val_main_v17, InProjRefIdeal.Read.val_main_v16, InProjRefIdeal.Read.val_main_v15, InProjRefIdeal.Read.val_main_v14, InProjRefIdeal.Read.val_main_v13, InProjRefIdeal.Read.val_main_v12, InProjRefIdeal.Read.val_main_v11, InProjRefIdeal.Read.val_main_v10, InProjRefIdeal.Read.val_main_v9, InProjRefIdeal.Read.val_main_v8, InProjRefIdeal.Read.val_main_v7, InProjRefIdeal.Read.val_main_v6, InProjRefIdeal.Read.val_main_cst_1, InProjRefIdeal.Read.val_main_v5, InProjRefIdeal.Read.val_main_v4, InProjRefIdeal.Read.val_main_cst_0, InProjRefIdeal.Read.val_main_v3, InProjRefIdeal.Read.val_main_v2, InProjRefIdeal.Read.val_main_cst, InProjRefIdeal.Read.val_main_v1, InProjRefIdeal.Read.val_main_v0]
  refine Finset.sum_congr rfl fun d _ => ?_
  congr 2
  congr 1
  apply Fin.ext
  show (j 0).val * 256 + (j 2).val = 256 * (j 0).val + (j 2).val
  omega

/-- Kernel and reference leave the same array. -/
theorem algebraic [Cert.InProjIdeal.Facts] [Cert.InProjRefIdeal.Facts] : algebraic_InProjIdeal_InProjRefIdeal := by
  intro m g m' g' _ hargs
  refine ⟨fun c => result m c, (θ_run _ _ _).mono (fun r h c => ⟨(h c).1.trans (G_eq m c), (h c).2⟩) (Value.run m g), ?_⟩
  refine (θ_run _ _ _).mono (fun r h c => ⟨?_, (h c).2⟩) (InProjRefIdeal.Value.run m' g')
  obtain ⟨e0, e1, e2⟩ := hargs c
  rw [(h c).1, InProjRefIdeal.Read.val_main_v18_eq, ref_eq, e0, e1, e2]

end Cert.InProjProof
-- ==== Proof.MergeConv.lean ====
module

public import proofs.«01_k».proof.Defs
public import proofs.«01_k».proof.Proof.Gen.MergeIdeal.Value
public import Idealize.ShloMosaic.Lib.Pointwise

@[expose] public section
set_option maxRecDepth 16384
open Idealize.ShloMosaic Idealize.ShloMosaic.TcCoe Idealize.SL.Sem
open Idealize.ShloMosaic.Pipeline (Dat)
noncomputable section
/-! The merge kernel's convolution: the rows it forms for each of the four sequences, and what it reads back from its two buffers. -/

namespace Cert.MergeProof
open Cert.MergeIdeal Cert.MergeIdeal.Gen Cert.MergeIdeal.Value

/-- The zero offset of a whole two-axis block. -/
theorem hz : (![0, 0] : Fin 2 → Nat) = fun _ => 0 := funext fun a => by fin_cases a <;> rfl
/-- The zero offset of a whole three-axis block. -/
theorem hz3 : (![0, 0, 0] : Fin 3 → Nat) = fun _ => 0 := funext fun a => by fin_cases a <;> rfl

/-- Four groups of 256 columns side by side. -/
def cat (a b c d : Vec Ideal S1x64x256 .bf16) (r : Fin 64) (j : Fin 1024) : EReal :=
  if h : j.val < 256 then a (ix3 0 r ⟨j.val, h⟩) else
  if h : j.val - 256 < 256 then b (ix3 0 r ⟨j.val - 256, h⟩) else
  if h : j.val - 256 - 256 < 256 then c (ix3 0 r ⟨j.val - 256 - 256, h⟩) else d (ix3 0 r ⟨j.val - 256 - 256 - 256, by omega⟩)

/-- One entry of the gated convolution: gate, own input, input two steps back, input one step back. -/
def crow (w : Vec Ideal S3x1024 .f32) (g u p q : EReal) (j : Fin 1024) : EReal :=
  g * (w (ix2 2 j) * u + w (ix2 0 j) * p + w (ix2 1 j) * q)

section
variable (w : Vec Ideal S3x1024 .f32) (a b c d e f g h i k l n : Vec Ideal S1x64x256 .bf16) (p q : Vec Ideal S64x1024 .f32)
  (t : Vec Ideal S1x2x1024 .f32) (r : Fin 64) (j : Fin 1024)

/-- The rows the first sequence writes, entry by entry. -/
theorem row0 : k0_pay20 (k0_pay18 (k0_pay11 w) (k0_pay12 a b c d) (k0_pay13 e f g h) (k0_pay14 i) k l n p q) (ix2 r j) =
    crow w (cat a b c d r j) (cat e f g h r j * cat i k l n r j) (p (ix2 r j)) (q (ix2 r j)) j := by
  unfold crow cat
  pointwise [k0_pay20, k0_pay18, k0_pay11, k0_pay12, k0_pay13, k0_pay14, k0_pay15]

/-- The rows the second sequence writes, entry by entry. -/
theorem row1 : k0_pay30 (k0_pay11 w) (k0_pay21 a b c d) (k0_pay22 e f g h) (k0_pay23 i) (k0_pay24 k) (k0_pay25 l) n p q (ix2 r j) =
    crow w (cat a b c d r j) (cat e f g h r j * cat i k l n r j) (p (ix2 r j)) (q (ix2 r j)) j := by
  unfold crow cat
  pointwise [k0_pay30, k0_pay11, k0_pay21, k0_pay22, k0_pay23, k0_pay24, k0_pay25, k0_pay26]

/-- The rows the third sequence writes, entry by entry. -/
theorem row2 : k0_pay39 (k0_pay11 w) (k0_pay32 (k0_pay31 a) b c d) (k0_pay33 e f g h) (k0_pay34 i k l n) p q (ix2 r j) =
    crow w (cat a b c d r j) (cat e f g h r j * cat i k l n r j) (p (ix2 r j)) (q (ix2 r j)) j := by
  unfold crow cat
  pointwise [k0_pay39, k0_pay11, k0_pay31, k0_pay32, k0_pay33, k0_pay34, k0_pay35]

/-- The rows of the four sequences, one under the other; the last sequence's are still to be formed. -/
theorem rows4 (y0 y1 y2 : FVec Ideal S64x1024 .bf16) (R : Fin 256) :
    k0_pay48 (k0_pay11 w) y0 y1 y2 (k0_pay43 (k0_pay40 a) (k0_pay41 b) (k0_pay42 c) d) (k0_pay44 e f g h i k l n) p q (ix2 R j) =
    if h0 : R.val < 64 then y0 (ix2 ⟨R.val, h0⟩ j) else
    if h0 : R.val - 64 < 64 then y1 (ix2 ⟨R.val - 64, h0⟩ j) else
    if h0 : R.val - 64 - 64 < 64 then y2 (ix2 ⟨R.val - 64 - 64, h0⟩ j) else
    crow w (cat a b c d ⟨R.val - 64 - 64 - 64, by omega⟩ j) (cat e f g h ⟨R.val - 64 - 64 - 64, by omega⟩ j * cat i k l n ⟨R.val - 64 - 64 - 64, by omega⟩ j)
      (p (ix2 ⟨R.val - 64 - 64 - 64, by omega⟩ j)) (q (ix2 ⟨R.val - 64 - 64 - 64, by omega⟩ j)) j := by
  unfold crow cat
  pointwise [k0_pay48, k0_pay11, k0_pay40, k0_pay41, k0_pay42, k0_pay43, k0_pay44]

/-- What enters the filter in the first sequence: the product of the two laid-out operands. -/
theorem new0 : k0_pay17 (k0_pay13 e f g h) (k0_pay14 i) k l n (ix2 r j) = cat e f g h r j * cat i k l n r j := by
  unfold cat
  pointwise [k0_pay17, k0_pay13, k0_pay14, k0_pay15]
/-- What enters the filter in the second sequence. -/
theorem new1 : k0_pay28 (k0_pay22 e f g h) (k0_pay23 i) (k0_pay24 k) (k0_pay25 l) n (ix2 r j) = cat e f g h r j * cat i k l n r j := by
  unfold cat
  pointwise [k0_pay28, k0_pay22, k0_pay23, k0_pay24, k0_pay25, k0_pay26]
/-- What enters the filter in the third sequence. -/
theorem new2 : k0_pay37 (k0_pay33 e f g h) (k0_pay34 i k l n) (ix2 r j) = cat e f g h r j * cat i k l n r j := by
  unfold cat
  pointwise [k0_pay37, k0_pay33, k0_pay34, k0_pay35]
/-- What enters the filter in the fourth sequence. -/
theorem new3 : k0_pay46 (k0_pay44 e f g h i k l n) (ix2 r j) = cat e f g h r j * cat i k l n r j := by
  unfold cat
  pointwise [k0_pay46, k0_pay44]

/-- What the first sequence leaves for the next call: its last two rows. -/
theorem last0 (z : Fin 1) (y : Fin 2) : k0_pay19 (k0_pay13 e f g h) (k0_pay14 i) k l n (ix3 z y j) = cat e f g h ⟨62 + y.val, by omega⟩ j * cat i k l n ⟨62 + y.val, by omega⟩ j := by
  unfold cat
  pointwise [k0_pay19, k0_pay13, k0_pay14, k0_pay15]
/-- What the second sequence leaves for the next call. -/
theorem last1 (z : Fin 1) (y : Fin 2) : k0_pay29 (k0_pay22 e f g h) (k0_pay23 i) (k0_pay24 k) (k0_pay25 l) n (ix3 z y j) = cat e f g h ⟨62 + y.val, by omega⟩ j * cat i k l n ⟨62 + y.val, by omega⟩ j := by
  unfold cat
  pointwise [k0_pay29, k0_pay22, k0_pay23, k0_pay24, k0_pay25, k0_pay26]
/-- What the third sequence leaves for the next call. -/
theorem last2 (z : Fin 1) (y : Fin 2) : k0_pay38 (k0_pay33 e f g h) (k0_pay34 i k l n) (ix3 z y j) = cat e f g h ⟨62 + y.val, by omega⟩ j * cat i k l n ⟨62 + y.val, by omega⟩ j := by
  unfold cat
  pointwise [k0_pay38, k0_pay33, k0_pay34, k0_pay35]
/-- What the fourth sequence leaves for the next call. -/
theorem last3 (z : Fin 1) (y : Fin 2) : k0_pay47 (k0_pay44 e f g h i k l n) (ix3 z y j) = cat e f g h ⟨62 + y.val, by omega⟩ j * cat i k l n ⟨62 + y.val, by omega⟩ j := by
  unfold cat
  pointwise [k0_pay47, k0_pay44]

/-- The two rows the first sequence starts from, read without their leading axis. -/
theorem old0 (y : Fin 2) : k0_pay16 t (ix2 y j) = t (ix3 0 y j) := by pointwise [k0_pay16]
/-- The same for the second sequence. -/
theorem old1 (y : Fin 2) : k0_pay27 t (ix2 y j) = t (ix3 0 y j) := by pointwise [k0_pay27]
/-- The same for the third sequence. -/
theorem old2 (y : Fin 2) : k0_pay36 t (ix2 y j) = t (ix3 0 y j) := by pointwise [k0_pay36]
/-- The same for the fourth sequence. -/
theorem old3 (y : Fin 2) : k0_pay45 t (ix2 y j) = t (ix3 0 y j) := by pointwise [k0_pay45]
end

/-- A sequence's inputs, two steps of the buffer before them. -/
def full (tl : Vec Ideal S2x1024 .f32) (u : Vec Ideal S64x1024 .f32) (i : ℕ) (j : Fin 1024) : EReal :=
  if h : i < 2 then tl (ix2 ⟨i, h⟩ j) else u (ix2 ⟨(i - 2) % 64, Nat.mod_lt _ (by norm_num)⟩ j)

/-- The scratch buffer, read from row `6 + o` on: the buffered steps and after them the inputs. -/
theorem scr (v : View sig .tc .vmem S72x1024 .f32) (u : Vec Ideal S64x1024 .f32) (tl : Vec Ideal S2x1024 .f32) (L : List (View.Piece (Elt Ideal) S72x1024 .f32))
    (o : ℕ) (ho : o ≤ 1) (ib) (r : Fin 64) (j : Fin 1024) :
    v.readCov (⟨Rect.unit ![8,0] S64x1024.size inb_S72x1024_S64x1024_8_0, u⟩ :: ⟨Rect.unit ![6,0] S2x1024.size inb_S72x1024_S2x1024_6_0, tl⟩ :: L)
      (Rect.unit (s := S72x1024) ![6 + o, 0] S64x1024.size ib).toLoadRect (ix2 r j) = full tl u (r.val + o) j := by
  rw [View.readCov_eq_canon']
  have hi : (Rect.unit (s := S72x1024) ![6 + o, 0] S64x1024.size ib).toLoadRect.idx (ix2 r j) = (ix2 ⟨6 + o + r.val, by omega⟩ j : S72x1024.Idx) := by
    funext a; apply Fin.ext
    match a with
    | ⟨0, _⟩ => show 6 + o + 1 * r.val = 6 + o + r.val; omega
    | ⟨1, _⟩ => show 0 + 1 * j.val = j.val; omega
  show View.canon _ ((Rect.unit (s := S72x1024) ![6 + o, 0] S64x1024.size ib).toLoadRect.idx (ix2 r j)) = _
  rw [hi]
  unfold full
  by_cases h : r.val + o < 2
  · rw [dif_pos h, View.canon_cons_of_not_mem]
    · have : (ix2 ⟨6 + o + r.val, by omega⟩ j : S72x1024.Idx) = (Rect.unit (s := S72x1024) ![6, 0] S2x1024.size inb_S72x1024_S2x1024_6_0).emb (ix2 ⟨r.val + o, h⟩ j) := by
        funext a; apply Fin.ext
        match a with
        | ⟨0, _⟩ => show 6 + o + r.val = 6 + 1 * (r.val + o); omega
        | ⟨1, _⟩ => show j.val = 0 + 1 * j.val; omega
      rw [this, View.canon_cons_emb]
    · intro hm
      have h0 := (Rect.mem_set_unit (inb := inb_S72x1024_S64x1024_8_0)).mp hm
      have h1 := (h0 (0 : Fin 2)).1
      change 8 ≤ 6 + o + r.val at h1
      omega
  · rw [dif_neg h]
    have : (ix2 ⟨6 + o + r.val, by omega⟩ j : S72x1024.Idx) = (Rect.unit (s := S72x1024) ![8, 0] S64x1024.size inb_S72x1024_S64x1024_8_0).emb (ix2 ⟨(r.val + o - 2) % 64, Nat.mod_lt _ (by norm_num)⟩ j) := by
      funext a; apply Fin.ext
      match a with
      | ⟨0, _⟩ => show 6 + o + r.val = 8 + 1 * ((r.val + o - 2) % 64); omega
      | ⟨1, _⟩ => show j.val = 0 + 1 * j.val; omega
    rw [this, View.canon_cons_emb]

/-- A stored sequence's rows don't touch another's. -/
theorem tail_skip (v : View sig .tc .vmem S4x2x1024 .f32) (s s' : ℕ) (hs : s ≠ s') (ib ib') (x : Vec Ideal S1x2x1024 .f32) (L : List (View.Piece (Elt Ideal) S4x2x1024 .f32)) (z : Fin 1) (y : Fin 2) (j : Fin 1024) :
    v.readCov (⟨Rect.unit ![s', 0, 0] S1x2x1024.size ib', x⟩ :: L) (Rect.unit (s := S4x2x1024) ![s, 0, 0] S1x2x1024.size ib).toLoadRect (ix3 z y j) =
    v.readCov L (Rect.unit (s := S4x2x1024) ![s, 0, 0] S1x2x1024.size ib).toLoadRect (ix3 z y j) := by
  rw [View.readCov_eq_canon', View.readCov_eq_canon']
  refine View.canon_cons_of_not_mem _ _ fun hm => ?_
  have h0 := (Rect.mem_set_unit (inb := ib')).mp hm
  have h1 := h0 (0 : Fin 3)
  change s' ≤ s + 1 * z.val ∧ s + 1 * z.val < s' + 1 at h1
  omega

/-- The two carried rows of sequence `s`, read out of the block of all four. -/
theorem tail_base (v : View sig .tc .vmem S4x2x1024 .f32) (s : ℕ) (hs : s < 4) (ib ib') (x : Vec Ideal S4x2x1024 .f32) (z : Fin 1) (y : Fin 2) (j : Fin 1024) :
    v.readCov [⟨Rect.unit ![0, 0, 0] S4x2x1024.size ib', x⟩] (Rect.unit (s := S4x2x1024) ![s, 0, 0] S1x2x1024.size ib).toLoadRect (ix3 z y j) = x (ix3 ⟨s, hs⟩ y j) := by
  rw [View.readCov_eq_canon', View.canon_unit_zero hz3]
  refine congrArg x ?_
  funext a; apply Fin.ext
  match a with
  | ⟨0, _⟩ => show s + 1 * z.val = s; omega
  | ⟨1, _⟩ => show 0 + 1 * y.val = y.val; omega
  | ⟨2, _⟩ => show 0 + 1 * j.val = j.val; omega

end Cert.MergeProof
-- ==== Proof.MergeBlock.lean ====
module

public import proofs.«01_k».proof.Proof.MergeConv

@[expose] public section
set_option maxRecDepth 16384
open Idealize.ShloMosaic Idealize.ShloMosaic.TcCoe Idealize.SL.Sem
open Idealize.ShloMosaic.Pipeline (Dat)
noncomputable section
namespace Cert.MergeProof
open Cert.MergeIdeal Cert.MergeIdeal.Gen Cert.MergeIdeal.Value

/-! What the merge kernel writes from one block of its windows, entry by entry. -/

/-- A sum in two parts. -/
theorem sum_two (n m : ℕ) (f : Fin (n + m) → EReal) :
    ∑ k, f k = ∑ e : Fin n, f ⟨e.val, by omega⟩ + ∑ e : Fin m, f ⟨n + e.val, by omega⟩ := Fin.sum_univ_add f

/-- A sum over 1024 channels, in four groups of 256. -/
theorem sum4 (f : Fin 1024 → EReal) :
    ∑ k, f k = ∑ e : Fin 256, f ⟨e.val, by omega⟩ + ∑ e : Fin 256, f ⟨256 + e.val, by omega⟩ + ∑ e : Fin 256, f ⟨512 + e.val, by omega⟩
      + ∑ e : Fin 256, f ⟨768 + e.val, by omega⟩ := by
  rw [sum_two 768 256 f, sum_two 512 256 (fun e : Fin 768 => f ⟨e.val, by omega⟩), sum_two 256 256 (fun e : Fin 512 => f ⟨e.val, by omega⟩)]

/-- A sum over 2048 channels, in eight groups of 256. -/
theorem sum8 (f : Fin 2048 → EReal) :
    ∑ k, f k = ∑ e : Fin 256, f ⟨e.val, by omega⟩ + ∑ e : Fin 256, f ⟨256 + e.val, by omega⟩ + ∑ e : Fin 256, f ⟨512 + e.val, by omega⟩
      + ∑ e : Fin 256, f ⟨768 + e.val, by omega⟩ + ∑ e : Fin 256, f ⟨1024 + e.val, by omega⟩ + ∑ e : Fin 256, f ⟨1280 + e.val, by omega⟩
      + ∑ e : Fin 256, f ⟨1536 + e.val, by omega⟩ + ∑ e : Fin 256, f ⟨1792 + e.val, by omega⟩ := by
  rw [sum_two 1792 256 f, sum_two 1536 256 (fun e : Fin 1792 => f ⟨e.val, by omega⟩), sum_two 1280 256 (fun e : Fin 1536 => f ⟨e.val, by omega⟩),
    sum_two 1024 256 (fun e : Fin 1280 => f ⟨e.val, by omega⟩), sum4 (fun e : Fin 1024 => f ⟨e.val, by omega⟩)]

section
variable (v61 : FVec Ideal S3x1024 .f32) (v119 v177 v235 : FVec Ideal S64x1024 .bf16) (v245 v268 : FVec Ideal S64x1024 .f32) (p q : Vec Ideal S64x1024 .f32)
variable (b0 b1 b2 b3 b4 b5 b6 b7 : Vec Ideal S1x256x2048 .bf16) (R : Fin 256) (n : Fin 2048)

/-- The convolution branch: four products of 256 columns each. -/
theorem bc_eq : k0_pay53 (k0_pay49 v61 v119 v177 v235 v245 v268 p q) (k0_pay50 v61 v119 v177 v235 v245 v268 p q) (k0_pay51 v61 v119 v177 v235 v245 v268 p q b0 b1)
      (k0_pay52 b2) (constant S256x2048 .f32 0x00000000#32 : FVec Ideal S256x2048 .f32) b3 (ix2 R n) =
    ∑ x : Fin 256, k0_pay48 v61 v119 v177 v235 v245 v268 p q (ix2 R ⟨x.val, by omega⟩) * b0 (ix3 0 x n)
      + ∑ x : Fin 256, k0_pay48 v61 v119 v177 v235 v245 v268 p q (ix2 R ⟨256 + x.val, by omega⟩) * b1 (ix3 0 x n)
      + ∑ x : Fin 256, k0_pay48 v61 v119 v177 v235 v245 v268 p q (ix2 R ⟨512 + x.val, by omega⟩) * b2 (ix3 0 x n)
      + ∑ x : Fin 256, k0_pay48 v61 v119 v177 v235 v245 v268 p q (ix2 R ⟨768 + x.val, by omega⟩) * b3 (ix3 0 x n) := by
  pointwise [k0_pay53, k0_pay49, k0_pay50, k0_pay51, k0_pay52]

/-- The recurrent branch: eight products of 256 columns each. -/
theorem bh_eq (y0 y1 y2 y3 y4 y5 y6 : FVec Ideal S256x256 .bf16) (y7 : Vec Ideal S1x256x256 .bf16) :
    k0_pay10 (k0_pay8 y7) (k0_pay9 y0 y1 y2 y3 y4 y5 y6 b0 b1 b2 b3 b4 b5 b6) b7 (ix2 R n) =
    ∑ x, y0 (ix2 R x) * b0 (ix3 0 x n) + ∑ x, y1 (ix2 R x) * b1 (ix3 0 x n) + ∑ x, y2 (ix2 R x) * b2 (ix3 0 x n) + ∑ x, y3 (ix2 R x) * b3 (ix3 0 x n)
      + ∑ x, y4 (ix2 R x) * b4 (ix3 0 x n) + ∑ x, y5 (ix2 R x) * b5 (ix3 0 x n) + ∑ x, y6 (ix2 R x) * b6 (ix3 0 x n) + ∑ x, y7 (ix3 0 R x) * b7 (ix3 0 x n) := by
  pointwise [k0_pay10, k0_pay9, k0_pay8]

/-- The two branches under their gates, through the output weight and added to the residual. -/
theorem x_eq (bh bc : FVec Ideal S256x2048 .f32) (gt : FVec Ideal S256x4096 .bf16) (x : Vec Ideal S256x2048 .f32) (wo : Vec Ideal S2048x2048 .bf16) :
    k0_pay65 bh bc gt x wo (ix2 R n) = x (ix2 R n) + ∑ k : Fin 2048,
      (Ideal.logistic (gt (ix2 R ⟨k.val, by omega⟩)) * bc (ix2 R k) + Ideal.logistic (gt (ix2 R ⟨2048 + k.val, by omega⟩)) * bh (ix2 R k)) * wo (ix2 k n) := by
  pointwise [k0_pay65]
end

/-- A load of a box from an array of three axes. -/
theorem ld3 {A B C a b c : ℕ} {e : EltTy} (x : Vec Ideal ⟨3, ![A, B, C]⟩ e) (o0 o1 o2 : ℕ) (ib) (z : Fin a) (r : Fin b) (k : Fin c)
    (h0 : o0 + z.val < A) (h1 : o1 + r.val < B) (h2 : o2 + k.val < C) :
    View.ld x (Rect.unit (s := ⟨3, ![A, B, C]⟩) ![o0, o1, o2] (Shape.size ⟨3, ![a, b, c]⟩) ib) (ix3 z r k) = x (ix3 ⟨o0 + z.val, h0⟩ ⟨o1 + r.val, h1⟩ ⟨o2 + k.val, h2⟩) := by
  show x ((Rect.unit (s := ⟨3, ![A, B, C]⟩) ![o0, o1, o2] (Shape.size ⟨3, ![a, b, c]⟩) ib).idx (ix3 z r k)) = _
  refine congrArg x ?_
  funext i; apply Fin.ext
  match i with
  | ⟨0, _⟩ => show o0 + 1 * z.val = _; simp
  | ⟨1, _⟩ => show o1 + 1 * r.val = _; simp
  | ⟨2, _⟩ => show o2 + 1 * k.val = _; simp

section
variable (x0 : Vec Ideal S12x256x256 .bf16) (x1 : Vec Ideal S4x2x1024 .f32) (x2 : Vec Ideal S3x1024 .f32)

/-- The group of columns a column lies in, and its place there. -/
def at12 (g : ℕ) (hg : g ≤ 8) (R : ℕ) (j : Fin 1024) : EReal := x0 (ix3 ⟨g + j.val / 256, by omega⟩ ⟨R % 256, Nat.mod_lt _ (by norm_num)⟩ ⟨j.val % 256, Nat.mod_lt _ (by norm_num)⟩)

/-- Four neighbouring groups of the projection, laid side by side, are the channels they stand for. -/
theorem cat_slab (g0 g1 g2 g3 o : ℕ) (ib0 ib1 ib2 ib3) (r : Fin 64) (j : Fin 1024) (hg : g0 ≤ 8) (ho : o ≤ 192) (e1 : g1 = g0 + 1) (e2 : g2 = g0 + 2) (e3 : g3 = g0 + 3) :
    cat (View.ld x0 (Rect.unit (s := S12x256x256) ![g0, o, 0] S1x64x256.size ib0)) (View.ld x0 (Rect.unit (s := S12x256x256) ![g1, o, 0] S1x64x256.size ib1))
      (View.ld x0 (Rect.unit (s := S12x256x256) ![g2, o, 0] S1x64x256.size ib2)) (View.ld x0 (Rect.unit (s := S12x256x256) ![g3, o, 0] S1x64x256.size ib3)) r j
      = at12 x0 g0 hg (o + r.val) j := by
  subst e1 e2 e3
  have L : ∀ (g : ℕ) (hg : g < 12) (ib) (k : Fin 256), View.ld x0 (Rect.unit (s := S12x256x256) ![g, o, 0] S1x64x256.size ib) (ix3 0 r k) = x0 (ix3 ⟨g, hg⟩ ⟨o + r.val, by omega⟩ k) := by
    intro g hg ib k
    refine (ld3 (a := 1) (b := 64) (c := 256) x0 g o 0 ib 0 r k hg (by omega) (by omega)).trans (congrArg x0 ?_)
    congr 1; apply Fin.ext; simp
  unfold cat at12
  split_ifs
  · rw [L _ (by omega)]; refine congrArg x0 ?_; congr 1 <;> apply Fin.ext <;> dsimp only <;> omega
  · rw [L _ (by omega)]; refine congrArg x0 ?_; congr 1 <;> apply Fin.ext <;> dsimp only <;> omega
  · rw [L _ (by omega)]; refine congrArg x0 ?_; congr 1 <;> apply Fin.ext <;> dsimp only <;> omega
  · rw [L _ (by omega)]; refine congrArg x0 ?_; congr 1 <;> apply Fin.ext <;> dsimp only <;> omega

/-- The convolution's input in row `R` of the block. -/
def uE (R : ℕ) (j : Fin 1024) : EReal := at12 x0 4 (by norm_num) R j * at12 x0 8 (by norm_num) R j

/-- A sequence's inputs behind the two buffered ones. -/
def fE (s : Fin 4) (i : ℕ) (j : Fin 1024) : EReal := if h : i < 2 then x1 (ix3 s ⟨i, h⟩ j) else uE x0 (64 * s.val + (i - 2)) j

/-- The gated convolution in row `R` of the block. -/
def yE (R : Fin 256) (j : Fin 1024) : EReal :=
  crow x2 (at12 x0 0 (by norm_num) R.val j) (uE x0 R.val j) (fE x0 x1 ⟨R.val / 64, by omega⟩ (R.val % 64) j) (fE x0 x1 ⟨R.val / 64, by omega⟩ (R.val % 64 + 1) j) j

/-- The rows the filter sees: two carried rows, then the rows of the sequence itself. -/
theorem full_eq (tl : Vec Ideal S2x1024 .f32) (u : Vec Ideal S64x1024 .f32) (s : Fin 4) (htl : ∀ y j, tl (ix2 y j) = x1 (ix3 s y j))
    (hu : ∀ r j, u (ix2 r j) = uE x0 (64 * s.val + r.val) j) (i : ℕ) (hi : i < 66) (j : Fin 1024) : full tl u i j = fE x0 x1 s i j := by
  unfold full fE
  split_ifs
  · exact htl _ _
  · rw [hu]; congr 2; dsimp only; omega
end

/-- The scratch rows from row 6 on: the two carried rows, then the rows of the sequence. -/
theorem scr6 (v : View sig .tc .vmem S72x1024 .f32) (u : Vec Ideal S64x1024 .f32) (tl : Vec Ideal S2x1024 .f32) (L : List (View.Piece (Elt Ideal) S72x1024 .f32)) (ib) (r : Fin 64) (j : Fin 1024) :
    v.readCov (⟨Rect.unit ![8,0] S64x1024.size inb_S72x1024_S64x1024_8_0, u⟩ :: ⟨Rect.unit ![6,0] S2x1024.size inb_S72x1024_S2x1024_6_0, tl⟩ :: L)
      (Rect.unit (s := S72x1024) ![6, 0] S64x1024.size ib).toLoadRect (ix2 r j) = full tl u r.val j := scr v u tl L 0 (by norm_num) ib r j

/-- The scratch rows from row 7 on: the same, one row further. -/
theorem scr7 (v : View sig .tc .vmem S72x1024 .f32) (u : Vec Ideal S64x1024 .f32) (tl : Vec Ideal S2x1024 .f32) (L : List (View.Piece (Elt Ideal) S72x1024 .f32)) (ib) (r : Fin 64) (j : Fin 1024) :
    v.readCov (⟨Rect.unit ![8,0] S64x1024.size inb_S72x1024_S64x1024_8_0, u⟩ :: ⟨Rect.unit ![6,0] S2x1024.size inb_S72x1024_S2x1024_6_0, tl⟩ :: L)
      (Rect.unit (s := S72x1024) ![7, 0] S64x1024.size ib).toLoadRect (ix2 r j) = full tl u (r.val + 1) j := scr v u tl L 1 (by norm_num) ib r j

/-- The gates: group 44 and the fifteen after it, side by side. -/
def gE (x4 : Vec Ideal S1x256x256 .bf16) (x5 : Vec Ideal S15x256x256 .bf16) (R : Fin 256) (k : Fin 4096) : EReal :=
  if h : k.val < 256 then x4 (ix3 0 R ⟨k.val, h⟩) else x5 (ix3 ⟨k.val / 256 - 1, by omega⟩ R ⟨k.val % 256, Nat.mod_lt _ (by norm_num)⟩)

/-- The gates the kernel lays side by side, group by group. -/
theorem gate_eq (x4 : Vec Ideal S1x256x256 .bf16) (x5 : Vec Ideal S15x256x256 .bf16) (R : Fin 256) (k : Fin 4096) (z : Fin 15 → Vec Ideal S1x256x256 .bf16)
    (hzz : ∀ g k, z g (ix3 0 R k) = x5 (ix3 g R k)) :
    k0_pay64 (k0_pay54 x4) (k0_pay55 (z 0)) (k0_pay56 (z 1)) (k0_pay57 (z 2)) (k0_pay58 (z 3)) (k0_pay59 (z 4)) (k0_pay60 (z 5)) (k0_pay61 (z 6)) (k0_pay62 (z 7)) (k0_pay63 (z 8))
      (z 9) (z 10) (z 11) (z 12) (z 13) (z 14) (ix2 R k) = gE x4 x5 R k := by
  have e := concatenate_ofFn_apply (t := S256x4096) (s₁ := S256x256) 1
    (fun n : Fin 16 => (shapeCast S256x256 ((Fin.cases x4 z n : Vec Ideal S1x256x256 .bf16)) shapeCasts_S1x256x256_S256x256 : FVec Ideal S256x256 .bf16)) concatenates_S256x256_S256x256_S256x256_S256x256_S256x256_S256x256_S256x256_S256x256_S256x256_S256x256_S256x256_S256x256_S256x256_S256x256_S256x256_S256x256_S256x4096_d1 rfl 256 rfl
    (ix2 R k) ⟨k.val / 256, by omega⟩ rfl (ix2 R ⟨k.val % 256, Nat.mod_lt _ (by norm_num)⟩) rfl (fun b hb => by
      match b, hb with
      | ⟨0, _⟩, _ => rfl
      | ⟨1, _⟩, hb => exact absurd rfl hb)
  refine Eq.trans ?_ (e.trans ?_)
  · rfl
  unfold gE
  pointwise []
  by_cases h : k.val < 256
  · rw [dif_pos h]
    have i0 : (⟨k.val / 256, by omega⟩ : Fin 16) = 0 := Fin.ext (by show k.val / 256 = 0; omega)
    rw [i0]
    show x4 _ = _
    refine congrArg x4 ?_
    congr 1; apply Fin.ext; dsimp only; omega
  · rw [dif_neg h]
    have i0 : (⟨k.val / 256, by omega⟩ : Fin 16) = Fin.succ ⟨k.val / 256 - 1, by omega⟩ := Fin.ext (by show k.val / 256 = k.val / 256 - 1 + 1; omega)
    rw [i0]
    show z _ _ = _
    exact hzz _ _

end Cert.MergeProof
-- ==== Proof.MergeOut.lean ====
module

public import proofs.«01_k».proof.Proof.MergeBlock

@[expose] public section
set_option maxRecDepth 16384
open Idealize.ShloMosaic Idealize.ShloMosaic.TcCoe Idealize.SL.Sem
open Idealize.ShloMosaic.Pipeline (Dat)
noncomputable section
namespace Cert.MergeProof
open Cert.MergeIdeal Cert.MergeIdeal.Gen Cert.MergeIdeal.Value

/-! What the merge kernel's two outputs hold after a grid step. -/

/-- The rows just written for sequence `s` are read back. -/
theorem tail_hit (s : ℕ) (hs : s < 4) (ib) (w : Vec Ideal S1x2x1024 .f32) (L : List (View.Piece (Elt Ideal) S4x2x1024 .f32)) (y : Fin 2) (j : Fin 1024) :
    View.canon (⟨Rect.unit (s := S4x2x1024) ![s, 0, 0] S1x2x1024.size ib, w⟩ :: L) (ix3 ⟨s, hs⟩ y j) = w (ix3 0 y j) := by
  have : (ix3 ⟨s, hs⟩ y j : S4x2x1024.Idx) = (Rect.unit (s := S4x2x1024) ![s, 0, 0] S1x2x1024.size ib).emb (ix3 0 y j) := by
    funext a; apply Fin.ext
    match a with
    | ⟨0, _⟩ => show s = s + 1 * 0; omega
    | ⟨1, _⟩ => show y.val = 0 + 1 * y.val; omega
    | ⟨2, _⟩ => show j.val = 0 + 1 * j.val; omega
  rw [this, View.canon_cons_emb]

/-- Writing the rows of one sequence leaves those of another alone. -/
theorem tail_miss (s s' : ℕ) (hs : s < 4) (hss : s ≠ s') (ib) (w : Vec Ideal S1x2x1024 .f32) (L : List (View.Piece (Elt Ideal) S4x2x1024 .f32)) (y : Fin 2) (j : Fin 1024) :
    View.canon (⟨Rect.unit (s := S4x2x1024) ![s', 0, 0] S1x2x1024.size ib, w⟩ :: L) (ix3 ⟨s, hs⟩ y j) = View.canon L (ix3 ⟨s, hs⟩ y j) := by
  refine View.canon_cons_of_not_mem _ _ fun hm => ?_
  have h0 := (Rect.mem_set_unit (inb := ib)).mp hm
  have h1 := h0 (0 : Fin 3)
  change s' ≤ s ∧ s < s' + 1 at h1
  omega

/-- Group `g` of the fifteen gate groups. -/
def group5 (x5 : Vec Ideal S15x256x256 .bf16) (g : Fin 15) : Vec Ideal S1x256x256 .bf16 :=
  View.ld x5 (Rect.unit (s := S15x256x256) ![g.val, 0, 0] S1x256x256.size (by
    intro a
    match a with
    | ⟨0, _⟩ => show g.val + 1 ≤ 15; omega
    | ⟨1, _⟩ => show 0 + 256 ≤ 256; omega
    | ⟨2, _⟩ => show 0 + 256 ≤ 256; omega))

/-- One group of the last operand, read at an index. -/
theorem group5_apply (x5 : Vec Ideal S15x256x256 .bf16) (R : Fin 256) (g : Fin 15) (k : Fin 256) : group5 x5 g (ix3 0 R k) = x5 (ix3 g R k) := by
  refine (ld3 (a := 1) (b := 256) (c := 256) x5 g.val 0 0 _ 0 R k (by simp) (by omega) (by omega)).trans (congrArg x5 ?_)
  congr 1 <;> apply Fin.ext <;> simp

/-- Sums of four terms, compared term by term. -/
theorem add4 {a b c d a' b' c' d' : EReal} (h1 : a = a') (h2 : b = b') (h3 : c = c') (h4 : d = d') : a + b + c + d = a' + b' + c' + d' := by
  rw [h1, h2, h3, h4]

/-- Sums of eight terms, compared term by term. -/
theorem add8 {a b c d e f g h a' b' c' d' e' f' g' h' : EReal} (h1 : a = a') (h2 : b = b') (h3 : c = c') (h4 : d = d') (h5 : e = e') (h6 : f = f') (h7 : g = g') (h8 : h = h') :
    a + b + c + d + e + f + g + h = a' + b' + c' + d' + e' + f' + g' + h' := by
  rw [h1, h2, h3, h4, h5, h6, h7, h8]

/-- A group of 256 rows of the weights, addressed by the channel it stands for. -/
theorem slabC (x : Vec Ideal S4x256x2048 .bf16) (g : ℕ) (hg : g < 4) (ib) (e : Fin 256) (n : Fin 2048) (j : Fin 1024) (hj : j.val = 256 * g + e.val) :
    View.ld x (Rect.unit (s := S4x256x2048) ![g, 0, 0] S1x256x2048.size ib) (ix3 0 e n) = x (ix3 ⟨j.val / 256, by omega⟩ ⟨j.val % 256, Nat.mod_lt _ (by norm_num)⟩ n) := by
  refine (ld3 (a := 1) (b := 256) (c := 2048) x g 0 0 ib 0 e n hg (by omega) (by omega)).trans (congrArg x ?_)
  congr 1 <;> apply Fin.ext <;> simp <;> omega

/-- One row of the convolution, from what the scratch buffer holds of its sequence. -/
theorem row_eq (x0 : Vec Ideal S12x256x256 .bf16) (x1 : Vec Ideal S4x2x1024 .f32) (x2 : Vec Ideal S3x1024 .f32) (s : Fin 4) (R : Fin 256) (r : Fin 64) (j : Fin 1024)
    (tl : Vec Ideal S2x1024 .f32) (u : Vec Ideal S64x1024 .f32) (hR : R.val = 64 * s.val + r.val) (ht : ∀ y j, tl (ix2 y j) = x1 (ix3 s y j))
    (hu : ∀ r j, u (ix2 r j) = uE x0 (64 * s.val + r.val) j) {g v p q : EReal} (hg : g = at12 x0 0 (by norm_num) (64 * s.val + r.val) j)
    (hv : v = uE x0 (64 * s.val + r.val) j) (hp : p = full tl u r.val j) (hq : q = full tl u (r.val + 1) j) :
    crow x2 g v p q j = yE x0 x1 x2 R j := by
  subst hg hv hp hq
  have es : (⟨R.val / 64, by omega⟩ : Fin 4) = s := Fin.ext (by dsimp only; omega)
  unfold yE
  rw [full_eq x0 x1 tl u s ht hu _ (by omega) j, full_eq x0 x1 tl u s ht hu _ (by omega) j, es, hR, show (64 * s.val + r.val) % 64 = r.val by omega]

/-- An entry of the merged rows, from one block of every window. -/
def rowE (x0 : Vec Ideal S12x256x256 .bf16) (x1 : Vec Ideal S4x2x1024 .f32) (x2 : Vec Ideal S3x1024 .f32) (x3 : Vec Ideal S8x256x256 .bf16) (x4 : Vec Ideal S1x256x256 .bf16) (x5 : Vec Ideal S15x256x256 .bf16)
    (x6 : Vec Ideal S256x2048 .f32) (x7 : Vec Ideal S4x256x2048 .bf16) (x8 : Vec Ideal S8x256x2048 .bf16) (x9 : Vec Ideal S2048x2048 .bf16) (R : Fin 256) (n : Fin 2048) : EReal :=
  x6 (ix2 R n) + ∑ k : Fin 2048,
      (Ideal.logistic (gE x4 x5 R ⟨k.val, by omega⟩) * (∑ j : Fin 1024, yE x0 x1 x2 R j * x7 (ix3 ⟨j.val / 256, by omega⟩ ⟨j.val % 256, Nat.mod_lt _ (by norm_num)⟩ k))
        + Ideal.logistic (gE x4 x5 R ⟨2048 + k.val, by omega⟩)
          * (∑ j : Fin 2048, x3 (ix3 ⟨j.val / 256, by omega⟩ R ⟨j.val % 256, Nat.mod_lt _ (by norm_num)⟩) * x8 (ix3 ⟨j.val / 256, by omega⟩ ⟨j.val % 256, Nat.mod_lt _ (by norm_num)⟩ k))) * x9 (ix2 k n)

section
variable (c : Dev nD) (i : grid0.Coords) (a1 : Memref sig .tc .vmem S12x256x256 .bf16) (h1 : a1.IsWhole) (a2 : Memref sig .tc .vmem S4x2x1024 .f32) (h2 : a2.IsWhole) (a3 : Memref sig .tc .vmem S3x1024 .f32) (h3 : a3.IsWhole)
  (a4 : Memref sig .tc .vmem S8x256x256 .bf16) (h4 : a4.IsWhole) (a5 : Memref sig .tc .vmem S1x256x256 .bf16) (h5 : a5.IsWhole) (a6 : Memref sig .tc .vmem S15x256x256 .bf16) (h6 : a6.IsWhole) (a7 : Memref sig .tc .vmem S256x2048 .f32) (h7 : a7.IsWhole)
  (a8 : Memref sig .tc .vmem S4x256x2048 .bf16) (h8 : a8.IsWhole) (a9 : Memref sig .tc .vmem S8x256x2048 .bf16) (h9 : a9.IsWhole) (a10 : Memref sig .tc .vmem S2048x2048 .bf16) (h10 : a10.IsWhole) (a11 : Memref sig .tc .vmem S256x2048 .f32) (h11 : a11.IsWhole)
  (a12 : Memref sig .tc .vmem S4x2x1024 .f32) (h12 : a12.IsWhole) (a13 : Memref sig .tc .vmem S72x1024 .f32) (h13 : a13.IsWhole) (hc : cond0_0 i)
  (x0 : Vec Ideal S12x256x256 .bf16) (x1 : Vec Ideal S4x2x1024 .f32) (x2 : Vec Ideal S3x1024 .f32) (x3 : Vec Ideal S8x256x256 .bf16) (x4 : Vec Ideal S1x256x256 .bf16) (x5 : Vec Ideal S15x256x256 .bf16) (x6 : Vec Ideal S256x2048 .f32)
  (x7 : Vec Ideal S4x256x2048 .bf16) (x8 : Vec Ideal S8x256x2048 .bf16) (x9 : Vec Ideal S2048x2048 .bf16)

/-- The buffer handed on: each sequence's last two inputs. -/
theorem out_tail (s : Fin 4) (y : Fin 2) (j : Fin 1024) : out0_A_11 c i a1 h1 a2 h2 a3 h3 a4 h4 a5 h5 a6 h6 a7 h7 a8 h8 a9 h9 a10 h10 a11 h11 a12 h12 a13 h13 hc x0 x1 x2 x3 x4 x5 x6 x7 x8 x9 (ix3 s y j) = uE x0 (64 * s.val + 62 + y.val) j := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  simp only [View.readAt_eq_ld, h1.read_unread, h2.read_unread]
  unfold uE
  match s with
  | ⟨0, hs⟩ =>
    rw [tail_miss 0 3 hs (by decide), tail_miss 0 2 hs (by decide), tail_miss 0 1 hs (by decide), tail_hit 0 hs, last0]
    rw [cat_slab x0 4 5 6 7 0 _ _ _ _ _ _ (by decide) (by decide) rfl rfl rfl, cat_slab x0 8 9 10 11 0 _ _ _ _ _ _ (by decide) (by decide) rfl rfl rfl]
    simp only [Nat.mul_zero, Nat.zero_add]
  | ⟨1, hs⟩ =>
    rw [tail_miss 1 3 hs (by decide), tail_miss 1 2 hs (by decide), tail_hit 1 hs, last1]
    rw [cat_slab x0 4 5 6 7 64 _ _ _ _ _ _ (by decide) (by decide) rfl rfl rfl, cat_slab x0 8 9 10 11 64 _ _ _ _ _ _ (by decide) (by decide) rfl rfl rfl]
    simp only [Nat.mul_one, Nat.add_assoc]
  | ⟨2, hs⟩ =>
    rw [tail_miss 2 3 hs (by decide), tail_hit 2 hs, last2]
    rw [cat_slab x0 4 5 6 7 128 _ _ _ _ _ _ (by decide) (by decide) rfl rfl rfl, cat_slab x0 8 9 10 11 128 _ _ _ _ _ _ (by decide) (by decide) rfl rfl rfl]
    simp only [Nat.reduceMul, Nat.add_assoc]
  | ⟨3, hs⟩ =>
    rw [tail_hit 3 hs, last3]
    rw [cat_slab x0 4 5 6 7 192 _ _ _ _ _ _ (by decide) (by decide) rfl rfl rfl, cat_slab x0 8 9 10 11 192 _ _ _ _ _ _ (by decide) (by decide) rfl rfl rfl]
    simp only [Nat.reduceMul, Nat.add_assoc]

/-- The merged rows. -/
theorem out_x (R : Fin 256) (n : Fin 2048) : out0_A_10 c i a1 h1 a2 h2 a3 h3 a4 h4 a5 h5 a6 h6 a7 h7 a8 h8 a9 h9 a10 h10 a11 h11 a12 h12 a13 h13 hc x0 x1 x2 x3 x4 x5 x6 x7 x8 x9 (ix2 R n) = rowE x0 x1 x2 x3 x4 x5 x6 x7 x8 x9 R n := by
  unfold rowE
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S256x2048) hz, View.ld_unit_zero (S := S3x1024) hz, View.ld_unit_zero (S := S2048x2048) hz, View.ld_unit_zero (S := S1x256x256) hz3, View.ld_unit_zero (S := S4x2x1024) hz3]
  rw [x_eq]
  refine congrArg (x6 (ix2 R n) + ·) (Finset.sum_congr rfl fun k _ => ?_)
  refine congrArg (· * x9 (ix2 k n)) ?_
  have e1 : ∀ {a b c d a' b' c' d' : EReal}, a = a' → b = b' → c = c' → d = d' → a * b + c * d = a' * b' + c' * d' := by
    rintro _ _ _ _ _ _ _ _ rfl rfl rfl rfl; rfl
  refine e1 ?_ ?_ ?_ ?_
  · exact congrArg Ideal.logistic (gate_eq x4 x5 R _ (group5 x5) (group5_apply x5 R))
  · rw [bc_eq]
    generalize hA : k0_pay48 (F := Ideal) _ _ _ _ _ _ _ _ = A
    have hy : ∀ j, A (ix2 R j) = yE x0 x1 x2 R j := by
      intro j
      rw [← hA, rows4]
      unfold yE
      split_ifs with k0 k1 k2
      · rw [row0]; refine row_eq x0 x1 x2 ⟨0, by decide⟩ R _ j _ _ (by simp) (fun y j => ?_) (fun r j => ?_) ?_ ?_ (scr6 _ _ _ _ _ _ _) (scr7 _ _ _ _ _ _ _)
        · rw [old0, tail_base _ 0 (by decide)]
        · rw [new0, cat_slab x0 4 5 6 7 0 _ _ _ _ _ _ (by decide) (by decide) rfl rfl rfl, cat_slab x0 8 9 10 11 0 _ _ _ _ _ _ (by decide) (by decide) rfl rfl rfl]; rfl
        · rw [cat_slab x0 0 1 2 3 0 _ _ _ _ _ _ (by decide) (by decide) rfl rfl rfl]; rfl
        · rw [cat_slab x0 4 5 6 7 0 _ _ _ _ _ _ (by decide) (by decide) rfl rfl rfl, cat_slab x0 8 9 10 11 0 _ _ _ _ _ _ (by decide) (by decide) rfl rfl rfl]; rfl
      · rw [row1]; refine row_eq x0 x1 x2 ⟨1, by decide⟩ R _ j _ _ (by simp; omega) (fun y j => ?_) (fun r j => ?_) ?_ ?_ (scr6 _ _ _ _ _ _ _) (scr7 _ _ _ _ _ _ _)
        · rw [old1, tail_skip _ 1 0 (by decide), tail_base _ 1 (by decide)]
        · rw [new1, cat_slab x0 4 5 6 7 64 _ _ _ _ _ _ (by decide) (by decide) rfl rfl rfl, cat_slab x0 8 9 10 11 64 _ _ _ _ _ _ (by decide) (by decide) rfl rfl rfl]; rfl
        · rw [cat_slab x0 0 1 2 3 64 _ _ _ _ _ _ (by decide) (by decide) rfl rfl rfl]; rfl
        · rw [cat_slab x0 4 5 6 7 64 _ _ _ _ _ _ (by decide) (by decide) rfl rfl rfl, cat_slab x0 8 9 10 11 64 _ _ _ _ _ _ (by decide) (by decide) rfl rfl rfl]; rfl
      · rw [row2]; refine row_eq x0 x1 x2 ⟨2, by decide⟩ R _ j _ _ (by simp; omega) (fun y j => ?_) (fun r j => ?_) ?_ ?_ (scr6 _ _ _ _ _ _ _) (scr7 _ _ _ _ _ _ _)
        · rw [old2, tail_skip _ 2 1 (by decide), tail_skip _ 2 0 (by decide), tail_base _ 2 (by decide)]
        · rw [new2, cat_slab x0 4 5 6 7 128 _ _ _ _ _ _ (by decide) (by decide) rfl rfl rfl, cat_slab x0 8 9 10 11 128 _ _ _ _ _ _ (by decide) (by decide) rfl rfl rfl]; rfl
        · rw [cat_slab x0 0 1 2 3 128 _ _ _ _ _ _ (by decide) (by decide) rfl rfl rfl]; rfl
        · rw [cat_slab x0 4 5 6 7 128 _ _ _ _ _ _ (by decide) (by decide) rfl rfl rfl, cat_slab x0 8 9 10 11 128 _ _ _ _ _ _ (by decide) (by decide) rfl rfl rfl]; rfl
      · refine row_eq x0 x1 x2 ⟨3, by decide⟩ R _ j _ _ (by simp; omega) (fun y j => ?_) (fun r j => ?_) ?_ ?_ (scr6 _ _ _ _ _ _ _) (scr7 _ _ _ _ _ _ _)
        · rw [old3, tail_skip _ 3 2 (by decide), tail_skip _ 3 1 (by decide), tail_skip _ 3 0 (by decide), tail_base _ 3 (by decide)]
        · rw [new3, cat_slab x0 4 5 6 7 192 _ _ _ _ _ _ (by decide) (by decide) rfl rfl rfl, cat_slab x0 8 9 10 11 192 _ _ _ _ _ _ (by decide) (by decide) rfl rfl rfl]; rfl
        · rw [cat_slab x0 0 1 2 3 192 _ _ _ _ _ _ (by decide) (by decide) rfl rfl rfl]; rfl
        · rw [cat_slab x0 4 5 6 7 192 _ _ _ _ _ _ (by decide) (by decide) rfl rfl rfl, cat_slab x0 8 9 10 11 192 _ _ _ _ _ _ (by decide) (by decide) rfl rfl rfl]; rfl
    rw [sum4]
    refine add4 ?_ ?_ ?_ ?_ <;> refine Finset.sum_congr rfl fun e _ => ?_
    all_goals
      rw [hy]
      refine congrArg (yE x0 x1 x2 R _ * ·) ?_
      exact slabC x7 _ (by decide) _ _ _ _ (by simp)
  · exact congrArg Ideal.logistic (gate_eq x4 x5 R _ (group5 x5) (group5_apply x5 R))
  · rw [bh_eq, sum8]
    pointwise []
    refine add8 ?_ ?_ ?_ ?_ ?_ ?_ ?_ ?_ <;> refine Finset.sum_congr rfl fun e _ => ?_
    all_goals refine congrArg₂ (· * ·) (congrArg x3 ?_) (congrArg x8 ?_) <;> congr 1 <;> apply Fin.ext <;> simp <;> omega
end
end Cert.MergeProof
-- ==== Proof.MergeRef.lean ====
module

public import proofs.«01_k».proof.Defs
public import proofs.«01_k».proof.Proof.Gen.MergeRefIdeal.Read
public import Idealize.ShloMosaic.Lib.Pointwise

/-! The merge's reference, entry by entry. -/

@[expose] public section
set_option maxRecDepth 16384
open Idealize.ShloMosaic Idealize.ShloMosaic.TcCoe Idealize.SL.Sem
noncomputable section
namespace Cert.MergeProof.Ref
open Cert.MergeRefIdeal Cert.MergeRefIdeal.Read

variable (x0 : Vec Ideal S60x1024x256 .bf16) (x1 : Vec Ideal S8x1024x256 .bf16) (x2 : Vec Ideal S1024x2048 .f32) (x3 : Vec Ideal S16x2x1024 .f32) (x4 : Vec Ideal S1x3x1024 .f32)
  (x5 : Vec Ideal S1024x2048 .bf16) (x6 x7 : Vec Ideal S2048x2048 .bf16)

/-- The projections with their column groups side by side. -/
theorem v2_eq (b : Fin 16) (t : Fin 64) (k : Fin 15360) : val_main_v2 (F := Ideal) x0 (ix3 b t k) = x0 (ix3 ⟨k.val / 256, by omega⟩ ⟨b.val * 64 + t.val, by omega⟩ ⟨k.val % 256, Nat.mod_lt _ (by norm_num)⟩) := by
  pointwise [val_main_v0, val_main_v1, val_main_v2]

/-- The recurrence's outputs with their column groups side by side. -/
theorem v14_eq (b : Fin 16) (t : Fin 64) (k : Fin 2048) : val_main_v14 (F := Ideal) x1 (ix3 b t k) = x1 (ix3 ⟨k.val / 256, by omega⟩ ⟨b.val * 64 + t.val, by omega⟩ ⟨k.val % 256, Nat.mod_lt _ (by norm_num)⟩) := by
  pointwise [val_main_v12, val_main_v13, val_main_v14]

/-- The convolution's inputs behind the two buffered ones. -/
theorem v17_eq (b : Fin 16) (t : Fin 66) (k : Fin 1024) : val_main_v17 (F := Ideal) x0 x3 (ix3 b t k) =
    if h : t.val < 2 then x3 (ix3 b ⟨t.val, h⟩ k)
    else val_main_v2 (F := Ideal) x0 (ix3 b ⟨t.val - 2, by omega⟩ ⟨1024 + k.val, by omega⟩) * val_main_v2 (F := Ideal) x0 (ix3 b ⟨t.val - 2, by omega⟩ ⟨2048 + k.val, by omega⟩) := by
  pointwise [val_main_v17, val_main_v15, val_main_v4, val_main_v5]

/-- The buffer handed on. -/
theorem v38_eq (b : Fin 16) (t : Fin 2) (k : Fin 1024) : val_main_v38 (F := Ideal) x0 x3 (ix3 b t k) = val_main_v17 (F := Ideal) x0 x3 (ix3 b ⟨64 + t.val, by omega⟩ k) := by
  pointwise [val_main_v38]

/-- The gated convolution. -/
theorem v39_eq (b : Fin 16) (t : Fin 64) (k : Fin 1024) : val_main_v39 (F := Ideal) x0 x3 x4 (ix3 b t k) =
    val_main_v2 (F := Ideal) x0 (ix3 b t ⟨k.val, by omega⟩) *
      (x4 (ix3 0 0 k) * val_main_v17 (F := Ideal) x0 x3 (ix3 b ⟨t.val, by omega⟩ k) + x4 (ix3 0 1 k) * val_main_v17 (F := Ideal) x0 x3 (ix3 b ⟨1 + t.val, by omega⟩ k)
        + x4 (ix3 0 2 k) * val_main_v17 (F := Ideal) x0 x3 (ix3 b ⟨2 + t.val, by omega⟩ k)) := by
  pointwise [val_main_v39, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_v3]

/-- The merged rows. -/
theorem v63_eq (R : Fin 1024) (n : Fin 2048) : val_main_v63 (F := Ideal) x0 x1 x2 x3 x4 x5 x6 x7 (ix2 R n) =
    x2 (ix2 R n) + ∑ x : Fin 2048,
      (Ideal.logistic (val_main_v2 (F := Ideal) x0 (ix3 ⟨R.val / 64, by omega⟩ ⟨R.val % 64, by omega⟩ ⟨11264 + x.val, by omega⟩))
          * (∑ j : Fin 1024, val_main_v39 (F := Ideal) x0 x3 x4 (ix3 ⟨R.val / 64, by omega⟩ ⟨R.val % 64, by omega⟩ j) * x5 (ix2 j x))
        + Ideal.logistic (val_main_v2 (F := Ideal) x0 (ix3 ⟨R.val / 64, by omega⟩ ⟨R.val % 64, by omega⟩ ⟨13312 + x.val, by omega⟩))
          * (∑ j : Fin 2048, val_main_v14 (F := Ideal) x1 (ix3 ⟨R.val / 64, by omega⟩ ⟨R.val % 64, by omega⟩ j) * x6 (ix2 j x))) * x7 (ix2 x n) := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_cst, val_main_cst_0, val_main_cst_1, val_main_cst_2, val_main_v10, val_main_v11]
  rfl
end Cert.MergeProof.Ref
-- ==== Proof.MergeFlow.lean ====
module

public import proofs.«01_k».proof.Proof.MergeOut
public import proofs.«01_k».proof.Proof.MergeRef

/-! What the merge kernel's windows hold, and its two result arrays from them. -/

@[expose] public section
set_option maxRecDepth 16384
open Idealize.ShloMosaic Idealize.ShloMosaic.TcCoe Idealize.SL.Sem
open Idealize.ShloMosaic.Pipeline (Dat)
noncomputable section
namespace Cert.MergeProof
open Cert.MergeIdeal Cert.MergeIdeal.Gen Cert.MergeIdeal.Value

variable (m : (ℓ : Loc nD τ sig) → Buf (Elt Ideal) ℓ)

/-! ## The argument arrays -/
/-- The projection, in sixty groups of 256 channels. -/
def P (c : Dev nD) : Vec Ideal S60x1024x256 .bf16 := m ((c : Thread nD τ).loc main_arg0)
/-- The recurrent output. -/
def H (c : Dev nD) : Vec Ideal S8x1024x256 .bf16 := m ((c : Thread nD τ).loc main_arg1)
/-- The residual input. -/
def X (c : Dev nD) : Vec Ideal S1024x2048 .f32 := m ((c : Thread nD τ).loc main_arg2)
/-- The rows carried in from the last call. -/
def C (c : Dev nD) : Vec Ideal S16x2x1024 .f32 := m ((c : Thread nD τ).loc main_arg3)
/-- The taps of the filter. -/
def W (c : Dev nD) : Vec Ideal S1x3x1024 .f32 := m ((c : Thread nD τ).loc main_arg4)
/-- The weights of the filtered branch. -/
def Bc (c : Dev nD) : Vec Ideal S1024x2048 .bf16 := m ((c : Thread nD τ).loc main_arg5)
/-- The weights of the recurrent branch. -/
def Bh (c : Dev nD) : Vec Ideal S2048x2048 .bf16 := m ((c : Thread nD τ).loc main_arg6)
/-- The weights of the output projection. -/
def Wo (c : Dev nD) : Vec Ideal S2048x2048 .bf16 := m ((c : Thread nD τ).loc main_arg7)

/-- The grid has four points. -/
theorem N4 : cfg0.N = 4 := N_0

/-! ## What a grid point's windows hold -/

/-- Window 0 at point `t`: the first twelve groups of the projection, rows `256 t` onwards. -/
theorem win0 (c : Dev nD) (t : Fin cfg0.N) (g : Fin 12) (R k : Fin 256) : iblk m c 0 t (ix3 g R k) = P m c (ix3 ⟨g.val, by omega⟩ ⟨256 * t.val + R.val, by have := N4; omega⟩ k) := by
  have e : ∀ t : Fin cfg0.N, win0_0.index t (0 : Fin 3) = 0 ∧ win0_0.index t (1 : Fin 3) = t.val ∧ win0_0.index t (2 : Fin 3) = 0 := by decide +kernel
  have hN := N4
  unfold iblk
  rw [View.read_apply]
  show V m c main_arg0 _ = _
  rw [V_main_arg0]
  refine congrArg (P m c) ?_
  obtain ⟨e0, e1, e2⟩ := e t
  funext a; apply Fin.ext
  match a with
  | ⟨0, _⟩ => show win0_0.index t 0 * 12 + 1 * g.val = g.val; omega
  | ⟨1, _⟩ => show win0_0.index t 1 * 256 + 1 * R.val = 256 * t.val + R.val; omega
  | ⟨2, _⟩ => show win0_0.index t 2 * 256 + 1 * k.val = k.val; omega

/-- Window 1: the carried rows of the four sequences of point `t`. -/
theorem win1 (c : Dev nD) (t : Fin cfg0.N) (s : Fin 4) (y : Fin 2) (j : Fin 1024) : iblk m c 1 t (ix3 s y j) = C m c (ix3 ⟨4 * t.val + s.val, by have := N4; omega⟩ y j) := by
  have e : ∀ t : Fin cfg0.N, win0_1.index t (0 : Fin 3) = t.val ∧ win0_1.index t (1 : Fin 3) = 0 ∧ win0_1.index t (2 : Fin 3) = 0 := by decide +kernel
  have hN := N4
  unfold iblk
  rw [View.read_apply]
  show V m c main_arg3 _ = _
  rw [V_main_arg3]
  refine congrArg (C m c) ?_
  obtain ⟨e0, e1, e2⟩ := e t
  funext a; apply Fin.ext
  match a with
  | ⟨0, _⟩ => show win0_1.index t 0 * 4 + 1 * s.val = 4 * t.val + s.val; omega
  | ⟨1, _⟩ => show win0_1.index t 1 * 2 + 1 * y.val = y.val; omega
  | ⟨2, _⟩ => show win0_1.index t 2 * 1024 + 1 * j.val = j.val; omega

/-- The taps, without their leading axis. -/
theorem V_taps (c : Dev nD) : V m c main_v0 = shapeCast S3x1024 (W m c) shapeCasts_S1x3x1024_S3x1024 := rfl
/-- The weights of the filtered branch, in four groups of rows. -/
theorem V_bc (c : Dev nD) : V m c main_v1 = shapeCast S4x256x2048 (Bc m c) shapeCasts_S1024x2048_S4x256x2048 := rfl
/-- The weights of the recurrent branch, in eight groups of rows. -/
theorem V_bh (c : Dev nD) : V m c main_v2 = shapeCast S8x256x2048 (Bh m c) shapeCasts_S2048x2048_S8x256x2048 := rfl

/-- Window 2: the taps. -/
theorem win2 (c : Dev nD) (t : Fin cfg0.N) (d : Fin 3) (j : Fin 1024) : iblk m c 2 t (ix2 d j) = W m c (ix3 0 d j) := by
  have e : ∀ t : Fin cfg0.N, win0_2.index t (0 : Fin 2) = 0 ∧ win0_2.index t (1 : Fin 2) = 0 := by decide +kernel
  have hN := N4
  unfold iblk
  rw [View.read_apply]
  show V m c main_v0 _ = _
  rw [V_taps]
  obtain ⟨e0, e1⟩ := e t
  have i : ((cfg0.win 2).blk t).view.emb (ix2 d j) = (ix2 d j : S3x1024.Idx) := by
    funext a; apply Fin.ext
    match a with
    | ⟨0, _⟩ => show win0_2.index t 0 * 3 + 1 * d.val = d.val; omega
    | ⟨1, _⟩ => show win0_2.index t 1 * 1024 + 1 * j.val = j.val; omega
  rw [i]
  pointwise []

/-- Window 3: the recurrent output, rows `256 t` onwards. -/
theorem win3 (c : Dev nD) (t : Fin cfg0.N) (g : Fin 8) (R k : Fin 256) : iblk m c 3 t (ix3 g R k) = H m c (ix3 g ⟨256 * t.val + R.val, by have := N4; omega⟩ k) := by
  have e : ∀ t : Fin cfg0.N, win0_3.index t (0 : Fin 3) = 0 ∧ win0_3.index t (1 : Fin 3) = t.val ∧ win0_3.index t (2 : Fin 3) = 0 := by decide +kernel
  have hN := N4
  unfold iblk
  rw [View.read_apply]
  show V m c main_arg1 _ = _
  rw [V_main_arg1]
  refine congrArg (H m c) ?_
  obtain ⟨e0, e1, e2⟩ := e t
  funext a; apply Fin.ext
  match a with
  | ⟨0, _⟩ => show win0_3.index t 0 * 8 + 1 * g.val = g.val; omega
  | ⟨1, _⟩ => show win0_3.index t 1 * 256 + 1 * R.val = 256 * t.val + R.val; omega
  | ⟨2, _⟩ => show win0_3.index t 2 * 256 + 1 * k.val = k.val; omega

/-- Window 4: group 44 of the projection. -/
theorem win4 (c : Dev nD) (t : Fin cfg0.N) (z : Fin 1) (R k : Fin 256) : iblk m c 4 t (ix3 z R k) = P m c (ix3 44 ⟨256 * t.val + R.val, by have := N4; omega⟩ k) := by
  have e : ∀ t : Fin cfg0.N, win0_4.index t (0 : Fin 3) = 44 ∧ win0_4.index t (1 : Fin 3) = t.val ∧ win0_4.index t (2 : Fin 3) = 0 := by decide +kernel
  have hN := N4
  unfold iblk
  rw [View.read_apply]
  show V m c main_arg0 _ = _
  rw [V_main_arg0]
  refine congrArg (P m c) ?_
  obtain ⟨e0, e1, e2⟩ := e t
  funext a; apply Fin.ext
  match a with
  | ⟨0, _⟩ => show win0_4.index t 0 * 1 + 1 * z.val = 44; omega
  | ⟨1, _⟩ => show win0_4.index t 1 * 256 + 1 * R.val = 256 * t.val + R.val; omega
  | ⟨2, _⟩ => show win0_4.index t 2 * 256 + 1 * k.val = k.val; omega

/-- Window 5: groups 45 to 59 of the projection. -/
theorem win5 (c : Dev nD) (t : Fin cfg0.N) (g : Fin 15) (R k : Fin 256) : iblk m c 5 t (ix3 g R k) = P m c (ix3 ⟨45 + g.val, by omega⟩ ⟨256 * t.val + R.val, by have := N4; omega⟩ k) := by
  have e : ∀ t : Fin cfg0.N, win0_5.index t (0 : Fin 3) = 3 ∧ win0_5.index t (1 : Fin 3) = t.val ∧ win0_5.index t (2 : Fin 3) = 0 := by decide +kernel
  have hN := N4
  unfold iblk
  rw [View.read_apply]
  show V m c main_arg0 _ = _
  rw [V_main_arg0]
  refine congrArg (P m c) ?_
  obtain ⟨e0, e1, e2⟩ := e t
  funext a; apply Fin.ext
  match a with
  | ⟨0, _⟩ => show win0_5.index t 0 * 15 + 1 * g.val = 45 + g.val; omega
  | ⟨1, _⟩ => show win0_5.index t 1 * 256 + 1 * R.val = 256 * t.val + R.val; omega
  | ⟨2, _⟩ => show win0_5.index t 2 * 256 + 1 * k.val = k.val; omega

/-- Window 6: the residual input. -/
theorem win6 (c : Dev nD) (t : Fin cfg0.N) (R : Fin 256) (n : Fin 2048) : iblk m c 6 t (ix2 R n) = X m c (ix2 ⟨256 * t.val + R.val, by have := N4; omega⟩ n) := by
  have e : ∀ t : Fin cfg0.N, win0_6.index t (0 : Fin 2) = t.val ∧ win0_6.index t (1 : Fin 2) = 0 := by decide +kernel
  have hN := N4
  unfold iblk
  rw [View.read_apply]
  show V m c main_arg2 _ = _
  rw [V_main_arg2]
  refine congrArg (X m c) ?_
  obtain ⟨e0, e1⟩ := e t
  funext a; apply Fin.ext
  match a with
  | ⟨0, _⟩ => show win0_6.index t 0 * 256 + 1 * R.val = 256 * t.val + R.val; omega
  | ⟨1, _⟩ => show win0_6.index t 1 * 2048 + 1 * n.val = n.val; omega

/-- Window 7: the weights of the filtered branch. -/
theorem win7 (c : Dev nD) (t : Fin cfg0.N) (g : Fin 4) (k : Fin 256) (n : Fin 2048) : iblk m c 7 t (ix3 g k n) = Bc m c (ix2 ⟨g.val * 256 + k.val, by omega⟩ n) := by
  have e : ∀ t : Fin cfg0.N, win0_7.index t (0 : Fin 3) = 0 ∧ win0_7.index t (1 : Fin 3) = 0 ∧ win0_7.index t (2 : Fin 3) = 0 := by decide +kernel
  have hN := N4
  unfold iblk
  rw [View.read_apply]
  show V m c main_v1 _ = _
  rw [V_bc]
  obtain ⟨e0, e1, e2⟩ := e t
  have i : ((cfg0.win 7).blk t).view.emb (ix3 g k n) = (ix3 g k n : S4x256x2048.Idx) := by
    funext a; apply Fin.ext
    match a with
    | ⟨0, _⟩ => show win0_7.index t 0 * 4 + 1 * g.val = g.val; omega
    | ⟨1, _⟩ => show win0_7.index t 1 * 256 + 1 * k.val = k.val; omega
    | ⟨2, _⟩ => show win0_7.index t 2 * 2048 + 1 * n.val = n.val; omega
  rw [i]
  pointwise []

/-- Window 8: the weights of the recurrent branch. -/
theorem win8 (c : Dev nD) (t : Fin cfg0.N) (g : Fin 8) (k : Fin 256) (n : Fin 2048) : iblk m c 8 t (ix3 g k n) = Bh m c (ix2 ⟨g.val * 256 + k.val, by omega⟩ n) := by
  have e : ∀ t : Fin cfg0.N, win0_8.index t (0 : Fin 3) = 0 ∧ win0_8.index t (1 : Fin 3) = 0 ∧ win0_8.index t (2 : Fin 3) = 0 := by decide +kernel
  have hN := N4
  unfold iblk
  rw [View.read_apply]
  show V m c main_v2 _ = _
  rw [V_bh]
  obtain ⟨e0, e1, e2⟩ := e t
  have i : ((cfg0.win 8).blk t).view.emb (ix3 g k n) = (ix3 g k n : S8x256x2048.Idx) := by
    funext a; apply Fin.ext
    match a with
    | ⟨0, _⟩ => show win0_8.index t 0 * 8 + 1 * g.val = g.val; omega
    | ⟨1, _⟩ => show win0_8.index t 1 * 256 + 1 * k.val = k.val; omega
    | ⟨2, _⟩ => show win0_8.index t 2 * 2048 + 1 * n.val = n.val; omega
  rw [i]
  pointwise []

/-- Window 9: the weights of the output projection. -/
theorem win9 (c : Dev nD) (t : Fin cfg0.N) (k n : Fin 2048) : iblk m c 9 t (ix2 k n) = Wo m c (ix2 k n) := by
  have e : ∀ t : Fin cfg0.N, win0_9.index t (0 : Fin 2) = 0 ∧ win0_9.index t (1 : Fin 2) = 0 := by decide +kernel
  have hN := N4
  unfold iblk
  rw [View.read_apply]
  show V m c main_arg7 _ = _
  rw [V_main_arg7]
  refine congrArg (Wo m c) ?_
  obtain ⟨e0, e1⟩ := e t
  funext a; apply Fin.ext
  match a with
  | ⟨0, _⟩ => show win0_9.index t 0 * 2048 + 1 * k.val = k.val; omega
  | ⟨1, _⟩ => show win0_9.index t 1 * 2048 + 1 * n.val = n.val; omega

/-! ## The result arrays -/

/-- The first output block of point `t`. -/
theorem outs_x (c : Dev nD) (t : Fin cfg0.N) (R : Fin 256) (n : Fin 2048) : (outsAt0 m c t).1 (ix2 R n) =
    rowE (iblk m c 0 t) (iblk m c 1 t) (iblk m c 2 t) (iblk m c 3 t) (iblk m c 4 t) (iblk m c 5 t) (iblk m c 6 t) (iblk m c 7 t) (iblk m c 8 t) (iblk m c 9 t) R n := by
  unfold outsAt0; dsimp only; rw [out_x]

/-- The second output block of point `t`: the last two rows of each sequence. -/
theorem outs_tail (c : Dev nD) (t : Fin cfg0.N) (s : Fin 4) (y : Fin 2) (j : Fin 1024) : (outsAt0 m c t).2 (ix3 s y j) = uE (iblk m c 0 t) (64 * s.val + 62 + y.val) j := by
  unfold outsAt0; dsimp only; rw [out_tail]

/-- Where point `t` writes its first block, and that it does. -/
theorem idx10 : ∀ t : Fin cfg0.N, win0_10.index t (0 : Fin 2) = t.val ∧ win0_10.index t (1 : Fin 2) = 0 ∧ (cfg0.win 10).flush t = true := by
  decide +kernel
/-- Where point `t` writes its second block, and that it does. -/
theorem idx11 : ∀ t : Fin cfg0.N, (win0_11.index t (0 : Fin 3) = t.val ∧ win0_11.index t (1 : Fin 3) = 0 ∧ win0_11.index t (2 : Fin 3) = 0) ∧ (cfg0.win 11).flush t = true := by
  decide +kernel

/-- An entry of the merged rows, from the grid point that writes it. -/
theorem arr_x (c : Dev nD) (t : Fin cfg0.N) (R : Fin 256) (n : Fin 2048) :
    (dats m 0 c).arrAt 10 cfg0.N (ix2 ⟨256 * t.val + R.val, by have := N4; omega⟩ n : S1024x2048.Idx) = (outsAt0 m c t).1 (ix2 R n) := by
  obtain ⟨e0, e1, hf⟩ := idx10 t
  have h := congrFun (blocks10 m c t hf) (ix2 R n : S256x2048.Idx)
  rw [View.read_apply, flushed10] at h
  refine Eq.trans ?_ h
  congr 1
  funext a; apply Fin.ext
  match a with
  | ⟨0, _⟩ => show 256 * t.val + R.val = win0_10.index t 0 * 256 + 1 * R.val; omega
  | ⟨1, _⟩ => show n.val = win0_10.index t 1 * 2048 + 1 * n.val; omega

/-- An entry of the buffer handed on, from the grid point that writes it. -/
theorem arr_tail (c : Dev nD) (t : Fin cfg0.N) (s : Fin 4) (y : Fin 2) (j : Fin 1024) :
    (dats m 0 c).arrAt 11 cfg0.N (ix3 ⟨4 * t.val + s.val, by have := N4; omega⟩ y j : S16x2x1024.Idx) = (outsAt0 m c t).2 (ix3 s y j) := by
  obtain ⟨⟨e0, e1, e2⟩, hf⟩ := idx11 t
  have h := congrFun (blocks11 m c t hf) (ix3 s y j : S4x2x1024.Idx)
  rw [View.read_apply, flushed11] at h
  refine Eq.trans ?_ h
  congr 1
  funext a; apply Fin.ext
  match a with
  | ⟨0, _⟩ => show 4 * t.val + s.val = win0_11.index t 0 * 4 + 1 * s.val; omega
  | ⟨1, _⟩ => show y.val = win0_11.index t 1 * 2 + 1 * y.val; omega
  | ⟨2, _⟩ => show j.val = win0_11.index t 2 * 1024 + 1 * j.val; omega

end Cert.MergeProof
-- ==== Proof.Merge.lean ====
module

public import proofs.«01_k».proof.Proof.MergeFlow
public import proofs.«01_k».proof.Proof.MergeRef

/-! The merge's kernel and its reference compute the same results. -/

@[expose] public section
set_option maxRecDepth 16384
open Idealize.ShloMosaic Idealize.ShloMosaic.TcCoe Idealize.SL.Sem
open Idealize.ShloMosaic.Pipeline (Dat)
noncomputable section
namespace Cert.MergeProof
open Cert.MergeIdeal Cert.MergeIdeal.Gen Cert.MergeIdeal.Value

variable (m : (ℓ : Loc nD τ sig) → Buf (Elt Ideal) ℓ) (c : Dev nD) (t : Fin cfg0.N)

/-- A projection's entry, at group `g` of the block. -/
theorem at_same (g : ℕ) (hg : g ≤ 8) (R : Fin 256) (j : Fin 1024) (b : Fin 16) (r : Fin 64) (k : Fin 15360) (hb : 64 * b.val + r.val = 256 * t.val + R.val) (hk : k.val = 256 * g + j.val) :
    at12 (iblk m c 0 t) g hg R.val j = Cert.MergeRefIdeal.Read.val_main_v2 (F := Ideal) (P m c) (ix3 b r k) := by
  have hN := N4
  unfold at12
  rw [win0, Ref.v2_eq]
  refine congrArg (P m c) ?_
  congr 1 <;> apply Fin.ext <;> dsimp only <;> omega

/-- A sequence's inputs behind the two buffered ones. -/
theorem f_same (s : Fin 4) (i : ℕ) (hi : i < 66) (j : Fin 1024) (b : Fin 16) (k : Fin 66) (hb : b.val = 4 * t.val + s.val) (hk : k.val = i) :
    fE (iblk m c 0 t) (iblk m c 1 t) s i j = Cert.MergeRefIdeal.Read.val_main_v17 (F := Ideal) (P m c) (C m c) (ix3 b k j) := by
  have hN := N4
  subst hk
  rw [Ref.v17_eq]
  unfold fE
  split_ifs with h
  · rw [win1]
    refine congrArg (C m c) ?_
    congr 1; apply Fin.ext; dsimp only; omega
  · unfold uE
    rw [at_same m c t 4 (by norm_num) ⟨64 * s.val + (k.val - 2), by omega⟩ j b ⟨k.val - 2, by omega⟩ ⟨1024 + j.val, by omega⟩ (by dsimp only; omega) (by dsimp only),
      at_same m c t 8 (by norm_num) ⟨64 * s.val + (k.val - 2), by omega⟩ j b ⟨k.val - 2, by omega⟩ ⟨2048 + j.val, by omega⟩ (by dsimp only; omega) (by dsimp only)]

/-- A step's own input is the one two places on behind the buffered ones. -/
theorem u_same (s : Fin 4) (r : ℕ) (hr : r < 64) (j : Fin 1024) (b : Fin 16) (k : Fin 66) (hb : b.val = 4 * t.val + s.val) (hk : k.val = r + 2) :
    uE (iblk m c 0 t) (64 * s.val + r) j = Cert.MergeRefIdeal.Read.val_main_v17 (F := Ideal) (P m c) (C m c) (ix3 b k j) := by
  refine Eq.trans ?_ (f_same m c t s (r + 2) (by omega) j b k hb hk)
  unfold fE
  rw [dif_neg (by omega)]
  rfl

/-- The kernel adds a step's own term first, the reference last. -/
theorem reorder (g a b d : EReal) : g * (a + b + d) = g * (b + d + a) := by rw [add_assoc, add_comm]

/-- The gated convolution. -/
theorem y_same (R : Fin 256) (j : Fin 1024) (b : Fin 16) (r : Fin 64) (hb : 64 * b.val + r.val = 256 * t.val + R.val) :
    yE (iblk m c 0 t) (iblk m c 1 t) (iblk m c 2 t) R j = Cert.MergeRefIdeal.Read.val_main_v39 (F := Ideal) (P m c) (C m c) (W m c) (ix3 b r j) := by
  have hN := N4
  rw [Ref.v39_eq]
  unfold yE crow
  rw [at_same m c t 0 (by norm_num) R j b r ⟨j.val, by omega⟩ hb (by simp), win2, win2, win2,
    f_same m c t ⟨R.val / 64, by omega⟩ (R.val % 64) (by omega) j b ⟨r.val, by omega⟩ (by dsimp only; omega) (by dsimp only; omega),
    f_same m c t ⟨R.val / 64, by omega⟩ (R.val % 64 + 1) (by omega) j b ⟨1 + r.val, by omega⟩ (by dsimp only; omega) (by dsimp only; omega)]
  have hR : R.val = 64 * (R.val / 64) + R.val % 64 := by omega
  have hu : uE (iblk m c 0 t) R.val j = Cert.MergeRefIdeal.Read.val_main_v17 (F := Ideal) (P m c) (C m c) (ix3 b ⟨2 + r.val, by omega⟩ j) := by
    have h := u_same m c t ⟨R.val / 64, by omega⟩ (R.val % 64) (by omega) j b ⟨2 + r.val, by omega⟩ (by dsimp only; omega) (by dsimp only; omega)
    dsimp only at h
    rwa [← hR] at h
  rw [hu]
  exact reorder _ _ _ _

/-- A gate's column. -/
theorem g_same (R : Fin 256) (k : Fin 4096) (b : Fin 16) (r : Fin 64) (k' : Fin 15360) (hb : 64 * b.val + r.val = 256 * t.val + R.val) (hk : k'.val = 11264 + k.val) :
    gE (iblk m c 4 t) (iblk m c 5 t) R k = Cert.MergeRefIdeal.Read.val_main_v2 (F := Ideal) (P m c) (ix3 b r k') := by
  have hN := N4
  rw [Ref.v2_eq]
  unfold gE
  split_ifs with h
  · rw [win4]
    refine congrArg (P m c) ?_
    congr 1 <;> apply Fin.ext <;> simp <;> omega
  · rw [win5]
    refine congrArg (P m c) ?_
    congr 1 <;> apply Fin.ext <;> dsimp only <;> omega

/-- The kernel's first result is the reference's. -/
theorem x_all : Cert.MergeRefIdeal.Read.val_main_v63 (F := Ideal) (P m c) (H m c) (X m c) (C m c) (W m c) (Bc m c) (Bh m c) (Wo m c) = (dats m 0 c).arrAt 10 cfg0.N := by
  have hN := N4
  funext i
  obtain ⟨q, n, rfl⟩ : ∃ (q : Fin 1024) (n : Fin 2048), i = ix2 q n := ⟨i 0, i 1, eq_ix2 i⟩
  obtain ⟨t, R, hq⟩ : ∃ (t : Fin cfg0.N) (R : Fin 256), q.val = 256 * t.val + R.val := ⟨⟨q.val / 256, by omega⟩, ⟨q.val % 256, by omega⟩, by dsimp only; omega⟩
  have hq' : q = ⟨256 * t.val + R.val, by omega⟩ := Fin.ext hq
  have hb : 64 * (q.val / 64) + q.val % 64 = 256 * t.val + R.val := by omega
  rw [Ref.v63_eq]
  refine Eq.trans ?_ ((congrArg (fun q => (dats m 0 c).arrAt 10 cfg0.N (ix2 q n : S1024x2048.Idx)) hq').trans ((arr_x m c t R n).trans (outs_x m c t R n))).symm
  unfold rowE
  rw [win6, ← hq']
  refine congrArg (X m c (ix2 q n) + ·) (Finset.sum_congr rfl fun k _ => ?_)
  rw [win9, g_same m c t R ⟨k.val, by omega⟩ ⟨q.val / 64, by omega⟩ ⟨q.val % 64, by omega⟩ ⟨11264 + k.val, by omega⟩ hb rfl,
    g_same m c t R ⟨2048 + k.val, by omega⟩ ⟨q.val / 64, by omega⟩ ⟨q.val % 64, by omega⟩ ⟨13312 + k.val, by omega⟩ hb (by dsimp only; omega)]
  refine congrArg (· * Wo m c (ix2 k n)) (congrArg₂ (· + ·) (congrArg (_ * ·) (Finset.sum_congr rfl fun j _ => ?_)) (congrArg (_ * ·) (Finset.sum_congr rfl fun j _ => ?_)))
  · rw [y_same m c t R j ⟨q.val / 64, by omega⟩ ⟨q.val % 64, by omega⟩ hb, win7]
    refine congrArg (_ * ·) (congrArg (Bc m c) ?_)
    congr 1; apply Fin.ext; dsimp only; omega
  · rw [win3, win8, Ref.v14_eq]
    refine congrArg₂ (· * ·) (congrArg (H m c) ?_) (congrArg (Bh m c) ?_)
    · congr 1; apply Fin.ext; dsimp only; omega
    · congr 1; apply Fin.ext; dsimp only; omega

/-- The kernel's second result is the reference's. -/
theorem tail_all : Cert.MergeRefIdeal.Read.val_main_v38 (F := Ideal) (P m c) (C m c) = (dats m 0 c).arrAt 11 cfg0.N := by
  have hN := N4
  funext i
  obtain ⟨b, y, j, rfl⟩ : ∃ (b : Fin 16) (y : Fin 2) (j : Fin 1024), i = ix3 b y j := ⟨i 0, i 1, i 2, eq_ix3 i⟩
  obtain ⟨t, s, hq⟩ : ∃ (t : Fin cfg0.N) (s : Fin 4), b.val = 4 * t.val + s.val := ⟨⟨b.val / 4, by omega⟩, ⟨b.val % 4, by omega⟩, by dsimp only; omega⟩
  have hb : b = ⟨4 * t.val + s.val, by omega⟩ := Fin.ext hq
  rw [Ref.v38_eq]
  refine Eq.trans ?_ ((congrArg (fun b => (dats m 0 c).arrAt 11 cfg0.N (ix3 b y j : S16x2x1024.Idx)) hb).trans ((arr_tail m c t s y j).trans (outs_tail m c t s y j))).symm
  have h := u_same m c t s (62 + y.val) (by omega) j b ⟨64 + y.val, by omega⟩ hq (by dsimp only; omega)
  rw [← Nat.add_assoc] at h
  exact h.symm

/-- The merge: the kernel and the reference end with the same rows and hand on the same convolution buffer. -/
theorem algebraic [Cert.MergeIdeal.Facts] [Cert.MergeRefIdeal.Facts] : Cert.algebraic_MergeIdeal_MergeRefIdeal := by
  intro m g m' g' _ hargs
  refine ⟨fun c => (dats m 0 c).arrAt 10 cfg0.N, fun c => (dats m 0 c).arrAt 11 cfg0.N, Value.run_blocks m g, ?_⟩
  refine (θ_run _ _ _).mono (fun r h c => ?_) (Cert.MergeRefIdeal.Value.run m' g')
  obtain ⟨e0, e1, e2, e3, e4, e5, e6, e7⟩ := hargs c
  have q0 : m' ((c : Thread Cert.MergeRefIdeal.nD Cert.MergeRefIdeal.τ).loc Cert.MergeRefIdeal.main_arg0) = P m c := e0
  have q1 : m' ((c : Thread Cert.MergeRefIdeal.nD Cert.MergeRefIdeal.τ).loc Cert.MergeRefIdeal.main_arg1) = H m c := e1
  have q2 : m' ((c : Thread Cert.MergeRefIdeal.nD Cert.MergeRefIdeal.τ).loc Cert.MergeRefIdeal.main_arg2) = X m c := e2
  have q3 : m' ((c : Thread Cert.MergeRefIdeal.nD Cert.MergeRefIdeal.τ).loc Cert.MergeRefIdeal.main_arg3) = C m c := e3
  have q4 : m' ((c : Thread Cert.MergeRefIdeal.nD Cert.MergeRefIdeal.τ).loc Cert.MergeRefIdeal.main_arg4) = W m c := e4
  have q5 : m' ((c : Thread Cert.MergeRefIdeal.nD Cert.MergeRefIdeal.τ).loc Cert.MergeRefIdeal.main_arg5) = Bc m c := e5
  have q6 : m' ((c : Thread Cert.MergeRefIdeal.nD Cert.MergeRefIdeal.τ).loc Cert.MergeRefIdeal.main_arg6) = Bh m c := e6
  have q7 : m' ((c : Thread Cert.MergeRefIdeal.nD Cert.MergeRefIdeal.τ).loc Cert.MergeRefIdeal.main_arg7) = Wo m c := e7
  refine ⟨?_, ?_, (h c).2.2⟩
  · rw [(h c).1, Cert.MergeRefIdeal.Read.val_main_v63_eq, q0, q1, q2, q3, q4, q5, q6, q7]
    exact x_all m c
  · rw [(h c).2.1, Cert.MergeRefIdeal.Read.val_main_v38_eq, q0, q3]
    exact tail_all m c

end Cert.MergeProof
-- ==== Proof.Ffn2.lean ====
module

public import proofs.«01_k».proof.Defs
public import proofs.«01_k».proof.Proof.Ffn1
public import proofs.«01_k».proof.Proof.Gen.Ffn2Ideal.Value
public import proofs.«01_k».proof.Proof.Gen.Ffn2RefIdeal.Run
public import proofs.«01_k».proof.Proof.Gen.Ffn2RefIdeal.Read
public import Idealize.ShloMosaic.Lib.Pointwise

@[expose] public section

set_option maxRecDepth 16384

open Idealize.ShloMosaic Idealize.ShloMosaic.TcCoe Idealize.SL.Sem
open Idealize.ShloMosaic.Pipeline (Dat)

noncomputable section

namespace Cert.Ffn2Proof
open Cert.Ffn2Ideal Cert.Ffn2Ideal.Gen Cert.Ffn2Ideal.Value Cert.FfnSum
open Cert.Ffn1Proof (hz part step unit step_eq)

variable (m : (ℓ : Loc nD τ sig) → Buf (Elt Ideal) ℓ)

/-- Every point but the first and the last adds its block's contribution to what the point before left. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : ¬cond0_0 i) (hd : ¬cond0_1 i) (x : Vec Ideal S1024x2048 .f32) (g : Vec Ideal S1x2048 .f32) (wg wu : Vec Ideal S2048x512 .bf16)
    (wd : Vec Ideal S512x2048 .bf16) (g' : Vec Ideal S1x2048 .f32) (o : Vec Ideal S1024x2048 .f32) (h : Vec Ideal S1024x2048 .bf16) :
    out0_B_6 c i a2 h2 a3 h3 a4 h4 a5 h5 a6 h6 a7 h7 a8 h8 a9 h9 hc hd x g wg wu wd g' o h = step h wg wu wd o := by
  funext j
  unfold out0_B_6
  rw [View.read_writes_eq_canon _ _ _ (cover0_B_6 c i a2 h2 a3 h3 a4 h4 a5 h5 a6 h6 a7 h7 a8 h8 a9 h9 hc hd x g wg wu wd g' o h)]
  unfold kernelRun0_B
  dsimp only
  sl_unfold_words
  rw [View.canon_unit_zero hz]
  simp only [View.readAt_eq_ld, h4.read_unread, h5.read_unread, h6.read_unread, h8.read_unread, h9.read_unread, View.ld_unit_zero (S := S1024x2048) hz]
  unfold step part glu
  pointwise [k0_pay1, k0_pay4, k0_pay5]

/-- The last point adds its block's contribution and then normalises the sum and scales it by the second gain. -/
theorem out_C (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : ¬cond0_0 i) (hd : cond0_1 i) (x : Vec Ideal S1024x2048 .f32) (g : Vec Ideal S1x2048 .f32) (wg wu : Vec Ideal S2048x512 .bf16)
    (wd : Vec Ideal S512x2048 .bf16) (g' : Vec Ideal S1x2048 .f32) (o : Vec Ideal S1024x2048 .f32) (h : Vec Ideal S1024x2048 .bf16) :
    out0_C_6 c i a2 h2 a3 h3 a4 h4 a5 h5 a6 h6 a7 h7 a8 h8 a9 h9 hc hd x g wg wu wd g' o h = k0_pay2 (F := Ideal) (step h wg wu wd o) g' := by
  unfold out0_C_6
  rw [View.read_writes_eq_canon _ _ _ (cover0_C_6 c i a2 h2 a3 h3 a4 h4 a5 h5 a6 h6 a7 h7 a8 h8 a9 h9 hc hd x g wg wu wd g' o h)]
  unfold kernelRun0_C
  dsimp only
  sl_unfold_words
  rw [View.canon_cons_unit_zero hz]
  simp only [View.readCov_unit_zero (S := S1024x2048) _ hz, View.readAt_eq_ld, h4.read_unread, h5.read_unread, h6.read_unread, h7.read_unread, h8.read_unread, h9.read_unread, View.ld_unit_zero (S := S1024x2048) hz, View.ld_unit_zero (S := S1x2048) hz]
  congr 1
  funext j
  unfold step part glu
  pointwise [k0_pay1, k0_pay4, k0_pay5]

/-- The first point starts from the rows themselves. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : cond0_0 i) (hd : ¬cond0_1 i) (x : Vec Ideal S1024x2048 .f32) (g : Vec Ideal S1x2048 .f32) (wg wu : Vec Ideal S2048x512 .bf16)
    (wd : Vec Ideal S512x2048 .bf16) (g' : Vec Ideal S1x2048 .f32) :
    out0_A_6 c i a2 h2 a3 h3 a4 h4 a5 h5 a6 h6 a7 h7 a8 h8 a9 h9 hc hd x g wg wu wd g' = step (k0_pay3 (F := Ideal) x g) wg wu wd x := by
  funext j
  unfold out0_A_6
  rw [View.read_writes_eq_canon _ _ _ (cover0_A_6 c i a2 h2 a3 h3 a4 h4 a5 h5 a6 h6 a7 h7 a8 h8 a9 h9 hc hd x g wg wu wd g')]
  unfold kernelRun0_A
  dsimp only
  sl_unfold_words
  rw [View.canon_cons_unit_zero hz]
  simp only [View.readCov_unit_zero (S := S1024x2048) _ hz, View.readAt_eq_ld, h2.read_unread, h3.read_unread, h4.read_unread, h5.read_unread, h6.read_unread, View.ld_unit_zero (S := S1024x2048) hz, View.ld_unit_zero (S := S1x2048) hz]
  generalize k0_pay3 x g = h
  unfold step part glu
  pointwise [k0_pay1, k0_pay4, k0_pay5]

/-- The first point leaves the normalised rows for the later ones. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : cond0_0 i) (hd : ¬cond0_1 i) (x : Vec Ideal S1024x2048 .f32) (g : Vec Ideal S1x2048 .f32) (wg wu : Vec Ideal S2048x512 .bf16)
    (wd : Vec Ideal S512x2048 .bf16) (g' : Vec Ideal S1x2048 .f32) :
    sout0_A_0 c i a2 h2 a3 h3 a4 h4 a5 h5 a6 h6 a7 h7 a8 h8 a9 h9 hc hd x g wg wu wd g' = k0_pay3 x g := by
  unfold sout0_A_0
  rw [View.read_writes_eq_canon _ _ _ (scover0_A_0 c i a2 h2 a3 h3 a4 h4 a5 h5 a6 h6 a7 h7 a8 h8 a9 h9 hc hd x g wg wu wd g')]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The second gain, as the host hands it to the kernel. -/
abbrev gain2 (c : Dev nD) : Vec Ideal S1x2048 .f32 := shapeCast S1x2048 (m ((c : Thread nD τ).loc main_arg5)) shapeCasts_S2048_S1x2048

theorem V_gain2 (c : Dev nD) : V m c main_v0 = gain2 m c := rfl

theorem iblk_x (c : Dev nD) (t : Fin cfg0.N) : iblk m c 0 t = m ((c : Thread nD τ).loc main_arg0) := by
  funext j
  have e : ∀ t : Fin cfg0.N, win0_0.index t (0 : Fin 2) = 0 ∧ win0_0.index t (1 : Fin 2) = 0 := by decide +kernel
  unfold iblk
  rw [View.read_apply]
  show V m c main_arg0 _ = _
  rw [V_main_arg0]
  congr 1
  funext a
  apply Fin.ext
  obtain ⟨e0, e1⟩ := e t
  match a with
  | ⟨0, _⟩ => show win0_0.index t 0 * 1024 + 1 * (j 0).val = (j 0).val; omega
  | ⟨1, _⟩ => show win0_0.index t 1 * 2048 + 1 * (j 1).val = (j 1).val; omega

theorem iblk_g (c : Dev nD) (t : Fin cfg0.N) : iblk m c 1 t = m ((c : Thread nD τ).loc main_arg1) := by
  funext j
  have e : ∀ t : Fin cfg0.N, win0_1.index t (0 : Fin 2) = 0 ∧ win0_1.index t (1 : Fin 2) = 0 := by decide +kernel
  unfold iblk
  rw [View.read_apply]
  show V m c main_arg1 _ = _
  rw [V_main_arg1]
  congr 1
  funext a
  apply Fin.ext
  obtain ⟨e0, e1⟩ := e t
  match a with
  | ⟨0, _⟩ => show win0_1.index t 0 * 1 + 1 * (j 0).val = (j 0).val; omega
  | ⟨1, _⟩ => show win0_1.index t 1 * 2048 + 1 * (j 1).val = (j 1).val; omega

theorem iblk_g2 (c : Dev nD) (t : Fin cfg0.N) : iblk m c 5 t = gain2 m c := by
  funext j
  have e : ∀ t : Fin cfg0.N, win0_5.index t (0 : Fin 2) = 0 ∧ win0_5.index t (1 : Fin 2) = 0 := by decide +kernel
  unfold iblk
  rw [View.read_apply]
  show V m c main_v0 _ = _
  rw [V_gain2]
  congr 1
  funext a
  apply Fin.ext
  obtain ⟨e0, e1⟩ := e t
  match a with
  | ⟨0, _⟩ => show win0_5.index t 0 * 1 + 1 * (j 0).val = (j 0).val; omega
  | ⟨1, _⟩ => show win0_5.index t 1 * 2048 + 1 * (j 1).val = (j 1).val; omega

/-- Point `t` sees columns `512 t` to `512 t + 511` of the gate's weights. -/
theorem iblk_wgate (c : Dev nD) (t : Fin cfg0.N) (d : Fin 2048) (k : Fin 512) (hk : 512 * t.val + k.val < 5632) :
    iblk m c 2 t (ix2 d k) = m ((c : Thread nD τ).loc main_arg2) (ix2 d ⟨512 * t.val + k.val, hk⟩) := by
  have e : ∀ t : Fin cfg0.N, win0_2.index t (0 : Fin 2) = 0 ∧ win0_2.index t (1 : Fin 2) = t.val := by decide +kernel
  unfold iblk
  rw [View.read_apply]
  show V m c main_arg2 _ = _
  rw [V_main_arg2]
  congr 1
  funext a
  apply Fin.ext
  obtain ⟨e0, e1⟩ := e t
  match a with
  | ⟨0, _⟩ => show win0_2.index t 0 * 2048 + 1 * d.val = d.val; omega
  | ⟨1, _⟩ => show win0_2.index t 1 * 512 + 1 * k.val = 512 * t.val + k.val; omega

/-- Point `t` sees the same columns of the other factor's weights. -/
theorem iblk_wup (c : Dev nD) (t : Fin cfg0.N) (d : Fin 2048) (k : Fin 512) (hk : 512 * t.val + k.val < 5632) :
    iblk m c 3 t (ix2 d k) = m ((c : Thread nD τ).loc main_arg3) (ix2 d ⟨512 * t.val + k.val, hk⟩) := by
  have e : ∀ t : Fin cfg0.N, win0_3.index t (0 : Fin 2) = 0 ∧ win0_3.index t (1 : Fin 2) = t.val := by decide +kernel
  unfold iblk
  rw [View.read_apply]
  show V m c main_arg3 _ = _
  rw [V_main_arg3]
  congr 1
  funext a
  apply Fin.ext
  obtain ⟨e0, e1⟩ := e t
  match a with
  | ⟨0, _⟩ => show win0_3.index t 0 * 2048 + 1 * d.val = d.val; omega
  | ⟨1, _⟩ => show win0_3.index t 1 * 512 + 1 * k.val = 512 * t.val + k.val; omega

/-- Point `t` sees rows `512 t` to `512 t + 511` of the last factor's weights. -/
theorem iblk_wdown (c : Dev nD) (t : Fin cfg0.N) (k : Fin 512) (d : Fin 2048) (hk : 512 * t.val + k.val < 5632) :
    iblk m c 4 t (ix2 k d) = m ((c : Thread nD τ).loc main_arg4) (ix2 ⟨512 * t.val + k.val, hk⟩ d) := by
  have e : ∀ t : Fin cfg0.N, win0_4.index t (0 : Fin 2) = t.val ∧ win0_4.index t (1 : Fin 2) = 0 := by decide +kernel
  unfold iblk
  rw [View.read_apply]
  show V m c main_arg4 _ = _
  rw [V_main_arg4]
  congr 1
  funext a
  apply Fin.ext
  obtain ⟨e0, e1⟩ := e t
  match a with
  | ⟨0, _⟩ => show win0_4.index t 0 * 512 + 1 * k.val = 512 * t.val + k.val; omega
  | ⟨1, _⟩ => show win0_4.index t 1 * 2048 + 1 * d.val = d.val; omega

/-- The normalised rows that the first point leaves for the later ones. -/
abbrev hn (c : Dev nD) : Vec Ideal S1024x2048 .bf16 :=
  k0_pay3 (F := Ideal) (m ((c : Thread nD τ).loc main_arg0)) (m ((c : Thread nD τ).loc main_arg1))

/-- The rows plus the contributions of the first `K` hidden units. -/
def partial_ (x : Vec Ideal S1024x2048 .f32) (h : Vec Ideal S1024x2048 .bf16) (wg wu : Vec Ideal S2048x5632 .bf16)
    (wd : Vec Ideal S5632x2048 .bf16) (K : ℕ) : Vec Ideal S1024x2048 .f32 := fun j =>
  x j + ∑ k ∈ Finset.range K, unit h wg wu wd j k

/-- The running sum over this call's arguments. -/
abbrev upTo (c : Dev nD) (K : ℕ) : Vec Ideal S1024x2048 .f32 :=
  partial_ (m ((c : Thread nD τ).loc main_arg0)) (hn m c) (m ((c : Thread nD τ).loc main_arg2)) (m ((c : Thread nD τ).loc main_arg3))
    (m ((c : Thread nD τ).loc main_arg4)) K

/-- Point `t` of the grid extends the running sum by its hidden units. -/
theorem step_pt (c : Dev nD) (t : Fin cfg0.N) :
    step (hn m c) (iblk m c 2 t) (iblk m c 3 t) (iblk m c 4 t) (upTo m c (512 * t.val)) = upTo m c (512 * t.val + 512) :=
  step_eq (hn m c) _ _ _ _ _ _ t.val (by have hN : cfg0.N = 11 := N_0; omega) (iblk_wgate m c t) (iblk_wup m c t) (iblk_wdown m c t) _

/-- After point `n`, short of the last, the output holds the rows plus the first `512 (n + 1)` units' contributions. -/
theorem outs (c : Dev nD) : ∀ (n : ℕ) (h : n < cfg0.N), n < 10 → outsAt0 m c n h = (upTo m c (512 * n + 512), hn m c)
  | 0, h, _ => by
    rw [outsAt0_A m c ⟨0, h⟩ rfl (by dsimp only; omega), out_A, sout_A, iblk_x, iblk_g]
    refine Prod.ext ?_ rfl
    have e := step_pt m c ⟨0, h⟩
    have z : upTo m c (512 * (⟨0, h⟩ : Fin cfg0.N).val) = m ((c : Thread nD τ).loc main_arg0) := by
      funext j
      show _ + ∑ k ∈ Finset.range (512 * 0), _ = _
      simp only [Nat.mul_zero, Finset.range_zero, Finset.sum_empty, add_zero]
    rw [z] at e
    exact e
  | n + 1, h, hl => by
    have hN : cfg0.N = 11 := N_0
    have hB : ¬(⟨n + 1, h⟩ : Fin cfg0.N).val % 11 = 0 := by dsimp only; omega
    have hC : ¬(⟨n + 1, h⟩ : Fin cfg0.N).val % 11 = 10 := by dsimp only; omega
    rw [outsAt0_B m c ⟨n + 1, h⟩ hB hC, out_B]
    simp only [sout0_B_0]
    have e := outs c n (Nat.lt_of_succ_lt h) (by omega)
    show (step (outsAt0 m c n _).2 _ _ _ (outsAt0 m c n _).1, (outsAt0 m c n _).2) = _
    rw [e]
    exact Prod.ext (step_pt m c ⟨n + 1, h⟩) rfl

/-- The last point leaves the normalised sum over all hidden units. -/
theorem outs_last (c : Dev nD) (h : 10 < cfg0.N) :
    (outsAt0 m c 10 h).1 = k0_pay2 (F := Ideal) (upTo m c 5632) (gain2 m c) := by
  rw [outsAt0_C m c ⟨10, h⟩ (by dsimp only; omega) rfl, out_C]
  have e := outs m c 9 (by omega) (by omega)
  show k0_pay2 (F := Ideal) (step (outsAt0 m c 9 _).2 _ _ _ (outsAt0 m c 9 _).1) (iblk m c 5 ⟨10, h⟩) = _
  rw [e, iblk_g2]
  exact congrArg (fun o => k0_pay2 (F := Ideal) o (gain2 m c)) (step_pt m c ⟨10, h⟩)

/-- The whole call: each row plus all hidden units' contributions, normalised and scaled by the second gain. -/
def ffn (x : Vec Ideal S1024x2048 .f32) (g : Vec Ideal S1x2048 .f32) (wg wu : Vec Ideal S2048x5632 .bf16)
    (wd : Vec Ideal S5632x2048 .bf16) (g' : Vec Ideal S1x2048 .f32) : Vec Ideal S1024x2048 .f32 :=
  k0_pay2 (F := Ideal) (partial_ x (k0_pay3 (F := Ideal) x g) wg wu wd 5632) g'

abbrev result (c : Dev nD) : Buf (Elt Ideal) ((c : Thread nD τ).loc main_v1) :=
  ffn (m ((c : Thread nD τ).loc main_arg0)) (m ((c : Thread nD τ).loc main_arg1)) (m ((c : Thread nD τ).loc main_arg2))
    (m ((c : Thread nD τ).loc main_arg3)) (m ((c : Thread nD τ).loc main_arg4)) (gain2 m c)

/-- The kernel leaves the whole call's result. -/
theorem G_eq (c : Dev nD) : G6 m c = result m c := by
  funext i
  have hN : cfg0.N = 11 := N_0
  have h0 : (i 0 : Nat) < 1024 := (i 0).isLt
  have h1 : (i 1 : Nat) < 2048 := (i 1).isLt
  have hp : pt6Of i = 10 := by unfold pt6Of run6Of; omega
  have hT : pt6Of i < cfg0.N := by omega
  have hl : loc6Of i = i := by
    funext a; apply Fin.ext
    match a with
    | ⟨0, _⟩ => show (i 0).val % 1024 = (i 0).val; omega
    | ⟨1, _⟩ => show (i 1).val % 2048 = (i 1).val; omega
  have e : ∀ (p : ℕ) (hp : p = 10) (h : p < cfg0.N), (outsAt0 m c p h).1 = k0_pay2 (F := Ideal) (upTo m c 5632) (gain2 m c) := by
    rintro _ rfl h
    exact outs_last m c h
  unfold G6
  rw [dif_pos hT, ← outsAt0_sweep m c (pt6Of i) hT, hl, e _ hp]
  rfl

/-- The reference before its last normalisation is the sum over all hidden units. -/
theorem ref_sum (x : FVec Ideal S1024x2048 .f32) (g : FVec Ideal S1x2048 .f32) (a b : FVec Ideal S2048x5632 .bf16) (d : FVec Ideal S5632x2048 .bf16) :
    Ffn2RefIdeal.Read.val_main_v24 (F := Ideal) x g a b d = partial_ x (k0_pay3 (F := Ideal) x g) a b d 5632 := by
  funext j
  unfold partial_
  rw [← Fin.sum_univ_eq_sum_range]
  have hu : ∀ (h : Vec Ideal S1024x2048 .bf16) (wg wu : Vec Ideal S2048x5632 .bf16) (wd : Vec Ideal S5632x2048 .bf16) (k : Fin 5632),
      unit h wg wu wd j k.val = glu (∑ d : Fin 2048, h (ix2 (j 0) d) * wg (ix2 d k)) (∑ d : Fin 2048, h (ix2 (j 0) d) * wu (ix2 d k)) * wd (ix2 k (j 1)) :=
    fun h wg wu wd k => dif_pos k.isLt
  simp only [hu]
  pointwise [k0_pay3, Ffn2RefIdeal.Read.val_main_v24, Ffn2RefIdeal.Read.val_main_v23, Ffn2RefIdeal.Read.val_main_v22, Ffn2RefIdeal.Read.val_main_cst_2, Ffn2RefIdeal.Read.val_main_v21, Ffn2RefIdeal.Read.val_main_v20, Ffn2RefIdeal.Read.val_main_v19, Ffn2RefIdeal.Read.val_main_v18, Ffn2RefIdeal.Read.val_main_call0_v5, Ffn2RefIdeal.Read.val_main_call0_v4, Ffn2RefIdeal.Read.val_main_call0_cst_0, Ffn2RefIdeal.Read.val_main_call0_v3, Ffn2RefIdeal.Read.val_main_call0_v2, Ffn2RefIdeal.Read.val_main_call0_cst, Ffn2RefIdeal.Read.val_main_call0_v1, Ffn2RefIdeal.Read.val_main_call0_v0, Ffn2RefIdeal.Read.val_main_v17, Ffn2RefIdeal.Read.val_main_v16, Ffn2RefIdeal.Read.val_main_v15, Ffn2RefIdeal.Read.val_main_v14, Ffn2RefIdeal.Read.val_main_v13, Ffn2RefIdeal.Read.val_main_v12, Ffn2RefIdeal.Read.val_main_v11, Ffn2RefIdeal.Read.val_main_v10, Ffn2RefIdeal.Read.val_main_v9, Ffn2RefIdeal.Read.val_main_v8, Ffn2RefIdeal.Read.val_main_v7, Ffn2RefIdeal.Read.val_main_v6, Ffn2RefIdeal.Read.val_main_cst_1, Ffn2RefIdeal.Read.val_main_v5, Ffn2RefIdeal.Read.val_main_v4, Ffn2RefIdeal.Read.val_main_cst_0, Ffn2RefIdeal.Read.val_main_v3, Ffn2RefIdeal.Read.val_main_v2, Ffn2RefIdeal.Read.val_main_cst, Ffn2RefIdeal.Read.val_main_v1, Ffn2RefIdeal.Read.val_main_v0]
  refine congrArg _ ?_
  rw [half_mul_sum]
  exact Finset.sum_congr rfl fun k _ => glu_eq _ _ _

/-- The reference's result is the whole call. -/
theorem ref_eq (x : FVec Ideal S1024x2048 .f32) (g : FVec Ideal S1x2048 .f32) (a b : FVec Ideal S2048x5632 .bf16) (d : FVec Ideal S5632x2048 .bf16)
    (g' : FVec Ideal S2048 .f32) :
    Ffn2RefIdeal.Read.val_main_v37 (F := Ideal) x g a b d g' = ffn x g a b d (shapeCast S1x2048 g' shapeCasts_S2048_S1x2048) := by
  funext j
  unfold ffn
  rw [← ref_sum]
  pointwise [k0_pay2, Ffn2RefIdeal.Read.val_main_v37, Ffn2RefIdeal.Read.val_main_v36, Ffn2RefIdeal.Read.val_main_v35, Ffn2RefIdeal.Read.val_main_v34, Ffn2RefIdeal.Read.val_main_v33, Ffn2RefIdeal.Read.val_main_v32, Ffn2RefIdeal.Read.val_main_v31, Ffn2RefIdeal.Read.val_main_v30, Ffn2RefIdeal.Read.val_main_cst_5, Ffn2RefIdeal.Read.val_main_v29, Ffn2RefIdeal.Read.val_main_v28, Ffn2RefIdeal.Read.val_main_cst_4, Ffn2RefIdeal.Read.val_main_v27, Ffn2RefIdeal.Read.val_main_v26, Ffn2RefIdeal.Read.val_main_cst_3, Ffn2RefIdeal.Read.val_main_v25]

/-- Kernel and reference leave the same array. -/
theorem algebraic [Cert.Ffn2Ideal.Facts] [Cert.Ffn2RefIdeal.Facts] : algebraic_Ffn2Ideal_Ffn2RefIdeal := by
  intro m g m' g' _ hargs
  refine ⟨fun c => result m c, (θ_run _ _ _).mono (fun r h c => ⟨(h c).1.trans (G_eq m c), (h c).2⟩) (Value.run m g), ?_⟩
  refine (θ_run _ _ _).mono (fun r h c => ⟨?_, (h c).2⟩) (Ffn2RefIdeal.Value.run m' g')
  obtain ⟨e0, e1, e2, e3, e4, e5⟩ := hargs c
  rw [(h c).1, Ffn2RefIdeal.Read.val_main_v37_eq, ref_eq, e0, e1, e2, e3, e4, e5]

end Cert.Ffn2Proof
-- ==== Proof.Ffn2Prompt.lean ====
module

public import proofs.«01_k».proof.Defs
public import proofs.«01_k».proof.Proof.Ffn2
public import proofs.«01_k».proof.Proof.Gen.Ffn2PromptIdeal.Value
public import proofs.«01_k».proof.Proof.Gen.Ffn2PromptRefIdeal.Run
public import proofs.«01_k».proof.Proof.Gen.Ffn2PromptRefIdeal.Read
public import Idealize.ShloMosaic.Lib.Pointwise

/-! The second feed-forward at the prompt's size: 32 tiles of 1024 rows, each summed over 11 grid points. -/

@[expose] public section

set_option maxRecDepth 16384

open Idealize.ShloMosaic Idealize.ShloMosaic.TcCoe Idealize.SL.Sem
open Idealize.ShloMosaic.Pipeline (Dat)

noncomputable section

namespace Cert.Ffn2PromptProof
open Cert.Ffn2PromptIdeal Cert.Ffn2PromptIdeal.Gen Cert.Ffn2PromptIdeal.Value Cert.FfnSum
open Cert.Ffn1Proof (hz part step unit step_eq)
open Cert.Ffn2Proof (partial_)

variable (m : (ℓ : Loc nD τ sig) → Buf (Elt Ideal) ℓ)

/-- Every point but the first and the last adds its block's contribution to what the point before left. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : ¬cond0_0 i) (hd : ¬cond0_1 i) (x : Vec Ideal S1024x2048 .f32) (g : Vec Ideal S1x2048 .f32) (wg wu : Vec Ideal S2048x512 .bf16)
    (wd : Vec Ideal S512x2048 .bf16) (g' : Vec Ideal S1x2048 .f32) (o : Vec Ideal S1024x2048 .f32) (h : Vec Ideal S1024x2048 .bf16) :
    out0_B_6 c i a2 h2 a3 h3 a4 h4 a5 h5 a6 h6 a7 h7 a8 h8 a9 h9 hc hd x g wg wu wd g' o h = step h wg wu wd o := by
  funext j
  unfold out0_B_6
  rw [View.read_writes_eq_canon _ _ _ (cover0_B_6 c i a2 h2 a3 h3 a4 h4 a5 h5 a6 h6 a7 h7 a8 h8 a9 h9 hc hd x g wg wu wd g' o h)]
  unfold kernelRun0_B
  dsimp only
  sl_unfold_words
  rw [View.canon_unit_zero hz]
  simp only [View.readAt_eq_ld, h4.read_unread, h5.read_unread, h6.read_unread, h8.read_unread, h9.read_unread, View.ld_unit_zero (S := S1024x2048) hz]
  unfold step part glu
  pointwise [k0_pay1, k0_pay4, k0_pay5]

/-- The last point adds its block's contribution and then normalises the sum and scales it by the second gain. -/
theorem out_C (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : ¬cond0_0 i) (hd : cond0_1 i) (x : Vec Ideal S1024x2048 .f32) (g : Vec Ideal S1x2048 .f32) (wg wu : Vec Ideal S2048x512 .bf16)
    (wd : Vec Ideal S512x2048 .bf16) (g' : Vec Ideal S1x2048 .f32) (o : Vec Ideal S1024x2048 .f32) (h : Vec Ideal S1024x2048 .bf16) :
    out0_C_6 c i a2 h2 a3 h3 a4 h4 a5 h5 a6 h6 a7 h7 a8 h8 a9 h9 hc hd x g wg wu wd g' o h = k0_pay2 (F := Ideal) (step h wg wu wd o) g' := by
  unfold out0_C_6
  rw [View.read_writes_eq_canon _ _ _ (cover0_C_6 c i a2 h2 a3 h3 a4 h4 a5 h5 a6 h6 a7 h7 a8 h8 a9 h9 hc hd x g wg wu wd g' o h)]
  unfold kernelRun0_C
  dsimp only
  sl_unfold_words
  rw [View.canon_cons_unit_zero hz]
  simp only [View.readCov_unit_zero (S := S1024x2048) _ hz, View.readAt_eq_ld, h4.read_unread, h5.read_unread, h6.read_unread, h7.read_unread, h8.read_unread, h9.read_unread, View.ld_unit_zero (S := S1024x2048) hz, View.ld_unit_zero (S := S1x2048) hz]
  congr 1
  funext j
  unfold step part glu
  pointwise [k0_pay1, k0_pay4, k0_pay5]

/-- The first point starts from the rows themselves. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : cond0_0 i) (hd : ¬cond0_1 i) (x : Vec Ideal S1024x2048 .f32) (g : Vec Ideal S1x2048 .f32) (wg wu : Vec Ideal S2048x512 .bf16)
    (wd : Vec Ideal S512x2048 .bf16) (g' : Vec Ideal S1x2048 .f32) :
    out0_A_6 c i a2 h2 a3 h3 a4 h4 a5 h5 a6 h6 a7 h7 a8 h8 a9 h9 hc hd x g wg wu wd g' = step (k0_pay3 (F := Ideal) x g) wg wu wd x := by
  funext j
  unfold out0_A_6
  rw [View.read_writes_eq_canon _ _ _ (cover0_A_6 c i a2 h2 a3 h3 a4 h4 a5 h5 a6 h6 a7 h7 a8 h8 a9 h9 hc hd x g wg wu wd g')]
  unfold kernelRun0_A
  dsimp only
  sl_unfold_words
  rw [View.canon_cons_unit_zero hz]
  simp only [View.readCov_unit_zero (S := S1024x2048) _ hz, View.readAt_eq_ld, h2.read_unread, h3.read_unread, h4.read_unread, h5.read_unread, h6.read_unread, View.ld_unit_zero (S := S1024x2048) hz, View.ld_unit_zero (S := S1x2048) hz]
  generalize k0_pay3 x g = h
  unfold step part glu
  pointwise [k0_pay1, k0_pay4, k0_pay5]

/-- The first point leaves the normalised rows for the later ones. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (hc : cond0_0 i) (hd : ¬cond0_1 i) (x : Vec Ideal S1024x2048 .f32) (g : Vec Ideal S1x2048 .f32) (wg wu : Vec Ideal S2048x512 .bf16)
    (wd : Vec Ideal S512x2048 .bf16) (g' : Vec Ideal S1x2048 .f32) :
    sout0_A_0 c i a2 h2 a3 h3 a4 h4 a5 h5 a6 h6 a7 h7 a8 h8 a9 h9 hc hd x g wg wu wd g' = k0_pay3 x g := by
  unfold sout0_A_0
  rw [View.read_writes_eq_canon _ _ _ (scover0_A_0 c i a2 h2 a3 h3 a4 h4 a5 h5 a6 h6 a7 h7 a8 h8 a9 h9 hc hd x g wg wu wd g')]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The second gain, as the host hands it to the kernel. -/
abbrev gain2 (c : Dev nD) : Vec Ideal S1x2048 .f32 := shapeCast S1x2048 (m ((c : Thread nD τ).loc main_arg5)) shapeCasts_S2048_S1x2048

/-- The host's only work is the reshape of the second gain. -/
theorem V_gain2 (c : Dev nD) : V m c main_v0 = gain2 m c := rfl

/-- The tile of rows `1024 i` to `1024 i + 1023`. -/
def blk (x : FVec Ideal S32768x2048 .f32) (i : Fin 32) : Vec Ideal S1024x2048 .f32 := fun j =>
  x (ix2 ⟨1024 * i.val + (j 0).val, by have h : (j 0).val < 1024 := (j 0).isLt; omega⟩ (j 1))

/-- Point `11 i + f` sees tile `i` of the rows. -/
theorem iblk_x (c : Dev nD) (t : Fin cfg0.N) (i : Fin 32) (hi : t.val / 11 = i.val) :
    iblk m c 0 t = blk (m ((c : Thread nD τ).loc main_arg0)) i := by
  funext j
  have e : ∀ t : Fin cfg0.N, win0_0.index t (0 : Fin 2) = t.val / 11 ∧ win0_0.index t (1 : Fin 2) = 0 := by decide +kernel
  unfold iblk blk
  rw [View.read_apply]
  show V m c main_arg0 _ = _
  rw [V_main_arg0]
  congr 1
  funext a
  apply Fin.ext
  obtain ⟨e0, e1⟩ := e t
  match a with
  | ⟨0, _⟩ => show win0_0.index t 0 * 1024 + 1 * (j 0).val = 1024 * i.val + (j 0).val; omega
  | ⟨1, _⟩ => show win0_0.index t 1 * 2048 + 1 * (j 1).val = (j 1).val; omega

/-- Every point sees the first gain. -/
theorem iblk_g (c : Dev nD) (t : Fin cfg0.N) : iblk m c 1 t = m ((c : Thread nD τ).loc main_arg1) := by
  funext j
  have e : ∀ t : Fin cfg0.N, win0_1.index t (0 : Fin 2) = 0 ∧ win0_1.index t (1 : Fin 2) = 0 := by decide +kernel
  unfold iblk
  rw [View.read_apply]
  show V m c main_arg1 _ = _
  rw [V_main_arg1]
  congr 1
  funext a
  apply Fin.ext
  obtain ⟨e0, e1⟩ := e t
  match a with
  | ⟨0, _⟩ => show win0_1.index t 0 * 1 + 1 * (j 0).val = (j 0).val; omega
  | ⟨1, _⟩ => show win0_1.index t 1 * 2048 + 1 * (j 1).val = (j 1).val; omega

/-- Every point sees the second gain. -/
theorem iblk_g2 (c : Dev nD) (t : Fin cfg0.N) : iblk m c 5 t = gain2 m c := by
  funext j
  have e : ∀ t : Fin cfg0.N, win0_5.index t (0 : Fin 2) = 0 ∧ win0_5.index t (1 : Fin 2) = 0 := by decide +kernel
  unfold iblk
  rw [View.read_apply]
  show V m c main_v0 _ = _
  rw [V_gain2]
  congr 1
  funext a
  apply Fin.ext
  obtain ⟨e0, e1⟩ := e t
  match a with
  | ⟨0, _⟩ => show win0_5.index t 0 * 1 + 1 * (j 0).val = (j 0).val; omega
  | ⟨1, _⟩ => show win0_5.index t 1 * 2048 + 1 * (j 1).val = (j 1).val; omega

/-- Point `11 i + f` sees columns `512 f` to `512 f + 511` of the gate's weights. -/
theorem iblk_wgate (c : Dev nD) (t : Fin cfg0.N) (f : ℕ) (hf : t.val % 11 = f) (d : Fin 2048) (k : Fin 512) (hk : 512 * f + k.val < 5632) :
    iblk m c 2 t (ix2 d k) = m ((c : Thread nD τ).loc main_arg2) (ix2 d ⟨512 * f + k.val, hk⟩) := by
  have e : ∀ t : Fin cfg0.N, win0_2.index t (0 : Fin 2) = 0 ∧ win0_2.index t (1 : Fin 2) = t.val % 11 := by decide +kernel
  unfold iblk
  rw [View.read_apply]
  show V m c main_arg2 _ = _
  rw [V_main_arg2]
  congr 1
  funext a
  apply Fin.ext
  obtain ⟨e0, e1⟩ := e t
  match a with
  | ⟨0, _⟩ => show win0_2.index t 0 * 2048 + 1 * d.val = d.val; omega
  | ⟨1, _⟩ => show win0_2.index t 1 * 512 + 1 * k.val = 512 * f + k.val; omega

/-- Point `11 i + f` sees the same columns of the other factor's weights. -/
theorem iblk_wup (c : Dev nD) (t : Fin cfg0.N) (f : ℕ) (hf : t.val % 11 = f) (d : Fin 2048) (k : Fin 512) (hk : 512 * f + k.val < 5632) :
    iblk m c 3 t (ix2 d k) = m ((c : Thread nD τ).loc main_arg3) (ix2 d ⟨512 * f + k.val, hk⟩) := by
  have e : ∀ t : Fin cfg0.N, win0_3.index t (0 : Fin 2) = 0 ∧ win0_3.index t (1 : Fin 2) = t.val % 11 := by decide +kernel
  unfold iblk
  rw [View.read_apply]
  show V m c main_arg3 _ = _
  rw [V_main_arg3]
  congr 1
  funext a
  apply Fin.ext
  obtain ⟨e0, e1⟩ := e t
  match a with
  | ⟨0, _⟩ => show win0_3.index t 0 * 2048 + 1 * d.val = d.val; omega
  | ⟨1, _⟩ => show win0_3.index t 1 * 512 + 1 * k.val = 512 * f + k.val; omega

/-- Point `11 i + f` sees rows `512 f` to `512 f + 511` of the last factor's weights. -/
theorem iblk_wdown (c : Dev nD) (t : Fin cfg0.N) (f : ℕ) (hf : t.val % 11 = f) (k : Fin 512) (d : Fin 2048) (hk : 512 * f + k.val < 5632) :
    iblk m c 4 t (ix2 k d) = m ((c : Thread nD τ).loc main_arg4) (ix2 ⟨512 * f + k.val, hk⟩ d) := by
  have e : ∀ t : Fin cfg0.N, win0_4.index t (0 : Fin 2) = t.val % 11 ∧ win0_4.index t (1 : Fin 2) = 0 := by decide +kernel
  unfold iblk
  rw [View.read_apply]
  show V m c main_arg4 _ = _
  rw [V_main_arg4]
  congr 1
  funext a
  apply Fin.ext
  obtain ⟨e0, e1⟩ := e t
  match a with
  | ⟨0, _⟩ => show win0_4.index t 0 * 512 + 1 * k.val = 512 * f + k.val; omega
  | ⟨1, _⟩ => show win0_4.index t 1 * 2048 + 1 * d.val = d.val; omega

/-- The normalised rows of tile `i`, which its first point leaves for the later ones. -/
abbrev hn (c : Dev nD) (i : Fin 32) : Vec Ideal S1024x2048 .bf16 :=
  k0_pay3 (F := Ideal) (blk (m ((c : Thread nD τ).loc main_arg0)) i) (m ((c : Thread nD τ).loc main_arg1))

/-- The running sum of tile `i` over this call's arguments. -/
abbrev upTo (c : Dev nD) (i : Fin 32) (K : ℕ) : Vec Ideal S1024x2048 .f32 :=
  partial_ (blk (m ((c : Thread nD τ).loc main_arg0)) i) (hn m c i) (m ((c : Thread nD τ).loc main_arg2)) (m ((c : Thread nD τ).loc main_arg3))
    (m ((c : Thread nD τ).loc main_arg4)) K

/-- Point `11 i + f` extends the running sum by its hidden units. -/
theorem step_pt (c : Dev nD) (i : Fin 32) (t : Fin cfg0.N) (f : ℕ) (hf : t.val % 11 = f) :
    step (hn m c i) (iblk m c 2 t) (iblk m c 3 t) (iblk m c 4 t) (upTo m c i (512 * f)) = upTo m c i (512 * f + 512) :=
  step_eq (hn m c i) _ _ _ _ _ _ f (by omega) (iblk_wgate m c t f hf) (iblk_wup m c t f hf) (iblk_wdown m c t f hf) _

/-- After point `11 i + f`, short of the tile's last, the output holds the tile plus the first `512 (f + 1)` units' contributions. -/
theorem outs (c : Dev nD) (i : Fin 32) : ∀ (f n : ℕ) (h : n < cfg0.N), n = 11 * i.val + f → f < 10 →
    outsAt0 m c n h = (upTo m c i (512 * f + 512), hn m c i)
  | 0, n, h, hn', _ => by
    have hA : (⟨n, h⟩ : Fin cfg0.N).val % 11 = 0 := by dsimp only; omega
    have hC : ¬(⟨n, h⟩ : Fin cfg0.N).val % 11 = 10 := by dsimp only; omega
    rw [outsAt0_A m c ⟨n, h⟩ hA hC, out_A, sout_A, iblk_x m c ⟨n, h⟩ i (by dsimp only; omega), iblk_g]
    refine Prod.ext ?_ rfl
    have e := step_pt m c i ⟨n, h⟩ 0 hA
    have z : upTo m c i (512 * 0) = blk (m ((c : Thread nD τ).loc main_arg0)) i := by
      funext j
      show _ + ∑ k ∈ Finset.range (512 * 0), _ = _
      simp only [Nat.mul_zero, Finset.range_zero, Finset.sum_empty, add_zero]
    rw [z] at e
    exact e
  | f + 1, 0, h, hn', hl => by omega
  | f + 1, n + 1, h, hn', hl => by
    have hB : ¬(⟨n + 1, h⟩ : Fin cfg0.N).val % 11 = 0 := by dsimp only; omega
    have hC : ¬(⟨n + 1, h⟩ : Fin cfg0.N).val % 11 = 10 := by dsimp only; omega
    rw [outsAt0_B m c ⟨n + 1, h⟩ hB hC, out_B]
    simp only [sout0_B_0]
    have e := outs c i f n (Nat.lt_of_succ_lt h) (by omega) (by omega)
    show (step (outsAt0 m c n _).2 _ _ _ (outsAt0 m c n _).1, (outsAt0 m c n _).2) = _
    rw [e]
    exact Prod.ext (step_pt m c i ⟨n + 1, h⟩ (f + 1) (by dsimp only; omega)) rfl

/-- The last point of a tile leaves the normalised sum over all hidden units. -/
theorem outs_last (c : Dev nD) (i : Fin 32) (h : 11 * i.val + 9 + 1 < cfg0.N) :
    (outsAt0 m c (11 * i.val + 9 + 1) h).1 = k0_pay2 (F := Ideal) (upTo m c i 5632) (gain2 m c) := by
  rw [outsAt0_C m c ⟨11 * i.val + 9 + 1, h⟩ (by dsimp only; omega) (by dsimp only; omega), out_C]
  have e := outs m c i 9 (11 * i.val + 9) (by omega) rfl (by omega)
  show k0_pay2 (F := Ideal) (step (outsAt0 m c (11 * i.val + 9) _).2 _ _ _ (outsAt0 m c (11 * i.val + 9) _).1) (iblk m c 5 ⟨11 * i.val + 9 + 1, h⟩) = _
  rw [e, iblk_g2]
  exact congrArg (fun o => k0_pay2 (F := Ideal) o (gain2 m c)) (step_pt m c i ⟨11 * i.val + 9 + 1, h⟩ 10 (by dsimp only; omega))

/-- A whole tile: each row plus all hidden units' contributions, normalised and scaled by the second gain. -/
def ffn (x : Vec Ideal S1024x2048 .f32) (g : Vec Ideal S1x2048 .f32) (wg wu : Vec Ideal S2048x5632 .bf16)
    (wd : Vec Ideal S5632x2048 .bf16) (g' : Vec Ideal S1x2048 .f32) : Vec Ideal S1024x2048 .f32 :=
  k0_pay2 (F := Ideal) (partial_ x (k0_pay3 (F := Ideal) x g) wg wu wd 5632) g'

/-- The reference before its last normalisation is, tile by tile, the sum over all hidden units. -/
theorem ref_sum (x : FVec Ideal S32768x2048 .f32) (g : FVec Ideal S1x2048 .f32) (a b : FVec Ideal S2048x5632 .bf16) (d : FVec Ideal S5632x2048 .bf16) (i : Fin 32) :
    blk (Ffn2PromptRefIdeal.Read.val_main_v24 (F := Ideal) x g a b d) i = partial_ (blk x i) (k0_pay3 (F := Ideal) (blk x i) g) a b d 5632 := by
  funext j
  unfold partial_
  rw [← Fin.sum_univ_eq_sum_range]
  have hu : ∀ (h : Vec Ideal S1024x2048 .bf16) (wg wu : Vec Ideal S2048x5632 .bf16) (wd : Vec Ideal S5632x2048 .bf16) (k : Fin 5632),
      unit h wg wu wd j k.val = glu (∑ d : Fin 2048, h (ix2 (j 0) d) * wg (ix2 d k)) (∑ d : Fin 2048, h (ix2 (j 0) d) * wu (ix2 d k)) * wd (ix2 k (j 1)) :=
    fun h wg wu wd k => dif_pos k.isLt
  simp only [hu]
  unfold blk
  pointwise [k0_pay3, Ffn2PromptRefIdeal.Read.val_main_v24, Ffn2PromptRefIdeal.Read.val_main_v23, Ffn2PromptRefIdeal.Read.val_main_v22, Ffn2PromptRefIdeal.Read.val_main_cst_2, Ffn2PromptRefIdeal.Read.val_main_v21, Ffn2PromptRefIdeal.Read.val_main_v20, Ffn2PromptRefIdeal.Read.val_main_v19, Ffn2PromptRefIdeal.Read.val_main_v18, Ffn2PromptRefIdeal.Read.val_main_call0_v5, Ffn2PromptRefIdeal.Read.val_main_call0_v4, Ffn2PromptRefIdeal.Read.val_main_call0_cst_0, Ffn2PromptRefIdeal.Read.val_main_call0_v3, Ffn2PromptRefIdeal.Read.val_main_call0_v2, Ffn2PromptRefIdeal.Read.val_main_call0_cst, Ffn2PromptRefIdeal.Read.val_main_call0_v1, Ffn2PromptRefIdeal.Read.val_main_call0_v0, Ffn2PromptRefIdeal.Read.val_main_v17, Ffn2PromptRefIdeal.Read.val_main_v16, Ffn2PromptRefIdeal.Read.val_main_v15, Ffn2PromptRefIdeal.Read.val_main_v14, Ffn2PromptRefIdeal.Read.val_main_v13, Ffn2PromptRefIdeal.Read.val_main_v12, Ffn2PromptRefIdeal.Read.val_main_v11, Ffn2PromptRefIdeal.Read.val_main_v10, Ffn2PromptRefIdeal.Read.val_main_v9, Ffn2PromptRefIdeal.Read.val_main_v8, Ffn2PromptRefIdeal.Read.val_main_v7, Ffn2PromptRefIdeal.Read.val_main_v6, Ffn2PromptRefIdeal.Read.val_main_cst_1, Ffn2PromptRefIdeal.Read.val_main_v5, Ffn2PromptRefIdeal.Read.val_main_v4, Ffn2PromptRefIdeal.Read.val_main_cst_0, Ffn2PromptRefIdeal.Read.val_main_v3, Ffn2PromptRefIdeal.Read.val_main_v2, Ffn2PromptRefIdeal.Read.val_main_cst, Ffn2PromptRefIdeal.Read.val_main_v1, Ffn2PromptRefIdeal.Read.val_main_v0]
  refine congrArg _ ?_
  rw [half_mul_sum]
  exact Finset.sum_congr rfl fun k _ => glu_eq _ _ _

/-- The reference's result is, tile by tile, the whole call's. -/
theorem ref_eq (x : FVec Ideal S32768x2048 .f32) (g : FVec Ideal S1x2048 .f32) (a b : FVec Ideal S2048x5632 .bf16) (d : FVec Ideal S5632x2048 .bf16)
    (g' : FVec Ideal S2048 .f32) (i : Fin 32) :
    blk (Ffn2PromptRefIdeal.Read.val_main_v37 (F := Ideal) x g a b d g') i = ffn (blk x i) g a b d (shapeCast S1x2048 g' shapeCasts_S2048_S1x2048) := by
  funext j
  unfold ffn
  rw [← ref_sum]
  unfold blk
  pointwise [k0_pay2, Ffn2PromptRefIdeal.Read.val_main_v37, Ffn2PromptRefIdeal.Read.val_main_v36, Ffn2PromptRefIdeal.Read.val_main_v35, Ffn2PromptRefIdeal.Read.val_main_v34, Ffn2PromptRefIdeal.Read.val_main_v33, Ffn2PromptRefIdeal.Read.val_main_v32, Ffn2PromptRefIdeal.Read.val_main_v31, Ffn2PromptRefIdeal.Read.val_main_v30, Ffn2PromptRefIdeal.Read.val_main_cst_5, Ffn2PromptRefIdeal.Read.val_main_v29, Ffn2PromptRefIdeal.Read.val_main_v28, Ffn2PromptRefIdeal.Read.val_main_cst_4, Ffn2PromptRefIdeal.Read.val_main_v27, Ffn2PromptRefIdeal.Read.val_main_v26, Ffn2PromptRefIdeal.Read.val_main_cst_3, Ffn2PromptRefIdeal.Read.val_main_v25]

/-- The kernel leaves the reference's result. -/
theorem G_eq (c : Dev nD) : G6 m c = Ffn2PromptRefIdeal.Read.val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  have hN : cfg0.N = 352 := N_0
  have h0 : (i 0 : Nat) < 32768 := (i 0).isLt
  have h1 : (i 1 : Nat) < 2048 := (i 1).isLt
  have hp : pt6Of i = 11 * ((i 0).val / 1024) + 9 + 1 := by unfold pt6Of run6Of; omega
  have hT : pt6Of i < cfg0.N := by omega
  have e : ∀ (p : ℕ) (q : Fin 32) (hp : p = 11 * q.val + 9 + 1) (h : p < cfg0.N),
      (outsAt0 m c p h).1 = k0_pay2 (F := Ideal) (upTo m c q 5632) (gain2 m c) := by
    rintro _ q rfl h
    exact outs_last m c q h
  unfold G6
  rw [dif_pos hT, ← outsAt0_sweep m c (pt6Of i) hT, e _ ⟨(i 0).val / 1024, by omega⟩ hp]
  have r := congrFun (ref_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) ⟨(i 0).val / 1024, by omega⟩) (loc6Of i)
  refine r.symm.trans ?_
  unfold blk
  congr 1
  funext a
  apply Fin.ext
  match a with
  | ⟨0, _⟩ => show 1024 * ((i 0).val / 1024) + (i 0).val % 1024 = (i 0).val; omega
  | ⟨1, _⟩ => show (i 1).val % 2048 = (i 1).val; omega

/-- Kernel and reference leave the same array. -/
theorem algebraic [Cert.Ffn2PromptIdeal.Facts] [Cert.Ffn2PromptRefIdeal.Facts] : algebraic_Ffn2PromptIdeal_Ffn2PromptRefIdeal := by
  intro m g m' g' _ hargs
  refine ⟨fun c => Ffn2PromptRefIdeal.Read.val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)),
    (θ_run _ _ _).mono (fun r h c => ⟨(h c).1.trans (G_eq m c), (h c).2⟩) (Value.run m g), ?_⟩
  refine (θ_run _ _ _).mono (fun r h c => ⟨?_, (h c).2⟩) (Ffn2PromptRefIdeal.Value.run m' g')
  obtain ⟨e0, e1, e2, e3, e4, e5⟩ := hargs c
  rw [(h c).1, Ffn2PromptRefIdeal.Read.val_main_v37_eq, e0, e1, e2, e3, e4, e5]

end Cert.Ffn2PromptProof
-- ==== Proof.MergePromptBlock.lean ====
module

public import proofs.«01_k».proof.Defs
public import proofs.«01_k».proof.Proof.Gen.MergePromptIdeal.Value
public import proofs.«01_k».proof.Proof.MergeOut
public import Idealize.ShloMosaic.Lib.Pointwise

/-! What the merge kernel writes at one grid point when a tile of 256 rows lies inside one long sequence. -/

@[expose] public section
set_option maxRecDepth 16384
open Idealize.ShloMosaic Idealize.ShloMosaic.TcCoe Idealize.SL.Sem
open Idealize.ShloMosaic.Pipeline (Dat)
open Cert.MergeProof (hz hz3 crow sum4 sum8 ld3 add4 add8)
noncomputable section
namespace Cert.MergePromptProof
open Cert.MergePromptIdeal Cert.MergePromptIdeal.Gen Cert.MergePromptIdeal.Value

/-- Group `g` of an array whose leading axis counts groups. -/
def slab {A B C : ℕ} (x : Vec Ideal ⟨3, ![A, B, C]⟩ .bf16) (g : Fin A) : Vec Ideal ⟨3, ![1, B, C]⟩ .bf16 :=
  View.ld x (Rect.unit (s := ⟨3, ![A, B, C]⟩) ![g.val, 0, 0] (Shape.size ⟨3, ![1, B, C]⟩) (by
    intro a
    match a with
    | ⟨0, _⟩ => show g.val + 1 ≤ A; omega
    | ⟨1, _⟩ => show 0 + B ≤ B; omega
    | ⟨2, _⟩ => show 0 + C ≤ C; omega))

/-- A group, read at an index. -/
theorem slab_apply {A B C : ℕ} (x : Vec Ideal ⟨3, ![A, B, C]⟩ .bf16) (g : Fin A) (z : Fin 1) (r : Fin B) (k : Fin C) : slab x g (ix3 z r k) = x (ix3 g r k) := by
  refine (ld3 (a := 1) (b := B) (c := C) x g.val 0 0 _ z r k (by omega) (by omega) (by omega)).trans (congrArg x ?_)
  congr 1 <;> apply Fin.ext <;> simp

/-- Four groups of 256 columns side by side. -/
def cat (a b c d : Vec Ideal S1x256x256 .bf16) (r : Fin 256) (j : Fin 1024) : EReal :=
  if h : j.val < 256 then a (ix3 0 r ⟨j.val, h⟩) else
  if h : j.val - 256 < 256 then b (ix3 0 r ⟨j.val - 256, h⟩) else
  if h : j.val - 256 - 256 < 256 then c (ix3 0 r ⟨j.val - 256 - 256, h⟩) else d (ix3 0 r ⟨j.val - 256 - 256 - 256, by omega⟩)

section
variable (w : Vec Ideal S3x1024 .f32) (a b c d e f g h i k l n : Vec Ideal S1x256x256 .bf16) (p q : Vec Ideal S256x1024 .f32)
  (t : Vec Ideal S1x2x1024 .f32) (r : Fin 256) (j : Fin 1024)

/-- The convolution's rows, entry by entry. -/
theorem row : k0_pay19 (k0_pay12 w) (k0_pay13 a b c d) (k0_pay14 e f g h) (k0_pay15 i) k l n p q (ix2 r j) =
    crow w (cat a b c d r j) (cat e f g h r j * cat i k l n r j) (p (ix2 r j)) (q (ix2 r j)) j := by
  unfold crow cat
  pointwise [k0_pay19, k0_pay12, k0_pay13, k0_pay14, k0_pay15, k0_pay16]

/-- What enters the filter: the product of the two laid-out operands. -/
theorem new : k0_pay18 (k0_pay14 e f g h) (k0_pay15 i) k l n (ix2 r j) = cat e f g h r j * cat i k l n r j := by
  unfold cat
  pointwise [k0_pay18, k0_pay14, k0_pay15, k0_pay16]

/-- What the tile leaves for the next one: its last two rows. -/
theorem last (z : Fin 1) (y : Fin 2) : k0_pay20 (k0_pay14 e f g h) (k0_pay15 i) k l n (ix3 z y j) = cat e f g h ⟨254 + y.val, by omega⟩ j * cat i k l n ⟨254 + y.val, by omega⟩ j := by
  unfold cat
  pointwise [k0_pay20, k0_pay14, k0_pay15, k0_pay16]

/-- The two rows the tile starts from, read without their leading axis. -/
theorem old (y : Fin 2) : k0_pay17 t (ix2 y j) = t (ix3 0 y j) := by pointwise [k0_pay17]
end

/-- A tile's inputs, two carried steps before them. -/
def full (tl : Vec Ideal S2x1024 .f32) (u : Vec Ideal S256x1024 .f32) (i : ℕ) (j : Fin 1024) : EReal :=
  if h : i < 2 then tl (ix2 ⟨i, h⟩ j) else u (ix2 ⟨(i - 2) % 256, Nat.mod_lt _ (by norm_num)⟩ j)

/-- The scratch buffer, read from row `6 + o` on: the carried steps and after them the inputs. -/
theorem scr (v : View sig .tc .vmem S264x1024 .f32) (u : Vec Ideal S256x1024 .f32) (tl : Vec Ideal S2x1024 .f32) (L : List (View.Piece (Elt Ideal) S264x1024 .f32))
    (o : ℕ) (ho : o ≤ 1) (ib) (r : Fin 256) (j : Fin 1024) :
    v.readCov (⟨Rect.unit ![8,0] S256x1024.size inb_S264x1024_S256x1024_8_0, u⟩ :: ⟨Rect.unit ![6,0] S2x1024.size inb_S264x1024_S2x1024_6_0, tl⟩ :: L)
      (Rect.unit (s := S264x1024) ![6 + o, 0] S256x1024.size ib).toLoadRect (ix2 r j) = full tl u (r.val + o) j := by
  rw [View.readCov_eq_canon']
  have hi : (Rect.unit (s := S264x1024) ![6 + o, 0] S256x1024.size ib).toLoadRect.idx (ix2 r j) = (ix2 ⟨6 + o + r.val, by omega⟩ j : S264x1024.Idx) := by
    funext a; apply Fin.ext
    match a with
    | ⟨0, _⟩ => show 6 + o + 1 * r.val = 6 + o + r.val; omega
    | ⟨1, _⟩ => show 0 + 1 * j.val = j.val; omega
  show View.canon _ ((Rect.unit (s := S264x1024) ![6 + o, 0] S256x1024.size ib).toLoadRect.idx (ix2 r j)) = _
  rw [hi]
  unfold full
  by_cases h : r.val + o < 2
  · rw [dif_pos h, View.canon_cons_of_not_mem]
    · have : (ix2 ⟨6 + o + r.val, by omega⟩ j : S264x1024.Idx) = (Rect.unit (s := S264x1024) ![6, 0] S2x1024.size inb_S264x1024_S2x1024_6_0).emb (ix2 ⟨r.val + o, h⟩ j) := by
        funext a; apply Fin.ext
        match a with
        | ⟨0, _⟩ => show 6 + o + r.val = 6 + 1 * (r.val + o); omega
        | ⟨1, _⟩ => show j.val = 0 + 1 * j.val; omega
      rw [this, View.canon_cons_emb]
    · intro hm
      have h0 := (Rect.mem_set_unit (inb := inb_S264x1024_S256x1024_8_0)).mp hm
      have h1 := (h0 (0 : Fin 2)).1
      change 8 ≤ 6 + o + r.val at h1
      omega
  · rw [dif_neg h]
    have : (ix2 ⟨6 + o + r.val, by omega⟩ j : S264x1024.Idx) = (Rect.unit (s := S264x1024) ![8, 0] S256x1024.size inb_S264x1024_S256x1024_8_0).emb (ix2 ⟨(r.val + o - 2) % 256, Nat.mod_lt _ (by norm_num)⟩ j) := by
      funext a; apply Fin.ext
      match a with
      | ⟨0, _⟩ => show 6 + o + r.val = 8 + 1 * ((r.val + o - 2) % 256); omega
      | ⟨1, _⟩ => show j.val = 0 + 1 * j.val; omega
    rw [this, View.canon_cons_emb]

/-- The scratch rows from row 6 on. -/
theorem scr6 (v : View sig .tc .vmem S264x1024 .f32) (u : Vec Ideal S256x1024 .f32) (tl : Vec Ideal S2x1024 .f32) (L : List (View.Piece (Elt Ideal) S264x1024 .f32)) (ib) (r : Fin 256) (j : Fin 1024) :
    v.readCov (⟨Rect.unit ![8,0] S256x1024.size inb_S264x1024_S256x1024_8_0, u⟩ :: ⟨Rect.unit ![6,0] S2x1024.size inb_S264x1024_S2x1024_6_0, tl⟩ :: L)
      (Rect.unit (s := S264x1024) ![6, 0] S256x1024.size ib).toLoadRect (ix2 r j) = full tl u r.val j := scr v u tl L 0 (by norm_num) ib r j

/-- The scratch rows from row 7 on. -/
theorem scr7 (v : View sig .tc .vmem S264x1024 .f32) (u : Vec Ideal S256x1024 .f32) (tl : Vec Ideal S2x1024 .f32) (L : List (View.Piece (Elt Ideal) S264x1024 .f32)) (ib) (r : Fin 256) (j : Fin 1024) :
    v.readCov (⟨Rect.unit ![8,0] S256x1024.size inb_S264x1024_S256x1024_8_0, u⟩ :: ⟨Rect.unit ![6,0] S2x1024.size inb_S264x1024_S2x1024_6_0, tl⟩ :: L)
      (Rect.unit (s := S264x1024) ![7, 0] S256x1024.size ib).toLoadRect (ix2 r j) = full tl u (r.val + 1) j := scr v u tl L 1 (by norm_num) ib r j

/-- The two carried rows, stored whole and read back whole. -/
theorem tail_base (v : View sig .tc .vmem S1x2x1024 .f32) (ib ib') (x : Vec Ideal S1x2x1024 .f32) (z : Fin 1) (y : Fin 2) (j : Fin 1024) :
    v.readCov [⟨Rect.unit ![0, 0, 0] S1x2x1024.size ib', x⟩] (Rect.unit (s := S1x2x1024) ![0, 0, 0] S1x2x1024.size ib).toLoadRect (ix3 z y j) = x (ix3 z y j) := by
  rw [View.readCov_eq_canon', View.canon_unit_zero hz3]
  refine congrArg x ?_
  funext a; apply Fin.ext
  match a with
  | ⟨0, _⟩ => show 0 + 1 * z.val = z.val; omega
  | ⟨1, _⟩ => show 0 + 1 * y.val = y.val; omega
  | ⟨2, _⟩ => show 0 + 1 * j.val = j.val; omega

section
variable (b0 b1 b2 b3 b4 b5 b6 b7 : Vec Ideal S1x256x2048 .bf16) (R : Fin 256) (n : Fin 2048)

/-- The convolution branch: four products of 256 columns each. -/
theorem bc_eq (v : FVec Ideal S256x1024 .f32) : k0_pay21 v b0 b1 b2 b3 (ix2 R n) =
    ∑ x : Fin 256, v (ix2 R ⟨x.val, by omega⟩) * b0 (ix3 0 x n) + ∑ x : Fin 256, v (ix2 R ⟨256 + x.val, by omega⟩) * b1 (ix3 0 x n)
      + ∑ x : Fin 256, v (ix2 R ⟨512 + x.val, by omega⟩) * b2 (ix3 0 x n) + ∑ x : Fin 256, v (ix2 R ⟨768 + x.val, by omega⟩) * b3 (ix3 0 x n) := by
  pointwise [k0_pay21]

/-- The recurrent branch: eight products of 256 columns each. -/
theorem bh_eq (y0 y1 y2 y3 y4 y5 y6 y7 : Vec Ideal S1x256x256 .bf16) :
    k0_pay11 (k0_pay9 y7) (k0_pay10 (k0_pay2 y0) (k0_pay3 y1) (k0_pay4 y2) (k0_pay5 y3) (k0_pay6 y4) (k0_pay7 y5) (k0_pay8 y6) b0 b1 b2 b3 b4 b5 b6) b7 (ix2 R n) =
    ∑ x, y0 (ix3 0 R x) * b0 (ix3 0 x n) + ∑ x, y1 (ix3 0 R x) * b1 (ix3 0 x n) + ∑ x, y2 (ix3 0 R x) * b2 (ix3 0 x n) + ∑ x, y3 (ix3 0 R x) * b3 (ix3 0 x n)
      + ∑ x, y4 (ix3 0 R x) * b4 (ix3 0 x n) + ∑ x, y5 (ix3 0 R x) * b5 (ix3 0 x n) + ∑ x, y6 (ix3 0 R x) * b6 (ix3 0 x n) + ∑ x, y7 (ix3 0 R x) * b7 (ix3 0 x n) := by
  pointwise [k0_pay11, k0_pay10, k0_pay9, k0_pay8, k0_pay7, k0_pay6, k0_pay5, k0_pay4, k0_pay3, k0_pay2]

/-- The two branches under their gates, through the output weight and added to the residual. -/
theorem x_eq (bh bc : FVec Ideal S256x2048 .f32) (gt : FVec Ideal S256x4096 .f32) (gt0 x : Vec Ideal S256x2048 .f32) (wo : Vec Ideal S2048x2048 .bf16) :
    k0_pay1 bh bc gt gt0 x wo (ix2 R n) = x (ix2 R n) + ∑ k : Fin 2048,
      (gt0 (ix2 R k) * bc (ix2 R k) + gt (ix2 R ⟨2048 + k.val, by omega⟩) * bh (ix2 R k)) * wo (ix2 k n) := by
  pointwise [k0_pay1]
end

section
variable (x0 : Vec Ideal S12x256x256 .bf16) (x1 : Vec Ideal S1x2x1024 .f32) (x2 : Vec Ideal S3x1024 .f32)

/-- The group of columns a column lies in, and its place there. -/
def at12 (g : ℕ) (hg : g ≤ 8) (R : ℕ) (j : Fin 1024) : EReal := x0 (ix3 ⟨g + j.val / 256, by omega⟩ ⟨R % 256, Nat.mod_lt _ (by norm_num)⟩ ⟨j.val % 256, Nat.mod_lt _ (by norm_num)⟩)

/-- Four neighbouring groups of the projection, laid side by side, are the channels they stand for. -/
theorem cat_slab (g0 g1 g2 g3 : Fin 12) (hg : g0.val ≤ 8) (e1 : g1.val = g0.val + 1) (e2 : g2.val = g0.val + 2) (e3 : g3.val = g0.val + 3) (r : Fin 256) (j : Fin 1024) :
    cat (slab x0 g0) (slab x0 g1) (slab x0 g2) (slab x0 g3) r j = at12 x0 g0.val hg r.val j := by
  unfold cat at12
  split_ifs <;> rw [slab_apply] <;> refine congrArg x0 ?_ <;> congr 1 <;> apply Fin.ext <;> dsimp only <;> omega

/-- The convolution's input in row `R` of the tile. -/
def uE (R : ℕ) (j : Fin 1024) : EReal := at12 x0 4 (by norm_num) R j * at12 x0 8 (by norm_num) R j

/-- The tile's inputs behind the two carried ones. -/
def fE (i : ℕ) (j : Fin 1024) : EReal := if h : i < 2 then x1 (ix3 0 ⟨i, h⟩ j) else uE x0 (i - 2) j

/-- The gated convolution in row `R` of the tile. -/
def yE (R : Fin 256) (j : Fin 1024) : EReal := crow x2 (at12 x0 0 (by norm_num) R.val j) (uE x0 R.val j) (fE x0 x1 R.val j) (fE x0 x1 (R.val + 1) j) j

/-- The rows the filter sees: two carried rows, then the rows of the tile itself. -/
theorem full_eq (tl : Vec Ideal S2x1024 .f32) (u : Vec Ideal S256x1024 .f32) (htl : ∀ y j, tl (ix2 y j) = x1 (ix3 0 y j))
    (hu : ∀ r j, u (ix2 r j) = uE x0 r.val j) (i : ℕ) (hi : i < 258) (j : Fin 1024) : full tl u i j = fE x0 x1 i j := by
  unfold full fE
  split_ifs
  · exact htl _ _
  · rw [hu]; congr 1; dsimp only; omega

/-- What enters the filter, from the projection's groups. -/
theorem new_eq (r : Fin 256) (j : Fin 1024) :
    k0_pay18 (k0_pay14 (slab x0 4) (slab x0 5) (slab x0 6) (slab x0 7)) (k0_pay15 (slab x0 8)) (slab x0 9) (slab x0 10) (slab x0 11) (ix2 r j) = uE x0 r.val j := by
  rw [new, cat_slab x0 4 5 6 7 (by decide) rfl rfl rfl, cat_slab x0 8 9 10 11 (by decide) rfl rfl rfl]; rfl

/-- What the tile leaves, from the projection's groups. -/
theorem last_eq (z : Fin 1) (y : Fin 2) (j : Fin 1024) :
    k0_pay20 (k0_pay14 (slab x0 4) (slab x0 5) (slab x0 6) (slab x0 7)) (k0_pay15 (slab x0 8)) (slab x0 9) (slab x0 10) (slab x0 11) (ix3 z y j) = uE x0 (254 + y.val) j := by
  rw [last, cat_slab x0 4 5 6 7 (by decide) rfl rfl rfl, cat_slab x0 8 9 10 11 (by decide) rfl rfl rfl]; rfl
end

/-- The gates: group 44 and the fifteen after it, side by side. -/
def gE (x4 : Vec Ideal S1x256x256 .bf16) (x5 : Vec Ideal S15x256x256 .bf16) (R : Fin 256) (k : Fin 4096) : EReal :=
  if h : k.val < 256 then x4 (ix3 0 R ⟨k.val, h⟩) else x5 (ix3 ⟨k.val / 256 - 1, by omega⟩ R ⟨k.val % 256, Nat.mod_lt _ (by norm_num)⟩)

/-- The gates the kernel lays side by side, group by group, after the logistic. -/
theorem gate_eq (x4 : Vec Ideal S1x256x256 .bf16) (x5 : Vec Ideal S15x256x256 .bf16) (R : Fin 256) (k : Fin 4096) :
    k0_pay26 (k0_pay22 x4) (k0_pay23 (slab x5 0)) (k0_pay24 (slab x5 1)) (k0_pay25 (slab x5 2)) (slab x5 3) (slab x5 4) (slab x5 5) (slab x5 6) (slab x5 7) (slab x5 8)
      (slab x5 9) (slab x5 10) (slab x5 11) (slab x5 12) (slab x5 13) (slab x5 14) (ix2 R k) = Ideal.logistic (gE x4 x5 R k) := by
  have e := concatenate_ofFn_apply (t := S256x4096) (s₁ := S256x256) 1
    (fun n : Fin 16 => (shapeCast S256x256 ((Fin.cases x4 (slab x5) n : Vec Ideal S1x256x256 .bf16)) shapeCasts_S1x256x256_S256x256 : FVec Ideal S256x256 .bf16)) concatenates_S256x256_S256x256_S256x256_S256x256_S256x256_S256x256_S256x256_S256x256_S256x256_S256x256_S256x256_S256x256_S256x256_S256x256_S256x256_S256x256_S256x4096_d1 rfl 256 rfl
    (ix2 R k) ⟨k.val / 256, by omega⟩ rfl (ix2 R ⟨k.val % 256, Nat.mod_lt _ (by norm_num)⟩) rfl (fun b hb => by
      match b, hb with
      | ⟨0, _⟩, _ => rfl
      | ⟨1, _⟩, hb => exact absurd rfl hb)
  refine Eq.trans ?_ (congrArg Ideal.logistic (e.trans ?_))
  · rfl
  unfold gE
  pointwise []
  by_cases h : k.val < 256
  · rw [dif_pos h]
    have i0 : (⟨k.val / 256, by omega⟩ : Fin 16) = 0 := Fin.ext (by show k.val / 256 = 0; omega)
    rw [i0]
    show x4 _ = _
    refine congrArg x4 ?_
    congr 1; apply Fin.ext; dsimp only; omega
  · rw [dif_neg h]
    have i0 : (⟨k.val / 256, by omega⟩ : Fin 16) = Fin.succ ⟨k.val / 256 - 1, by omega⟩ := Fin.ext (by show k.val / 256 = k.val / 256 - 1 + 1; omega)
    rw [i0]
    show slab x5 _ _ = _
    exact slab_apply _ _ _ _ _

/-- The first half of the gates is a slice of all of them. -/
theorem gate_left (v0 v1 v2 v3 : FVec Ideal S256x256 .bf16) (a b c d e f g h i k l n : Vec Ideal S1x256x256 .bf16) (R : Fin 256) (j : Fin 2048) :
    k0_pay27 v0 v1 v2 v3 a b c d e f g h i k l n (ix2 R j) = k0_pay26 v0 v1 v2 v3 a b c d e f g h i k l n (ix2 R ⟨j.val, by omega⟩) := by
  unfold k0_pay27
  generalize k0_pay26 v0 v1 v2 v3 a b c d e f g h i k l n = G
  pointwise []

/-- An entry of the merged rows, from one block of every window and the two rows carried into the tile. -/
def rowE (x0 : Vec Ideal S12x256x256 .bf16) (x1 : Vec Ideal S1x2x1024 .f32) (x2 : Vec Ideal S3x1024 .f32) (x3 : Vec Ideal S8x256x256 .bf16) (x4 : Vec Ideal S1x256x256 .bf16) (x5 : Vec Ideal S15x256x256 .bf16)
    (x6 : Vec Ideal S256x2048 .f32) (x7 : Vec Ideal S4x256x2048 .bf16) (x8 : Vec Ideal S8x256x2048 .bf16) (x9 : Vec Ideal S2048x2048 .bf16) (R : Fin 256) (n : Fin 2048) : EReal :=
  x6 (ix2 R n) + ∑ k : Fin 2048,
      (Ideal.logistic (gE x4 x5 R ⟨k.val, by omega⟩) * (∑ j : Fin 1024, yE x0 x1 x2 R j * x7 (ix3 ⟨j.val / 256, by omega⟩ ⟨j.val % 256, Nat.mod_lt _ (by norm_num)⟩ k))
        + Ideal.logistic (gE x4 x5 R ⟨2048 + k.val, by omega⟩)
          * (∑ j : Fin 2048, x3 (ix3 ⟨j.val / 256, by omega⟩ R ⟨j.val % 256, Nat.mod_lt _ (by norm_num)⟩) * x8 (ix3 ⟨j.val / 256, by omega⟩ ⟨j.val % 256, Nat.mod_lt _ (by norm_num)⟩ k))) * x9 (ix2 k n)

/-- The merged rows, from the kernel's operations on a tile. -/
theorem merged (x0 : Vec Ideal S12x256x256 .bf16) (x1 : Vec Ideal S1x2x1024 .f32) (x2 : Vec Ideal S3x1024 .f32) (x3 : Vec Ideal S8x256x256 .bf16) (x4 : Vec Ideal S1x256x256 .bf16) (x5 : Vec Ideal S15x256x256 .bf16)
    (x6 : Vec Ideal S256x2048 .f32) (x7 : Vec Ideal S4x256x2048 .bf16) (x8 : Vec Ideal S8x256x2048 .bf16) (x9 : Vec Ideal S2048x2048 .bf16) (p q : Vec Ideal S256x1024 .f32)
    (hp : ∀ r j, p (ix2 r j) = fE x0 x1 r.val j) (hq : ∀ r j, q (ix2 r j) = fE x0 x1 (r.val + 1) j) (R : Fin 256) (n : Fin 2048) :
    k0_pay1
      (k0_pay11 (k0_pay9 (slab x3 7)) (k0_pay10 (k0_pay2 (slab x3 0)) (k0_pay3 (slab x3 1)) (k0_pay4 (slab x3 2)) (k0_pay5 (slab x3 3)) (k0_pay6 (slab x3 4)) (k0_pay7 (slab x3 5)) (k0_pay8 (slab x3 6))
        (slab x8 0) (slab x8 1) (slab x8 2) (slab x8 3) (slab x8 4) (slab x8 5) (slab x8 6)) (slab x8 7))
      (k0_pay21 (k0_pay19 (k0_pay12 x2) (k0_pay13 (slab x0 0) (slab x0 1) (slab x0 2) (slab x0 3)) (k0_pay14 (slab x0 4) (slab x0 5) (slab x0 6) (slab x0 7)) (k0_pay15 (slab x0 8))
        (slab x0 9) (slab x0 10) (slab x0 11) p q) (slab x7 0) (slab x7 1) (slab x7 2) (slab x7 3))
      (k0_pay26 (k0_pay22 x4) (k0_pay23 (slab x5 0)) (k0_pay24 (slab x5 1)) (k0_pay25 (slab x5 2)) (slab x5 3) (slab x5 4) (slab x5 5) (slab x5 6) (slab x5 7) (slab x5 8)
        (slab x5 9) (slab x5 10) (slab x5 11) (slab x5 12) (slab x5 13) (slab x5 14))
      (k0_pay27 (k0_pay22 x4) (k0_pay23 (slab x5 0)) (k0_pay24 (slab x5 1)) (k0_pay25 (slab x5 2)) (slab x5 3) (slab x5 4) (slab x5 5) (slab x5 6) (slab x5 7) (slab x5 8)
        (slab x5 9) (slab x5 10) (slab x5 11) (slab x5 12) (slab x5 13) (slab x5 14)) x6 x9 (ix2 R n) = rowE x0 x1 x2 x3 x4 x5 x6 x7 x8 x9 R n := by
  unfold rowE
  rw [x_eq]
  refine congrArg (x6 (ix2 R n) + ·) (Finset.sum_congr rfl fun k _ => ?_)
  refine congrArg (· * x9 (ix2 k n)) ?_
  rw [gate_left, gate_eq, gate_eq, bc_eq, bh_eq, sum4, sum8]
  refine congrArg₂ (· + ·) (congrArg (_ * ·) (add4 ?_ ?_ ?_ ?_)) (congrArg (_ * ·) (add8 ?_ ?_ ?_ ?_ ?_ ?_ ?_ ?_)) <;> refine Finset.sum_congr rfl fun e _ => ?_
  iterate 4
    · rw [row, hp, hq, cat_slab x0 0 1 2 3 (by decide) rfl rfl rfl, cat_slab x0 4 5 6 7 (by decide) rfl rfl rfl, cat_slab x0 8 9 10 11 (by decide) rfl rfl rfl]
      refine congrArg (yE x0 x1 x2 R _ * ·) ?_
      rw [slab_apply]
      refine congrArg x7 ?_
      congr 1 <;> apply Fin.ext <;> simp <;> omega
  all_goals
    rw [slab_apply, slab_apply]
    refine congrArg₂ (· * ·) (congrArg x3 ?_) (congrArg x8 ?_) <;> congr 1 <;> apply Fin.ext <;> simp <;> omega

section
variable (c : Dev nD) (i : grid0.Coords) (a1 : Memref sig .tc .vmem S12x256x256 .bf16) (h1 : a1.IsWhole) (a2 : Memref sig .tc .vmem S1x2x1024 .f32) (h2 : a2.IsWhole) (a3 : Memref sig .tc .vmem S3x1024 .f32) (h3 : a3.IsWhole)
  (a4 : Memref sig .tc .vmem S8x256x256 .bf16) (h4 : a4.IsWhole) (a5 : Memref sig .tc .vmem S1x256x256 .bf16) (h5 : a5.IsWhole) (a6 : Memref sig .tc .vmem S15x256x256 .bf16) (h6 : a6.IsWhole) (a7 : Memref sig .tc .vmem S256x2048 .f32) (h7 : a7.IsWhole)
  (a8 : Memref sig .tc .vmem S4x256x2048 .bf16) (h8 : a8.IsWhole) (a9 : Memref sig .tc .vmem S8x256x2048 .bf16) (h9 : a9.IsWhole) (a10 : Memref sig .tc .vmem S2048x2048 .bf16) (h10 : a10.IsWhole) (a11 : Memref sig .tc .vmem S256x2048 .f32) (h11 : a11.IsWhole)
  (a12 : Memref sig .tc .vmem S1x2x1024 .f32) (h12 : a12.IsWhole) (a13 : Memref sig .tc .vmem S264x1024 .f32) (h13 : a13.IsWhole) (hc : cond0_0 i) (hn : ¬ cond0_0 i)
  (x0 : Vec Ideal S12x256x256 .bf16) (x1 : Vec Ideal S1x2x1024 .f32) (x2 : Vec Ideal S3x1024 .f32) (x3 : Vec Ideal S8x256x256 .bf16) (x4 : Vec Ideal S1x256x256 .bf16) (x5 : Vec Ideal S15x256x256 .bf16) (x6 : Vec Ideal S256x2048 .f32)
  (x7 : Vec Ideal S4x256x2048 .bf16) (x8 : Vec Ideal S8x256x2048 .bf16) (x9 : Vec Ideal S2048x2048 .bf16) (T : Vec Ideal S1x2x1024 .f32)

/-- The rows handed on by a sequence's first tile: its last two inputs. -/
theorem first_tail (z : Fin 1) (y : Fin 2) (j : Fin 1024) : out0_A_11 c i a1 h1 a2 h2 a3 h3 a4 h4 a5 h5 a6 h6 a7 h7 a8 h8 a9 h9 a10 h10 a11 h11 a12 h12 a13 h13 hc x0 x1 x2 x3 x4 x5 x6 x7 x8 x9 (ix3 z y j) = uE x0 (254 + y.val) j := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_cons_unit_zero hz3]
  simp only [View.readAt_eq_ld, h1.read_unread]
  exact last_eq x0 z y j

/-- The rows handed on by any later tile. -/
theorem later_tail (z : Fin 1) (y : Fin 2) (j : Fin 1024) : out0_B_11 c i a1 h1 a2 h2 a3 h3 a4 h4 a5 h5 a6 h6 a7 h7 a8 h8 a9 h9 a10 h10 a11 h11 a12 h12 a13 h13 hn x0 x1 x2 x3 x4 x5 x6 x7 x8 x9 T (ix3 z y j) = uE x0 (254 + y.val) j := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hn x0 x1 x2 x3 x4 x5 x6 x7 x8 x9 T)]
  unfold kernelRun0_B
  dsimp only
  sl_unfold_words
  rw [View.canon_cons_unit_zero hz3]
  simp only [View.readAt_eq_ld, h1.read_unread]
  exact last_eq x0 z y j

/-- The merged rows of a sequence's first tile, which starts from the rows passed in. -/
theorem first_x (R : Fin 256) (n : Fin 2048) : out0_A_10 c i a1 h1 a2 h2 a3 h3 a4 h4 a5 h5 a6 h6 a7 h7 a8 h8 a9 h9 a10 h10 a11 h11 a12 h12 a13 h13 hc x0 x1 x2 x3 x4 x5 x6 x7 x8 x9 (ix2 R n) = rowE x0 x1 x2 x3 x4 x5 x6 x7 x8 x9 R n := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S256x2048) hz, View.ld_unit_zero (S := S3x1024) hz, View.ld_unit_zero (S := S2048x2048) hz, View.ld_unit_zero (S := S1x256x256) hz3, View.ld_unit_zero (S := S1x2x1024) hz3]
  refine merged x0 x1 x2 x3 x4 x5 x6 x7 x8 x9 _ _ (fun r j => ?_) (fun r j => ?_) R n
  · rw [scr6]; exact full_eq x0 x1 _ _ (fun y j => by rw [old, tail_base]) (fun r j => new_eq x0 r j) _ (by omega) j
  · rw [scr7]; exact full_eq x0 x1 _ _ (fun y j => by rw [old, tail_base]) (fun r j => new_eq x0 r j) _ (by omega) j

/-- The merged rows of a later tile, which starts from the rows the tile before it left. -/
theorem later_x (R : Fin 256) (n : Fin 2048) : out0_B_10 c i a1 h1 a2 h2 a3 h3 a4 h4 a5 h5 a6 h6 a7 h7 a8 h8 a9 h9 a10 h10 a11 h11 a12 h12 a13 h13 hn x0 x1 x2 x3 x4 x5 x6 x7 x8 x9 T (ix2 R n) = rowE x0 T x2 x3 x4 x5 x6 x7 x8 x9 R n := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hn x0 x1 x2 x3 x4 x5 x6 x7 x8 x9 T)]
  unfold kernelRun0_B
  dsimp only
  sl_unfold_words
  rw [View.canon_unit_zero hz]
  simp only [View.readAt_eq_ld, h1.read_unread, h3.read_unread, h4.read_unread, h5.read_unread, h6.read_unread, h7.read_unread, h8.read_unread, h9.read_unread, h10.read_unread, h12.read_unread,
    View.ld_unit_zero (S := S256x2048) hz, View.ld_unit_zero (S := S3x1024) hz, View.ld_unit_zero (S := S2048x2048) hz, View.ld_unit_zero (S := S1x256x256) hz3, View.ld_unit_zero (S := S1x2x1024) hz3]
  refine merged x0 T x2 x3 x4 x5 x6 x7 x8 x9 _ _ (fun r j => ?_) (fun r j => ?_) R n
  · rw [scr6]; exact full_eq x0 T _ _ (fun y j => by rw [old]) (fun r j => new_eq x0 r j) _ (by omega) j
  · rw [scr7]; exact full_eq x0 T _ _ (fun y j => by rw [old]) (fun r j => new_eq x0 r j) _ (by omega) j
end
end Cert.MergePromptProof
-- ==== Proof.MergePromptRef.lean ====
module

public import proofs.«01_k».proof.Defs
public import proofs.«01_k».proof.Proof.Gen.MergePromptRefIdeal.Read
public import Idealize.ShloMosaic.Lib.Pointwise

/-! The merge's reference over two long sequences, entry by entry. -/

@[expose] public section
set_option maxRecDepth 16384
open Idealize.ShloMosaic Idealize.ShloMosaic.TcCoe Idealize.SL.Sem
noncomputable section
namespace Cert.MergePromptProof.Ref
open Cert.MergePromptRefIdeal Cert.MergePromptRefIdeal.Read

variable (x0 : Vec Ideal S60x32768x256 .bf16) (x1 : Vec Ideal S8x32768x256 .bf16) (x2 : Vec Ideal S32768x2048 .f32) (x3 : Vec Ideal S2x2x1024 .f32) (x4 : Vec Ideal S1x3x1024 .f32)
  (x5 : Vec Ideal S1024x2048 .bf16) (x6 x7 : Vec Ideal S2048x2048 .bf16)

/-- The projections with their column groups side by side. -/
theorem v2_eq (b : Fin 2) (t : Fin 16384) (k : Fin 15360) : val_main_v2 (F := Ideal) x0 (ix3 b t k) = x0 (ix3 ⟨k.val / 256, by omega⟩ ⟨b.val * 16384 + t.val, by omega⟩ ⟨k.val % 256, Nat.mod_lt _ (by norm_num)⟩) := by
  pointwise [val_main_v0, val_main_v1, val_main_v2]

/-- The recurrence's outputs with their column groups side by side. -/
theorem v14_eq (b : Fin 2) (t : Fin 16384) (k : Fin 2048) : val_main_v14 (F := Ideal) x1 (ix3 b t k) = x1 (ix3 ⟨k.val / 256, by omega⟩ ⟨b.val * 16384 + t.val, by omega⟩ ⟨k.val % 256, Nat.mod_lt _ (by norm_num)⟩) := by
  pointwise [val_main_v12, val_main_v13, val_main_v14]

/-- The convolution's inputs behind the two buffered ones. -/
theorem v17_eq (b : Fin 2) (t : Fin 16386) (k : Fin 1024) : val_main_v17 (F := Ideal) x0 x3 (ix3 b t k) =
    if h : t.val < 2 then x3 (ix3 b ⟨t.val, h⟩ k)
    else val_main_v2 (F := Ideal) x0 (ix3 b ⟨t.val - 2, by omega⟩ ⟨1024 + k.val, by omega⟩) * val_main_v2 (F := Ideal) x0 (ix3 b ⟨t.val - 2, by omega⟩ ⟨2048 + k.val, by omega⟩) := by
  pointwise [val_main_v17, val_main_v15, val_main_v4, val_main_v5]

/-- The buffer handed on. -/
theorem v38_eq (b : Fin 2) (t : Fin 2) (k : Fin 1024) : val_main_v38 (F := Ideal) x0 x3 (ix3 b t k) = val_main_v17 (F := Ideal) x0 x3 (ix3 b ⟨16384 + t.val, by omega⟩ k) := by
  pointwise [val_main_v38]

/-- The gated convolution. -/
theorem v39_eq (b : Fin 2) (t : Fin 16384) (k : Fin 1024) : val_main_v39 (F := Ideal) x0 x3 x4 (ix3 b t k) =
    val_main_v2 (F := Ideal) x0 (ix3 b t ⟨k.val, by omega⟩) *
      (x4 (ix3 0 0 k) * val_main_v17 (F := Ideal) x0 x3 (ix3 b ⟨t.val, by omega⟩ k) + x4 (ix3 0 1 k) * val_main_v17 (F := Ideal) x0 x3 (ix3 b ⟨1 + t.val, by omega⟩ k)
        + x4 (ix3 0 2 k) * val_main_v17 (F := Ideal) x0 x3 (ix3 b ⟨2 + t.val, by omega⟩ k)) := by
  pointwise [val_main_v39, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_v3]

/-- The merged rows. -/
theorem v63_eq (R : Fin 32768) (n : Fin 2048) : val_main_v63 (F := Ideal) x0 x1 x2 x3 x4 x5 x6 x7 (ix2 R n) =
    x2 (ix2 R n) + ∑ x : Fin 2048,
      (Ideal.logistic (val_main_v2 (F := Ideal) x0 (ix3 ⟨R.val / 16384, by omega⟩ ⟨R.val % 16384, by omega⟩ ⟨11264 + x.val, by omega⟩))
          * (∑ j : Fin 1024, val_main_v39 (F := Ideal) x0 x3 x4 (ix3 ⟨R.val / 16384, by omega⟩ ⟨R.val % 16384, by omega⟩ j) * x5 (ix2 j x))
        + Ideal.logistic (val_main_v2 (F := Ideal) x0 (ix3 ⟨R.val / 16384, by omega⟩ ⟨R.val % 16384, by omega⟩ ⟨13312 + x.val, by omega⟩))
          * (∑ j : Fin 2048, val_main_v14 (F := Ideal) x1 (ix3 ⟨R.val / 16384, by omega⟩ ⟨R.val % 16384, by omega⟩ j) * x6 (ix2 j x))) * x7 (ix2 x n) := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_cst, val_main_cst_0, val_main_cst_1, val_main_cst_2, val_main_v10, val_main_v11]
  rfl
end Cert.MergePromptProof.Ref
-- ==== Proof.MergePromptFlow.lean ====
module

public import proofs.«01_k».proof.Proof.MergePromptBlock
public import proofs.«01_k».proof.Proof.MergePromptRef

/-! What the merge kernel's windows hold over two long sequences, and its two result arrays from them. -/

@[expose] public section
set_option maxRecDepth 16384
open Idealize.ShloMosaic Idealize.ShloMosaic.TcCoe Idealize.SL.Sem
open Idealize.ShloMosaic.Pipeline (Dat)
noncomputable section
namespace Cert.MergePromptProof
open Cert.MergePromptIdeal Cert.MergePromptIdeal.Gen Cert.MergePromptIdeal.Value

variable (m : (ℓ : Loc nD τ sig) → Buf (Elt Ideal) ℓ)

/-! ## The argument arrays -/
/-- The projection, in sixty groups of 256 channels. -/
def P (c : Dev nD) : Vec Ideal S60x32768x256 .bf16 := m ((c : Thread nD τ).loc main_arg0)
/-- The recurrent output. -/
def H (c : Dev nD) : Vec Ideal S8x32768x256 .bf16 := m ((c : Thread nD τ).loc main_arg1)
/-- The residual input. -/
def X (c : Dev nD) : Vec Ideal S32768x2048 .f32 := m ((c : Thread nD τ).loc main_arg2)
/-- The rows carried in from the last call. -/
def C (c : Dev nD) : Vec Ideal S2x2x1024 .f32 := m ((c : Thread nD τ).loc main_arg3)
/-- The taps of the filter. -/
def W (c : Dev nD) : Vec Ideal S1x3x1024 .f32 := m ((c : Thread nD τ).loc main_arg4)
/-- The weights of the filtered branch. -/
def Bc (c : Dev nD) : Vec Ideal S1024x2048 .bf16 := m ((c : Thread nD τ).loc main_arg5)
/-- The weights of the recurrent branch. -/
def Bh (c : Dev nD) : Vec Ideal S2048x2048 .bf16 := m ((c : Thread nD τ).loc main_arg6)
/-- The weights of the output projection. -/
def Wo (c : Dev nD) : Vec Ideal S2048x2048 .bf16 := m ((c : Thread nD τ).loc main_arg7)

/-- The grid has 128 points, 64 for each sequence. -/
theorem N128 : cfg0.N = 128 := N_0

/-! ## What a grid point's windows hold -/

/-- Window 0 at point `t`: the first twelve groups of the projection, rows `256 t` onwards. -/
theorem win0 (c : Dev nD) (t : Fin cfg0.N) (g : Fin 12) (R k : Fin 256) : iblk m c 0 t (ix3 g R k) = P m c (ix3 ⟨g.val, by omega⟩ ⟨256 * t.val + R.val, by have := N128; omega⟩ k) := by
  have e : ∀ t : Fin cfg0.N, win0_0.index t (0 : Fin 3) = 0 ∧ win0_0.index t (1 : Fin 3) = t.val ∧ win0_0.index t (2 : Fin 3) = 0 := by decide +kernel
  have hN := N128
  unfold iblk
  rw [View.read_apply]
  show V m c main_arg0 _ = _
  rw [V_main_arg0]
  refine congrArg (P m c) ?_
  obtain ⟨e0, e1, e2⟩ := e t
  funext a; apply Fin.ext
  match a with
  | ⟨0, _⟩ => show win0_0.index t 0 * 12 + 1 * g.val = g.val; omega
  | ⟨1, _⟩ => show win0_0.index t 1 * 256 + 1 * R.val = 256 * t.val + R.val; omega
  | ⟨2, _⟩ => show win0_0.index t 2 * 256 + 1 * k.val = k.val; omega

/-- Window 1: the carried rows of the sequence point `t` lies in. -/
theorem win1 (c : Dev nD) (t : Fin cfg0.N) (s : Fin 1) (y : Fin 2) (j : Fin 1024) : iblk m c 1 t (ix3 s y j) = C m c (ix3 ⟨t.val / 64, by have := N128; omega⟩ y j) := by
  have e : ∀ t : Fin cfg0.N, win0_1.index t (0 : Fin 3) = t.val / 64 ∧ win0_1.index t (1 : Fin 3) = 0 ∧ win0_1.index t (2 : Fin 3) = 0 := by decide +kernel
  have hN := N128
  unfold iblk
  rw [View.read_apply]
  show V m c main_arg3 _ = _
  rw [V_main_arg3]
  refine congrArg (C m c) ?_
  obtain ⟨e0, e1, e2⟩ := e t
  funext a; apply Fin.ext
  match a with
  | ⟨0, _⟩ => show win0_1.index t 0 * 1 + 1 * s.val = t.val / 64; omega
  | ⟨1, _⟩ => show win0_1.index t 1 * 2 + 1 * y.val = y.val; omega
  | ⟨2, _⟩ => show win0_1.index t 2 * 1024 + 1 * j.val = j.val; omega

/-- The taps, without their leading axis. -/
theorem V_taps (c : Dev nD) : V m c main_v0 = shapeCast S3x1024 (W m c) shapeCasts_S1x3x1024_S3x1024 := rfl
/-- The weights of the filtered branch, in four groups of rows. -/
theorem V_bc (c : Dev nD) : V m c main_v1 = shapeCast S4x256x2048 (Bc m c) shapeCasts_S1024x2048_S4x256x2048 := rfl
/-- The weights of the recurrent branch, in eight groups of rows. -/
theorem V_bh (c : Dev nD) : V m c main_v2 = shapeCast S8x256x2048 (Bh m c) shapeCasts_S2048x2048_S8x256x2048 := rfl

/-- Window 2: the taps. -/
theorem win2 (c : Dev nD) (t : Fin cfg0.N) (d : Fin 3) (j : Fin 1024) : iblk m c 2 t (ix2 d j) = W m c (ix3 0 d j) := by
  have e : ∀ t : Fin cfg0.N, win0_2.index t (0 : Fin 2) = 0 ∧ win0_2.index t (1 : Fin 2) = 0 := by decide +kernel
  have hN := N128
  unfold iblk
  rw [View.read_apply]
  show V m c main_v0 _ = _
  rw [V_taps]
  obtain ⟨e0, e1⟩ := e t
  have i : ((cfg0.win 2).blk t).view.emb (ix2 d j) = (ix2 d j : S3x1024.Idx) := by
    funext a; apply Fin.ext
    match a with
    | ⟨0, _⟩ => show win0_2.index t 0 * 3 + 1 * d.val = d.val; omega
    | ⟨1, _⟩ => show win0_2.index t 1 * 1024 + 1 * j.val = j.val; omega
  rw [i]
  pointwise []

/-- Window 3: the recurrent output, rows `256 t` onwards. -/
theorem win3 (c : Dev nD) (t : Fin cfg0.N) (g : Fin 8) (R k : Fin 256) : iblk m c 3 t (ix3 g R k) = H m c (ix3 g ⟨256 * t.val + R.val, by have := N128; omega⟩ k) := by
  have e : ∀ t : Fin cfg0.N, win0_3.index t (0 : Fin 3) = 0 ∧ win0_3.index t (1 : Fin 3) = t.val ∧ win0_3.index t (2 : Fin 3) = 0 := by decide +kernel
  have hN := N128
  unfold iblk
  rw [View.read_apply]
  show V m c main_arg1 _ = _
  rw [V_main_arg1]
  refine congrArg (H m c) ?_
  obtain ⟨e0, e1, e2⟩ := e t
  funext a; apply Fin.ext
  match a with
  | ⟨0, _⟩ => show win0_3.index t 0 * 8 + 1 * g.val = g.val; omega
  | ⟨1, _⟩ => show win0_3.index t 1 * 256 + 1 * R.val = 256 * t.val + R.val; omega
  | ⟨2, _⟩ => show win0_3.index t 2 * 256 + 1 * k.val = k.val; omega

/-- Window 4: group 44 of the projection. -/
theorem win4 (c : Dev nD) (t : Fin cfg0.N) (z : Fin 1) (R k : Fin 256) : iblk m c 4 t (ix3 z R k) = P m c (ix3 44 ⟨256 * t.val + R.val, by have := N128; omega⟩ k) := by
  have e : ∀ t : Fin cfg0.N, win0_4.index t (0 : Fin 3) = 44 ∧ win0_4.index t (1 : Fin 3) = t.val ∧ win0_4.index t (2 : Fin 3) = 0 := by decide +kernel
  have hN := N128
  unfold iblk
  rw [View.read_apply]
  show V m c main_arg0 _ = _
  rw [V_main_arg0]
  refine congrArg (P m c) ?_
  obtain ⟨e0, e1, e2⟩ := e t
  funext a; apply Fin.ext
  match a with
  | ⟨0, _⟩ => show win0_4.index t 0 * 1 + 1 * z.val = 44; omega
  | ⟨1, _⟩ => show win0_4.index t 1 * 256 + 1 * R.val = 256 * t.val + R.val; omega
  | ⟨2, _⟩ => show win0_4.index t 2 * 256 + 1 * k.val = k.val; omega

/-- Window 5: groups 45 to 59 of the projection. -/
theorem win5 (c : Dev nD) (t : Fin cfg0.N) (g : Fin 15) (R k : Fin 256) : iblk m c 5 t (ix3 g R k) = P m c (ix3 ⟨45 + g.val, by omega⟩ ⟨256 * t.val + R.val, by have := N128; omega⟩ k) := by
  have e : ∀ t : Fin cfg0.N, win0_5.index t (0 : Fin 3) = 3 ∧ win0_5.index t (1 : Fin 3) = t.val ∧ win0_5.index t (2 : Fin 3) = 0 := by decide +kernel
  have hN := N128
  unfold iblk
  rw [View.read_apply]
  show V m c main_arg0 _ = _
  rw [V_main_arg0]
  refine congrArg (P m c) ?_
  obtain ⟨e0, e1, e2⟩ := e t
  funext a; apply Fin.ext
  match a with
  | ⟨0, _⟩ => show win0_5.index t 0 * 15 + 1 * g.val = 45 + g.val; omega
  | ⟨1, _⟩ => show win0_5.index t 1 * 256 + 1 * R.val = 256 * t.val + R.val; omega
  | ⟨2, _⟩ => show win0_5.index t 2 * 256 + 1 * k.val = k.val; omega

/-- Window 6: the residual input. -/
theorem win6 (c : Dev nD) (t : Fin cfg0.N) (R : Fin 256) (n : Fin 2048) : iblk m c 6 t (ix2 R n) = X m c (ix2 ⟨256 * t.val + R.val, by have := N128; omega⟩ n) := by
  have e : ∀ t : Fin cfg0.N, win0_6.index t (0 : Fin 2) = t.val ∧ win0_6.index t (1 : Fin 2) = 0 := by decide +kernel
  have hN := N128
  unfold iblk
  rw [View.read_apply]
  show V m c main_arg2 _ = _
  rw [V_main_arg2]
  refine congrArg (X m c) ?_
  obtain ⟨e0, e1⟩ := e t
  funext a; apply Fin.ext
  match a with
  | ⟨0, _⟩ => show win0_6.index t 0 * 256 + 1 * R.val = 256 * t.val + R.val; omega
  | ⟨1, _⟩ => show win0_6.index t 1 * 2048 + 1 * n.val = n.val; omega

/-- Window 7: the weights of the filtered branch. -/
theorem win7 (c : Dev nD) (t : Fin cfg0.N) (g : Fin 4) (k : Fin 256) (n : Fin 2048) : iblk m c 7 t (ix3 g k n) = Bc m c (ix2 ⟨g.val * 256 + k.val, by omega⟩ n) := by
  have e : ∀ t : Fin cfg0.N, win0_7.index t (0 : Fin 3) = 0 ∧ win0_7.index t (1 : Fin 3) = 0 ∧ win0_7.index t (2 : Fin 3) = 0 := by decide +kernel
  have hN := N128
  unfold iblk
  rw [View.read_apply]
  show V m c main_v1 _ = _
  rw [V_bc]
  obtain ⟨e0, e1, e2⟩ := e t
  have i : ((cfg0.win 7).blk t).view.emb (ix3 g k n) = (ix3 g k n : S4x256x2048.Idx) := by
    funext a; apply Fin.ext
    match a with
    | ⟨0, _⟩ => show win0_7.index t 0 * 4 + 1 * g.val = g.val; omega
    | ⟨1, _⟩ => show win0_7.index t 1 * 256 + 1 * k.val = k.val; omega
    | ⟨2, _⟩ => show win0_7.index t 2 * 2048 + 1 * n.val = n.val; omega
  rw [i]
  pointwise []

/-- Window 8: the weights of the recurrent branch. -/
theorem win8 (c : Dev nD) (t : Fin cfg0.N) (g : Fin 8) (k : Fin 256) (n : Fin 2048) : iblk m c 8 t (ix3 g k n) = Bh m c (ix2 ⟨g.val * 256 + k.val, by omega⟩ n) := by
  have e : ∀ t : Fin cfg0.N, win0_8.index t (0 : Fin 3) = 0 ∧ win0_8.index t (1 : Fin 3) = 0 ∧ win0_8.index t (2 : Fin 3) = 0 := by decide +kernel
  have hN := N128
  unfold iblk
  rw [View.read_apply]
  show V m c main_v2 _ = _
  rw [V_bh]
  obtain ⟨e0, e1, e2⟩ := e t
  have i : ((cfg0.win 8).blk t).view.emb (ix3 g k n) = (ix3 g k n : S8x256x2048.Idx) := by
    funext a; apply Fin.ext
    match a with
    | ⟨0, _⟩ => show win0_8.index t 0 * 8 + 1 * g.val = g.val; omega
    | ⟨1, _⟩ => show win0_8.index t 1 * 256 + 1 * k.val = k.val; omega
    | ⟨2, _⟩ => show win0_8.index t 2 * 2048 + 1 * n.val = n.val; omega
  rw [i]
  pointwise []

/-- Window 9: the weights of the output projection. -/
theorem win9 (c : Dev nD) (t : Fin cfg0.N) (k n : Fin 2048) : iblk m c 9 t (ix2 k n) = Wo m c (ix2 k n) := by
  have e : ∀ t : Fin cfg0.N, win0_9.index t (0 : Fin 2) = 0 ∧ win0_9.index t (1 : Fin 2) = 0 := by decide +kernel
  have hN := N128
  unfold iblk
  rw [View.read_apply]
  show V m c main_arg7 _ = _
  rw [V_main_arg7]
  refine congrArg (Wo m c) ?_
  obtain ⟨e0, e1⟩ := e t
  funext a; apply Fin.ext
  match a with
  | ⟨0, _⟩ => show win0_9.index t 0 * 2048 + 1 * k.val = k.val; omega
  | ⟨1, _⟩ => show win0_9.index t 1 * 2048 + 1 * n.val = n.val; omega

/-! ## The result arrays -/

/-- The rows point `t` starts from: the ones passed in, or the ones the point before it left. -/
def carried (c : Dev nD) (t : Fin cfg0.N) : Vec Ideal S1x2x1024 .f32 :=
  if t.val % 64 = 0 then iblk m c 1 t else (outsAt0 m c (t.val - 1) (Nat.lt_of_le_of_lt (Nat.sub_le _ _) t.isLt)).2

/-- The first output block of point `t`. -/
theorem outs_x (c : Dev nD) (t : Fin cfg0.N) (R : Fin 256) (n : Fin 2048) : (outsAt0 m c t.val t.isLt).1 (ix2 R n) =
    rowE (iblk m c 0 t) (carried m c t) (iblk m c 2 t) (iblk m c 3 t) (iblk m c 4 t) (iblk m c 5 t) (iblk m c 6 t) (iblk m c 7 t) (iblk m c 8 t) (iblk m c 9 t) R n := by
  unfold carried
  by_cases h : t.val % 64 = 0
  · rw [if_pos h, outsAt0_A m c t h]; dsimp only; rw [first_x]
  · rw [if_neg h, outsAt0_B m c t h]; dsimp only; rw [later_x]

/-- The second output block of point `t`: the last two rows of its tile. -/
theorem outs_tail (c : Dev nD) (t : Fin cfg0.N) (z : Fin 1) (y : Fin 2) (j : Fin 1024) : (outsAt0 m c t.val t.isLt).2 (ix3 z y j) = uE (iblk m c 0 t) (254 + y.val) j := by
  by_cases h : t.val % 64 = 0
  · rw [outsAt0_A m c t h]; dsimp only; rw [first_tail]
  · rw [outsAt0_B m c t h]; dsimp only; rw [later_tail]

/-- The carried rows: those passed in at a sequence's start, else the last two of the tile before. -/
theorem carried_eq (c : Dev nD) (t : Fin cfg0.N) (z : Fin 1) (y : Fin 2) (j : Fin 1024) : carried m c t (ix3 z y j) =
    if t.val % 64 = 0 then C m c (ix3 ⟨t.val / 64, by have := N128; omega⟩ y j) else uE (iblk m c 0 ⟨t.val - 1, by omega⟩) (254 + y.val) j := by
  unfold carried
  split_ifs
  · exact win1 m c t z y j
  · exact outs_tail m c ⟨t.val - 1, by omega⟩ z y j

/-- Where point `t` writes its first block, and that it does. -/
theorem idx10 : ∀ t : Fin cfg0.N, win0_10.index t (0 : Fin 2) = t.val ∧ win0_10.index t (1 : Fin 2) = 0 ∧ (cfg0.win 10).flush t = true := by
  decide +kernel
/-- Where point `t` writes its second block, and when it does: at a sequence's last tile. -/
theorem idx11 : ∀ t : Fin cfg0.N, (win0_11.index t (0 : Fin 3) = t.val / 64 ∧ win0_11.index t (1 : Fin 3) = 0 ∧ win0_11.index t (2 : Fin 3) = 0) ∧ ((cfg0.win 11).flush t = true ↔ t.val % 64 = 63) := by
  decide +kernel

/-- The two sequences' buffers lie apart. -/
theorem apart11 : ∀ t t' : Fin cfg0.N, (cfg0.win 11).flush t = true → (cfg0.win 11).flush t' = true → t ≠ t' →
    Disjoint ((cfg0.win 11).blk t).view.set ((cfg0.win 11).blk t').view.set := fun t t' ht ht' hne =>
  (cfg0.win 11).disjoint_blk fun h => hne (Fin.ext (by
    have e := (idx11 t).1.1
    have e' := (idx11 t').1.1
    have f := (idx11 t).2.mp ht
    have f' := (idx11 t').2.mp ht'
    have h0 : win0_11.index t (0 : Fin 3) = win0_11.index t' (0 : Fin 3) := congrFun h 0
    omega))

/-- An entry of the merged rows, from the grid point that writes it. -/
theorem arr_x (c : Dev nD) (t : Fin cfg0.N) (R : Fin 256) (n : Fin 2048) :
    (dats m 0 c).arrAt 10 cfg0.N (ix2 ⟨256 * t.val + R.val, by have := N128; omega⟩ n : S32768x2048.Idx) = (outsAt0 m c t.val t.isLt).1 (ix2 R n) := by
  obtain ⟨e0, e1, hf⟩ := idx10 t
  have h := congrFun (blocks10 m c t hf) (ix2 R n : S256x2048.Idx)
  rw [View.read_apply, flushed10] at h
  refine Eq.trans ?_ h
  congr 1
  funext a; apply Fin.ext
  match a with
  | ⟨0, _⟩ => show 256 * t.val + R.val = win0_10.index t 0 * 256 + 1 * R.val; omega
  | ⟨1, _⟩ => show n.val = win0_10.index t 1 * 2048 + 1 * n.val; omega

/-- An entry of the buffer handed on, from the last tile of its sequence. -/
theorem arr_tail (c : Dev nD) (t : Fin cfg0.N) (ht : t.val % 64 = 63) (y : Fin 2) (j : Fin 1024) :
    (dats m 0 c).arrAt 11 cfg0.N (ix3 ⟨t.val / 64, by have := N128; omega⟩ y j : S2x2x1024.Idx) = (outsAt0 m c t.val t.isLt).2 (ix3 0 y j) := by
  obtain ⟨⟨e0, e1, e2⟩, hf⟩ := idx11 t
  have h := congrFun ((dats m 0 c).read_blk_arrAt_eq_flushed 11 apart11 cfg0.N t t.isLt (hf.mpr ht)) (ix3 0 y j : S1x2x1024.Idx)
  rw [View.read_apply, flushed11] at h
  refine Eq.trans ?_ h
  congr 1
  funext a; apply Fin.ext
  match a with
  | ⟨0, _⟩ => show t.val / 64 = win0_11.index t 0 * 1 + 1 * 0; omega
  | ⟨1, _⟩ => show y.val = win0_11.index t 1 * 2 + 1 * y.val; omega
  | ⟨2, _⟩ => show j.val = win0_11.index t 2 * 1024 + 1 * j.val; omega

end Cert.MergePromptProof
-- ==== Proof.MergePrompt.lean ====
module

public import proofs.«01_k».proof.Proof.MergePromptFlow
public import proofs.«01_k».proof.Proof.MergePromptRef
public import proofs.«01_k».proof.Proof.Merge

/-! Over two long sequences, the merge's kernel and its reference compute the same results. -/

@[expose] public section
set_option maxRecDepth 16384
open Idealize.ShloMosaic Idealize.ShloMosaic.TcCoe Idealize.SL.Sem
open Idealize.ShloMosaic.Pipeline (Dat)
open Cert.MergeProof (crow)
noncomputable section
namespace Cert.MergePromptProof
open Cert.MergePromptIdeal Cert.MergePromptIdeal.Gen Cert.MergePromptIdeal.Value

variable (m : (ℓ : Loc nD τ sig) → Buf (Elt Ideal) ℓ) (c : Dev nD) (t : Fin cfg0.N)

/-- A projection's entry, at group `g` of the tile. -/
theorem at_same (g : ℕ) (hg : g ≤ 8) (R : ℕ) (hR : R < 256) (j : Fin 1024) (b : Fin 2) (r : Fin 16384) (k : Fin 15360) (hb : 16384 * b.val + r.val = 256 * t.val + R) (hk : k.val = 256 * g + j.val) :
    at12 (iblk m c 0 t) g hg R j = Cert.MergePromptRefIdeal.Read.val_main_v2 (F := Ideal) (P m c) (ix3 b r k) := by
  have hN := N128
  unfold at12
  rw [win0, Ref.v2_eq]
  refine congrArg (P m c) ?_
  congr 1 <;> apply Fin.ext <;> dsimp only <;> omega

/-- What enters the filter in row `R` of the tile stands two places on behind the buffered rows. -/
theorem u_same (R : ℕ) (hR : R < 256) (j : Fin 1024) (b : Fin 2) (k : Fin 16386) (h2 : 2 ≤ k.val) (hk : 16384 * b.val + (k.val - 2) = 256 * t.val + R) :
    uE (iblk m c 0 t) R j = Cert.MergePromptRefIdeal.Read.val_main_v17 (F := Ideal) (P m c) (C m c) (ix3 b k j) := by
  have hN := N128
  rw [Ref.v17_eq, dif_neg (by omega)]
  unfold uE
  rw [at_same m c t 4 (by norm_num) R hR j b ⟨k.val - 2, by omega⟩ ⟨1024 + j.val, by omega⟩ hk (by dsimp only),
    at_same m c t 8 (by norm_num) R hR j b ⟨k.val - 2, by omega⟩ ⟨2048 + j.val, by omega⟩ hk (by dsimp only)]

/-- A tile's inputs behind the two carried rows: the sequence's own, from the tile's place on. -/
theorem f_same (i : ℕ) (hi : i < 258) (j : Fin 1024) (b : Fin 2) (k : Fin 16386) (hb : b.val = t.val / 64) (hk : k.val = 256 * (t.val % 64) + i) :
    fE (iblk m c 0 t) (carried m c t) i j = Cert.MergePromptRefIdeal.Read.val_main_v17 (F := Ideal) (P m c) (C m c) (ix3 b k j) := by
  have hN := N128
  unfold fE
  split_ifs with h
  · rw [carried_eq]
    split_ifs with h0
    · rw [Ref.v17_eq, dif_pos (by omega)]
      refine congrArg (C m c) ?_
      congr 1 <;> apply Fin.ext <;> dsimp only <;> omega
    · exact u_same m c ⟨t.val - 1, by omega⟩ (254 + i) (by omega) j b k (by omega) (by dsimp only; omega)
  · exact u_same m c t (i - 2) (by omega) j b k (by omega) (by omega)

/-- The gated convolution. -/
theorem y_same (R : Fin 256) (j : Fin 1024) (b : Fin 2) (r : Fin 16384) (hb : 16384 * b.val + r.val = 256 * t.val + R.val) :
    yE (iblk m c 0 t) (carried m c t) (iblk m c 2 t) R j = Cert.MergePromptRefIdeal.Read.val_main_v39 (F := Ideal) (P m c) (C m c) (W m c) (ix3 b r j) := by
  have hN := N128
  rw [Ref.v39_eq]
  unfold yE crow
  rw [at_same m c t 0 (by norm_num) R.val R.isLt j b r ⟨j.val, by omega⟩ hb (by simp), win2, win2, win2,
    f_same m c t R.val (by omega) j b ⟨r.val, by omega⟩ (by omega) (by dsimp only; omega),
    f_same m c t (R.val + 1) (by omega) j b ⟨1 + r.val, by omega⟩ (by omega) (by dsimp only; omega),
    u_same m c t R.val R.isLt j b ⟨2 + r.val, by omega⟩ (by dsimp only; omega) (by dsimp only; omega)]
  exact Cert.MergeProof.reorder _ _ _ _

/-- A gate's column. -/
theorem g_same (R : Fin 256) (k : Fin 4096) (b : Fin 2) (r : Fin 16384) (k' : Fin 15360) (hb : 16384 * b.val + r.val = 256 * t.val + R.val) (hk : k'.val = 11264 + k.val) :
    gE (iblk m c 4 t) (iblk m c 5 t) R k = Cert.MergePromptRefIdeal.Read.val_main_v2 (F := Ideal) (P m c) (ix3 b r k') := by
  have hN := N128
  rw [Ref.v2_eq]
  unfold gE
  split_ifs with h
  · rw [win4]
    refine congrArg (P m c) ?_
    congr 1 <;> apply Fin.ext <;> simp <;> omega
  · rw [win5]
    refine congrArg (P m c) ?_
    congr 1 <;> apply Fin.ext <;> dsimp only <;> omega

/-- The kernel's first result is the reference's. -/
theorem x_all : Cert.MergePromptRefIdeal.Read.val_main_v63 (F := Ideal) (P m c) (H m c) (X m c) (C m c) (W m c) (Bc m c) (Bh m c) (Wo m c) = (dats m 0 c).arrAt 10 cfg0.N := by
  have hN := N128
  funext i
  obtain ⟨q, n, rfl⟩ : ∃ (q : Fin 32768) (n : Fin 2048), i = ix2 q n := ⟨i 0, i 1, eq_ix2 i⟩
  obtain ⟨t, R, hq⟩ : ∃ (t : Fin cfg0.N) (R : Fin 256), q.val = 256 * t.val + R.val := ⟨⟨q.val / 256, by omega⟩, ⟨q.val % 256, by omega⟩, by dsimp only; omega⟩
  have hq' : q = ⟨256 * t.val + R.val, by omega⟩ := Fin.ext hq
  have hb : 16384 * (q.val / 16384) + q.val % 16384 = 256 * t.val + R.val := by omega
  rw [Ref.v63_eq]
  refine Eq.trans ?_ ((congrArg (fun q => (dats m 0 c).arrAt 10 cfg0.N (ix2 q n : S32768x2048.Idx)) hq').trans ((arr_x m c t R n).trans (outs_x m c t R n))).symm
  unfold rowE
  rw [win6, ← hq']
  refine congrArg (X m c (ix2 q n) + ·) (Finset.sum_congr rfl fun k _ => ?_)
  rw [win9, g_same m c t R ⟨k.val, by omega⟩ ⟨q.val / 16384, by omega⟩ ⟨q.val % 16384, by omega⟩ ⟨11264 + k.val, by omega⟩ hb rfl,
    g_same m c t R ⟨2048 + k.val, by omega⟩ ⟨q.val / 16384, by omega⟩ ⟨q.val % 16384, by omega⟩ ⟨13312 + k.val, by omega⟩ hb (by dsimp only; omega)]
  refine congrArg (· * Wo m c (ix2 k n)) (congrArg₂ (· + ·) (congrArg (_ * ·) (Finset.sum_congr rfl fun j _ => ?_)) (congrArg (_ * ·) (Finset.sum_congr rfl fun j _ => ?_)))
  · rw [y_same m c t R j ⟨q.val / 16384, by omega⟩ ⟨q.val % 16384, by omega⟩ hb, win7]
    refine congrArg (_ * ·) (congrArg (Bc m c) ?_)
    congr 1; apply Fin.ext; dsimp only; omega
  · rw [win3, win8, Ref.v14_eq]
    refine congrArg₂ (· * ·) (congrArg (H m c) ?_) (congrArg (Bh m c) ?_)
    · congr 1; apply Fin.ext; dsimp only; omega
    · congr 1; apply Fin.ext; dsimp only; omega

/-- The kernel's second result is the reference's. -/
theorem tail_all : Cert.MergePromptRefIdeal.Read.val_main_v38 (F := Ideal) (P m c) (C m c) = (dats m 0 c).arrAt 11 cfg0.N := by
  have hN := N128
  funext i
  obtain ⟨b, y, j, rfl⟩ : ∃ (b : Fin 2) (y : Fin 2) (j : Fin 1024), i = ix3 b y j := ⟨i 0, i 1, i 2, eq_ix3 i⟩
  obtain ⟨t, ht, hq⟩ : ∃ t : Fin cfg0.N, t.val % 64 = 63 ∧ b.val = t.val / 64 := ⟨⟨64 * b.val + 63, by omega⟩, by dsimp only; omega, by dsimp only; omega⟩
  have hb : b = ⟨t.val / 64, by omega⟩ := Fin.ext hq
  rw [Ref.v38_eq]
  refine Eq.trans ?_ ((congrArg (fun b => (dats m 0 c).arrAt 11 cfg0.N (ix3 b y j : S2x2x1024.Idx)) hb).trans ((arr_tail m c t ht y j).trans (outs_tail m c t 0 y j))).symm
  exact (u_same m c t (254 + y.val) (by omega) j b ⟨16384 + y.val, by omega⟩ (by dsimp only; omega) (by dsimp only; omega)).symm

/-- The merge over two long sequences: the kernel and the reference end with the same rows and hand on the same convolution buffer. -/
theorem algebraic [Cert.MergePromptIdeal.Facts] [Cert.MergePromptRefIdeal.Facts] : Cert.algebraic_MergePromptIdeal_MergePromptRefIdeal := by
  intro m g m' g' _ hargs
  refine ⟨fun c => (dats m 0 c).arrAt 10 cfg0.N, fun c => (dats m 0 c).arrAt 11 cfg0.N, Value.run_blocks m g, ?_⟩
  refine (θ_run _ _ _).mono (fun r h c => ?_) (Cert.MergePromptRefIdeal.Value.run m' g')
  obtain ⟨e0, e1, e2, e3, e4, e5, e6, e7⟩ := hargs c
  have q0 : m' ((c : Thread Cert.MergePromptRefIdeal.nD Cert.MergePromptRefIdeal.τ).loc Cert.MergePromptRefIdeal.main_arg0) = P m c := e0
  have q1 : m' ((c : Thread Cert.MergePromptRefIdeal.nD Cert.MergePromptRefIdeal.τ).loc Cert.MergePromptRefIdeal.main_arg1) = H m c := e1
  have q2 : m' ((c : Thread Cert.MergePromptRefIdeal.nD Cert.MergePromptRefIdeal.τ).loc Cert.MergePromptRefIdeal.main_arg2) = X m c := e2
  have q3 : m' ((c : Thread Cert.MergePromptRefIdeal.nD Cert.MergePromptRefIdeal.τ).loc Cert.MergePromptRefIdeal.main_arg3) = C m c := e3
  have q4 : m' ((c : Thread Cert.MergePromptRefIdeal.nD Cert.MergePromptRefIdeal.τ).loc Cert.MergePromptRefIdeal.main_arg4) = W m c := e4
  have q5 : m' ((c : Thread Cert.MergePromptRefIdeal.nD Cert.MergePromptRefIdeal.τ).loc Cert.MergePromptRefIdeal.main_arg5) = Bc m c := e5
  have q6 : m' ((c : Thread Cert.MergePromptRefIdeal.nD Cert.MergePromptRefIdeal.τ).loc Cert.MergePromptRefIdeal.main_arg6) = Bh m c := e6
  have q7 : m' ((c : Thread Cert.MergePromptRefIdeal.nD Cert.MergePromptRefIdeal.τ).loc Cert.MergePromptRefIdeal.main_arg7) = Wo m c := e7
  refine ⟨?_, ?_, (h c).2.2⟩
  · rw [(h c).1, Cert.MergePromptRefIdeal.Read.val_main_v63_eq, q0, q1, q2, q3, q4, q5, q6, q7]
    exact x_all m c
  · rw [(h c).2.1, Cert.MergePromptRefIdeal.Read.val_main_v38_eq, q0, q3]
    exact tail_all m c

end Cert.MergePromptProof
-- ==== Proof.InProjPrompt.lean ====
module

public import proofs.«01_k».proof.Defs
public import proofs.«01_k».proof.Proof.InProj
public import proofs.«01_k».proof.Proof.Gen.InProjPromptIdeal.Value
public import proofs.«01_k».proof.Proof.Gen.InProjPromptRefIdeal.Run
public import proofs.«01_k».proof.Proof.Gen.InProjPromptRefIdeal.Read
public import Idealize.ShloMosaic.Lib.Pointwise

/-! The input projection at the prompt's size: 32 tiles of 1024 rows, each written in 6 blocks of ten column groups. -/

@[expose] public section

set_option maxRecDepth 16384

open Idealize.ShloMosaic Idealize.ShloMosaic.TcCoe Idealize.SL.Sem
open Idealize.ShloMosaic.Pipeline (Dat)

noncomputable section

namespace Cert.InProjPromptProof
open Cert.InProjPromptIdeal Cert.InProjPromptIdeal.Gen Cert.InProjPromptIdeal.Value
open Cert.InProjProof (hz tile tile_piece group_inb)

variable (m : (ℓ : Loc nD τ sig) → Buf (Elt Ideal) ℓ) (ρ : Dev nD → PrngReg)

/-- The first point of a tile writes its block from the rows it has just normalised. -/
theorem out_A (c : Dev nD) (i : grid0.Coords) (a1 : Memref sig .tc .vmem S1024x2048 .f32) (h1 : a1.IsWhole)
    (a2 : Memref sig .tc .vmem S1x2048 .f32) (h2 : a2.IsWhole) (a3 : Memref sig .tc .vmem S2048x2560 .bf16) (h3 : a3.IsWhole)
    (a4 : Memref sig .tc .vmem S10x1024x256 .bf16) (h4 : a4.IsWhole) (a5 : Memref sig .tc .vmem S1024x2048 .bf16) (h5 : a5.IsWhole)
    (hc : cond0_0 i) (x : Vec Ideal S1024x2048 .f32) (g : Vec Ideal S1x2048 .f32) (w : Vec Ideal S2048x2560 .bf16) :
    out0_A_3 c i a1 h1 a2 h2 a3 h3 a4 h4 a5 h5 hc x g w = tile (k0_pay6 x g) w := by
  funext y
  unfold out0_A_3
  rw [View.read_writes_eq_canon _ _ _ (cover0_A_3 c i a1 h1 a2 h2 a3 h3 a4 h4 a5 h5 hc x g w)]
  refine View.canon_apply_of_pieces (tile (k0_pay6 x g) w) _ ?_ y (cover0_A_3 c i a1 h1 a2 h2 a3 h3 a4 h4 a5 h5 hc x g w y)
  unfold kernelRun0_A
  dsimp only
  sl_unfold_words
  simp only [View.readCov_unit_zero (S := S1024x2048) _ hz, View.readAt_eq_ld, h1.read_unread, h2.read_unread, h3.read_unread, View.ld_unit_zero (S := S1024x2048) hz, View.ld_unit_zero (S := S1x2048) hz, View.ld_unit_zero (S := S2048x2560) hz]
  generalize k0_pay6 x g = h
  simp only [List.mem_cons, List.not_mem_nil, or_false]
  rintro p (rfl | rfl | rfl | rfl | rfl | rfl | rfl | rfl | rfl | rfl) z
  all_goals
    refine Eq.trans ?_ (tile_piece h w _ (by decide) (group_inb (by decide)) z).symm
    pointwise [k0_pay1, k0_pay2, k0_pay3, k0_pay4, k0_pay5, k0_pay8, k0_pay9, k0_pay10, k0_pay11, k0_pay12, k0_pay13, k0_pay7]

/-- Every later point of a tile writes its block from the normalised rows it was left. -/
theorem out_B (c : Dev nD) (i : grid0.Coords) (a1 : Memref sig .tc .vmem S1024x2048 .f32) (h1 : a1.IsWhole)
    (a2 : Memref sig .tc .vmem S1x2048 .f32) (h2 : a2.IsWhole) (a3 : Memref sig .tc .vmem S2048x2560 .bf16) (h3 : a3.IsWhole)
    (a4 : Memref sig .tc .vmem S10x1024x256 .bf16) (h4 : a4.IsWhole) (a5 : Memref sig .tc .vmem S1024x2048 .bf16) (h5 : a5.IsWhole)
    (hc : ¬cond0_0 i) (x : Vec Ideal S1024x2048 .f32) (g : Vec Ideal S1x2048 .f32) (w : Vec Ideal S2048x2560 .bf16)
    (h : Vec Ideal S1024x2048 .bf16) :
    out0_B_3 c i a1 h1 a2 h2 a3 h3 a4 h4 a5 h5 hc x g w h = tile h w := by
  funext y
  unfold out0_B_3
  rw [View.read_writes_eq_canon _ _ _ (cover0_B_3 c i a1 h1 a2 h2 a3 h3 a4 h4 a5 h5 hc x g w h)]
  refine View.canon_apply_of_pieces (tile h w) _ ?_ y (cover0_B_3 c i a1 h1 a2 h2 a3 h3 a4 h4 a5 h5 hc x g w h y)
  unfold kernelRun0_B
  dsimp only
  sl_unfold_words
  simp only [View.readAt_eq_ld, h3.read_unread, h5.read_unread, View.ld_unit_zero (S := S1024x2048) hz, View.ld_unit_zero (S := S2048x2560) hz]
  simp only [List.mem_cons, List.not_mem_nil, or_false]
  rintro p (rfl | rfl | rfl | rfl | rfl | rfl | rfl | rfl | rfl | rfl) z
  all_goals
    refine Eq.trans ?_ (tile_piece h w _ (by decide) (group_inb (by decide)) z).symm
    pointwise [k0_pay1, k0_pay2, k0_pay3, k0_pay4, k0_pay5, k0_pay8, k0_pay9, k0_pay10, k0_pay11, k0_pay12, k0_pay13, k0_pay7]

/-- The first point of a tile leaves the normalised rows for the later ones. -/
theorem sout_A (c : Dev nD) (i : grid0.Coords) (a1 : Memref sig .tc .vmem S1024x2048 .f32) (h1 : a1.IsWhole)
    (a2 : Memref sig .tc .vmem S1x2048 .f32) (h2 : a2.IsWhole) (a3 : Memref sig .tc .vmem S2048x2560 .bf16) (h3 : a3.IsWhole)
    (a4 : Memref sig .tc .vmem S10x1024x256 .bf16) (h4 : a4.IsWhole) (a5 : Memref sig .tc .vmem S1024x2048 .bf16) (h5 : a5.IsWhole)
    (hc : cond0_0 i) (x : Vec Ideal S1024x2048 .f32) (g : Vec Ideal S1x2048 .f32) (w : Vec Ideal S2048x2560 .bf16) :
    sout0_A_0 c i a1 h1 a2 h2 a3 h3 a4 h4 a5 h5 hc x g w = k0_pay6 x g := by
  unfold sout0_A_0
  rw [View.read_writes_eq_canon _ _ _ (scover0_A_0 c i a1 h1 a2 h2 a3 h3 a4 h4 a5 h5 hc x g w)]
  unfold kernelRun0_A
  dsimp only
  sl_unfold_words
  rw [View.canon_unit_zero hz]
  simp only [View.readAt_eq_ld, h1.read_unread, h2.read_unread, View.ld_unit_zero (S := S1024x2048) hz, View.ld_unit_zero (S := S1x2048) hz]

/-- The tile of rows `1024 i` to `1024 i + 1023`. -/
def blk (x : FVec Ideal S32768x2048 .f32) (i : Fin 32) : Vec Ideal S1024x2048 .f32 := fun j =>
  x (ix2 ⟨1024 * i.val + (j 0).val, by have h : (j 0).val < 1024 := (j 0).isLt; omega⟩ (j 1))

/-- Point `6 i + f` sees columns `2560 f` to `2560 f + 2559` of the weights. -/
theorem iblk_w (c : Dev nD) (t : Fin cfg0.N) (f : ℕ) (hf : t.val % 6 = f) (d : Fin 2048) (k : Fin 2560) (hk : 2560 * f + k.val < 15360) :
    iblk m c 2 t (ix2 d k) = m ((c : Thread nD τ).loc main_arg2) (ix2 d ⟨2560 * f + k.val, hk⟩) := by
  have e : ∀ t : Fin cfg0.N, win0_2.index t (0 : Fin 2) = 0 ∧ win0_2.index t (1 : Fin 2) = t.val % 6 := by decide +kernel
  unfold iblk
  rw [View.read_apply]
  show V m c main_arg2 _ = _
  unfold V
  show m _ _ = m _ _
  congr 1
  funext a
  apply Fin.ext
  obtain ⟨e0, e1⟩ := e t
  match a with
  | ⟨0, _⟩ => show win0_2.index t 0 * 2048 + 1 * d.val = d.val; omega
  | ⟨1, _⟩ => show win0_2.index t 1 * 2560 + 1 * k.val = 2560 * f + k.val; omega

/-- Point `6 i + f` sees tile `i` of the rows. -/
theorem iblk_x (c : Dev nD) (t : Fin cfg0.N) (i : Fin 32) (hi : t.val / 6 = i.val) :
    iblk m c 0 t = blk (m ((c : Thread nD τ).loc main_arg0)) i := by
  funext j
  have e : ∀ t : Fin cfg0.N, win0_0.index t (0 : Fin 2) = t.val / 6 ∧ win0_0.index t (1 : Fin 2) = 0 := by decide +kernel
  unfold iblk blk
  rw [View.read_apply]
  show V m c main_arg0 _ = _
  unfold V
  show m _ _ = m _ _
  congr 1
  funext a
  apply Fin.ext
  obtain ⟨e0, e1⟩ := e t
  match a with
  | ⟨0, _⟩ => show win0_0.index t 0 * 1024 + 1 * (j 0).val = 1024 * i.val + (j 0).val; omega
  | ⟨1, _⟩ => show win0_0.index t 1 * 2048 + 1 * (j 1).val = (j 1).val; omega

/-- Every point sees the gain. -/
theorem iblk_g (c : Dev nD) (t : Fin cfg0.N) :
    iblk m c 1 t = m ((c : Thread nD τ).loc main_arg1) := by
  funext j
  have e : ∀ t : Fin cfg0.N, win0_1.index t (0 : Fin 2) = 0 ∧ win0_1.index t (1 : Fin 2) = 0 := by decide +kernel
  unfold iblk
  rw [View.read_apply]
  show V m c main_arg1 _ = _
  unfold V
  show m _ _ = m _ _
  congr 1
  funext a
  apply Fin.ext
  obtain ⟨e0, e1⟩ := e t
  match a with
  | ⟨0, _⟩ => show win0_1.index t 0 * 1 + 1 * (j 0).val = (j 0).val; omega
  | ⟨1, _⟩ => show win0_1.index t 1 * 2048 + 1 * (j 1).val = (j 1).val; omega

/-- The normalised rows of tile `i`, which its first point leaves for the later ones. -/
abbrev hn (c : Dev nD) (i : Fin 32) : Vec Ideal S1024x2048 .bf16 :=
  k0_pay6 (F := Ideal) (blk (m ((c : Thread nD τ).loc main_arg0)) i) (m ((c : Thread nD τ).loc main_arg1))

/-- After point `6 i + f` the output block is that point's part of tile `i` and the carried rows are the tile's normalised ones. -/
theorem outs (c : Dev nD) (i : Fin 32) : ∀ (f n : ℕ) (h : n < cfg0.N), n = 6 * i.val + f → f < 6 →
    outsAt0 m c n h = (tile (hn m c i) (iblk m c 2 ⟨n, h⟩), hn m c i)
  | 0, n, h, hn', _ => by
    have hA : (⟨n, h⟩ : Fin cfg0.N).val % 6 = 0 := by dsimp only; omega
    rw [outsAt0_A m c ⟨n, h⟩ hA, out_A, sout_A, iblk_x m c ⟨n, h⟩ i (by dsimp only; omega), iblk_g]
  | f + 1, 0, h, hn', hl => by omega
  | f + 1, n + 1, h, hn', hl => by
    have hB : ¬(⟨n + 1, h⟩ : Fin cfg0.N).val % 6 = 0 := by dsimp only; omega
    rw [outsAt0_B m c ⟨n + 1, h⟩ hB, out_B]
    simp only [sout0_B_0]
    have e := outs c i f n (Nat.lt_of_succ_lt h) (by omega) (by omega)
    show (tile (outsAt0 m c n _).2 _, (outsAt0 m c n _).2) = _
    rw [e]

/-- The whole projection: entry `(k, r, c)` is the product of the normalised row `r`, taken in its tile, with column `256 k + c`. -/
def proj (x : FVec Ideal S32768x2048 .f32) (g : Vec Ideal S1x2048 .f32) (w : Vec Ideal S2048x15360 .bf16) : Vec Ideal S60x32768x256 .bf16 := fun j =>
  ∑ d : Fin 2048, k0_pay6 (F := Ideal) (blk x ⟨(j 1).val / 1024, by
      have h1 : (j 1).val < 32768 := (j 1).isLt
      omega⟩) g (ix2 ⟨(j 1).val % 1024, Nat.mod_lt _ (by decide)⟩ d) * w (ix2 d ⟨256 * (j 0).val + (j 2).val, by
    have h0 : (j 0).val < 60 := (j 0).isLt
    have h2 : (j 2).val < 256 := (j 2).isLt
    omega⟩)

/-- The projection of this call's arguments. -/
abbrev result (c : Dev nD) : Buf (Elt Ideal) ((c : Thread nD τ).loc main_v0) :=
  proj (m ((c : Thread nD τ).loc main_arg0)) (m ((c : Thread nD τ).loc main_arg1)) (m ((c : Thread nD τ).loc main_arg2))

/-- The kernel leaves the whole projection. -/
theorem G_eq (c : Dev nD) : G3 m c = result m c := by
  funext i
  have hN : cfg0.N = 192 := N_0
  have h0 : (i 0 : Nat) < 60 := (i 0).isLt
  have h1 : (i 1 : Nat) < 32768 := (i 1).isLt
  have h2 : (i 2 : Nat) < 256 := (i 2).isLt
  have hp : pt3Of i = 6 * ((i 1).val / 1024) + (i 0).val / 10 := by unfold pt3Of run3Of; omega
  have hT : pt3Of i < cfg0.N := by omega
  unfold G3
  rw [dif_pos hT, ← outsAt0_sweep m c (pt3Of i) hT,
    outs m c ⟨(i 1).val / 1024, by omega⟩ ((i 0).val / 10) (pt3Of i) hT hp (by omega)]
  show @Eq EReal (tile _ _ _) (proj _ _ _ i)
  unfold tile proj
  refine Finset.sum_congr rfl fun d _ => ?_
  rw [iblk_w m c ⟨pt3Of i, hT⟩ ((i 0).val / 10) (by show pt3Of i % 6 = _; omega) d _
    (by show 2560 * ((i 0).val / 10) + (256 * ((i 0).val % 10) + (i 2).val % 256) < 15360; omega)]
  congr 2
  funext a
  apply Fin.ext
  match a with
  | ⟨0, _⟩ => rfl
  | ⟨1, _⟩ =>
    show 2560 * ((i 0).val / 10) + (256 * ((i 0).val % 10) + (i 2).val % 256) = 256 * (i 0).val + (i 2).val
    omega

/-- The reference's result is the whole projection. -/
theorem ref_eq (x : FVec Ideal S32768x2048 .f32) (g : Vec Ideal S1x2048 .f32) (w : Vec Ideal S2048x15360 .bf16) :
    InProjPromptRefIdeal.Read.val_main_v18 (F := Ideal) x g w = proj x g w := by
  funext j
  have r1 : ∀ h, (⟨1024 * ((j 1).val / 1024) + (j 1).val % 1024, h⟩ : Fin 32768) = j 1 := fun h => Fin.ext (by
    show 1024 * ((j 1).val / 1024) + (j 1).val % 1024 = (j 1).val
    omega)
  unfold proj blk
  pointwise [k0_pay6, InProjPromptRefIdeal.Read.val_main_v18, InProjPromptRefIdeal.Read.val_main_v17, InProjPromptRefIdeal.Read.val_main_v16, InProjPromptRefIdeal.Read.val_main_v15, InProjPromptRefIdeal.Read.val_main_v14, InProjPromptRefIdeal.Read.val_main_v13, InProjPromptRefIdeal.Read.val_main_v12, InProjPromptRefIdeal.Read.val_main_v11, InProjPromptRefIdeal.Read.val_main_v10, InProjPromptRefIdeal.Read.val_main_v9, InProjPromptRefIdeal.Read.val_main_v8, InProjPromptRefIdeal.Read.val_main_v7, InProjPromptRefIdeal.Read.val_main_v6, InProjPromptRefIdeal.Read.val_main_cst_1, InProjPromptRefIdeal.Read.val_main_v5, InProjPromptRefIdeal.Read.val_main_v4, InProjPromptRefIdeal.Read.val_main_cst_0, InProjPromptRefIdeal.Read.val_main_v3, InProjPromptRefIdeal.Read.val_main_v2, InProjPromptRefIdeal.Read.val_main_cst, InProjPromptRefIdeal.Read.val_main_v1, InProjPromptRefIdeal.Read.val_main_v0]
  refine Finset.sum_congr rfl fun d _ => ?_
  simp only [r1]
  congr 2
  congr 1
  apply Fin.ext
  show (j 0).val * 256 + (j 2).val = 256 * (j 0).val + (j 2).val
  omega

/-- Kernel and reference leave the same array. -/
theorem algebraic [Cert.InProjPromptIdeal.Facts] [Cert.InProjPromptRefIdeal.Facts] : algebraic_InProjPromptIdeal_InProjPromptRefIdeal := by
  intro m g m' g' _ hargs
  refine ⟨fun c => result m c, (θ_run _ _ _).mono (fun r h c => ⟨(h c).1.trans (G_eq m c), (h c).2⟩) (Value.run m g), ?_⟩
  refine (θ_run _ _ _).mono (fun r h c => ⟨?_, (h c).2⟩) (InProjPromptRefIdeal.Value.run m' g')
  obtain ⟨e0, e1, e2⟩ := hargs c
  rw [(h c).1, InProjPromptRefIdeal.Read.val_main_v18_eq, ref_eq, e0, e1, e2]

end Cert.InProjPromptProof
-- ==== Proof.Ffn1Prompt.lean ====
module

public import proofs.«01_k».proof.Defs
public import proofs.«01_k».proof.Proof.Ffn2
public import proofs.«01_k».proof.Proof.Gen.Ffn1PromptIdeal.Value
public import proofs.«01_k».proof.Proof.Gen.Ffn1PromptRefIdeal.Run
public import proofs.«01_k».proof.Proof.Gen.Ffn1PromptRefIdeal.Read
public import Idealize.ShloMosaic.Lib.Pointwise

/-! The first feed-forward at the prompt's size: 32 tiles of 1024 rows, each summed over 11 grid points. The same
    points copy the projection's weights, 32 rows by 3072 columns each, until all 320 blocks are done. -/

@[expose] public section

set_option maxRecDepth 16384

open Idealize.ShloMosaic Idealize.ShloMosaic.TcCoe Idealize.SL.Sem
open Idealize.ShloMosaic.Pipeline (Dat)

noncomputable section

namespace Cert.Ffn1PromptProof
open Cert.Ffn1PromptIdeal Cert.Ffn1PromptIdeal.Gen Cert.Ffn1PromptIdeal.Value Cert.FfnSum
open Cert.Ffn1Proof (hz part step unit step_eq)
open Cert.Ffn2Proof (partial_)

variable (m : (ℓ : Loc nD τ sig) → Buf (Elt Ideal) ℓ)

/-- Every point but the tile's first adds its block's contribution to what the point before left. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1x32x3072 .f32) (h8 : a8.IsWhole)
    (a9 : Memref sig .tc .vmem S1024x2048 .f32) (h9 : a9.IsWhole) (a10 : Memref sig .tc .vmem S32x3072 .bf16) (h10 : a10.IsWhole)
    (a11 : Memref sig .tc .vmem S1024x2048 .bf16) (h11 : a11.IsWhole)
    (hc : ¬cond0_0 i) (x : Vec Ideal S1024x2048 .f32) (g : Vec Ideal S1x2048 .f32) (wg wu : Vec Ideal S2048x512 .bf16)
    (wd : Vec Ideal S512x2048 .bf16) (g' : Vec Ideal S1x2048 .f32) (p : Vec Ideal S1x32x3072 .f32) (o : Vec Ideal S1024x2048 .f32) (h : Vec Ideal S1024x2048 .bf16) :
    out0_B_7 c i a2 h2 a3 h3 a4 h4 a5 h5 a6 h6 a7 h7 a8 h8 a9 h9 a10 h10 a11 h11 hc x g wg wu wd g' p o h = step h wg wu wd o := by
  funext j
  unfold out0_B_7
  rw [View.read_writes_eq_canon _ _ _ (cover0_B_7 c i a2 h2 a3 h3 a4 h4 a5 h5 a6 h6 a7 h7 a8 h8 a9 h9 a10 h10 a11 h11 hc x g wg wu wd g' p o h)]
  unfold kernelRun0_B
  dsimp only
  sl_unfold_words
  rw [View.canon_unit_zero hz]
  simp only [View.readAt_eq_ld, h4.read_unread, h5.read_unread, h6.read_unread, h9.read_unread, h11.read_unread, View.ld_unit_zero (S := S1024x2048) hz]
  unfold step part glu
  pointwise [k0_pay1, k0_pay5, k0_pay6, k0_pay7]

/-- The tile's first point starts from the rows themselves. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1x32x3072 .f32) (h8 : a8.IsWhole)
    (a9 : Memref sig .tc .vmem S1024x2048 .f32) (h9 : a9.IsWhole) (a10 : Memref sig .tc .vmem S32x3072 .bf16) (h10 : a10.IsWhole)
    (a11 : Memref sig .tc .vmem S1024x2048 .bf16) (h11 : a11.IsWhole)
    (hc : cond0_0 i) (x : Vec Ideal S1024x2048 .f32) (g : Vec Ideal S1x2048 .f32) (wg wu : Vec Ideal S2048x512 .bf16)
    (wd : Vec Ideal S512x2048 .bf16) (g' : Vec Ideal S1x2048 .f32) (p : Vec Ideal S1x32x3072 .f32) :
    out0_A_7 c i a2 h2 a3 h3 a4 h4 a5 h5 a6 h6 a7 h7 a8 h8 a9 h9 a10 h10 a11 h11 hc x g wg wu wd g' p = step (k0_pay4 (F := Ideal) x g) wg wu wd x := by
  funext j
  unfold out0_A_7
  rw [View.read_writes_eq_canon _ _ _ (cover0_A_7 c i a2 h2 a3 h3 a4 h4 a5 h5 a6 h6 a7 h7 a8 h8 a9 h9 a10 h10 a11 h11 hc x g wg wu wd g' p)]
  unfold kernelRun0_A
  dsimp only
  sl_unfold_words
  rw [View.canon_cons_unit_zero hz]
  simp only [View.readCov_unit_zero (S := S1024x2048) _ hz, View.readAt_eq_ld, h2.read_unread, h3.read_unread, h4.read_unread, h5.read_unread, h6.read_unread, View.ld_unit_zero (S := S1024x2048) hz, View.ld_unit_zero (S := S1x2048) hz]
  generalize k0_pay4 x g = h
  unfold step part glu
  pointwise [k0_pay1, k0_pay3, k0_pay5, k0_pay6, k0_pay7]

/-- The tile's first point leaves the normalised rows for the later ones. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1x32x3072 .f32) (h8 : a8.IsWhole)
    (a9 : Memref sig .tc .vmem S1024x2048 .f32) (h9 : a9.IsWhole) (a10 : Memref sig .tc .vmem S32x3072 .bf16) (h10 : a10.IsWhole)
    (a11 : Memref sig .tc .vmem S1024x2048 .bf16) (h11 : a11.IsWhole)
    (hc : cond0_0 i) (x : Vec Ideal S1024x2048 .f32) (g : Vec Ideal S1x2048 .f32) (wg wu : Vec Ideal S2048x512 .bf16)
    (wd : Vec Ideal S512x2048 .bf16) (g' : Vec Ideal S1x2048 .f32) (p : Vec Ideal S1x32x3072 .f32) :
    sout0_A_0 c i a2 h2 a3 h3 a4 h4 a5 h5 a6 h6 a7 h7 a8 h8 a9 h9 a10 h10 a11 h11 hc x g wg wu wd g' p = k0_pay4 x g := by
  unfold sout0_A_0
  rw [View.read_writes_eq_canon _ _ _ (scover0_A_0 c i a2 h2 a3 h3 a4 h4 a5 h5 a6 h6 a7 h7 a8 h8 a9 h9 a10 h10 a11 h11 hc x g wg wu wd g' p)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

theorem hz3 : (![0, 0, 0] : Fin 3 → Nat) = fun _ => 0 := funext fun a => by fin_cases a <;> rfl

/-- The tile's first point copies its block of the projection's weights. -/
theorem copy_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1x32x3072 .f32) (h8 : a8.IsWhole)
    (a9 : Memref sig .tc .vmem S1024x2048 .f32) (h9 : a9.IsWhole) (a10 : Memref sig .tc .vmem S32x3072 .bf16) (h10 : a10.IsWhole)
    (a11 : Memref sig .tc .vmem S1024x2048 .bf16) (h11 : a11.IsWhole)
    (hc : cond0_0 i) (x : Vec Ideal S1024x2048 .f32) (g : Vec Ideal S1x2048 .f32) (wg wu : Vec Ideal S2048x512 .bf16)
    (wd : Vec Ideal S512x2048 .bf16) (g' : Vec Ideal S1x2048 .f32) (p : Vec Ideal S1x32x3072 .f32) :
    out0_A_8 c i a2 h2 a3 h3 a4 h4 a5 h5 a6 h6 a7 h7 a8 h8 a9 h9 a10 h10 a11 h11 hc x g wg wu wd g' p = k0_pay2 p := by
  unfold out0_A_8
  rw [View.read_writes_eq_canon _ _ _ (cover0_A_8 c i a2 h2 a3 h3 a4 h4 a5 h5 a6 h6 a7 h7 a8 h8 a9 h9 a10 h10 a11 h11 hc x g wg wu wd g' p)]
  unfold kernelRun0_A
  dsimp only
  sl_unfold_words
  rw [View.canon_unit_zero hz]
  simp only [View.readAt_eq_ld, h8.read_unread, View.ld_unit_zero (S := S1x32x3072) hz3]

/-- And so does every other point. -/
theorem copy_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1x32x3072 .f32) (h8 : a8.IsWhole)
    (a9 : Memref sig .tc .vmem S1024x2048 .f32) (h9 : a9.IsWhole) (a10 : Memref sig .tc .vmem S32x3072 .bf16) (h10 : a10.IsWhole)
    (a11 : Memref sig .tc .vmem S1024x2048 .bf16) (h11 : a11.IsWhole)
    (hc : ¬cond0_0 i) (x : Vec Ideal S1024x2048 .f32) (g : Vec Ideal S1x2048 .f32) (wg wu : Vec Ideal S2048x512 .bf16)
    (wd : Vec Ideal S512x2048 .bf16) (g' : Vec Ideal S1x2048 .f32) (p : Vec Ideal S1x32x3072 .f32) (o : Vec Ideal S1024x2048 .f32) (h : Vec Ideal S1024x2048 .bf16) :
    out0_B_8 c i a2 h2 a3 h3 a4 h4 a5 h5 a6 h6 a7 h7 a8 h8 a9 h9 a10 h10 a11 h11 hc x g wg wu wd g' p o h = k0_pay2 p := by
  unfold out0_B_8
  rw [View.read_writes_eq_canon _ _ _ (cover0_B_8 c i a2 h2 a3 h3 a4 h4 a5 h5 a6 h6 a7 h7 a8 h8 a9 h9 a10 h10 a11 h11 hc x g wg wu wd g' p o h)]
  unfold kernelRun0_B
  dsimp only
  sl_unfold_words
  rw [View.canon_unit_zero hz]
  simp only [View.readAt_eq_ld, h8.read_unread, View.ld_unit_zero (S := S1x32x3072) hz3]

/-- The rows and the three weights, as the host hands them to the kernel. -/
abbrev rows (c : Dev nD) : FVec Ideal S32768x2048 .f32 := shapeCast S32768x2048 (m ((c : Thread nD τ).loc main_arg0)) shapeCasts_S2x16384x2048_S32768x2048
abbrev wgate (c : Dev nD) : FVec Ideal S2048x5632 .bf16 := truncf .bf16 (shapeCast S2048x5632 (m ((c : Thread nD τ).loc main_arg2)) shapeCasts_S1x2048x5632_S2048x5632 : FVec Ideal S2048x5632 .f32) bitsLt_bf16_f32
abbrev wup (c : Dev nD) : FVec Ideal S2048x5632 .bf16 := truncf .bf16 (shapeCast S2048x5632 (m ((c : Thread nD τ).loc main_arg3)) shapeCasts_S1x2048x5632_S2048x5632 : FVec Ideal S2048x5632 .f32) bitsLt_bf16_f32
abbrev wdown (c : Dev nD) : FVec Ideal S5632x2048 .bf16 := truncf .bf16 (shapeCast S5632x2048 (m ((c : Thread nD τ).loc main_arg4)) shapeCasts_S1x5632x2048_S5632x2048 : FVec Ideal S5632x2048 .f32) bitsLt_bf16_f32

theorem V_rows (c : Dev nD) : V m c main_v0 = rows m c := rfl
theorem V_wgate (c : Dev nD) : V m c main_v2 = wgate m c := rfl
theorem V_wup (c : Dev nD) : V m c main_v4 = wup m c := rfl
theorem V_wdown (c : Dev nD) : V m c main_v6 = wdown m c := rfl

/-- The tile of rows `1024 i` to `1024 i + 1023`. -/
def blk (x : FVec Ideal S32768x2048 .f32) (i : Fin 32) : Vec Ideal S1024x2048 .f32 := fun j =>
  x (ix2 ⟨1024 * i.val + (j 0).val, by have h : (j 0).val < 1024 := (j 0).isLt; omega⟩ (j 1))

/-- Point `11 i + f` sees tile `i` of the rows. -/
theorem iblk_x (c : Dev nD) (t : Fin cfg0.N) (i : Fin 32) (hi : t.val / 11 = i.val) :
    iblk m c 0 t = blk (rows m c) i := by
  funext j
  have e : ∀ t : Fin cfg0.N, win0_0.index t (0 : Fin 2) = t.val / 11 ∧ win0_0.index t (1 : Fin 2) = 0 := by decide +kernel
  unfold iblk blk
  rw [View.read_apply]
  show V m c main_v0 _ = _
  rw [V_rows]
  congr 1
  funext a
  apply Fin.ext
  obtain ⟨e0, e1⟩ := e t
  match a with
  | ⟨0, _⟩ => show win0_0.index t 0 * 1024 + 1 * (j 0).val = 1024 * i.val + (j 0).val; omega
  | ⟨1, _⟩ => show win0_0.index t 1 * 2048 + 1 * (j 1).val = (j 1).val; omega

/-- Every point sees the first gain. -/
theorem iblk_g (c : Dev nD) (t : Fin cfg0.N) : iblk m c 1 t = m ((c : Thread nD τ).loc main_arg1) := by
  funext j
  have e : ∀ t : Fin cfg0.N, win0_1.index t (0 : Fin 2) = 0 ∧ win0_1.index t (1 : Fin 2) = 0 := by decide +kernel
  unfold iblk
  rw [View.read_apply]
  show V m c main_arg1 _ = _
  rw [V_main_arg1]
  congr 1
  funext a
  apply Fin.ext
  obtain ⟨e0, e1⟩ := e t
  match a with
  | ⟨0, _⟩ => show win0_1.index t 0 * 1 + 1 * (j 0).val = (j 0).val; omega
  | ⟨1, _⟩ => show win0_1.index t 1 * 2048 + 1 * (j 1).val = (j 1).val; omega

/-- Point `11 i + f` sees columns `512 f` to `512 f + 511` of the gate's weights. -/
theorem iblk_wgate (c : Dev nD) (t : Fin cfg0.N) (f : ℕ) (hf : t.val % 11 = f) (d : Fin 2048) (k : Fin 512) (hk : 512 * f + k.val < 5632) :
    iblk m c 2 t (ix2 d k) = wgate m c (ix2 d ⟨512 * f + k.val, hk⟩) := by
  have e : ∀ t : Fin cfg0.N, win0_2.index t (0 : Fin 2) = 0 ∧ win0_2.index t (1 : Fin 2) = t.val % 11 := by decide +kernel
  unfold iblk
  rw [View.read_apply]
  show V m c main_v2 _ = _
  rw [V_wgate]
  congr 1
  funext a
  apply Fin.ext
  obtain ⟨e0, e1⟩ := e t
  match a with
  | ⟨0, _⟩ => show win0_2.index t 0 * 2048 + 1 * d.val = d.val; omega
  | ⟨1, _⟩ => show win0_2.index t 1 * 512 + 1 * k.val = 512 * f + k.val; omega

/-- Point `11 i + f` sees the same columns of the other factor's weights. -/
theorem iblk_wup (c : Dev nD) (t : Fin cfg0.N) (f : ℕ) (hf : t.val % 11 = f) (d : Fin 2048) (k : Fin 512) (hk : 512 * f + k.val < 5632) :
    iblk m c 3 t (ix2 d k) = wup m c (ix2 d ⟨512 * f + k.val, hk⟩) := by
  have e : ∀ t : Fin cfg0.N, win0_3.index t (0 : Fin 2) = 0 ∧ win0_3.index t (1 : Fin 2) = t.val % 11 := by decide +kernel
  unfold iblk
  rw [View.read_apply]
  show V m c main_v4 _ = _
  rw [V_wup]
  congr 1
  funext a
  apply Fin.ext
  obtain ⟨e0, e1⟩ := e t
  match a with
  | ⟨0, _⟩ => show win0_3.index t 0 * 2048 + 1 * d.val = d.val; omega
  | ⟨1, _⟩ => show win0_3.index t 1 * 512 + 1 * k.val = 512 * f + k.val; omega

/-- Point `11 i + f` sees rows `512 f` to `512 f + 511` of the last factor's weights. -/
theorem iblk_wdown (c : Dev nD) (t : Fin cfg0.N) (f : ℕ) (hf : t.val % 11 = f) (k : Fin 512) (d : Fin 2048) (hk : 512 * f + k.val < 5632) :
    iblk m c 4 t (ix2 k d) = wdown m c (ix2 ⟨512 * f + k.val, hk⟩ d) := by
  have e : ∀ t : Fin cfg0.N, win0_4.index t (0 : Fin 2) = t.val % 11 ∧ win0_4.index t (1 : Fin 2) = 0 := by decide +kernel
  unfold iblk
  rw [View.read_apply]
  show V m c main_v6 _ = _
  rw [V_wdown]
  congr 1
  funext a
  apply Fin.ext
  obtain ⟨e0, e1⟩ := e t
  match a with
  | ⟨0, _⟩ => show win0_4.index t 0 * 512 + 1 * k.val = 512 * f + k.val; omega
  | ⟨1, _⟩ => show win0_4.index t 1 * 2048 + 1 * d.val = d.val; omega

/-- The block of the projection's weights that point `t` copies: 32 rows from row `32 (t / 5)` on, 3072 columns from column
    `3072 (t % 5)` on; the points past the 320th take the last block again. -/
theorem iblk_p (c : Dev nD) (t : Fin cfg0.N) (s : ℕ) (hs : min t.val 319 = s) (r : Fin 32) (k : Fin 3072) (hr : 32 * (s / 5) + r.val < 2048)
    (hk : 3072 * (s % 5) + k.val < 15360) :
    iblk m c 6 t (ix3 0 r k) = m ((c : Thread nD τ).loc main_arg6) (ix3 0 ⟨32 * (s / 5) + r.val, hr⟩ ⟨3072 * (s % 5) + k.val, hk⟩) := by
  have e : ∀ t : Fin cfg0.N, win0_6.index t (0 : Fin 3) = 0 ∧ win0_6.index t (1 : Fin 3) = min t.val 319 / 5 ∧ win0_6.index t (2 : Fin 3) = min t.val 319 % 5 := by decide +kernel
  subst hs
  unfold iblk
  rw [View.read_apply]
  show V m c main_arg6 _ = _
  rw [V_main_arg6]
  congr 1
  funext a
  apply Fin.ext
  obtain ⟨e0, e1, e2⟩ := e t
  match a with
  | ⟨0, _⟩ => show win0_6.index t 0 * 1 + 1 * 0 = 0; omega
  | ⟨1, _⟩ => show win0_6.index t 1 * 32 + 1 * r.val = 32 * (min t.val 319 / 5) + r.val; omega
  | ⟨2, _⟩ => show win0_6.index t 2 * 3072 + 1 * k.val = 3072 * (min t.val 319 % 5) + k.val; omega

/-- The normalised rows of tile `i`, which its first point leaves for the later ones. -/
abbrev hn (c : Dev nD) (i : Fin 32) : Vec Ideal S1024x2048 .bf16 :=
  k0_pay4 (F := Ideal) (blk (rows m c) i) (m ((c : Thread nD τ).loc main_arg1))

/-- The running sum of tile `i` over this call's arguments. -/
abbrev upTo (c : Dev nD) (i : Fin 32) (K : ℕ) : Vec Ideal S1024x2048 .f32 :=
  partial_ (blk (rows m c) i) (hn m c i) (wgate m c) (wup m c) (wdown m c) K

/-- Point `11 i + f` extends the running sum by its hidden units. -/
theorem step_pt (c : Dev nD) (i : Fin 32) (t : Fin cfg0.N) (f : ℕ) (hf : t.val % 11 = f) :
    step (hn m c i) (iblk m c 2 t) (iblk m c 3 t) (iblk m c 4 t) (upTo m c i (512 * f)) = upTo m c i (512 * f + 512) :=
  step_eq (hn m c i) _ _ _ _ _ _ f (by omega) (iblk_wgate m c t f hf) (iblk_wup m c t f hf) (iblk_wdown m c t f hf) _

/-- After point `11 i + f` the output holds the tile plus the first `512 (f + 1)` units' contributions. -/
theorem outs (c : Dev nD) (i : Fin 32) : ∀ (f n : ℕ) (h : n < cfg0.N), n = 11 * i.val + f → f < 11 →
    (outsAt0 m c n h).1 = upTo m c i (512 * f + 512) ∧ (outsAt0 m c n h).2.2 = hn m c i
  | 0, n, h, hn', _ => by
    have hA : (⟨n, h⟩ : Fin cfg0.N).val % 11 = 0 := by dsimp only; omega
    rw [outsAt0_A m c ⟨n, h⟩ hA]
    dsimp only
    rw [out_A, sout_A, iblk_x m c ⟨n, h⟩ i (by dsimp only; omega), iblk_g]
    refine ⟨?_, rfl⟩
    have e := step_pt m c i ⟨n, h⟩ 0 hA
    have z : upTo m c i (512 * 0) = blk (rows m c) i := by
      funext j
      show _ + ∑ k ∈ Finset.range (512 * 0), _ = _
      simp only [Nat.mul_zero, Finset.range_zero, Finset.sum_empty, add_zero]
    rw [z] at e
    exact e
  | f + 1, 0, h, hn', hl => by omega
  | f + 1, n + 1, h, hn', hl => by
    have hB : ¬(⟨n + 1, h⟩ : Fin cfg0.N).val % 11 = 0 := by dsimp only; omega
    rw [outsAt0_B m c ⟨n + 1, h⟩ hB]
    dsimp only
    rw [out_B]
    simp only [sout0_B_0]
    obtain ⟨e, e'⟩ := outs c i f n (Nat.lt_of_succ_lt h) (by omega) (by omega)
    refine ⟨?_, e'⟩
    show step (outsAt0 m c n _).2.2 _ _ _ (outsAt0 m c n _).1 = _
    rw [e, e']
    exact step_pt m c i ⟨n + 1, h⟩ (f + 1) (by dsimp only; omega)

/-- Every point leaves its block of the projection's weights, copied. -/
theorem outs_p (c : Dev nD) (t : Fin cfg0.N) : (outsAt0 m c t.val t.isLt).2.1 = k0_pay2 (iblk m c 6 t) := by
  by_cases h : t.val % 11 = 0
  · rw [outsAt0_A m c t h]
    dsimp only
    rw [copy_A]
  · rw [outsAt0_B m c t h]
    dsimp only
    rw [copy_B]

/-- The rows are written back at each tile's last point. -/
theorem idx7 : ∀ t : Fin cfg0.N, (win0_7.index t (0 : Fin 2) = t.val / 11 ∧ win0_7.index t (1 : Fin 2) = 0)
    ∧ ((cfg0.win 7).flush t = true ↔ t.val % 11 = 10) := by decide +kernel

/-- The copied weights are written back at every point that the next one does not repeat. -/
theorem idx8 : ∀ t : Fin cfg0.N, (win0_8.index t (0 : Fin 2) = min t.val 319 / 5 ∧ win0_8.index t (1 : Fin 2) = min t.val 319 % 5)
    ∧ ((cfg0.win 8).flush t = true ↔ t.val < 319 ∨ t.val = 351) := by decide +kernel

theorem apart7 : ∀ t t' : Fin cfg0.N, (cfg0.win 7).flush t = true → (cfg0.win 7).flush t' = true → t ≠ t' →
    Disjoint ((cfg0.win 7).blk t).view.set ((cfg0.win 7).blk t').view.set := fun t t' ht ht' hne =>
  (cfg0.win 7).disjoint_blk fun h => hne (Fin.ext (by
    have e := (idx7 t).1.1
    have e' := (idx7 t').1.1
    have f := (idx7 t).2.mp ht
    have f' := (idx7 t').2.mp ht'
    have h0 : win0_7.index t (0 : Fin 2) = win0_7.index t' (0 : Fin 2) := congrFun h 0
    omega))

theorem apart8 : ∀ t t' : Fin cfg0.N, (cfg0.win 8).flush t = true → (cfg0.win 8).flush t' = true → t ≠ t' →
    Disjoint ((cfg0.win 8).blk t).view.set ((cfg0.win 8).blk t').view.set := fun t t' ht ht' hne =>
  (cfg0.win 8).disjoint_blk fun h => hne (Fin.ext (by
    obtain ⟨⟨e, d⟩, f⟩ := idx8 t
    obtain ⟨⟨e', d'⟩, f'⟩ := idx8 t'
    have f := f.mp ht
    have f' := f'.mp ht'
    have h0 : win0_8.index t (0 : Fin 2) = win0_8.index t' (0 : Fin 2) := congrFun h 0
    have h1 : win0_8.index t (1 : Fin 2) = win0_8.index t' (1 : Fin 2) := congrFun h 1
    omega))

/-- An entry of the rows, from the last point of its tile. -/
theorem arr_x (c : Dev nD) (t : Fin cfg0.N) (ht : t.val % 11 = 10) (R : Fin 1024) (n : Fin 2048) (h : 1024 * (t.val / 11) + R.val < 32768) :
    (dats m 0 c).arrAt 7 cfg0.N (ix2 ⟨1024 * (t.val / 11) + R.val, h⟩ n : S32768x2048.Idx) = (outsAt0 m c t.val t.isLt).1 (ix2 R n) := by
  obtain ⟨⟨e0, e1⟩, hf⟩ := idx7 t
  have h := congrFun ((dats m 0 c).read_blk_arrAt_eq_flushed 7 apart7 cfg0.N t t.isLt (hf.mpr ht)) (ix2 R n : S1024x2048.Idx)
  rw [View.read_apply, flushed7] at h
  refine Eq.trans ?_ h
  congr 1
  funext a; apply Fin.ext
  match a with
  | ⟨0, _⟩ => show 1024 * (t.val / 11) + R.val = win0_7.index t 0 * 1024 + 1 * R.val; omega
  | ⟨1, _⟩ => show n.val = win0_7.index t 1 * 2048 + 1 * n.val; omega

/-- An entry of the copied weights, from the point that writes it back. -/
theorem arr_p (c : Dev nD) (t : Fin cfg0.N) (ht : t.val < 319 ∨ t.val = 351) (s : ℕ) (hs : min t.val 319 = s) (r : Fin 32) (k : Fin 3072)
    (hr : 32 * (s / 5) + r.val < 2048) (hk : 3072 * (s % 5) + k.val < 15360) :
    (dats m 0 c).arrAt 8 cfg0.N (ix2 ⟨32 * (s / 5) + r.val, hr⟩ ⟨3072 * (s % 5) + k.val, hk⟩ : S2048x15360.Idx) = (outsAt0 m c t.val t.isLt).2.1 (ix2 r k) := by
  subst hs
  obtain ⟨⟨e0, e1⟩, hf⟩ := idx8 t
  have h := congrFun ((dats m 0 c).read_blk_arrAt_eq_flushed 8 apart8 cfg0.N t t.isLt (hf.mpr ht)) (ix2 r k : S32x3072.Idx)
  rw [View.read_apply, flushed8] at h
  refine Eq.trans ?_ h
  congr 1
  funext a; apply Fin.ext
  match a with
  | ⟨0, _⟩ => show 32 * (min t.val 319 / 5) + r.val = win0_8.index t 0 * 32 + 1 * r.val; omega
  | ⟨1, _⟩ => show 3072 * (min t.val 319 % 5) + k.val = win0_8.index t 1 * 3072 + 1 * k.val; omega

/-- The reference's rows are, tile by tile, the sum over all hidden units. -/
theorem ref_eq (x : FVec Ideal S2x16384x2048 .f32) (g : FVec Ideal S1x2048 .f32) (a b : FVec Ideal S1x2048x5632 .f32) (d : FVec Ideal S1x5632x2048 .f32) (i : Fin 32) :
    blk (Ffn1PromptRefIdeal.Read.val_main_v25 (F := Ideal) x g a b d) i
      = partial_ (blk (shapeCast S32768x2048 x shapeCasts_S2x16384x2048_S32768x2048) i)
          (k0_pay4 (F := Ideal) (blk (shapeCast S32768x2048 x shapeCasts_S2x16384x2048_S32768x2048) i) g)
          (truncf .bf16 (shapeCast S2048x5632 a shapeCasts_S1x2048x5632_S2048x5632 : FVec Ideal S2048x5632 .f32) bitsLt_bf16_f32)
          (truncf .bf16 (shapeCast S2048x5632 b shapeCasts_S1x2048x5632_S2048x5632 : FVec Ideal S2048x5632 .f32) bitsLt_bf16_f32)
          (truncf .bf16 (shapeCast S5632x2048 d shapeCasts_S1x5632x2048_S5632x2048 : FVec Ideal S5632x2048 .f32) bitsLt_bf16_f32) 5632 := by
  funext j
  unfold partial_
  rw [← Fin.sum_univ_eq_sum_range]
  have hu : ∀ (h : Vec Ideal S1024x2048 .bf16) (wg wu : Vec Ideal S2048x5632 .bf16) (wd : Vec Ideal S5632x2048 .bf16) (k : Fin 5632),
      unit h wg wu wd j k.val = glu (∑ d : Fin 2048, h (ix2 (j 0) d) * wg (ix2 d k)) (∑ d : Fin 2048, h (ix2 (j 0) d) * wu (ix2 d k)) * wd (ix2 k (j 1)) :=
    fun h wg wu wd k => dif_pos k.isLt
  simp only [hu]
  unfold blk
  pointwise [k0_pay4, k0_pay3, Ffn1PromptRefIdeal.Read.val_main_v25, Ffn1PromptRefIdeal.Read.val_main_v24, Ffn1PromptRefIdeal.Read.val_main_v23, Ffn1PromptRefIdeal.Read.val_main_v22, Ffn1PromptRefIdeal.Read.val_main_cst_2, Ffn1PromptRefIdeal.Read.val_main_v21, Ffn1PromptRefIdeal.Read.val_main_v20, Ffn1PromptRefIdeal.Read.val_main_v19, Ffn1PromptRefIdeal.Read.val_main_v18, Ffn1PromptRefIdeal.Read.val_main_call0_v5, Ffn1PromptRefIdeal.Read.val_main_call0_v4, Ffn1PromptRefIdeal.Read.val_main_call0_cst_0, Ffn1PromptRefIdeal.Read.val_main_call0_v3, Ffn1PromptRefIdeal.Read.val_main_call0_v2, Ffn1PromptRefIdeal.Read.val_main_call0_cst, Ffn1PromptRefIdeal.Read.val_main_call0_v1, Ffn1PromptRefIdeal.Read.val_main_call0_v0, Ffn1PromptRefIdeal.Read.val_main_v17, Ffn1PromptRefIdeal.Read.val_main_v16, Ffn1PromptRefIdeal.Read.val_main_v15, Ffn1PromptRefIdeal.Read.val_main_v14, Ffn1PromptRefIdeal.Read.val_main_v13, Ffn1PromptRefIdeal.Read.val_main_v12, Ffn1PromptRefIdeal.Read.val_main_v11, Ffn1PromptRefIdeal.Read.val_main_v10, Ffn1PromptRefIdeal.Read.val_main_v9, Ffn1PromptRefIdeal.Read.val_main_v8, Ffn1PromptRefIdeal.Read.val_main_v7, Ffn1PromptRefIdeal.Read.val_main_v6, Ffn1PromptRefIdeal.Read.val_main_cst_1, Ffn1PromptRefIdeal.Read.val_main_v5, Ffn1PromptRefIdeal.Read.val_main_v4, Ffn1PromptRefIdeal.Read.val_main_cst_0, Ffn1PromptRefIdeal.Read.val_main_v3, Ffn1PromptRefIdeal.Read.val_main_v2, Ffn1PromptRefIdeal.Read.val_main_cst, Ffn1PromptRefIdeal.Read.val_main_v1, Ffn1PromptRefIdeal.Read.val_main_v0]
  refine congrArg _ ?_
  rw [half_mul_sum]
  exact Finset.sum_congr rfl fun k _ => glu_eq _ _ _

/-- The kernel leaves the reference's rows. -/
theorem x_all (c : Dev nD) : (dats m 0 c).arrAt 7 cfg0.N = Ffn1PromptRefIdeal.Read.val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  have hN : cfg0.N = 352 := N_0
  funext i
  obtain ⟨q, n, rfl⟩ : ∃ (q : Fin 32768) (n : Fin 2048), i = ix2 q n := ⟨i 0, i 1, eq_ix2 i⟩
  obtain ⟨b, R, hq⟩ : ∃ (b : Fin 32) (R : Fin 1024), q.val = 1024 * b.val + R.val := ⟨⟨q.val / 1024, by omega⟩, ⟨q.val % 1024, by omega⟩, by dsimp only; omega⟩
  have ht : 11 * b.val + 10 < cfg0.N := by omega
  have hd : (11 * b.val + 10) / 11 = b.val := by omega
  have hq' : q = ⟨1024 * ((11 * b.val + 10) / 11) + R.val, by omega⟩ := Fin.ext (by dsimp only; omega)
  have e := arr_x m c ⟨11 * b.val + 10, ht⟩ (by dsimp only; omega) R n (by dsimp only; omega)
  have r := congrFun (ref_eq (m ((c : Thread nD τ).loc main_arg0)) (m ((c : Thread nD τ).loc main_arg1)) (m ((c : Thread nD τ).loc main_arg2))
    (m ((c : Thread nD τ).loc main_arg3)) (m ((c : Thread nD τ).loc main_arg4)) b) (ix2 R n)
  refine (congrArg (fun q => (dats m 0 c).arrAt 7 cfg0.N (ix2 q n : S32768x2048.Idx)) hq').trans (e.trans ?_)
  rw [(outs m c b 10 (11 * b.val + 10) ht rfl (by omega)).1]
  refine r.symm.trans ?_
  unfold blk
  congr 1
  exact congrArg (fun q => (ix2 q n : S32768x2048.Idx)) (Fin.ext hq.symm)

/-- The kernel leaves the reference's copy of the projection's weights. -/
theorem p_all (c : Dev nD) : (dats m 0 c).arrAt 8 cfg0.N = Ffn1PromptRefIdeal.Read.val_main_v27 (F := Ideal) (m ((c : Thread nD τ).loc main_arg6)) := by
  have hN : cfg0.N = 352 := N_0
  funext i
  obtain ⟨q, n, rfl⟩ : ∃ (q : Fin 2048) (n : Fin 15360), i = ix2 q n := ⟨i 0, i 1, eq_ix2 i⟩
  obtain ⟨t, ht, hs⟩ : ∃ t : Fin cfg0.N, (t.val < 319 ∨ t.val = 351) ∧ min t.val 319 = 5 * (q.val / 32) + n.val / 3072 := by
    by_cases h : 5 * (q.val / 32) + n.val / 3072 < 319
    · exact ⟨⟨5 * (q.val / 32) + n.val / 3072, by omega⟩, by dsimp only; omega, by dsimp only; omega⟩
    · exact ⟨⟨351, by omega⟩, by dsimp only; omega, by dsimp only; omega⟩
  have hq' : q = ⟨32 * ((5 * (q.val / 32) + n.val / 3072) / 5) + q.val % 32, by omega⟩ := Fin.ext (by dsimp only; omega)
  have hn' : n = ⟨3072 * ((5 * (q.val / 32) + n.val / 3072) % 5) + n.val % 3072, by omega⟩ := Fin.ext (by dsimp only; omega)
  have e := arr_p m c t ht _ hs ⟨q.val % 32, by omega⟩ ⟨n.val % 3072, by omega⟩ (by dsimp only; omega) (by dsimp only; omega)
  have e' := iblk_p m c t _ hs ⟨q.val % 32, by omega⟩ ⟨n.val % 3072, by omega⟩ (by dsimp only; omega) (by dsimp only; omega)
  dsimp only at e e'
  rw [← hq', ← hn'] at e e'
  rw [e, outs_p]
  refine Eq.trans ?_ (e'.trans ?_)
  · pointwise [k0_pay2]
  · pointwise [Ffn1PromptRefIdeal.Read.val_main_v27, Ffn1PromptRefIdeal.Read.val_main_v26]

/-- Kernel and reference leave the same arrays. -/
theorem algebraic [Cert.Ffn1PromptIdeal.Facts] [Cert.Ffn1PromptRefIdeal.Facts] : algebraic_Ffn1PromptIdeal_Ffn1PromptRefIdeal := by
  intro m g m' g' _ hargs
  refine ⟨fun c => (dats m 0 c).arrAt 7 cfg0.N, fun c => (dats m 0 c).arrAt 8 cfg0.N, Value.run_blocks m g, ?_⟩
  refine (θ_run _ _ _).mono (fun r h c => ⟨?_, ?_, (h c).2.2⟩) (Ffn1PromptRefIdeal.Value.run m' g')
  · obtain ⟨e0, e1, e2, e3, e4, e5, e6⟩ := hargs c
    rw [(h c).1, Ffn1PromptRefIdeal.Read.val_main_v25_eq, e0, e1, e2, e3, e4]
    exact (x_all m c).symm
  · obtain ⟨e0, e1, e2, e3, e4, e5, e6⟩ := hargs c
    rw [(h c).2.1, Ffn1PromptRefIdeal.Read.val_main_v27_eq, e6]
    exact (p_all m c).symm

end Cert.Ffn1PromptProof
-- ==== Proof.lean ====
module

public import proofs.«01_k».proof.Defs
public import proofs.«01_k».proof.Proof.Gen.Hgrn
public import proofs.«01_k».proof.Proof.Gen.Hgrn.Frame
public import proofs.«01_k».proof.Proof.Gen.HgrnIdeal
public import proofs.«01_k».proof.Proof.Gen.HgrnIdeal.Frame
public import proofs.«01_k».proof.Proof.Gen.HgrnRefIdeal
public import proofs.«01_k».proof.Proof.Gen.HgrnRefIdeal.Run
public import proofs.«01_k».proof.Proof.Gen.Ffn1
public import proofs.«01_k».proof.Proof.Gen.Ffn1.Frame
public import proofs.«01_k».proof.Proof.Gen.Ffn1Ideal
public import proofs.«01_k».proof.Proof.Gen.Ffn1Ideal.Frame
public import proofs.«01_k».proof.Proof.Gen.Ffn1RefIdeal
public import proofs.«01_k».proof.Proof.Gen.Ffn1RefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Ffn2
public import proofs.«01_k».proof.Proof.Gen.Ffn2.Frame
public import proofs.«01_k».proof.Proof.Gen.Ffn2Ideal
public import proofs.«01_k».proof.Proof.Gen.Ffn2Ideal.Frame
public import proofs.«01_k».proof.Proof.Gen.Ffn2RefIdeal
public import proofs.«01_k».proof.Proof.Gen.Ffn2RefIdeal.Run
public import proofs.«01_k».proof.Proof.Gen.Ffn2Prompt
public import proofs.«01_k».proof.Proof.Gen.Ffn2Prompt.Frame
public import proofs.«01_k».proof.Proof.Gen.Ffn2PromptIdeal
public import proofs.«01_k».proof.Proof.Gen.Ffn2PromptIdeal.Frame
public import proofs.«01_k».proof.Proof.Gen.Ffn2PromptRefIdeal
public import proofs.«01_k».proof.Proof.Gen.Ffn2PromptRefIdeal.Run
public import proofs.«01_k».proof.Proof.Gen.MergePrompt
public import proofs.«01_k».proof.Proof.Gen.MergePrompt.Frame
public import proofs.«01_k».proof.Proof.Gen.MergePromptIdeal
public import proofs.«01_k».proof.Proof.Gen.MergePromptIdeal.Frame
public import proofs.«01_k».proof.Proof.Gen.MergePromptRefIdeal
public import proofs.«01_k».proof.Proof.Gen.MergePromptRefIdeal.Run
public import proofs.«01_k».proof.Proof.Gen.InProjPrompt
public import proofs.«01_k».proof.Proof.Gen.InProjPrompt.Frame
public import proofs.«01_k».proof.Proof.Gen.InProjPromptIdeal
public import proofs.«01_k».proof.Proof.Gen.InProjPromptIdeal.Frame
public import proofs.«01_k».proof.Proof.Gen.InProjPromptRefIdeal
public import proofs.«01_k».proof.Proof.Gen.InProjPromptRefIdeal.Run
public import proofs.«01_k».proof.Proof.Gen.Ffn1Prompt
public import proofs.«01_k».proof.Proof.Gen.Ffn1Prompt.Frame
public import proofs.«01_k».proof.Proof.Gen.Ffn1PromptIdeal
public import proofs.«01_k».proof.Proof.Gen.Ffn1PromptIdeal.Frame
public import proofs.«01_k».proof.Proof.Gen.Ffn1PromptRefIdeal
public import proofs.«01_k».proof.Proof.Gen.Ffn1PromptRefIdeal.Run
public import proofs.«01_k».proof.Proof.Gen.Pre_finite_recurrence
public import proofs.«01_k».proof.Proof.Hgrn
public import proofs.«01_k».proof.Proof.Ffn1
public import proofs.«01_k».proof.Proof.InProj
public import proofs.«01_k».proof.Proof.Merge
public import proofs.«01_k».proof.Proof.Ffn2
public import proofs.«01_k».proof.Proof.Ffn2Prompt
public import proofs.«01_k».proof.Proof.MergePrompt
public import proofs.«01_k».proof.Proof.InProjPrompt
public import proofs.«01_k».proof.Proof.Ffn1Prompt
public import Idealize.ShloMosaic.Adequacy
public import Idealize.ShloMosaic.Init

@[expose] public section

noncomputable section

namespace Cert.Proof

open Idealize.ShloMosaic Idealize.SL.Sem

/-- The reference of the recurrence runs, keeps its arguments and declares no semaphore. -/
theorem frame_HgrnRef [Cert.HgrnRefIdeal.Facts] : Cert.quiescent_HgrnRefIdeal := fun m ρ _ =>
  (θ_run Cert.HgrnRefIdeal.defs _ _).mono (fun r h => ⟨fun c => (h c).2.2, sem_eq_zero_of_no_sems (by decide) r.2⟩)
    (Cert.HgrnRefIdeal.Value.run (F := Ideal) m ρ)

/-- The reference of the first feed-forward runs, keeps its arguments and declares no semaphore. -/
theorem frame_Ffn1Ref [Cert.Ffn1RefIdeal.Facts] : Cert.quiescent_Ffn1RefIdeal := fun m ρ _ =>
  (θ_run Cert.Ffn1RefIdeal.defs _ _).mono (fun r h => ⟨fun c => (h c).2, sem_eq_zero_of_no_sems (by decide) r.2⟩)
    (Cert.Ffn1RefIdeal.Value.run (F := Ideal) m ρ)

/-- The reference of the input projection runs, keeps its arguments and declares no semaphore. -/
theorem frame_InProjRef [Cert.InProjRefIdeal.Facts] : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The reference of the merge runs, keeps its arguments and declares no semaphore. -/
theorem frame_MergeRef [Cert.MergeRefIdeal.Facts] : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- The reference of the second feed-forward runs, keeps its arguments and declares no semaphore. -/
theorem frame_Ffn2Ref [Cert.Ffn2RefIdeal.Facts] : Cert.quiescent_Ffn2RefIdeal := fun m ρ _ =>
  (θ_run Cert.Ffn2RefIdeal.defs _ _).mono (fun r h => ⟨fun c => (h c).2, sem_eq_zero_of_no_sems (by decide) r.2⟩)
    (Cert.Ffn2RefIdeal.Value.run (F := Ideal) m ρ)

/-- The reference of the second feed-forward at the prompt's size runs, keeps its arguments and declares no semaphore. -/
theorem frame_Ffn2PromptRef [Cert.Ffn2PromptRefIdeal.Facts] : Cert.quiescent_Ffn2PromptRefIdeal := fun m ρ _ =>
  (θ_run Cert.Ffn2PromptRefIdeal.defs _ _).mono (fun r h => ⟨fun c => (h c).2, sem_eq_zero_of_no_sems (by decide) r.2⟩)
    (Cert.Ffn2PromptRefIdeal.Value.run (F := Ideal) m ρ)

/-- The reference of the merge at the prompt's size runs, keeps its arguments and declares no semaphore. -/
theorem frame_MergePromptRef [Cert.MergePromptRefIdeal.Facts] : Cert.quiescent_MergePromptRefIdeal := fun m ρ _ =>
  (θ_run Cert.MergePromptRefIdeal.defs _ _).mono (fun r h => ⟨fun c => (h c).2.2, sem_eq_zero_of_no_sems (by decide) r.2⟩)
    (Cert.MergePromptRefIdeal.Value.run (F := Ideal) m ρ)

/-- The reference of the input projection at the prompt's size runs, keeps its arguments and declares no semaphore. -/
theorem frame_InProjPromptRef [Cert.InProjPromptRefIdeal.Facts] : Cert.quiescent_InProjPromptRefIdeal := fun m ρ _ =>
  (θ_run Cert.InProjPromptRefIdeal.defs _ _).mono (fun r h => ⟨fun c => (h c).2, sem_eq_zero_of_no_sems (by decide) r.2⟩)
    (Cert.InProjPromptRefIdeal.Value.run (F := Ideal) m ρ)

/-- The reference of the first feed-forward at the prompt's size runs, keeps its arguments and declares no semaphore. -/
theorem frame_Ffn1PromptRef [Cert.Ffn1PromptRefIdeal.Facts] : Cert.quiescent_Ffn1PromptRefIdeal := fun m ρ _ =>
  (θ_run Cert.Ffn1PromptRefIdeal.defs _ _).mono (fun r h => ⟨fun c => (h c).2.2, sem_eq_zero_of_no_sems (by decide) r.2⟩)
    (Cert.Ffn1PromptRefIdeal.Value.run (F := Ideal) m ρ)

/-- All claims together. -/
theorem claim : Cert.Claim :=
  ⟨Cert.Hgrn.Gen.facts,
   Cert.HgrnIdeal.Gen.facts,
   Cert.HgrnRefIdeal.Gen.facts,
   Cert.Ffn1.Gen.facts,
   Cert.Ffn1Ideal.Gen.facts,
   Cert.Ffn1RefIdeal.Gen.facts,
   Cert.InProj.Gen.facts,
   Cert.InProjIdeal.Gen.facts,
   Cert.InProjRefIdeal.Gen.facts,
   Cert.Merge.Gen.facts,
   Cert.MergeIdeal.Gen.facts,
   Cert.MergeRefIdeal.Gen.facts,
   Cert.Ffn2.Gen.facts,
   Cert.Ffn2Ideal.Gen.facts,
   Cert.Ffn2RefIdeal.Gen.facts,
   Cert.Ffn2Prompt.Gen.facts,
   Cert.Ffn2PromptIdeal.Gen.facts,
   Cert.Ffn2PromptRefIdeal.Gen.facts,
   Cert.MergePrompt.Gen.facts,
   Cert.MergePromptIdeal.Gen.facts,
   Cert.MergePromptRefIdeal.Gen.facts,
   Cert.InProjPrompt.Gen.facts,
   Cert.InProjPromptIdeal.Gen.facts,
   Cert.InProjPromptRefIdeal.Gen.facts,
   Cert.Ffn1Prompt.Gen.facts,
   Cert.Ffn1PromptIdeal.Gen.facts,
   Cert.Ffn1PromptRefIdeal.Gen.facts,
   Cert.Pre_finite_recurrence.Gen.facts,
   fun m ρ _ => Cert.Hgrn.Gen.frame m ρ,
   fun m ρ _ => Cert.HgrnIdeal.Gen.frame m ρ,
   fun m ρ _ => Cert.HgrnIdeal.Gen.frame m ρ,
   frame_HgrnRef,
   fun m ρ _ => frame_HgrnRef m ρ trivial,
   fun m ρ _ => Cert.Ffn1.Gen.frame m ρ,
   fun m ρ _ => Cert.Ffn1Ideal.Gen.frame m ρ,
   frame_Ffn1Ref,
   fun m ρ _ => Cert.InProj.Gen.frame m ρ,
   fun m ρ _ => Cert.InProjIdeal.Gen.frame m ρ,
   frame_InProjRef,
   fun m ρ _ => Cert.Merge.Gen.frame m ρ,
   fun m ρ _ => Cert.MergeIdeal.Gen.frame m ρ,
   frame_MergeRef,
   fun m ρ _ => Cert.Ffn2.Gen.frame m ρ,
   fun m ρ _ => Cert.Ffn2Ideal.Gen.frame m ρ,
   frame_Ffn2Ref,
   fun m ρ _ => Cert.Ffn2Prompt.Gen.frame m ρ,
   fun m ρ _ => Cert.Ffn2PromptIdeal.Gen.frame m ρ,
   frame_Ffn2PromptRef,
   fun m ρ _ => Cert.MergePrompt.Gen.frame m ρ,
   fun m ρ _ => Cert.MergePromptIdeal.Gen.frame m ρ,
   frame_MergePromptRef,
   fun m ρ _ => Cert.InProjPrompt.Gen.frame m ρ,
   fun m ρ _ => Cert.InProjPromptIdeal.Gen.frame m ρ,
   frame_InProjPromptRef,
   fun m ρ _ => Cert.Ffn1Prompt.Gen.frame m ρ,
   fun m ρ _ => Cert.Ffn1PromptIdeal.Gen.frame m ρ,
   frame_Ffn1PromptRef,
   Cert.HgrnProof.preserves,
   Cert.HgrnProof.algebraic,
   trivial,
   Cert.Ffn1Proof.algebraic,
   trivial,
   Cert.InProjProof.algebraic,
   trivial,
   Cert.MergeProof.algebraic,
   trivial,
   Cert.Ffn2Proof.algebraic,
   trivial,
   Cert.Ffn2PromptProof.algebraic,
   trivial,
   Cert.MergePromptProof.algebraic,
   trivial,
   Cert.InProjPromptProof.algebraic,
   trivial,
   Cert.Ffn1PromptProof.algebraic⟩

end Cert.Proof

end
